-- ==== Defs.lean ====
def Pre_FfnPrompt (m : (ℓ : Loc Cert.FfnPrompt.nD Cert.FfnPrompt.τ Cert.FfnPrompt.sig) → Buf (Elt Bits) ℓ) : Prop :=
  True

def Pre_FfnPromptIdeal (m : (ℓ : Loc Cert.FfnPromptIdeal.nD Cert.FfnPromptIdeal.τ Cert.FfnPromptIdeal.sig) → Buf (Elt Ideal) ℓ) : Prop :=
  True

def Pre_RefFfnPromptIdeal (m : (ℓ : Loc Cert.RefFfnPromptIdeal.nD Cert.RefFfnPromptIdeal.τ Cert.RefFfnPromptIdeal.sig) → Buf (Elt Ideal) ℓ) : Prop :=
  True

def Pre_MixerSample (m : (ℓ : Loc Cert.MixerSample.nD Cert.MixerSample.τ Cert.MixerSample.sig) → Buf (Elt Bits) ℓ) : Prop :=
  True

def Pre_MixerSampleIdeal (m : (ℓ : Loc Cert.MixerSampleIdeal.nD Cert.MixerSampleIdeal.τ Cert.MixerSampleIdeal.sig) → Buf (Elt Ideal) ℓ) : Prop :=
  True

def Pre_MixerSampleIdeal_finite_sm [hPre_finite_sm : Cert.Pre_finite_sm.Facts] (m : (ℓ : Loc Cert.MixerSampleIdeal.nD Cert.MixerSampleIdeal.τ Cert.MixerSampleIdeal.sig) → Buf (Elt Ideal) ℓ) : Prop :=
  ∀ c : Dev Cert.MixerSampleIdeal.nD,
    (Cert.Pre_finite_sm.fn (F := Ideal) (m ((c.tc : Thread Cert.MixerSampleIdeal.nD Cert.MixerSampleIdeal.τ).loc Cert.MixerSampleIdeal.main_arg0)) (m ((c.tc : Thread Cert.MixerSampleIdeal.nD Cert.MixerSampleIdeal.τ).loc Cert.MixerSampleIdeal.main_arg1)) (m ((c.tc : Thread Cert.MixerSampleIdeal.nD Cert.MixerSampleIdeal.τ).loc Cert.MixerSampleIdeal.main_arg2)) (m ((c.tc : Thread Cert.MixerSampleIdeal.nD Cert.MixerSampleIdeal.τ).loc Cert.MixerSampleIdeal.main_arg3)) (m ((c.tc : Thread Cert.MixerSampleIdeal.nD Cert.MixerSampleIdeal.τ).loc Cert.MixerSampleIdeal.main_arg4)) (m ((c.tc : Thread Cert.MixerSampleIdeal.nD Cert.MixerSampleIdeal.τ).loc Cert.MixerSampleIdeal.main_arg5)) (m ((c.tc : Thread Cert.MixerSampleIdeal.nD Cert.MixerSampleIdeal.τ).loc Cert.MixerSampleIdeal.main_arg6)) (m ((c.tc : Thread Cert.MixerSampleIdeal.nD Cert.MixerSampleIdeal.τ).loc Cert.MixerSampleIdeal.main_arg7)) (m ((c.tc : Thread Cert.MixerSampleIdeal.nD Cert.MixerSampleIdeal.τ).loc Cert.MixerSampleIdeal.main_arg8)) (m ((c.tc : Thread Cert.MixerSampleIdeal.nD Cert.MixerSampleIdeal.τ).loc Cert.MixerSampleIdeal.main_arg9)) (m ((c.tc : Thread Cert.MixerSampleIdeal.nD Cert.MixerSampleIdeal.τ).loc Cert.MixerSampleIdeal.main_arg10)) (m ((c.tc : Thread Cert.MixerSampleIdeal.nD Cert.MixerSampleIdeal.τ).loc Cert.MixerSampleIdeal.main_arg11)) (m ((c.tc : Thread Cert.MixerSampleIdeal.nD Cert.MixerSampleIdeal.τ).loc Cert.MixerSampleIdeal.main_arg12)) (m ((c.tc : Thread Cert.MixerSampleIdeal.nD Cert.MixerSampleIdeal.τ).loc Cert.MixerSampleIdeal.main_arg13))).1 = (fun _ => 1#1)
    ∧ (Cert.Pre_finite_sm.fn (F := Ideal) (m ((c.tc : Thread Cert.MixerSampleIdeal.nD Cert.MixerSampleIdeal.τ).loc Cert.MixerSampleIdeal.main_arg0)) (m ((c.tc : Thread Cert.MixerSampleIdeal.nD Cert.MixerSampleIdeal.τ).loc Cert.MixerSampleIdeal.main_arg1)) (m ((c.tc : Thread Cert.MixerSampleIdeal.nD Cert.MixerSampleIdeal.τ).loc Cert.MixerSampleIdeal.main_arg2)) (m ((c.tc : Thread Cert.MixerSampleIdeal.nD Cert.MixerSampleIdeal.τ).loc Cert.MixerSampleIdeal.main_arg3)) (m ((c.tc : Thread Cert.MixerSampleIdeal.nD Cert.MixerSampleIdeal.τ).loc Cert.MixerSampleIdeal.main_arg4)) (m ((c.tc : Thread Cert.MixerSampleIdeal.nD Cert.MixerSampleIdeal.τ).loc Cert.MixerSampleIdeal.main_arg5)) (m ((c.tc : Thread Cert.MixerSampleIdeal.nD Cert.MixerSampleIdeal.τ).loc Cert.MixerSampleIdeal.main_arg6)) (m ((c.tc : Thread Cert.MixerSampleIdeal.nD Cert.MixerSampleIdeal.τ).loc Cert.MixerSampleIdeal.main_arg7)) (m ((c.tc : Thread Cert.MixerSampleIdeal.nD Cert.MixerSampleIdeal.τ).loc Cert.MixerSampleIdeal.main_arg8)) (m ((c.tc : Thread Cert.MixerSampleIdeal.nD Cert.MixerSampleIdeal.τ).loc Cert.MixerSampleIdeal.main_arg9)) (m ((c.tc : Thread Cert.MixerSampleIdeal.nD Cert.MixerSampleIdeal.τ).loc Cert.MixerSampleIdeal.main_arg10)) (m ((c.tc : Thread Cert.MixerSampleIdeal.nD Cert.MixerSampleIdeal.τ).loc Cert.MixerSampleIdeal.main_arg11)) (m ((c.tc : Thread Cert.MixerSampleIdeal.nD Cert.MixerSampleIdeal.τ).loc Cert.MixerSampleIdeal.main_arg12)) (m ((c.tc : Thread Cert.MixerSampleIdeal.nD Cert.MixerSampleIdeal.τ).loc Cert.MixerSampleIdeal.main_arg13))).2.1 = (fun _ => 1#1)
    ∧ (Cert.Pre_finite_sm.fn (F := Ideal) (m ((c.tc : Thread Cert.MixerSampleIdeal.nD Cert.MixerSampleIdeal.τ).loc Cert.MixerSampleIdeal.main_arg0)) (m ((c.tc : Thread Cert.MixerSampleIdeal.nD Cert.MixerSampleIdeal.τ).loc Cert.MixerSampleIdeal.main_arg1)) (m ((c.tc : Thread Cert.MixerSampleIdeal.nD Cert.MixerSampleIdeal.τ).loc Cert.MixerSampleIdeal.main_arg2)) (m ((c.tc : Thread Cert.MixerSampleIdeal.nD Cert.MixerSampleIdeal.τ).loc Cert.MixerSampleIdeal.main_arg3)) (m ((c.tc : Thread Cert.MixerSampleIdeal.nD Cert.MixerSampleIdeal.τ).loc Cert.MixerSampleIdeal.main_arg4)) (m ((c.tc : Thread Cert.MixerSampleIdeal.nD Cert.MixerSampleIdeal.τ).loc Cert.MixerSampleIdeal.main_arg5)) (m ((c.tc : Thread Cert.MixerSampleIdeal.nD Cert.MixerSampleIdeal.τ).loc Cert.MixerSampleIdeal.main_arg6)) (m ((c.tc : Thread Cert.MixerSampleIdeal.nD Cert.MixerSampleIdeal.τ).loc Cert.MixerSampleIdeal.main_arg7)) (m ((c.tc : Thread Cert.MixerSampleIdeal.nD Cert.MixerSampleIdeal.τ).loc Cert.MixerSampleIdeal.main_arg8)) (m ((c.tc : Thread Cert.MixerSampleIdeal.nD Cert.MixerSampleIdeal.τ).loc Cert.MixerSampleIdeal.main_arg9)) (m ((c.tc : Thread Cert.MixerSampleIdeal.nD Cert.MixerSampleIdeal.τ).loc Cert.MixerSampleIdeal.main_arg10)) (m ((c.tc : Thread Cert.MixerSampleIdeal.nD Cert.MixerSampleIdeal.τ).loc Cert.MixerSampleIdeal.main_arg11)) (m ((c.tc : Thread Cert.MixerSampleIdeal.nD Cert.MixerSampleIdeal.τ).loc Cert.MixerSampleIdeal.main_arg12)) (m ((c.tc : Thread Cert.MixerSampleIdeal.nD Cert.MixerSampleIdeal.τ).loc Cert.MixerSampleIdeal.main_arg13))).2.2.1 = (fun _ => 1#1)
    ∧ (Cert.Pre_finite_sm.fn (F := Ideal) (m ((c.tc : Thread Cert.MixerSampleIdeal.nD Cert.MixerSampleIdeal.τ).loc Cert.MixerSampleIdeal.main_arg0)) (m ((c.tc : Thread Cert.MixerSampleIdeal.nD Cert.MixerSampleIdeal.τ).loc Cert.MixerSampleIdeal.main_arg1)) (m ((c.tc : Thread Cert.MixerSampleIdeal.nD Cert.MixerSampleIdeal.τ).loc Cert.MixerSampleIdeal.main_arg2)) (m ((c.tc : Thread Cert.MixerSampleIdeal.nD Cert.MixerSampleIdeal.τ).loc Cert.MixerSampleIdeal.main_arg3)) (m ((c.tc : Thread Cert.MixerSampleIdeal.nD Cert.MixerSampleIdeal.τ).loc Cert.MixerSampleIdeal.main_arg4)) (m ((c.tc : Thread Cert.MixerSampleIdeal.nD Cert.MixerSampleIdeal.τ).loc Cert.MixerSampleIdeal.main_arg5)) (m ((c.tc : Thread Cert.MixerSampleIdeal.nD Cert.MixerSampleIdeal.τ).loc Cert.MixerSampleIdeal.main_arg6)) (m ((c.tc : Thread Cert.MixerSampleIdeal.nD Cert.MixerSampleIdeal.τ).loc Cert.MixerSampleIdeal.main_arg7)) (m ((c.tc : Thread Cert.MixerSampleIdeal.nD Cert.MixerSampleIdeal.τ).loc Cert.MixerSampleIdeal.main_arg8)) (m ((c.tc : Thread Cert.MixerSampleIdeal.nD Cert.MixerSampleIdeal.τ).loc Cert.MixerSampleIdeal.main_arg9)) (m ((c.tc : Thread Cert.MixerSampleIdeal.nD Cert.MixerSampleIdeal.τ).loc Cert.MixerSampleIdeal.main_arg10)) (m ((c.tc : Thread Cert.MixerSampleIdeal.nD Cert.MixerSampleIdeal.τ).loc Cert.MixerSampleIdeal.main_arg11)) (m ((c.tc : Thread Cert.MixerSampleIdeal.nD Cert.MixerSampleIdeal.τ).loc Cert.MixerSampleIdeal.main_arg12)) (m ((c.tc : Thread Cert.MixerSampleIdeal.nD Cert.MixerSampleIdeal.τ).loc Cert.MixerSampleIdeal.main_arg13))).2.2.2.1 = (fun _ => 1#1)
    ∧ (Cert.Pre_finite_sm.fn (F := Ideal) (m ((c.tc : Thread Cert.MixerSampleIdeal.nD Cert.MixerSampleIdeal.τ).loc Cert.MixerSampleIdeal.main_arg0)) (m ((c.tc : Thread Cert.MixerSampleIdeal.nD Cert.MixerSampleIdeal.τ).loc Cert.MixerSampleIdeal.main_arg1)) (m ((c.tc : Thread Cert.MixerSampleIdeal.nD Cert.MixerSampleIdeal.τ).loc Cert.MixerSampleIdeal.main_arg2)) (m ((c.tc : Thread Cert.MixerSampleIdeal.nD Cert.MixerSampleIdeal.τ).loc Cert.MixerSampleIdeal.main_arg3)) (m ((c.tc : Thread Cert.MixerSampleIdeal.nD Cert.MixerSampleIdeal.τ).loc Cert.MixerSampleIdeal.main_arg4)) (m ((c.tc : Thread Cert.MixerSampleIdeal.nD Cert.MixerSampleIdeal.τ).loc Cert.MixerSampleIdeal.main_arg5)) (m ((c.tc : Thread Cert.MixerSampleIdeal.nD Cert.MixerSampleIdeal.τ).loc Cert.MixerSampleIdeal.main_arg6)) (m ((c.tc : Thread Cert.MixerSampleIdeal.nD Cert.MixerSampleIdeal.τ).loc Cert.MixerSampleIdeal.main_arg7)) (m ((c.tc : Thread Cert.MixerSampleIdeal.nD Cert.MixerSampleIdeal.τ).loc Cert.MixerSampleIdeal.main_arg8)) (m ((c.tc : Thread Cert.MixerSampleIdeal.nD Cert.MixerSampleIdeal.τ).loc Cert.MixerSampleIdeal.main_arg9)) (m ((c.tc : Thread Cert.MixerSampleIdeal.nD Cert.MixerSampleIdeal.τ).loc Cert.MixerSampleIdeal.main_arg10)) (m ((c.tc : Thread Cert.MixerSampleIdeal.nD Cert.MixerSampleIdeal.τ).loc Cert.MixerSampleIdeal.main_arg11)) (m ((c.tc : Thread Cert.MixerSampleIdeal.nD Cert.MixerSampleIdeal.τ).loc Cert.MixerSampleIdeal.main_arg12)) (m ((c.tc : Thread Cert.MixerSampleIdeal.nD Cert.MixerSampleIdeal.τ).loc Cert.MixerSampleIdeal.main_arg13))).2.2.2.2.1 = (fun _ => 1#1)
    ∧ (Cert.Pre_finite_sm.fn (F := Ideal) (m ((c.tc : Thread Cert.MixerSampleIdeal.nD Cert.MixerSampleIdeal.τ).loc Cert.MixerSampleIdeal.main_arg0)) (m ((c.tc : Thread Cert.MixerSampleIdeal.nD Cert.MixerSampleIdeal.τ).loc Cert.MixerSampleIdeal.main_arg1)) (m ((c.tc : Thread Cert.MixerSampleIdeal.nD Cert.MixerSampleIdeal.τ).loc Cert.MixerSampleIdeal.main_arg2)) (m ((c.tc : Thread Cert.MixerSampleIdeal.nD Cert.MixerSampleIdeal.τ).loc Cert.MixerSampleIdeal.main_arg3)) (m ((c.tc : Thread Cert.MixerSampleIdeal.nD Cert.MixerSampleIdeal.τ).loc Cert.MixerSampleIdeal.main_arg4)) (m ((c.tc : Thread Cert.MixerSampleIdeal.nD Cert.MixerSampleIdeal.τ).loc Cert.MixerSampleIdeal.main_arg5)) (m ((c.tc : Thread Cert.MixerSampleIdeal.nD Cert.MixerSampleIdeal.τ).loc Cert.MixerSampleIdeal.main_arg6)) (m ((c.tc : Thread Cert.MixerSampleIdeal.nD Cert.MixerSampleIdeal.τ).loc Cert.MixerSampleIdeal.main_arg7)) (m ((c.tc : Thread Cert.MixerSampleIdeal.nD Cert.MixerSampleIdeal.τ).loc Cert.MixerSampleIdeal.main_arg8)) (m ((c.tc : Thread Cert.MixerSampleIdeal.nD Cert.MixerSampleIdeal.τ).loc Cert.MixerSampleIdeal.main_arg9)) (m ((c.tc : Thread Cert.MixerSampleIdeal.nD Cert.MixerSampleIdeal.τ).loc Cert.MixerSampleIdeal.main_arg10)) (m ((c.tc : Thread Cert.MixerSampleIdeal.nD Cert.MixerSampleIdeal.τ).loc Cert.MixerSampleIdeal.main_arg11)) (m ((c.tc : Thread Cert.MixerSampleIdeal.nD Cert.MixerSampleIdeal.τ).loc Cert.MixerSampleIdeal.main_arg12)) (m ((c.tc : Thread Cert.MixerSampleIdeal.nD Cert.MixerSampleIdeal.τ).loc Cert.MixerSampleIdeal.main_arg13))).2.2.2.2.2 = (fun _ => 1#1)

def Pre_RefSampleIdeal (m : (ℓ : Loc Cert.RefSampleIdeal.nD Cert.RefSampleIdeal.τ Cert.RefSampleIdeal.sig) → Buf (Elt Ideal) ℓ) : Prop :=
  True

def Pre_RefSampleIdeal_finite_sm [hPre_finite_sm : Cert.Pre_finite_sm.Facts] (m : (ℓ : Loc Cert.RefSampleIdeal.nD Cert.RefSampleIdeal.τ Cert.RefSampleIdeal.sig) → Buf (Elt Ideal) ℓ) : Prop :=
  ∀ c : Dev Cert.RefSampleIdeal.nD,
    (Cert.Pre_finite_sm.fn (F := Ideal) (m ((c.tc : Thread Cert.RefSampleIdeal.nD Cert.RefSampleIdeal.τ).loc Cert.RefSampleIdeal.main_arg0)) (m ((c.tc : Thread Cert.RefSampleIdeal.nD Cert.RefSampleIdeal.τ).loc Cert.RefSampleIdeal.main_arg1)) (m ((c.tc : Thread Cert.RefSampleIdeal.nD Cert.RefSampleIdeal.τ).loc Cert.RefSampleIdeal.main_arg2)) (m ((c.tc : Thread Cert.RefSampleIdeal.nD Cert.RefSampleIdeal.τ).loc Cert.RefSampleIdeal.main_arg3)) (m ((c.tc : Thread Cert.RefSampleIdeal.nD Cert.RefSampleIdeal.τ).loc Cert.RefSampleIdeal.main_arg4)) (m ((c.tc : Thread Cert.RefSampleIdeal.nD Cert.RefSampleIdeal.τ).loc Cert.RefSampleIdeal.main_arg5)) (m ((c.tc : Thread Cert.RefSampleIdeal.nD Cert.RefSampleIdeal.τ).loc Cert.RefSampleIdeal.main_arg6)) (m ((c.tc : Thread Cert.RefSampleIdeal.nD Cert.RefSampleIdeal.τ).loc Cert.RefSampleIdeal.main_arg7)) (m ((c.tc : Thread Cert.RefSampleIdeal.nD Cert.RefSampleIdeal.τ).loc Cert.RefSampleIdeal.main_arg8)) (m ((c.tc : Thread Cert.RefSampleIdeal.nD Cert.RefSampleIdeal.τ).loc Cert.RefSampleIdeal.main_arg9)) (m ((c.tc : Thread Cert.RefSampleIdeal.nD Cert.RefSampleIdeal.τ).loc Cert.RefSampleIdeal.main_arg10)) (m ((c.tc : Thread Cert.RefSampleIdeal.nD Cert.RefSampleIdeal.τ).loc Cert.RefSampleIdeal.main_arg11)) (m ((c.tc : Thread Cert.RefSampleIdeal.nD Cert.RefSampleIdeal.τ).loc Cert.RefSampleIdeal.main_arg12)) (m ((c.tc : Thread Cert.RefSampleIdeal.nD Cert.RefSampleIdeal.τ).loc Cert.RefSampleIdeal.main_arg13))).1 = (fun _ => 1#1)
    ∧ (Cert.Pre_finite_sm.fn (F := Ideal) (m ((c.tc : Thread Cert.RefSampleIdeal.nD Cert.RefSampleIdeal.τ).loc Cert.RefSampleIdeal.main_arg0)) (m ((c.tc : Thread Cert.RefSampleIdeal.nD Cert.RefSampleIdeal.τ).loc Cert.RefSampleIdeal.main_arg1)) (m ((c.tc : Thread Cert.RefSampleIdeal.nD Cert.RefSampleIdeal.τ).loc Cert.RefSampleIdeal.main_arg2)) (m ((c.tc : Thread Cert.RefSampleIdeal.nD Cert.RefSampleIdeal.τ).loc Cert.RefSampleIdeal.main_arg3)) (m ((c.tc : Thread Cert.RefSampleIdeal.nD Cert.RefSampleIdeal.τ).loc Cert.RefSampleIdeal.main_arg4)) (m ((c.tc : Thread Cert.RefSampleIdeal.nD Cert.RefSampleIdeal.τ).loc Cert.RefSampleIdeal.main_arg5)) (m ((c.tc : Thread Cert.RefSampleIdeal.nD Cert.RefSampleIdeal.τ).loc Cert.RefSampleIdeal.main_arg6)) (m ((c.tc : Thread Cert.RefSampleIdeal.nD Cert.RefSampleIdeal.τ).loc Cert.RefSampleIdeal.main_arg7)) (m ((c.tc : Thread Cert.RefSampleIdeal.nD Cert.RefSampleIdeal.τ).loc Cert.RefSampleIdeal.main_arg8)) (m ((c.tc : Thread Cert.RefSampleIdeal.nD Cert.RefSampleIdeal.τ).loc Cert.RefSampleIdeal.main_arg9)) (m ((c.tc : Thread Cert.RefSampleIdeal.nD Cert.RefSampleIdeal.τ).loc Cert.RefSampleIdeal.main_arg10)) (m ((c.tc : Thread Cert.RefSampleIdeal.nD Cert.RefSampleIdeal.τ).loc Cert.RefSampleIdeal.main_arg11)) (m ((c.tc : Thread Cert.RefSampleIdeal.nD Cert.RefSampleIdeal.τ).loc Cert.RefSampleIdeal.main_arg12)) (m ((c.tc : Thread Cert.RefSampleIdeal.nD Cert.RefSampleIdeal.τ).loc Cert.RefSampleIdeal.main_arg13))).2.1 = (fun _ => 1#1)
    ∧ (Cert.Pre_finite_sm.fn (F := Ideal) (m ((c.tc : Thread Cert.RefSampleIdeal.nD Cert.RefSampleIdeal.τ).loc Cert.RefSampleIdeal.main_arg0)) (m ((c.tc : Thread Cert.RefSampleIdeal.nD Cert.RefSampleIdeal.τ).loc Cert.RefSampleIdeal.main_arg1)) (m ((c.tc : Thread Cert.RefSampleIdeal.nD Cert.RefSampleIdeal.τ).loc Cert.RefSampleIdeal.main_arg2)) (m ((c.tc : Thread Cert.RefSampleIdeal.nD Cert.RefSampleIdeal.τ).loc Cert.RefSampleIdeal.main_arg3)) (m ((c.tc : Thread Cert.RefSampleIdeal.nD Cert.RefSampleIdeal.τ).loc Cert.RefSampleIdeal.main_arg4)) (m ((c.tc : Thread Cert.RefSampleIdeal.nD Cert.RefSampleIdeal.τ).loc Cert.RefSampleIdeal.main_arg5)) (m ((c.tc : Thread Cert.RefSampleIdeal.nD Cert.RefSampleIdeal.τ).loc Cert.RefSampleIdeal.main_arg6)) (m ((c.tc : Thread Cert.RefSampleIdeal.nD Cert.RefSampleIdeal.τ).loc Cert.RefSampleIdeal.main_arg7)) (m ((c.tc : Thread Cert.RefSampleIdeal.nD Cert.RefSampleIdeal.τ).loc Cert.RefSampleIdeal.main_arg8)) (m ((c.tc : Thread Cert.RefSampleIdeal.nD Cert.RefSampleIdeal.τ).loc Cert.RefSampleIdeal.main_arg9)) (m ((c.tc : Thread Cert.RefSampleIdeal.nD Cert.RefSampleIdeal.τ).loc Cert.RefSampleIdeal.main_arg10)) (m ((c.tc : Thread Cert.RefSampleIdeal.nD Cert.RefSampleIdeal.τ).loc Cert.RefSampleIdeal.main_arg11)) (m ((c.tc : Thread Cert.RefSampleIdeal.nD Cert.RefSampleIdeal.τ).loc Cert.RefSampleIdeal.main_arg12)) (m ((c.tc : Thread Cert.RefSampleIdeal.nD Cert.RefSampleIdeal.τ).loc Cert.RefSampleIdeal.main_arg13))).2.2.1 = (fun _ => 1#1)
    ∧ (Cert.Pre_finite_sm.fn (F := Ideal) (m ((c.tc : Thread Cert.RefSampleIdeal.nD Cert.RefSampleIdeal.τ).loc Cert.RefSampleIdeal.main_arg0)) (m ((c.tc : Thread Cert.RefSampleIdeal.nD Cert.RefSampleIdeal.τ).loc Cert.RefSampleIdeal.main_arg1)) (m ((c.tc : Thread Cert.RefSampleIdeal.nD Cert.RefSampleIdeal.τ).loc Cert.RefSampleIdeal.main_arg2)) (m ((c.tc : Thread Cert.RefSampleIdeal.nD Cert.RefSampleIdeal.τ).loc Cert.RefSampleIdeal.main_arg3)) (m ((c.tc : Thread Cert.RefSampleIdeal.nD Cert.RefSampleIdeal.τ).loc Cert.RefSampleIdeal.main_arg4)) (m ((c.tc : Thread Cert.RefSampleIdeal.nD Cert.RefSampleIdeal.τ).loc Cert.RefSampleIdeal.main_arg5)) (m ((c.tc : Thread Cert.RefSampleIdeal.nD Cert.RefSampleIdeal.τ).loc Cert.RefSampleIdeal.main_arg6)) (m ((c.tc : Thread Cert.RefSampleIdeal.nD Cert.RefSampleIdeal.τ).loc Cert.RefSampleIdeal.main_arg7)) (m ((c.tc : Thread Cert.RefSampleIdeal.nD Cert.RefSampleIdeal.τ).loc Cert.RefSampleIdeal.main_arg8)) (m ((c.tc : Thread Cert.RefSampleIdeal.nD Cert.RefSampleIdeal.τ).loc Cert.RefSampleIdeal.main_arg9)) (m ((c.tc : Thread Cert.RefSampleIdeal.nD Cert.RefSampleIdeal.τ).loc Cert.RefSampleIdeal.main_arg10)) (m ((c.tc : Thread Cert.RefSampleIdeal.nD Cert.RefSampleIdeal.τ).loc Cert.RefSampleIdeal.main_arg11)) (m ((c.tc : Thread Cert.RefSampleIdeal.nD Cert.RefSampleIdeal.τ).loc Cert.RefSampleIdeal.main_arg12)) (m ((c.tc : Thread Cert.RefSampleIdeal.nD Cert.RefSampleIdeal.τ).loc Cert.RefSampleIdeal.main_arg13))).2.2.2.1 = (fun _ => 1#1)
    ∧ (Cert.Pre_finite_sm.fn (F := Ideal) (m ((c.tc : Thread Cert.RefSampleIdeal.nD Cert.RefSampleIdeal.τ).loc Cert.RefSampleIdeal.main_arg0)) (m ((c.tc : Thread Cert.RefSampleIdeal.nD Cert.RefSampleIdeal.τ).loc Cert.RefSampleIdeal.main_arg1)) (m ((c.tc : Thread Cert.RefSampleIdeal.nD Cert.RefSampleIdeal.τ).loc Cert.RefSampleIdeal.main_arg2)) (m ((c.tc : Thread Cert.RefSampleIdeal.nD Cert.RefSampleIdeal.τ).loc Cert.RefSampleIdeal.main_arg3)) (m ((c.tc : Thread Cert.RefSampleIdeal.nD Cert.RefSampleIdeal.τ).loc Cert.RefSampleIdeal.main_arg4)) (m ((c.tc : Thread Cert.RefSampleIdeal.nD Cert.RefSampleIdeal.τ).loc Cert.RefSampleIdeal.main_arg5)) (m ((c.tc : Thread Cert.RefSampleIdeal.nD Cert.RefSampleIdeal.τ).loc Cert.RefSampleIdeal.main_arg6)) (m ((c.tc : Thread Cert.RefSampleIdeal.nD Cert.RefSampleIdeal.τ).loc Cert.RefSampleIdeal.main_arg7)) (m ((c.tc : Thread Cert.RefSampleIdeal.nD Cert.RefSampleIdeal.τ).loc Cert.RefSampleIdeal.main_arg8)) (m ((c.tc : Thread Cert.RefSampleIdeal.nD Cert.RefSampleIdeal.τ).loc Cert.RefSampleIdeal.main_arg9)) (m ((c.tc : Thread Cert.RefSampleIdeal.nD Cert.RefSampleIdeal.τ).loc Cert.RefSampleIdeal.main_arg10)) (m ((c.tc : Thread Cert.RefSampleIdeal.nD Cert.RefSampleIdeal.τ).loc Cert.RefSampleIdeal.main_arg11)) (m ((c.tc : Thread Cert.RefSampleIdeal.nD Cert.RefSampleIdeal.τ).loc Cert.RefSampleIdeal.main_arg12)) (m ((c.tc : Thread Cert.RefSampleIdeal.nD Cert.RefSampleIdeal.τ).loc Cert.RefSampleIdeal.main_arg13))).2.2.2.2.1 = (fun _ => 1#1)
    ∧ (Cert.Pre_finite_sm.fn (F := Ideal) (m ((c.tc : Thread Cert.RefSampleIdeal.nD Cert.RefSampleIdeal.τ).loc Cert.RefSampleIdeal.main_arg0)) (m ((c.tc : Thread Cert.RefSampleIdeal.nD Cert.RefSampleIdeal.τ).loc Cert.RefSampleIdeal.main_arg1)) (m ((c.tc : Thread Cert.RefSampleIdeal.nD Cert.RefSampleIdeal.τ).loc Cert.RefSampleIdeal.main_arg2)) (m ((c.tc : Thread Cert.RefSampleIdeal.nD Cert.RefSampleIdeal.τ).loc Cert.RefSampleIdeal.main_arg3)) (m ((c.tc : Thread Cert.RefSampleIdeal.nD Cert.RefSampleIdeal.τ).loc Cert.RefSampleIdeal.main_arg4)) (m ((c.tc : Thread Cert.RefSampleIdeal.nD Cert.RefSampleIdeal.τ).loc Cert.RefSampleIdeal.main_arg5)) (m ((c.tc : Thread Cert.RefSampleIdeal.nD Cert.RefSampleIdeal.τ).loc Cert.RefSampleIdeal.main_arg6)) (m ((c.tc : Thread Cert.RefSampleIdeal.nD Cert.RefSampleIdeal.τ).loc Cert.RefSampleIdeal.main_arg7)) (m ((c.tc : Thread Cert.RefSampleIdeal.nD Cert.RefSampleIdeal.τ).loc Cert.RefSampleIdeal.main_arg8)) (m ((c.tc : Thread Cert.RefSampleIdeal.nD Cert.RefSampleIdeal.τ).loc Cert.RefSampleIdeal.main_arg9)) (m ((c.tc : Thread Cert.RefSampleIdeal.nD Cert.RefSampleIdeal.τ).loc Cert.RefSampleIdeal.main_arg10)) (m ((c.tc : Thread Cert.RefSampleIdeal.nD Cert.RefSampleIdeal.τ).loc Cert.RefSampleIdeal.main_arg11)) (m ((c.tc : Thread Cert.RefSampleIdeal.nD Cert.RefSampleIdeal.τ).loc Cert.RefSampleIdeal.main_arg12)) (m ((c.tc : Thread Cert.RefSampleIdeal.nD Cert.RefSampleIdeal.τ).loc Cert.RefSampleIdeal.main_arg13))).2.2.2.2.2 = (fun _ => 1#1)

def Pre_InprojPrompt (m : (ℓ : Loc Cert.InprojPrompt.nD Cert.InprojPrompt.τ Cert.InprojPrompt.sig) → Buf (Elt Bits) ℓ) : Prop :=
  True

def Pre_InprojPromptIdeal (m : (ℓ : Loc Cert.InprojPromptIdeal.nD Cert.InprojPromptIdeal.τ Cert.InprojPromptIdeal.sig) → Buf (Elt Ideal) ℓ) : Prop :=
  True

def Pre_InprojPromptIdeal_finite_ip [hPre_finite_ip : Cert.Pre_finite_ip.Facts] (m : (ℓ : Loc Cert.InprojPromptIdeal.nD Cert.InprojPromptIdeal.τ Cert.InprojPromptIdeal.sig) → Buf (Elt Ideal) ℓ) : Prop :=
  ∀ c : Dev Cert.InprojPromptIdeal.nD,
    (Cert.Pre_finite_ip.fn (F := Ideal) (m ((c.tc : Thread Cert.InprojPromptIdeal.nD Cert.InprojPromptIdeal.τ).loc Cert.InprojPromptIdeal.main_arg0)) (m ((c.tc : Thread Cert.InprojPromptIdeal.nD Cert.InprojPromptIdeal.τ).loc Cert.InprojPromptIdeal.main_arg1)) (m ((c.tc : Thread Cert.InprojPromptIdeal.nD Cert.InprojPromptIdeal.τ).loc Cert.InprojPromptIdeal.main_arg2)) (m ((c.tc : Thread Cert.InprojPromptIdeal.nD Cert.InprojPromptIdeal.τ).loc Cert.InprojPromptIdeal.main_arg3)) (m ((c.tc : Thread Cert.InprojPromptIdeal.nD Cert.InprojPromptIdeal.τ).loc Cert.InprojPromptIdeal.main_arg4)) (m ((c.tc : Thread Cert.InprojPromptIdeal.nD Cert.InprojPromptIdeal.τ).loc Cert.InprojPromptIdeal.main_arg5)) (m ((c.tc : Thread Cert.InprojPromptIdeal.nD Cert.InprojPromptIdeal.τ).loc Cert.InprojPromptIdeal.main_arg6)) (m ((c.tc : Thread Cert.InprojPromptIdeal.nD Cert.InprojPromptIdeal.τ).loc Cert.InprojPromptIdeal.main_arg7)) (m ((c.tc : Thread Cert.InprojPromptIdeal.nD Cert.InprojPromptIdeal.τ).loc Cert.InprojPromptIdeal.main_arg8)) (m ((c.tc : Thread Cert.InprojPromptIdeal.nD Cert.InprojPromptIdeal.τ).loc Cert.InprojPromptIdeal.main_arg9)) (m ((c.tc : Thread Cert.InprojPromptIdeal.nD Cert.InprojPromptIdeal.τ).loc Cert.InprojPromptIdeal.main_arg10)) (m ((c.tc : Thread Cert.InprojPromptIdeal.nD Cert.InprojPromptIdeal.τ).loc Cert.InprojPromptIdeal.main_arg11)) (m ((c.tc : Thread Cert.InprojPromptIdeal.nD Cert.InprojPromptIdeal.τ).loc Cert.InprojPromptIdeal.main_arg12))).1 = (fun _ => 1#1)
    ∧ (Cert.Pre_finite_ip.fn (F := Ideal) (m ((c.tc : Thread Cert.InprojPromptIdeal.nD Cert.InprojPromptIdeal.τ).loc Cert.InprojPromptIdeal.main_arg0)) (m ((c.tc : Thread Cert.InprojPromptIdeal.nD Cert.InprojPromptIdeal.τ).loc Cert.InprojPromptIdeal.main_arg1)) (m ((c.tc : Thread Cert.InprojPromptIdeal.nD Cert.InprojPromptIdeal.τ).loc Cert.InprojPromptIdeal.main_arg2)) (m ((c.tc : Thread Cert.InprojPromptIdeal.nD Cert.InprojPromptIdeal.τ).loc Cert.InprojPromptIdeal.main_arg3)) (m ((c.tc : Thread Cert.InprojPromptIdeal.nD Cert.InprojPromptIdeal.τ).loc Cert.InprojPromptIdeal.main_arg4)) (m ((c.tc : Thread Cert.InprojPromptIdeal.nD Cert.InprojPromptIdeal.τ).loc Cert.InprojPromptIdeal.main_arg5)) (m ((c.tc : Thread Cert.InprojPromptIdeal.nD Cert.InprojPromptIdeal.τ).loc Cert.InprojPromptIdeal.main_arg6)) (m ((c.tc : Thread Cert.InprojPromptIdeal.nD Cert.InprojPromptIdeal.τ).loc Cert.InprojPromptIdeal.main_arg7)) (m ((c.tc : Thread Cert.InprojPromptIdeal.nD Cert.InprojPromptIdeal.τ).loc Cert.InprojPromptIdeal.main_arg8)) (m ((c.tc : Thread Cert.InprojPromptIdeal.nD Cert.InprojPromptIdeal.τ).loc Cert.InprojPromptIdeal.main_arg9)) (m ((c.tc : Thread Cert.InprojPromptIdeal.nD Cert.InprojPromptIdeal.τ).loc Cert.InprojPromptIdeal.main_arg10)) (m ((c.tc : Thread Cert.InprojPromptIdeal.nD Cert.InprojPromptIdeal.τ).loc Cert.InprojPromptIdeal.main_arg11)) (m ((c.tc : Thread Cert.InprojPromptIdeal.nD Cert.InprojPromptIdeal.τ).loc Cert.InprojPromptIdeal.main_arg12))).2.1 = (fun _ => 1#1)
    ∧ (Cert.Pre_finite_ip.fn (F := Ideal) (m ((c.tc : Thread Cert.InprojPromptIdeal.nD Cert.InprojPromptIdeal.τ).loc Cert.InprojPromptIdeal.main_arg0)) (m ((c.tc : Thread Cert.InprojPromptIdeal.nD Cert.InprojPromptIdeal.τ).loc Cert.InprojPromptIdeal.main_arg1)) (m ((c.tc : Thread Cert.InprojPromptIdeal.nD Cert.InprojPromptIdeal.τ).loc Cert.InprojPromptIdeal.main_arg2)) (m ((c.tc : Thread Cert.InprojPromptIdeal.nD Cert.InprojPromptIdeal.τ).loc Cert.InprojPromptIdeal.main_arg3)) (m ((c.tc : Thread Cert.InprojPromptIdeal.nD Cert.InprojPromptIdeal.τ).loc Cert.InprojPromptIdeal.main_arg4)) (m ((c.tc : Thread Cert.InprojPromptIdeal.nD Cert.InprojPromptIdeal.τ).loc Cert.InprojPromptIdeal.main_arg5)) (m ((c.tc : Thread Cert.InprojPromptIdeal.nD Cert.InprojPromptIdeal.τ).loc Cert.InprojPromptIdeal.main_arg6)) (m ((c.tc : Thread Cert.InprojPromptIdeal.nD Cert.InprojPromptIdeal.τ).loc Cert.InprojPromptIdeal.main_arg7)) (m ((c.tc : Thread Cert.InprojPromptIdeal.nD Cert.InprojPromptIdeal.τ).loc Cert.InprojPromptIdeal.main_arg8)) (m ((c.tc : Thread Cert.InprojPromptIdeal.nD Cert.InprojPromptIdeal.τ).loc Cert.InprojPromptIdeal.main_arg9)) (m ((c.tc : Thread Cert.InprojPromptIdeal.nD Cert.InprojPromptIdeal.τ).loc Cert.InprojPromptIdeal.main_arg10)) (m ((c.tc : Thread Cert.InprojPromptIdeal.nD Cert.InprojPromptIdeal.τ).loc Cert.InprojPromptIdeal.main_arg11)) (m ((c.tc : Thread Cert.InprojPromptIdeal.nD Cert.InprojPromptIdeal.τ).loc Cert.InprojPromptIdeal.main_arg12))).2.2.1 = (fun _ => 1#1)
    ∧ (Cert.Pre_finite_ip.fn (F := Ideal) (m ((c.tc : Thread Cert.InprojPromptIdeal.nD Cert.InprojPromptIdeal.τ).loc Cert.InprojPromptIdeal.main_arg0)) (m ((c.tc : Thread Cert.InprojPromptIdeal.nD Cert.InprojPromptIdeal.τ).loc Cert.InprojPromptIdeal.main_arg1)) (m ((c.tc : Thread Cert.InprojPromptIdeal.nD Cert.InprojPromptIdeal.τ).loc Cert.InprojPromptIdeal.main_arg2)) (m ((c.tc : Thread Cert.InprojPromptIdeal.nD Cert.InprojPromptIdeal.τ).loc Cert.InprojPromptIdeal.main_arg3)) (m ((c.tc : Thread Cert.InprojPromptIdeal.nD Cert.InprojPromptIdeal.τ).loc Cert.InprojPromptIdeal.main_arg4)) (m ((c.tc : Thread Cert.InprojPromptIdeal.nD Cert.InprojPromptIdeal.τ).loc Cert.InprojPromptIdeal.main_arg5)) (m ((c.tc : Thread Cert.InprojPromptIdeal.nD Cert.InprojPromptIdeal.τ).loc Cert.InprojPromptIdeal.main_arg6)) (m ((c.tc : Thread Cert.InprojPromptIdeal.nD Cert.InprojPromptIdeal.τ).loc Cert.InprojPromptIdeal.main_arg7)) (m ((c.tc : Thread Cert.InprojPromptIdeal.nD Cert.InprojPromptIdeal.τ).loc Cert.InprojPromptIdeal.main_arg8)) (m ((c.tc : Thread Cert.InprojPromptIdeal.nD Cert.InprojPromptIdeal.τ).loc Cert.InprojPromptIdeal.main_arg9)) (m ((c.tc : Thread Cert.InprojPromptIdeal.nD Cert.InprojPromptIdeal.τ).loc Cert.InprojPromptIdeal.main_arg10)) (m ((c.tc : Thread Cert.InprojPromptIdeal.nD Cert.InprojPromptIdeal.τ).loc Cert.InprojPromptIdeal.main_arg11)) (m ((c.tc : Thread Cert.InprojPromptIdeal.nD Cert.InprojPromptIdeal.τ).loc Cert.InprojPromptIdeal.main_arg12))).2.2.2.1 = (fun _ => 1#1)
    ∧ (Cert.Pre_finite_ip.fn (F := Ideal) (m ((c.tc : Thread Cert.InprojPromptIdeal.nD Cert.InprojPromptIdeal.τ).loc Cert.InprojPromptIdeal.main_arg0)) (m ((c.tc : Thread Cert.InprojPromptIdeal.nD Cert.InprojPromptIdeal.τ).loc Cert.InprojPromptIdeal.main_arg1)) (m ((c.tc : Thread Cert.InprojPromptIdeal.nD Cert.InprojPromptIdeal.τ).loc Cert.InprojPromptIdeal.main_arg2)) (m ((c.tc : Thread Cert.InprojPromptIdeal.nD Cert.InprojPromptIdeal.τ).loc Cert.InprojPromptIdeal.main_arg3)) (m ((c.tc : Thread Cert.InprojPromptIdeal.nD Cert.InprojPromptIdeal.τ).loc Cert.InprojPromptIdeal.main_arg4)) (m ((c.tc : Thread Cert.InprojPromptIdeal.nD Cert.InprojPromptIdeal.τ).loc Cert.InprojPromptIdeal.main_arg5)) (m ((c.tc : Thread Cert.InprojPromptIdeal.nD Cert.InprojPromptIdeal.τ).loc Cert.InprojPromptIdeal.main_arg6)) (m ((c.tc : Thread Cert.InprojPromptIdeal.nD Cert.InprojPromptIdeal.τ).loc Cert.InprojPromptIdeal.main_arg7)) (m ((c.tc : Thread Cert.InprojPromptIdeal.nD Cert.InprojPromptIdeal.τ).loc Cert.InprojPromptIdeal.main_arg8)) (m ((c.tc : Thread Cert.InprojPromptIdeal.nD Cert.InprojPromptIdeal.τ).loc Cert.InprojPromptIdeal.main_arg9)) (m ((c.tc : Thread Cert.InprojPromptIdeal.nD Cert.InprojPromptIdeal.τ).loc Cert.InprojPromptIdeal.main_arg10)) (m ((c.tc : Thread Cert.InprojPromptIdeal.nD Cert.InprojPromptIdeal.τ).loc Cert.InprojPromptIdeal.main_arg11)) (m ((c.tc : Thread Cert.InprojPromptIdeal.nD Cert.InprojPromptIdeal.τ).loc Cert.InprojPromptIdeal.main_arg12))).2.2.2.2 = (fun _ => 1#1)

def Pre_RefInprojIdeal (m : (ℓ : Loc Cert.RefInprojIdeal.nD Cert.RefInprojIdeal.τ Cert.RefInprojIdeal.sig) → Buf (Elt Ideal) ℓ) : Prop :=
  True

def Pre_RefInprojIdeal_finite_ip [hPre_finite_ip : Cert.Pre_finite_ip.Facts] (m : (ℓ : Loc Cert.RefInprojIdeal.nD Cert.RefInprojIdeal.τ Cert.RefInprojIdeal.sig) → Buf (Elt Ideal) ℓ) : Prop :=
  ∀ c : Dev Cert.RefInprojIdeal.nD,
    (Cert.Pre_finite_ip.fn (F := Ideal) (m ((c.tc : Thread Cert.RefInprojIdeal.nD Cert.RefInprojIdeal.τ).loc Cert.RefInprojIdeal.main_arg0)) (m ((c.tc : Thread Cert.RefInprojIdeal.nD Cert.RefInprojIdeal.τ).loc Cert.RefInprojIdeal.main_arg1)) (m ((c.tc : Thread Cert.RefInprojIdeal.nD Cert.RefInprojIdeal.τ).loc Cert.RefInprojIdeal.main_arg2)) (m ((c.tc : Thread Cert.RefInprojIdeal.nD Cert.RefInprojIdeal.τ).loc Cert.RefInprojIdeal.main_arg3)) (m ((c.tc : Thread Cert.RefInprojIdeal.nD Cert.RefInprojIdeal.τ).loc Cert.RefInprojIdeal.main_arg4)) (m ((c.tc : Thread Cert.RefInprojIdeal.nD Cert.RefInprojIdeal.τ).loc Cert.RefInprojIdeal.main_arg5)) (m ((c.tc : Thread Cert.RefInprojIdeal.nD Cert.RefInprojIdeal.τ).loc Cert.RefInprojIdeal.main_arg6)) (m ((c.tc : Thread Cert.RefInprojIdeal.nD Cert.RefInprojIdeal.τ).loc Cert.RefInprojIdeal.main_arg7)) (m ((c.tc : Thread Cert.RefInprojIdeal.nD Cert.RefInprojIdeal.τ).loc Cert.RefInprojIdeal.main_arg8)) (m ((c.tc : Thread Cert.RefInprojIdeal.nD Cert.RefInprojIdeal.τ).loc Cert.RefInprojIdeal.main_arg9)) (m ((c.tc : Thread Cert.RefInprojIdeal.nD Cert.RefInprojIdeal.τ).loc Cert.RefInprojIdeal.main_arg10)) (m ((c.tc : Thread Cert.RefInprojIdeal.nD Cert.RefInprojIdeal.τ).loc Cert.RefInprojIdeal.main_arg11)) (m ((c.tc : Thread Cert.RefInprojIdeal.nD Cert.RefInprojIdeal.τ).loc Cert.RefInprojIdeal.main_arg12))).1 = (fun _ => 1#1)
    ∧ (Cert.Pre_finite_ip.fn (F := Ideal) (m ((c.tc : Thread Cert.RefInprojIdeal.nD Cert.RefInprojIdeal.τ).loc Cert.RefInprojIdeal.main_arg0)) (m ((c.tc : Thread Cert.RefInprojIdeal.nD Cert.RefInprojIdeal.τ).loc Cert.RefInprojIdeal.main_arg1)) (m ((c.tc : Thread Cert.RefInprojIdeal.nD Cert.RefInprojIdeal.τ).loc Cert.RefInprojIdeal.main_arg2)) (m ((c.tc : Thread Cert.RefInprojIdeal.nD Cert.RefInprojIdeal.τ).loc Cert.RefInprojIdeal.main_arg3)) (m ((c.tc : Thread Cert.RefInprojIdeal.nD Cert.RefInprojIdeal.τ).loc Cert.RefInprojIdeal.main_arg4)) (m ((c.tc : Thread Cert.RefInprojIdeal.nD Cert.RefInprojIdeal.τ).loc Cert.RefInprojIdeal.main_arg5)) (m ((c.tc : Thread Cert.RefInprojIdeal.nD Cert.RefInprojIdeal.τ).loc Cert.RefInprojIdeal.main_arg6)) (m ((c.tc : Thread Cert.RefInprojIdeal.nD Cert.RefInprojIdeal.τ).loc Cert.RefInprojIdeal.main_arg7)) (m ((c.tc : Thread Cert.RefInprojIdeal.nD Cert.RefInprojIdeal.τ).loc Cert.RefInprojIdeal.main_arg8)) (m ((c.tc : Thread Cert.RefInprojIdeal.nD Cert.RefInprojIdeal.τ).loc Cert.RefInprojIdeal.main_arg9)) (m ((c.tc : Thread Cert.RefInprojIdeal.nD Cert.RefInprojIdeal.τ).loc Cert.RefInprojIdeal.main_arg10)) (m ((c.tc : Thread Cert.RefInprojIdeal.nD Cert.RefInprojIdeal.τ).loc Cert.RefInprojIdeal.main_arg11)) (m ((c.tc : Thread Cert.RefInprojIdeal.nD Cert.RefInprojIdeal.τ).loc Cert.RefInprojIdeal.main_arg12))).2.1 = (fun _ => 1#1)
    ∧ (Cert.Pre_finite_ip.fn (F := Ideal) (m ((c.tc : Thread Cert.RefInprojIdeal.nD Cert.RefInprojIdeal.τ).loc Cert.RefInprojIdeal.main_arg0)) (m ((c.tc : Thread Cert.RefInprojIdeal.nD Cert.RefInprojIdeal.τ).loc Cert.RefInprojIdeal.main_arg1)) (m ((c.tc : Thread Cert.RefInprojIdeal.nD Cert.RefInprojIdeal.τ).loc Cert.RefInprojIdeal.main_arg2)) (m ((c.tc : Thread Cert.RefInprojIdeal.nD Cert.RefInprojIdeal.τ).loc Cert.RefInprojIdeal.main_arg3)) (m ((c.tc : Thread Cert.RefInprojIdeal.nD Cert.RefInprojIdeal.τ).loc Cert.RefInprojIdeal.main_arg4)) (m ((c.tc : Thread Cert.RefInprojIdeal.nD Cert.RefInprojIdeal.τ).loc Cert.RefInprojIdeal.main_arg5)) (m ((c.tc : Thread Cert.RefInprojIdeal.nD Cert.RefInprojIdeal.τ).loc Cert.RefInprojIdeal.main_arg6)) (m ((c.tc : Thread Cert.RefInprojIdeal.nD Cert.RefInprojIdeal.τ).loc Cert.RefInprojIdeal.main_arg7)) (m ((c.tc : Thread Cert.RefInprojIdeal.nD Cert.RefInprojIdeal.τ).loc Cert.RefInprojIdeal.main_arg8)) (m ((c.tc : Thread Cert.RefInprojIdeal.nD Cert.RefInprojIdeal.τ).loc Cert.RefInprojIdeal.main_arg9)) (m ((c.tc : Thread Cert.RefInprojIdeal.nD Cert.RefInprojIdeal.τ).loc Cert.RefInprojIdeal.main_arg10)) (m ((c.tc : Thread Cert.RefInprojIdeal.nD Cert.RefInprojIdeal.τ).loc Cert.RefInprojIdeal.main_arg11)) (m ((c.tc : Thread Cert.RefInprojIdeal.nD Cert.RefInprojIdeal.τ).loc Cert.RefInprojIdeal.main_arg12))).2.2.1 = (fun _ => 1#1)
    ∧ (Cert.Pre_finite_ip.fn (F := Ideal) (m ((c.tc : Thread Cert.RefInprojIdeal.nD Cert.RefInprojIdeal.τ).loc Cert.RefInprojIdeal.main_arg0)) (m ((c.tc : Thread Cert.RefInprojIdeal.nD Cert.RefInprojIdeal.τ).loc Cert.RefInprojIdeal.main_arg1)) (m ((c.tc : Thread Cert.RefInprojIdeal.nD Cert.RefInprojIdeal.τ).loc Cert.RefInprojIdeal.main_arg2)) (m ((c.tc : Thread Cert.RefInprojIdeal.nD Cert.RefInprojIdeal.τ).loc Cert.RefInprojIdeal.main_arg3)) (m ((c.tc : Thread Cert.RefInprojIdeal.nD Cert.RefInprojIdeal.τ).loc Cert.RefInprojIdeal.main_arg4)) (m ((c.tc : Thread Cert.RefInprojIdeal.nD Cert.RefInprojIdeal.τ).loc Cert.RefInprojIdeal.main_arg5)) (m ((c.tc : Thread Cert.RefInprojIdeal.nD Cert.RefInprojIdeal.τ).loc Cert.RefInprojIdeal.main_arg6)) (m ((c.tc : Thread Cert.RefInprojIdeal.nD Cert.RefInprojIdeal.τ).loc Cert.RefInprojIdeal.main_arg7)) (m ((c.tc : Thread Cert.RefInprojIdeal.nD Cert.RefInprojIdeal.τ).loc Cert.RefInprojIdeal.main_arg8)) (m ((c.tc : Thread Cert.RefInprojIdeal.nD Cert.RefInprojIdeal.τ).loc Cert.RefInprojIdeal.main_arg9)) (m ((c.tc : Thread Cert.RefInprojIdeal.nD Cert.RefInprojIdeal.τ).loc Cert.RefInprojIdeal.main_arg10)) (m ((c.tc : Thread Cert.RefInprojIdeal.nD Cert.RefInprojIdeal.τ).loc Cert.RefInprojIdeal.main_arg11)) (m ((c.tc : Thread Cert.RefInprojIdeal.nD Cert.RefInprojIdeal.τ).loc Cert.RefInprojIdeal.main_arg12))).2.2.2.1 = (fun _ => 1#1)
    ∧ (Cert.Pre_finite_ip.fn (F := Ideal) (m ((c.tc : Thread Cert.RefInprojIdeal.nD Cert.RefInprojIdeal.τ).loc Cert.RefInprojIdeal.main_arg0)) (m ((c.tc : Thread Cert.RefInprojIdeal.nD Cert.RefInprojIdeal.τ).loc Cert.RefInprojIdeal.main_arg1)) (m ((c.tc : Thread Cert.RefInprojIdeal.nD Cert.RefInprojIdeal.τ).loc Cert.RefInprojIdeal.main_arg2)) (m ((c.tc : Thread Cert.RefInprojIdeal.nD Cert.RefInprojIdeal.τ).loc Cert.RefInprojIdeal.main_arg3)) (m ((c.tc : Thread Cert.RefInprojIdeal.nD Cert.RefInprojIdeal.τ).loc Cert.RefInprojIdeal.main_arg4)) (m ((c.tc : Thread Cert.RefInprojIdeal.nD Cert.RefInprojIdeal.τ).loc Cert.RefInprojIdeal.main_arg5)) (m ((c.tc : Thread Cert.RefInprojIdeal.nD Cert.RefInprojIdeal.τ).loc Cert.RefInprojIdeal.main_arg6)) (m ((c.tc : Thread Cert.RefInprojIdeal.nD Cert.RefInprojIdeal.τ).loc Cert.RefInprojIdeal.main_arg7)) (m ((c.tc : Thread Cert.RefInprojIdeal.nD Cert.RefInprojIdeal.τ).loc Cert.RefInprojIdeal.main_arg8)) (m ((c.tc : Thread Cert.RefInprojIdeal.nD Cert.RefInprojIdeal.τ).loc Cert.RefInprojIdeal.main_arg9)) (m ((c.tc : Thread Cert.RefInprojIdeal.nD Cert.RefInprojIdeal.τ).loc Cert.RefInprojIdeal.main_arg10)) (m ((c.tc : Thread Cert.RefInprojIdeal.nD Cert.RefInprojIdeal.τ).loc Cert.RefInprojIdeal.main_arg11)) (m ((c.tc : Thread Cert.RefInprojIdeal.nD Cert.RefInprojIdeal.τ).loc Cert.RefInprojIdeal.main_arg12))).2.2.2.2 = (fun _ => 1#1)

def quiescent_FfnPrompt [hFfnPrompt : Cert.FfnPrompt.Facts] : Prop :=
  ∀ (m : (ℓ : Loc Cert.FfnPrompt.nD Cert.FfnPrompt.τ Cert.FfnPrompt.sig) → Buf (Elt Bits) ℓ) (g : Dev Cert.FfnPrompt.nD → PrngReg), Pre_FfnPrompt m →
    θ_run (Cert.FfnPrompt.defs (F := Bits)) (onTc (τ := Cert.FfnPrompt.τ) (Cert.FfnPrompt.main (F := Bits))) ⟨m, fun _ => 0, g⟩ (fun r => (∀ c : Dev Cert.FfnPrompt.nD,
      r.2.mem ((c.tc : Thread Cert.FfnPrompt.nD Cert.FfnPrompt.τ).loc Cert.FfnPrompt.main_arg0) = m ((c.tc : Thread Cert.FfnPrompt.nD Cert.FfnPrompt.τ).loc Cert.FfnPrompt.main_arg0)
      ∧ r.2.mem ((c.tc : Thread Cert.FfnPrompt.nD Cert.FfnPrompt.τ).loc Cert.FfnPrompt.main_arg1) = m ((c.tc : Thread Cert.FfnPrompt.nD Cert.FfnPrompt.τ).loc Cert.FfnPrompt.main_arg1)
      ∧ r.2.mem ((c.tc : Thread Cert.FfnPrompt.nD Cert.FfnPrompt.τ).loc Cert.FfnPrompt.main_arg2) = m ((c.tc : Thread Cert.FfnPrompt.nD Cert.FfnPrompt.τ).loc Cert.FfnPrompt.main_arg2)
      ∧ r.2.mem ((c.tc : Thread Cert.FfnPrompt.nD Cert.FfnPrompt.τ).loc Cert.FfnPrompt.main_arg3) = m ((c.tc : Thread Cert.FfnPrompt.nD Cert.FfnPrompt.τ).loc Cert.FfnPrompt.main_arg3)
      ∧ r.2.mem ((c.tc : Thread Cert.FfnPrompt.nD Cert.FfnPrompt.τ).loc Cert.FfnPrompt.main_arg4) = m ((c.tc : Thread Cert.FfnPrompt.nD Cert.FfnPrompt.τ).loc Cert.FfnPrompt.main_arg4)
      ∧ r.2.mem ((c.tc : Thread Cert.FfnPrompt.nD Cert.FfnPrompt.τ).loc Cert.FfnPrompt.main_arg5) = m ((c.tc : Thread Cert.FfnPrompt.nD Cert.FfnPrompt.τ).loc Cert.FfnPrompt.main_arg5))
      ∧ r.2.sem = fun _ => 0)

def quiescent_FfnPromptIdeal [hFfnPromptIdeal : Cert.FfnPromptIdeal.Facts] : Prop :=
  ∀ (m : (ℓ : Loc Cert.FfnPromptIdeal.nD Cert.FfnPromptIdeal.τ Cert.FfnPromptIdeal.sig) → Buf (Elt Ideal) ℓ) (g : Dev Cert.FfnPromptIdeal.nD → PrngReg), Pre_FfnPromptIdeal m →
    θ_run (Cert.FfnPromptIdeal.defs (F := Ideal)) (onTc (τ := Cert.FfnPromptIdeal.τ) (Cert.FfnPromptIdeal.main (F := Ideal))) ⟨m, fun _ => 0, g⟩ (fun r => (∀ c : Dev Cert.FfnPromptIdeal.nD,
      r.2.mem ((c.tc : Thread Cert.FfnPromptIdeal.nD Cert.FfnPromptIdeal.τ).loc Cert.FfnPromptIdeal.main_arg0) = m ((c.tc : Thread Cert.FfnPromptIdeal.nD Cert.FfnPromptIdeal.τ).loc Cert.FfnPromptIdeal.main_arg0)
      ∧ r.2.mem ((c.tc : Thread Cert.FfnPromptIdeal.nD Cert.FfnPromptIdeal.τ).loc Cert.FfnPromptIdeal.main_arg1) = m ((c.tc : Thread Cert.FfnPromptIdeal.nD Cert.FfnPromptIdeal.τ).loc Cert.FfnPromptIdeal.main_arg1)
      ∧ r.2.mem ((c.tc : Thread Cert.FfnPromptIdeal.nD Cert.FfnPromptIdeal.τ).loc Cert.FfnPromptIdeal.main_arg2) = m ((c.tc : Thread Cert.FfnPromptIdeal.nD Cert.FfnPromptIdeal.τ).loc Cert.FfnPromptIdeal.main_arg2)
      ∧ r.2.mem ((c.tc : Thread Cert.FfnPromptIdeal.nD Cert.FfnPromptIdeal.τ).loc Cert.FfnPromptIdeal.main_arg3) = m ((c.tc : Thread Cert.FfnPromptIdeal.nD Cert.FfnPromptIdeal.τ).loc Cert.FfnPromptIdeal.main_arg3)
      ∧ r.2.mem ((c.tc : Thread Cert.FfnPromptIdeal.nD Cert.FfnPromptIdeal.τ).loc Cert.FfnPromptIdeal.main_arg4) = m ((c.tc : Thread Cert.FfnPromptIdeal.nD Cert.FfnPromptIdeal.τ).loc Cert.FfnPromptIdeal.main_arg4)
      ∧ r.2.mem ((c.tc : Thread Cert.FfnPromptIdeal.nD Cert.FfnPromptIdeal.τ).loc Cert.FfnPromptIdeal.main_arg5) = m ((c.tc : Thread Cert.FfnPromptIdeal.nD Cert.FfnPromptIdeal.τ).loc Cert.FfnPromptIdeal.main_arg5))
      ∧ r.2.sem = fun _ => 0)

def quiescent_RefFfnPromptIdeal [hRefFfnPromptIdeal : Cert.RefFfnPromptIdeal.Facts] : Prop :=
  ∀ (m : (ℓ : Loc Cert.RefFfnPromptIdeal.nD Cert.RefFfnPromptIdeal.τ Cert.RefFfnPromptIdeal.sig) → Buf (Elt Ideal) ℓ) (g : Dev Cert.RefFfnPromptIdeal.nD → PrngReg), Pre_RefFfnPromptIdeal m →
    θ_run (Cert.RefFfnPromptIdeal.defs (F := Ideal)) (onTc (τ := Cert.RefFfnPromptIdeal.τ) (Cert.RefFfnPromptIdeal.main (F := Ideal))) ⟨m, fun _ => 0, g⟩ (fun r => (∀ c : Dev Cert.RefFfnPromptIdeal.nD,
      r.2.mem ((c.tc : Thread Cert.RefFfnPromptIdeal.nD Cert.RefFfnPromptIdeal.τ).loc Cert.RefFfnPromptIdeal.main_arg0) = m ((c.tc : Thread Cert.RefFfnPromptIdeal.nD Cert.RefFfnPromptIdeal.τ).loc Cert.RefFfnPromptIdeal.main_arg0)
      ∧ r.2.mem ((c.tc : Thread Cert.RefFfnPromptIdeal.nD Cert.RefFfnPromptIdeal.τ).loc Cert.RefFfnPromptIdeal.main_arg1) = m ((c.tc : Thread Cert.RefFfnPromptIdeal.nD Cert.RefFfnPromptIdeal.τ).loc Cert.RefFfnPromptIdeal.main_arg1)
      ∧ r.2.mem ((c.tc : Thread Cert.RefFfnPromptIdeal.nD Cert.RefFfnPromptIdeal.τ).loc Cert.RefFfnPromptIdeal.main_arg2) = m ((c.tc : Thread Cert.RefFfnPromptIdeal.nD Cert.RefFfnPromptIdeal.τ).loc Cert.RefFfnPromptIdeal.main_arg2)
      ∧ r.2.mem ((c.tc : Thread Cert.RefFfnPromptIdeal.nD Cert.RefFfnPromptIdeal.τ).loc Cert.RefFfnPromptIdeal.main_arg3) = m ((c.tc : Thread Cert.RefFfnPromptIdeal.nD Cert.RefFfnPromptIdeal.τ).loc Cert.RefFfnPromptIdeal.main_arg3)
      ∧ r.2.mem ((c.tc : Thread Cert.RefFfnPromptIdeal.nD Cert.RefFfnPromptIdeal.τ).loc Cert.RefFfnPromptIdeal.main_arg4) = m ((c.tc : Thread Cert.RefFfnPromptIdeal.nD Cert.RefFfnPromptIdeal.τ).loc Cert.RefFfnPromptIdeal.main_arg4)
      ∧ r.2.mem ((c.tc : Thread Cert.RefFfnPromptIdeal.nD Cert.RefFfnPromptIdeal.τ).loc Cert.RefFfnPromptIdeal.main_arg5) = m ((c.tc : Thread Cert.RefFfnPromptIdeal.nD Cert.RefFfnPromptIdeal.τ).loc Cert.RefFfnPromptIdeal.main_arg5))
      ∧ r.2.sem = fun _ => 0)

def quiescent_MixerSample [hMixerSample : Cert.MixerSample.Facts] : Prop :=
  ∀ (m : (ℓ : Loc Cert.MixerSample.nD Cert.MixerSample.τ Cert.MixerSample.sig) → Buf (Elt Bits) ℓ) (g : Dev Cert.MixerSample.nD → PrngReg), Pre_MixerSample m →
    θ_run (Cert.MixerSample.defs (F := Bits)) (onTc (τ := Cert.MixerSample.τ) (Cert.MixerSample.main (F := Bits))) ⟨m, fun _ => 0, g⟩ (fun r => (∀ c : Dev Cert.MixerSample.nD,
      r.2.mem ((c.tc : Thread Cert.MixerSample.nD Cert.MixerSample.τ).loc Cert.MixerSample.main_arg0) = m ((c.tc : Thread Cert.MixerSample.nD Cert.MixerSample.τ).loc Cert.MixerSample.main_arg0)
      ∧ r.2.mem ((c.tc : Thread Cert.MixerSample.nD Cert.MixerSample.τ).loc Cert.MixerSample.main_arg1) = m ((c.tc : Thread Cert.MixerSample.nD Cert.MixerSample.τ).loc Cert.MixerSample.main_arg1)
      ∧ r.2.mem ((c.tc : Thread Cert.MixerSample.nD Cert.MixerSample.τ).loc Cert.MixerSample.main_arg2) = m ((c.tc : Thread Cert.MixerSample.nD Cert.MixerSample.τ).loc Cert.MixerSample.main_arg2)
      ∧ r.2.mem ((c.tc : Thread Cert.MixerSample.nD Cert.MixerSample.τ).loc Cert.MixerSample.main_arg3) = m ((c.tc : Thread Cert.MixerSample.nD Cert.MixerSample.τ).loc Cert.MixerSample.main_arg3)
      ∧ r.2.mem ((c.tc : Thread Cert.MixerSample.nD Cert.MixerSample.τ).loc Cert.MixerSample.main_arg4) = m ((c.tc : Thread Cert.MixerSample.nD Cert.MixerSample.τ).loc Cert.MixerSample.main_arg4)
      ∧ r.2.mem ((c.tc : Thread Cert.MixerSample.nD Cert.MixerSample.τ).loc Cert.MixerSample.main_arg5) = m ((c.tc : Thread Cert.MixerSample.nD Cert.MixerSample.τ).loc Cert.MixerSample.main_arg5)
      ∧ r.2.mem ((c.tc : Thread Cert.MixerSample.nD Cert.MixerSample.τ).loc Cert.MixerSample.main_arg6) = m ((c.tc : Thread Cert.MixerSample.nD Cert.MixerSample.τ).loc Cert.MixerSample.main_arg6)
      ∧ r.2.mem ((c.tc : Thread Cert.MixerSample.nD Cert.MixerSample.τ).loc Cert.MixerSample.main_arg7) = m ((c.tc : Thread Cert.MixerSample.nD Cert.MixerSample.τ).loc Cert.MixerSample.main_arg7)
      ∧ r.2.mem ((c.tc : Thread Cert.MixerSample.nD Cert.MixerSample.τ).loc Cert.MixerSample.main_arg8) = m ((c.tc : Thread Cert.MixerSample.nD Cert.MixerSample.τ).loc Cert.MixerSample.main_arg8)
      ∧ r.2.mem ((c.tc : Thread Cert.MixerSample.nD Cert.MixerSample.τ).loc Cert.MixerSample.main_arg9) = m ((c.tc : Thread Cert.MixerSample.nD Cert.MixerSample.τ).loc Cert.MixerSample.main_arg9)
      ∧ r.2.mem ((c.tc : Thread Cert.MixerSample.nD Cert.MixerSample.τ).loc Cert.MixerSample.main_arg10) = m ((c.tc : Thread Cert.MixerSample.nD Cert.MixerSample.τ).loc Cert.MixerSample.main_arg10)
      ∧ r.2.mem ((c.tc : Thread Cert.MixerSample.nD Cert.MixerSample.τ).loc Cert.MixerSample.main_arg11) = m ((c.tc : Thread Cert.MixerSample.nD Cert.MixerSample.τ).loc Cert.MixerSample.main_arg11)
      ∧ r.2.mem ((c.tc : Thread Cert.MixerSample.nD Cert.MixerSample.τ).loc Cert.MixerSample.main_arg12) = m ((c.tc : Thread Cert.MixerSample.nD Cert.MixerSample.τ).loc Cert.MixerSample.main_arg12)
      ∧ r.2.mem ((c.tc : Thread Cert.MixerSample.nD Cert.MixerSample.τ).loc Cert.MixerSample.main_arg13) = m ((c.tc : Thread Cert.MixerSample.nD Cert.MixerSample.τ).loc Cert.MixerSample.main_arg13))
      ∧ r.2.sem = fun _ => 0)

def quiescent_MixerSampleIdeal [hMixerSampleIdeal : Cert.MixerSampleIdeal.Facts] : Prop :=
  ∀ (m : (ℓ : Loc Cert.MixerSampleIdeal.nD Cert.MixerSampleIdeal.τ Cert.MixerSampleIdeal.sig) → Buf (Elt Ideal) ℓ) (g : Dev Cert.MixerSampleIdeal.nD → PrngReg), Pre_MixerSampleIdeal m →
    θ_run (Cert.MixerSampleIdeal.defs (F := Ideal)) (onTc (τ := Cert.MixerSampleIdeal.τ) (Cert.MixerSampleIdeal.main (F := Ideal))) ⟨m, fun _ => 0, g⟩ (fun r => (∀ c : Dev Cert.MixerSampleIdeal.nD,
      r.2.mem ((c.tc : Thread Cert.MixerSampleIdeal.nD Cert.MixerSampleIdeal.τ).loc Cert.MixerSampleIdeal.main_arg0) = m ((c.tc : Thread Cert.MixerSampleIdeal.nD Cert.MixerSampleIdeal.τ).loc Cert.MixerSampleIdeal.main_arg0)
      ∧ r.2.mem ((c.tc : Thread Cert.MixerSampleIdeal.nD Cert.MixerSampleIdeal.τ).loc Cert.MixerSampleIdeal.main_arg1) = m ((c.tc : Thread Cert.MixerSampleIdeal.nD Cert.MixerSampleIdeal.τ).loc Cert.MixerSampleIdeal.main_arg1)
      ∧ r.2.mem ((c.tc : Thread Cert.MixerSampleIdeal.nD Cert.MixerSampleIdeal.τ).loc Cert.MixerSampleIdeal.main_arg2) = m ((c.tc : Thread Cert.MixerSampleIdeal.nD Cert.MixerSampleIdeal.τ).loc Cert.MixerSampleIdeal.main_arg2)
      ∧ r.2.mem ((c.tc : Thread Cert.MixerSampleIdeal.nD Cert.MixerSampleIdeal.τ).loc Cert.MixerSampleIdeal.main_arg3) = m ((c.tc : Thread Cert.MixerSampleIdeal.nD Cert.MixerSampleIdeal.τ).loc Cert.MixerSampleIdeal.main_arg3)
      ∧ r.2.mem ((c.tc : Thread Cert.MixerSampleIdeal.nD Cert.MixerSampleIdeal.τ).loc Cert.MixerSampleIdeal.main_arg4) = m ((c.tc : Thread Cert.MixerSampleIdeal.nD Cert.MixerSampleIdeal.τ).loc Cert.MixerSampleIdeal.main_arg4)
      ∧ r.2.mem ((c.tc : Thread Cert.MixerSampleIdeal.nD Cert.MixerSampleIdeal.τ).loc Cert.MixerSampleIdeal.main_arg5) = m ((c.tc : Thread Cert.MixerSampleIdeal.nD Cert.MixerSampleIdeal.τ).loc Cert.MixerSampleIdeal.main_arg5)
      ∧ r.2.mem ((c.tc : Thread Cert.MixerSampleIdeal.nD Cert.MixerSampleIdeal.τ).loc Cert.MixerSampleIdeal.main_arg6) = m ((c.tc : Thread Cert.MixerSampleIdeal.nD Cert.MixerSampleIdeal.τ).loc Cert.MixerSampleIdeal.main_arg6)
      ∧ r.2.mem ((c.tc : Thread Cert.MixerSampleIdeal.nD Cert.MixerSampleIdeal.τ).loc Cert.MixerSampleIdeal.main_arg7) = m ((c.tc : Thread Cert.MixerSampleIdeal.nD Cert.MixerSampleIdeal.τ).loc Cert.MixerSampleIdeal.main_arg7)
      ∧ r.2.mem ((c.tc : Thread Cert.MixerSampleIdeal.nD Cert.MixerSampleIdeal.τ).loc Cert.MixerSampleIdeal.main_arg8) = m ((c.tc : Thread Cert.MixerSampleIdeal.nD Cert.MixerSampleIdeal.τ).loc Cert.MixerSampleIdeal.main_arg8)
      ∧ r.2.mem ((c.tc : Thread Cert.MixerSampleIdeal.nD Cert.MixerSampleIdeal.τ).loc Cert.MixerSampleIdeal.main_arg9) = m ((c.tc : Thread Cert.MixerSampleIdeal.nD Cert.MixerSampleIdeal.τ).loc Cert.MixerSampleIdeal.main_arg9)
      ∧ r.2.mem ((c.tc : Thread Cert.MixerSampleIdeal.nD Cert.MixerSampleIdeal.τ).loc Cert.MixerSampleIdeal.main_arg10) = m ((c.tc : Thread Cert.MixerSampleIdeal.nD Cert.MixerSampleIdeal.τ).loc Cert.MixerSampleIdeal.main_arg10)
      ∧ r.2.mem ((c.tc : Thread Cert.MixerSampleIdeal.nD Cert.MixerSampleIdeal.τ).loc Cert.MixerSampleIdeal.main_arg11) = m ((c.tc : Thread Cert.MixerSampleIdeal.nD Cert.MixerSampleIdeal.τ).loc Cert.MixerSampleIdeal.main_arg11)
      ∧ r.2.mem ((c.tc : Thread Cert.MixerSampleIdeal.nD Cert.MixerSampleIdeal.τ).loc Cert.MixerSampleIdeal.main_arg12) = m ((c.tc : Thread Cert.MixerSampleIdeal.nD Cert.MixerSampleIdeal.τ).loc Cert.MixerSampleIdeal.main_arg12)
      ∧ r.2.mem ((c.tc : Thread Cert.MixerSampleIdeal.nD Cert.MixerSampleIdeal.τ).loc Cert.MixerSampleIdeal.main_arg13) = m ((c.tc : Thread Cert.MixerSampleIdeal.nD Cert.MixerSampleIdeal.τ).loc Cert.MixerSampleIdeal.main_arg13))
      ∧ r.2.sem = fun _ => 0)

def quiescent_MixerSampleIdeal_pre_finite_sm [hMixerSampleIdeal : Cert.MixerSampleIdeal.Facts] [hPre_finite_sm : Cert.Pre_finite_sm.Facts] : Prop :=
  ∀ (m : (ℓ : Loc Cert.MixerSampleIdeal.nD Cert.MixerSampleIdeal.τ Cert.MixerSampleIdeal.sig) → Buf (Elt Ideal) ℓ) (g : Dev Cert.MixerSampleIdeal.nD → PrngReg), Pre_MixerSampleIdeal_finite_sm m →
    θ_run (Cert.MixerSampleIdeal.defs (F := Ideal)) (onTc (τ := Cert.MixerSampleIdeal.τ) (Cert.MixerSampleIdeal.main (F := Ideal))) ⟨m, fun _ => 0, g⟩ (fun r => (∀ c : Dev Cert.MixerSampleIdeal.nD,
      r.2.mem ((c.tc : Thread Cert.MixerSampleIdeal.nD Cert.MixerSampleIdeal.τ).loc Cert.MixerSampleIdeal.main_arg0) = m ((c.tc : Thread Cert.MixerSampleIdeal.nD Cert.MixerSampleIdeal.τ).loc Cert.MixerSampleIdeal.main_arg0)
      ∧ r.2.mem ((c.tc : Thread Cert.MixerSampleIdeal.nD Cert.MixerSampleIdeal.τ).loc Cert.MixerSampleIdeal.main_arg1) = m ((c.tc : Thread Cert.MixerSampleIdeal.nD Cert.MixerSampleIdeal.τ).loc Cert.MixerSampleIdeal.main_arg1)
      ∧ r.2.mem ((c.tc : Thread Cert.MixerSampleIdeal.nD Cert.MixerSampleIdeal.τ).loc Cert.MixerSampleIdeal.main_arg2) = m ((c.tc : Thread Cert.MixerSampleIdeal.nD Cert.MixerSampleIdeal.τ).loc Cert.MixerSampleIdeal.main_arg2)
      ∧ r.2.mem ((c.tc : Thread Cert.MixerSampleIdeal.nD Cert.MixerSampleIdeal.τ).loc Cert.MixerSampleIdeal.main_arg3) = m ((c.tc : Thread Cert.MixerSampleIdeal.nD Cert.MixerSampleIdeal.τ).loc Cert.MixerSampleIdeal.main_arg3)
      ∧ r.2.mem ((c.tc : Thread Cert.MixerSampleIdeal.nD Cert.MixerSampleIdeal.τ).loc Cert.MixerSampleIdeal.main_arg4) = m ((c.tc : Thread Cert.MixerSampleIdeal.nD Cert.MixerSampleIdeal.τ).loc Cert.MixerSampleIdeal.main_arg4)
      ∧ r.2.mem ((c.tc : Thread Cert.MixerSampleIdeal.nD Cert.MixerSampleIdeal.τ).loc Cert.MixerSampleIdeal.main_arg5) = m ((c.tc : Thread Cert.MixerSampleIdeal.nD Cert.MixerSampleIdeal.τ).loc Cert.MixerSampleIdeal.main_arg5)
      ∧ r.2.mem ((c.tc : Thread Cert.MixerSampleIdeal.nD Cert.MixerSampleIdeal.τ).loc Cert.MixerSampleIdeal.main_arg6) = m ((c.tc : Thread Cert.MixerSampleIdeal.nD Cert.MixerSampleIdeal.τ).loc Cert.MixerSampleIdeal.main_arg6)
      ∧ r.2.mem ((c.tc : Thread Cert.MixerSampleIdeal.nD Cert.MixerSampleIdeal.τ).loc Cert.MixerSampleIdeal.main_arg7) = m ((c.tc : Thread Cert.MixerSampleIdeal.nD Cert.MixerSampleIdeal.τ).loc Cert.MixerSampleIdeal.main_arg7)
      ∧ r.2.mem ((c.tc : Thread Cert.MixerSampleIdeal.nD Cert.MixerSampleIdeal.τ).loc Cert.MixerSampleIdeal.main_arg8) = m ((c.tc : Thread Cert.MixerSampleIdeal.nD Cert.MixerSampleIdeal.τ).loc Cert.MixerSampleIdeal.main_arg8)
      ∧ r.2.mem ((c.tc : Thread Cert.MixerSampleIdeal.nD Cert.MixerSampleIdeal.τ).loc Cert.MixerSampleIdeal.main_arg9) = m ((c.tc : Thread Cert.MixerSampleIdeal.nD Cert.MixerSampleIdeal.τ).loc Cert.MixerSampleIdeal.main_arg9)
      ∧ r.2.mem ((c.tc : Thread Cert.MixerSampleIdeal.nD Cert.MixerSampleIdeal.τ).loc Cert.MixerSampleIdeal.main_arg10) = m ((c.tc : Thread Cert.MixerSampleIdeal.nD Cert.MixerSampleIdeal.τ).loc Cert.MixerSampleIdeal.main_arg10)
      ∧ r.2.mem ((c.tc : Thread Cert.MixerSampleIdeal.nD Cert.MixerSampleIdeal.τ).loc Cert.MixerSampleIdeal.main_arg11) = m ((c.tc : Thread Cert.MixerSampleIdeal.nD Cert.MixerSampleIdeal.τ).loc Cert.MixerSampleIdeal.main_arg11)
      ∧ r.2.mem ((c.tc : Thread Cert.MixerSampleIdeal.nD Cert.MixerSampleIdeal.τ).loc Cert.MixerSampleIdeal.main_arg12) = m ((c.tc : Thread Cert.MixerSampleIdeal.nD Cert.MixerSampleIdeal.τ).loc Cert.MixerSampleIdeal.main_arg12)
      ∧ r.2.mem ((c.tc : Thread Cert.MixerSampleIdeal.nD Cert.MixerSampleIdeal.τ).loc Cert.MixerSampleIdeal.main_arg13) = m ((c.tc : Thread Cert.MixerSampleIdeal.nD Cert.MixerSampleIdeal.τ).loc Cert.MixerSampleIdeal.main_arg13))
      ∧ r.2.sem = fun _ => 0)

def quiescent_RefSampleIdeal [hRefSampleIdeal : Cert.RefSampleIdeal.Facts] : Prop :=
  ∀ (m : (ℓ : Loc Cert.RefSampleIdeal.nD Cert.RefSampleIdeal.τ Cert.RefSampleIdeal.sig) → Buf (Elt Ideal) ℓ) (g : Dev Cert.RefSampleIdeal.nD → PrngReg), Pre_RefSampleIdeal m →
    θ_run (Cert.RefSampleIdeal.defs (F := Ideal)) (onTc (τ := Cert.RefSampleIdeal.τ) (Cert.RefSampleIdeal.main (F := Ideal))) ⟨m, fun _ => 0, g⟩ (fun r => (∀ c : Dev Cert.RefSampleIdeal.nD,
      r.2.mem ((c.tc : Thread Cert.RefSampleIdeal.nD Cert.RefSampleIdeal.τ).loc Cert.RefSampleIdeal.main_arg0) = m ((c.tc : Thread Cert.RefSampleIdeal.nD Cert.RefSampleIdeal.τ).loc Cert.RefSampleIdeal.main_arg0)
      ∧ r.2.mem ((c.tc : Thread Cert.RefSampleIdeal.nD Cert.RefSampleIdeal.τ).loc Cert.RefSampleIdeal.main_arg1) = m ((c.tc : Thread Cert.RefSampleIdeal.nD Cert.RefSampleIdeal.τ).loc Cert.RefSampleIdeal.main_arg1)
      ∧ r.2.mem ((c.tc : Thread Cert.RefSampleIdeal.nD Cert.RefSampleIdeal.τ).loc Cert.RefSampleIdeal.main_arg2) = m ((c.tc : Thread Cert.RefSampleIdeal.nD Cert.RefSampleIdeal.τ).loc Cert.RefSampleIdeal.main_arg2)
      ∧ r.2.mem ((c.tc : Thread Cert.RefSampleIdeal.nD Cert.RefSampleIdeal.τ).loc Cert.RefSampleIdeal.main_arg3) = m ((c.tc : Thread Cert.RefSampleIdeal.nD Cert.RefSampleIdeal.τ).loc Cert.RefSampleIdeal.main_arg3)
      ∧ r.2.mem ((c.tc : Thread Cert.RefSampleIdeal.nD Cert.RefSampleIdeal.τ).loc Cert.RefSampleIdeal.main_arg4) = m ((c.tc : Thread Cert.RefSampleIdeal.nD Cert.RefSampleIdeal.τ).loc Cert.RefSampleIdeal.main_arg4)
      ∧ r.2.mem ((c.tc : Thread Cert.RefSampleIdeal.nD Cert.RefSampleIdeal.τ).loc Cert.RefSampleIdeal.main_arg5) = m ((c.tc : Thread Cert.RefSampleIdeal.nD Cert.RefSampleIdeal.τ).loc Cert.RefSampleIdeal.main_arg5)
      ∧ r.2.mem ((c.tc : Thread Cert.RefSampleIdeal.nD Cert.RefSampleIdeal.τ).loc Cert.RefSampleIdeal.main_arg6) = m ((c.tc : Thread Cert.RefSampleIdeal.nD Cert.RefSampleIdeal.τ).loc Cert.RefSampleIdeal.main_arg6)
      ∧ r.2.mem ((c.tc : Thread Cert.RefSampleIdeal.nD Cert.RefSampleIdeal.τ).loc Cert.RefSampleIdeal.main_arg7) = m ((c.tc : Thread Cert.RefSampleIdeal.nD Cert.RefSampleIdeal.τ).loc Cert.RefSampleIdeal.main_arg7)
      ∧ r.2.mem ((c.tc : Thread Cert.RefSampleIdeal.nD Cert.RefSampleIdeal.τ).loc Cert.RefSampleIdeal.main_arg8) = m ((c.tc : Thread Cert.RefSampleIdeal.nD Cert.RefSampleIdeal.τ).loc Cert.RefSampleIdeal.main_arg8)
      ∧ r.2.mem ((c.tc : Thread Cert.RefSampleIdeal.nD Cert.RefSampleIdeal.τ).loc Cert.RefSampleIdeal.main_arg9) = m ((c.tc : Thread Cert.RefSampleIdeal.nD Cert.RefSampleIdeal.τ).loc Cert.RefSampleIdeal.main_arg9)
      ∧ r.2.mem ((c.tc : Thread Cert.RefSampleIdeal.nD Cert.RefSampleIdeal.τ).loc Cert.RefSampleIdeal.main_arg10) = m ((c.tc : Thread Cert.RefSampleIdeal.nD Cert.RefSampleIdeal.τ).loc Cert.RefSampleIdeal.main_arg10)
      ∧ r.2.mem ((c.tc : Thread Cert.RefSampleIdeal.nD Cert.RefSampleIdeal.τ).loc Cert.RefSampleIdeal.main_arg11) = m ((c.tc : Thread Cert.RefSampleIdeal.nD Cert.RefSampleIdeal.τ).loc Cert.RefSampleIdeal.main_arg11)
      ∧ r.2.mem ((c.tc : Thread Cert.RefSampleIdeal.nD Cert.RefSampleIdeal.τ).loc Cert.RefSampleIdeal.main_arg12) = m ((c.tc : Thread Cert.RefSampleIdeal.nD Cert.RefSampleIdeal.τ).loc Cert.RefSampleIdeal.main_arg12)
      ∧ r.2.mem ((c.tc : Thread Cert.RefSampleIdeal.nD Cert.RefSampleIdeal.τ).loc Cert.RefSampleIdeal.main_arg13) = m ((c.tc : Thread Cert.RefSampleIdeal.nD Cert.RefSampleIdeal.τ).loc Cert.RefSampleIdeal.main_arg13))
      ∧ r.2.sem = fun _ => 0)

def quiescent_RefSampleIdeal_pre_finite_sm [hRefSampleIdeal : Cert.RefSampleIdeal.Facts] [hPre_finite_sm : Cert.Pre_finite_sm.Facts] : Prop :=
  ∀ (m : (ℓ : Loc Cert.RefSampleIdeal.nD Cert.RefSampleIdeal.τ Cert.RefSampleIdeal.sig) → Buf (Elt Ideal) ℓ) (g : Dev Cert.RefSampleIdeal.nD → PrngReg), Pre_RefSampleIdeal_finite_sm m →
    θ_run (Cert.RefSampleIdeal.defs (F := Ideal)) (onTc (τ := Cert.RefSampleIdeal.τ) (Cert.RefSampleIdeal.main (F := Ideal))) ⟨m, fun _ => 0, g⟩ (fun r => (∀ c : Dev Cert.RefSampleIdeal.nD,
      r.2.mem ((c.tc : Thread Cert.RefSampleIdeal.nD Cert.RefSampleIdeal.τ).loc Cert.RefSampleIdeal.main_arg0) = m ((c.tc : Thread Cert.RefSampleIdeal.nD Cert.RefSampleIdeal.τ).loc Cert.RefSampleIdeal.main_arg0)
      ∧ r.2.mem ((c.tc : Thread Cert.RefSampleIdeal.nD Cert.RefSampleIdeal.τ).loc Cert.RefSampleIdeal.main_arg1) = m ((c.tc : Thread Cert.RefSampleIdeal.nD Cert.RefSampleIdeal.τ).loc Cert.RefSampleIdeal.main_arg1)
      ∧ r.2.mem ((c.tc : Thread Cert.RefSampleIdeal.nD Cert.RefSampleIdeal.τ).loc Cert.RefSampleIdeal.main_arg2) = m ((c.tc : Thread Cert.RefSampleIdeal.nD Cert.RefSampleIdeal.τ).loc Cert.RefSampleIdeal.main_arg2)
      ∧ r.2.mem ((c.tc : Thread Cert.RefSampleIdeal.nD Cert.RefSampleIdeal.τ).loc Cert.RefSampleIdeal.main_arg3) = m ((c.tc : Thread Cert.RefSampleIdeal.nD Cert.RefSampleIdeal.τ).loc Cert.RefSampleIdeal.main_arg3)
      ∧ r.2.mem ((c.tc : Thread Cert.RefSampleIdeal.nD Cert.RefSampleIdeal.τ).loc Cert.RefSampleIdeal.main_arg4) = m ((c.tc : Thread Cert.RefSampleIdeal.nD Cert.RefSampleIdeal.τ).loc Cert.RefSampleIdeal.main_arg4)
      ∧ r.2.mem ((c.tc : Thread Cert.RefSampleIdeal.nD Cert.RefSampleIdeal.τ).loc Cert.RefSampleIdeal.main_arg5) = m ((c.tc : Thread Cert.RefSampleIdeal.nD Cert.RefSampleIdeal.τ).loc Cert.RefSampleIdeal.main_arg5)
      ∧ r.2.mem ((c.tc : Thread Cert.RefSampleIdeal.nD Cert.RefSampleIdeal.τ).loc Cert.RefSampleIdeal.main_arg6) = m ((c.tc : Thread Cert.RefSampleIdeal.nD Cert.RefSampleIdeal.τ).loc Cert.RefSampleIdeal.main_arg6)
      ∧ r.2.mem ((c.tc : Thread Cert.RefSampleIdeal.nD Cert.RefSampleIdeal.τ).loc Cert.RefSampleIdeal.main_arg7) = m ((c.tc : Thread Cert.RefSampleIdeal.nD Cert.RefSampleIdeal.τ).loc Cert.RefSampleIdeal.main_arg7)
      ∧ r.2.mem ((c.tc : Thread Cert.RefSampleIdeal.nD Cert.RefSampleIdeal.τ).loc Cert.RefSampleIdeal.main_arg8) = m ((c.tc : Thread Cert.RefSampleIdeal.nD Cert.RefSampleIdeal.τ).loc Cert.RefSampleIdeal.main_arg8)
      ∧ r.2.mem ((c.tc : Thread Cert.RefSampleIdeal.nD Cert.RefSampleIdeal.τ).loc Cert.RefSampleIdeal.main_arg9) = m ((c.tc : Thread Cert.RefSampleIdeal.nD Cert.RefSampleIdeal.τ).loc Cert.RefSampleIdeal.main_arg9)
      ∧ r.2.mem ((c.tc : Thread Cert.RefSampleIdeal.nD Cert.RefSampleIdeal.τ).loc Cert.RefSampleIdeal.main_arg10) = m ((c.tc : Thread Cert.RefSampleIdeal.nD Cert.RefSampleIdeal.τ).loc Cert.RefSampleIdeal.main_arg10)
      ∧ r.2.mem ((c.tc : Thread Cert.RefSampleIdeal.nD Cert.RefSampleIdeal.τ).loc Cert.RefSampleIdeal.main_arg11) = m ((c.tc : Thread Cert.RefSampleIdeal.nD Cert.RefSampleIdeal.τ).loc Cert.RefSampleIdeal.main_arg11)
      ∧ r.2.mem ((c.tc : Thread Cert.RefSampleIdeal.nD Cert.RefSampleIdeal.τ).loc Cert.RefSampleIdeal.main_arg12) = m ((c.tc : Thread Cert.RefSampleIdeal.nD Cert.RefSampleIdeal.τ).loc Cert.RefSampleIdeal.main_arg12)
      ∧ r.2.mem ((c.tc : Thread Cert.RefSampleIdeal.nD Cert.RefSampleIdeal.τ).loc Cert.RefSampleIdeal.main_arg13) = m ((c.tc : Thread Cert.RefSampleIdeal.nD Cert.RefSampleIdeal.τ).loc Cert.RefSampleIdeal.main_arg13))
      ∧ r.2.sem = fun _ => 0)

def quiescent_InprojPrompt [hInprojPrompt : Cert.InprojPrompt.Facts] : Prop :=
  ∀ (m : (ℓ : Loc Cert.InprojPrompt.nD Cert.InprojPrompt.τ Cert.InprojPrompt.sig) → Buf (Elt Bits) ℓ) (g : Dev Cert.InprojPrompt.nD → PrngReg), Pre_InprojPrompt m →
    θ_run (Cert.InprojPrompt.defs (F := Bits)) (onTc (τ := Cert.InprojPrompt.τ) (Cert.InprojPrompt.main (F := Bits))) ⟨m, fun _ => 0, g⟩ (fun r => (∀ c : Dev Cert.InprojPrompt.nD,
      r.2.mem ((c.tc : Thread Cert.InprojPrompt.nD Cert.InprojPrompt.τ).loc Cert.InprojPrompt.main_arg0) = m ((c.tc : Thread Cert.InprojPrompt.nD Cert.InprojPrompt.τ).loc Cert.InprojPrompt.main_arg0)
      ∧ r.2.mem ((c.tc : Thread Cert.InprojPrompt.nD Cert.InprojPrompt.τ).loc Cert.InprojPrompt.main_arg1) = m ((c.tc : Thread Cert.InprojPrompt.nD Cert.InprojPrompt.τ).loc Cert.InprojPrompt.main_arg1)
      ∧ r.2.mem ((c.tc : Thread Cert.InprojPrompt.nD Cert.InprojPrompt.τ).loc Cert.InprojPrompt.main_arg2) = m ((c.tc : Thread Cert.InprojPrompt.nD Cert.InprojPrompt.τ).loc Cert.InprojPrompt.main_arg2)
      ∧ r.2.mem ((c.tc : Thread Cert.InprojPrompt.nD Cert.InprojPrompt.τ).loc Cert.InprojPrompt.main_arg3) = m ((c.tc : Thread Cert.InprojPrompt.nD Cert.InprojPrompt.τ).loc Cert.InprojPrompt.main_arg3)
      ∧ r.2.mem ((c.tc : Thread Cert.InprojPrompt.nD Cert.InprojPrompt.τ).loc Cert.InprojPrompt.main_arg4) = m ((c.tc : Thread Cert.InprojPrompt.nD Cert.InprojPrompt.τ).loc Cert.InprojPrompt.main_arg4)
      ∧ r.2.mem ((c.tc : Thread Cert.InprojPrompt.nD Cert.InprojPrompt.τ).loc Cert.InprojPrompt.main_arg5) = m ((c.tc : Thread Cert.InprojPrompt.nD Cert.InprojPrompt.τ).loc Cert.InprojPrompt.main_arg5)
      ∧ r.2.mem ((c.tc : Thread Cert.InprojPrompt.nD Cert.InprojPrompt.τ).loc Cert.InprojPrompt.main_arg6) = m ((c.tc : Thread Cert.InprojPrompt.nD Cert.InprojPrompt.τ).loc Cert.InprojPrompt.main_arg6)
      ∧ r.2.mem ((c.tc : Thread Cert.InprojPrompt.nD Cert.InprojPrompt.τ).loc Cert.InprojPrompt.main_arg7) = m ((c.tc : Thread Cert.InprojPrompt.nD Cert.InprojPrompt.τ).loc Cert.InprojPrompt.main_arg7)
      ∧ r.2.mem ((c.tc : Thread Cert.InprojPrompt.nD Cert.InprojPrompt.τ).loc Cert.InprojPrompt.main_arg8) = m ((c.tc : Thread Cert.InprojPrompt.nD Cert.InprojPrompt.τ).loc Cert.InprojPrompt.main_arg8)
      ∧ r.2.mem ((c.tc : Thread Cert.InprojPrompt.nD Cert.InprojPrompt.τ).loc Cert.InprojPrompt.main_arg9) = m ((c.tc : Thread Cert.InprojPrompt.nD Cert.InprojPrompt.τ).loc Cert.InprojPrompt.main_arg9)
      ∧ r.2.mem ((c.tc : Thread Cert.InprojPrompt.nD Cert.InprojPrompt.τ).loc Cert.InprojPrompt.main_arg10) = m ((c.tc : Thread Cert.InprojPrompt.nD Cert.InprojPrompt.τ).loc Cert.InprojPrompt.main_arg10)
      ∧ r.2.mem ((c.tc : Thread Cert.InprojPrompt.nD Cert.InprojPrompt.τ).loc Cert.InprojPrompt.main_arg11) = m ((c.tc : Thread Cert.InprojPrompt.nD Cert.InprojPrompt.τ).loc Cert.InprojPrompt.main_arg11)
      ∧ r.2.mem ((c.tc : Thread Cert.InprojPrompt.nD Cert.InprojPrompt.τ).loc Cert.InprojPrompt.main_arg12) = m ((c.tc : Thread Cert.InprojPrompt.nD Cert.InprojPrompt.τ).loc Cert.InprojPrompt.main_arg12))
      ∧ r.2.sem = fun _ => 0)

def quiescent_InprojPromptIdeal [hInprojPromptIdeal : Cert.InprojPromptIdeal.Facts] : Prop :=
  ∀ (m : (ℓ : Loc Cert.InprojPromptIdeal.nD Cert.InprojPromptIdeal.τ Cert.InprojPromptIdeal.sig) → Buf (Elt Ideal) ℓ) (g : Dev Cert.InprojPromptIdeal.nD → PrngReg), Pre_InprojPromptIdeal m →
    θ_run (Cert.InprojPromptIdeal.defs (F := Ideal)) (onTc (τ := Cert.InprojPromptIdeal.τ) (Cert.InprojPromptIdeal.main (F := Ideal))) ⟨m, fun _ => 0, g⟩ (fun r => (∀ c : Dev Cert.InprojPromptIdeal.nD,
      r.2.mem ((c.tc : Thread Cert.InprojPromptIdeal.nD Cert.InprojPromptIdeal.τ).loc Cert.InprojPromptIdeal.main_arg0) = m ((c.tc : Thread Cert.InprojPromptIdeal.nD Cert.InprojPromptIdeal.τ).loc Cert.InprojPromptIdeal.main_arg0)
      ∧ r.2.mem ((c.tc : Thread Cert.InprojPromptIdeal.nD Cert.InprojPromptIdeal.τ).loc Cert.InprojPromptIdeal.main_arg1) = m ((c.tc : Thread Cert.InprojPromptIdeal.nD Cert.InprojPromptIdeal.τ).loc Cert.InprojPromptIdeal.main_arg1)
      ∧ r.2.mem ((c.tc : Thread Cert.InprojPromptIdeal.nD Cert.InprojPromptIdeal.τ).loc Cert.InprojPromptIdeal.main_arg2) = m ((c.tc : Thread Cert.InprojPromptIdeal.nD Cert.InprojPromptIdeal.τ).loc Cert.InprojPromptIdeal.main_arg2)
      ∧ r.2.mem ((c.tc : Thread Cert.InprojPromptIdeal.nD Cert.InprojPromptIdeal.τ).loc Cert.InprojPromptIdeal.main_arg3) = m ((c.tc : Thread Cert.InprojPromptIdeal.nD Cert.InprojPromptIdeal.τ).loc Cert.InprojPromptIdeal.main_arg3)
      ∧ r.2.mem ((c.tc : Thread Cert.InprojPromptIdeal.nD Cert.InprojPromptIdeal.τ).loc Cert.InprojPromptIdeal.main_arg4) = m ((c.tc : Thread Cert.InprojPromptIdeal.nD Cert.InprojPromptIdeal.τ).loc Cert.InprojPromptIdeal.main_arg4)
      ∧ r.2.mem ((c.tc : Thread Cert.InprojPromptIdeal.nD Cert.InprojPromptIdeal.τ).loc Cert.InprojPromptIdeal.main_arg5) = m ((c.tc : Thread Cert.InprojPromptIdeal.nD Cert.InprojPromptIdeal.τ).loc Cert.InprojPromptIdeal.main_arg5)
      ∧ r.2.mem ((c.tc : Thread Cert.InprojPromptIdeal.nD Cert.InprojPromptIdeal.τ).loc Cert.InprojPromptIdeal.main_arg6) = m ((c.tc : Thread Cert.InprojPromptIdeal.nD Cert.InprojPromptIdeal.τ).loc Cert.InprojPromptIdeal.main_arg6)
      ∧ r.2.mem ((c.tc : Thread Cert.InprojPromptIdeal.nD Cert.InprojPromptIdeal.τ).loc Cert.InprojPromptIdeal.main_arg7) = m ((c.tc : Thread Cert.InprojPromptIdeal.nD Cert.InprojPromptIdeal.τ).loc Cert.InprojPromptIdeal.main_arg7)
      ∧ r.2.mem ((c.tc : Thread Cert.InprojPromptIdeal.nD Cert.InprojPromptIdeal.τ).loc Cert.InprojPromptIdeal.main_arg8) = m ((c.tc : Thread Cert.InprojPromptIdeal.nD Cert.InprojPromptIdeal.τ).loc Cert.InprojPromptIdeal.main_arg8)
      ∧ r.2.mem ((c.tc : Thread Cert.InprojPromptIdeal.nD Cert.InprojPromptIdeal.τ).loc Cert.InprojPromptIdeal.main_arg9) = m ((c.tc : Thread Cert.InprojPromptIdeal.nD Cert.InprojPromptIdeal.τ).loc Cert.InprojPromptIdeal.main_arg9)
      ∧ r.2.mem ((c.tc : Thread Cert.InprojPromptIdeal.nD Cert.InprojPromptIdeal.τ).loc Cert.InprojPromptIdeal.main_arg10) = m ((c.tc : Thread Cert.InprojPromptIdeal.nD Cert.InprojPromptIdeal.τ).loc Cert.InprojPromptIdeal.main_arg10)
      ∧ r.2.mem ((c.tc : Thread Cert.InprojPromptIdeal.nD Cert.InprojPromptIdeal.τ).loc Cert.InprojPromptIdeal.main_arg11) = m ((c.tc : Thread Cert.InprojPromptIdeal.nD Cert.InprojPromptIdeal.τ).loc Cert.InprojPromptIdeal.main_arg11)
      ∧ r.2.mem ((c.tc : Thread Cert.InprojPromptIdeal.nD Cert.InprojPromptIdeal.τ).loc Cert.InprojPromptIdeal.main_arg12) = m ((c.tc : Thread Cert.InprojPromptIdeal.nD Cert.InprojPromptIdeal.τ).loc Cert.InprojPromptIdeal.main_arg12))
      ∧ r.2.sem = fun _ => 0)

def quiescent_InprojPromptIdeal_pre_finite_ip [hInprojPromptIdeal : Cert.InprojPromptIdeal.Facts] [hPre_finite_ip : Cert.Pre_finite_ip.Facts] : Prop :=
  ∀ (m : (ℓ : Loc Cert.InprojPromptIdeal.nD Cert.InprojPromptIdeal.τ Cert.InprojPromptIdeal.sig) → Buf (Elt Ideal) ℓ) (g : Dev Cert.InprojPromptIdeal.nD → PrngReg), Pre_InprojPromptIdeal_finite_ip m →
    θ_run (Cert.InprojPromptIdeal.defs (F := Ideal)) (onTc (τ := Cert.InprojPromptIdeal.τ) (Cert.InprojPromptIdeal.main (F := Ideal))) ⟨m, fun _ => 0, g⟩ (fun r => (∀ c : Dev Cert.InprojPromptIdeal.nD,
      r.2.mem ((c.tc : Thread Cert.InprojPromptIdeal.nD Cert.InprojPromptIdeal.τ).loc Cert.InprojPromptIdeal.main_arg0) = m ((c.tc : Thread Cert.InprojPromptIdeal.nD Cert.InprojPromptIdeal.τ).loc Cert.InprojPromptIdeal.main_arg0)
      ∧ r.2.mem ((c.tc : Thread Cert.InprojPromptIdeal.nD Cert.InprojPromptIdeal.τ).loc Cert.InprojPromptIdeal.main_arg1) = m ((c.tc : Thread Cert.InprojPromptIdeal.nD Cert.InprojPromptIdeal.τ).loc Cert.InprojPromptIdeal.main_arg1)
      ∧ r.2.mem ((c.tc : Thread Cert.InprojPromptIdeal.nD Cert.InprojPromptIdeal.τ).loc Cert.InprojPromptIdeal.main_arg2) = m ((c.tc : Thread Cert.InprojPromptIdeal.nD Cert.InprojPromptIdeal.τ).loc Cert.InprojPromptIdeal.main_arg2)
      ∧ r.2.mem ((c.tc : Thread Cert.InprojPromptIdeal.nD Cert.InprojPromptIdeal.τ).loc Cert.InprojPromptIdeal.main_arg3) = m ((c.tc : Thread Cert.InprojPromptIdeal.nD Cert.InprojPromptIdeal.τ).loc Cert.InprojPromptIdeal.main_arg3)
      ∧ r.2.mem ((c.tc : Thread Cert.InprojPromptIdeal.nD Cert.InprojPromptIdeal.τ).loc Cert.InprojPromptIdeal.main_arg4) = m ((c.tc : Thread Cert.InprojPromptIdeal.nD Cert.InprojPromptIdeal.τ).loc Cert.InprojPromptIdeal.main_arg4)
      ∧ r.2.mem ((c.tc : Thread Cert.InprojPromptIdeal.nD Cert.InprojPromptIdeal.τ).loc Cert.InprojPromptIdeal.main_arg5) = m ((c.tc : Thread Cert.InprojPromptIdeal.nD Cert.InprojPromptIdeal.τ).loc Cert.InprojPromptIdeal.main_arg5)
      ∧ r.2.mem ((c.tc : Thread Cert.InprojPromptIdeal.nD Cert.InprojPromptIdeal.τ).loc Cert.InprojPromptIdeal.main_arg6) = m ((c.tc : Thread Cert.InprojPromptIdeal.nD Cert.InprojPromptIdeal.τ).loc Cert.InprojPromptIdeal.main_arg6)
      ∧ r.2.mem ((c.tc : Thread Cert.InprojPromptIdeal.nD Cert.InprojPromptIdeal.τ).loc Cert.InprojPromptIdeal.main_arg7) = m ((c.tc : Thread Cert.InprojPromptIdeal.nD Cert.InprojPromptIdeal.τ).loc Cert.InprojPromptIdeal.main_arg7)
      ∧ r.2.mem ((c.tc : Thread Cert.InprojPromptIdeal.nD Cert.InprojPromptIdeal.τ).loc Cert.InprojPromptIdeal.main_arg8) = m ((c.tc : Thread Cert.InprojPromptIdeal.nD Cert.InprojPromptIdeal.τ).loc Cert.InprojPromptIdeal.main_arg8)
      ∧ r.2.mem ((c.tc : Thread Cert.InprojPromptIdeal.nD Cert.InprojPromptIdeal.τ).loc Cert.InprojPromptIdeal.main_arg9) = m ((c.tc : Thread Cert.InprojPromptIdeal.nD Cert.InprojPromptIdeal.τ).loc Cert.InprojPromptIdeal.main_arg9)
      ∧ r.2.mem ((c.tc : Thread Cert.InprojPromptIdeal.nD Cert.InprojPromptIdeal.τ).loc Cert.InprojPromptIdeal.main_arg10) = m ((c.tc : Thread Cert.InprojPromptIdeal.nD Cert.InprojPromptIdeal.τ).loc Cert.InprojPromptIdeal.main_arg10)
      ∧ r.2.mem ((c.tc : Thread Cert.InprojPromptIdeal.nD Cert.InprojPromptIdeal.τ).loc Cert.InprojPromptIdeal.main_arg11) = m ((c.tc : Thread Cert.InprojPromptIdeal.nD Cert.InprojPromptIdeal.τ).loc Cert.InprojPromptIdeal.main_arg11)
      ∧ r.2.mem ((c.tc : Thread Cert.InprojPromptIdeal.nD Cert.InprojPromptIdeal.τ).loc Cert.InprojPromptIdeal.main_arg12) = m ((c.tc : Thread Cert.InprojPromptIdeal.nD Cert.InprojPromptIdeal.τ).loc Cert.InprojPromptIdeal.main_arg12))
      ∧ r.2.sem = fun _ => 0)

def quiescent_RefInprojIdeal [hRefInprojIdeal : Cert.RefInprojIdeal.Facts] : Prop :=
  ∀ (m : (ℓ : Loc Cert.RefInprojIdeal.nD Cert.RefInprojIdeal.τ Cert.RefInprojIdeal.sig) → Buf (Elt Ideal) ℓ) (g : Dev Cert.RefInprojIdeal.nD → PrngReg), Pre_RefInprojIdeal m →
    θ_run (Cert.RefInprojIdeal.defs (F := Ideal)) (onTc (τ := Cert.RefInprojIdeal.τ) (Cert.RefInprojIdeal.main (F := Ideal))) ⟨m, fun _ => 0, g⟩ (fun r => (∀ c : Dev Cert.RefInprojIdeal.nD,
      r.2.mem ((c.tc : Thread Cert.RefInprojIdeal.nD Cert.RefInprojIdeal.τ).loc Cert.RefInprojIdeal.main_arg0) = m ((c.tc : Thread Cert.RefInprojIdeal.nD Cert.RefInprojIdeal.τ).loc Cert.RefInprojIdeal.main_arg0)
      ∧ r.2.mem ((c.tc : Thread Cert.RefInprojIdeal.nD Cert.RefInprojIdeal.τ).loc Cert.RefInprojIdeal.main_arg1) = m ((c.tc : Thread Cert.RefInprojIdeal.nD Cert.RefInprojIdeal.τ).loc Cert.RefInprojIdeal.main_arg1)
      ∧ r.2.mem ((c.tc : Thread Cert.RefInprojIdeal.nD Cert.RefInprojIdeal.τ).loc Cert.RefInprojIdeal.main_arg2) = m ((c.tc : Thread Cert.RefInprojIdeal.nD Cert.RefInprojIdeal.τ).loc Cert.RefInprojIdeal.main_arg2)
      ∧ r.2.mem ((c.tc : Thread Cert.RefInprojIdeal.nD Cert.RefInprojIdeal.τ).loc Cert.RefInprojIdeal.main_arg3) = m ((c.tc : Thread Cert.RefInprojIdeal.nD Cert.RefInprojIdeal.τ).loc Cert.RefInprojIdeal.main_arg3)
      ∧ r.2.mem ((c.tc : Thread Cert.RefInprojIdeal.nD Cert.RefInprojIdeal.τ).loc Cert.RefInprojIdeal.main_arg4) = m ((c.tc : Thread Cert.RefInprojIdeal.nD Cert.RefInprojIdeal.τ).loc Cert.RefInprojIdeal.main_arg4)
      ∧ r.2.mem ((c.tc : Thread Cert.RefInprojIdeal.nD Cert.RefInprojIdeal.τ).loc Cert.RefInprojIdeal.main_arg5) = m ((c.tc : Thread Cert.RefInprojIdeal.nD Cert.RefInprojIdeal.τ).loc Cert.RefInprojIdeal.main_arg5)
      ∧ r.2.mem ((c.tc : Thread Cert.RefInprojIdeal.nD Cert.RefInprojIdeal.τ).loc Cert.RefInprojIdeal.main_arg6) = m ((c.tc : Thread Cert.RefInprojIdeal.nD Cert.RefInprojIdeal.τ).loc Cert.RefInprojIdeal.main_arg6)
      ∧ r.2.mem ((c.tc : Thread Cert.RefInprojIdeal.nD Cert.RefInprojIdeal.τ).loc Cert.RefInprojIdeal.main_arg7) = m ((c.tc : Thread Cert.RefInprojIdeal.nD Cert.RefInprojIdeal.τ).loc Cert.RefInprojIdeal.main_arg7)
      ∧ r.2.mem ((c.tc : Thread Cert.RefInprojIdeal.nD Cert.RefInprojIdeal.τ).loc Cert.RefInprojIdeal.main_arg8) = m ((c.tc : Thread Cert.RefInprojIdeal.nD Cert.RefInprojIdeal.τ).loc Cert.RefInprojIdeal.main_arg8)
      ∧ r.2.mem ((c.tc : Thread Cert.RefInprojIdeal.nD Cert.RefInprojIdeal.τ).loc Cert.RefInprojIdeal.main_arg9) = m ((c.tc : Thread Cert.RefInprojIdeal.nD Cert.RefInprojIdeal.τ).loc Cert.RefInprojIdeal.main_arg9)
      ∧ r.2.mem ((c.tc : Thread Cert.RefInprojIdeal.nD Cert.RefInprojIdeal.τ).loc Cert.RefInprojIdeal.main_arg10) = m ((c.tc : Thread Cert.RefInprojIdeal.nD Cert.RefInprojIdeal.τ).loc Cert.RefInprojIdeal.main_arg10)
      ∧ r.2.mem ((c.tc : Thread Cert.RefInprojIdeal.nD Cert.RefInprojIdeal.τ).loc Cert.RefInprojIdeal.main_arg11) = m ((c.tc : Thread Cert.RefInprojIdeal.nD Cert.RefInprojIdeal.τ).loc Cert.RefInprojIdeal.main_arg11)
      ∧ r.2.mem ((c.tc : Thread Cert.RefInprojIdeal.nD Cert.RefInprojIdeal.τ).loc Cert.RefInprojIdeal.main_arg12) = m ((c.tc : Thread Cert.RefInprojIdeal.nD Cert.RefInprojIdeal.τ).loc Cert.RefInprojIdeal.main_arg12))
      ∧ r.2.sem = fun _ => 0)

def quiescent_RefInprojIdeal_pre_finite_ip [hRefInprojIdeal : Cert.RefInprojIdeal.Facts] [hPre_finite_ip : Cert.Pre_finite_ip.Facts] : Prop :=
  ∀ (m : (ℓ : Loc Cert.RefInprojIdeal.nD Cert.RefInprojIdeal.τ Cert.RefInprojIdeal.sig) → Buf (Elt Ideal) ℓ) (g : Dev Cert.RefInprojIdeal.nD → PrngReg), Pre_RefInprojIdeal_finite_ip m →
    θ_run (Cert.RefInprojIdeal.defs (F := Ideal)) (onTc (τ := Cert.RefInprojIdeal.τ) (Cert.RefInprojIdeal.main (F := Ideal))) ⟨m, fun _ => 0, g⟩ (fun r => (∀ c : Dev Cert.RefInprojIdeal.nD,
      r.2.mem ((c.tc : Thread Cert.RefInprojIdeal.nD Cert.RefInprojIdeal.τ).loc Cert.RefInprojIdeal.main_arg0) = m ((c.tc : Thread Cert.RefInprojIdeal.nD Cert.RefInprojIdeal.τ).loc Cert.RefInprojIdeal.main_arg0)
      ∧ r.2.mem ((c.tc : Thread Cert.RefInprojIdeal.nD Cert.RefInprojIdeal.τ).loc Cert.RefInprojIdeal.main_arg1) = m ((c.tc : Thread Cert.RefInprojIdeal.nD Cert.RefInprojIdeal.τ).loc Cert.RefInprojIdeal.main_arg1)
      ∧ r.2.mem ((c.tc : Thread Cert.RefInprojIdeal.nD Cert.RefInprojIdeal.τ).loc Cert.RefInprojIdeal.main_arg2) = m ((c.tc : Thread Cert.RefInprojIdeal.nD Cert.RefInprojIdeal.τ).loc Cert.RefInprojIdeal.main_arg2)
      ∧ r.2.mem ((c.tc : Thread Cert.RefInprojIdeal.nD Cert.RefInprojIdeal.τ).loc Cert.RefInprojIdeal.main_arg3) = m ((c.tc : Thread Cert.RefInprojIdeal.nD Cert.RefInprojIdeal.τ).loc Cert.RefInprojIdeal.main_arg3)
      ∧ r.2.mem ((c.tc : Thread Cert.RefInprojIdeal.nD Cert.RefInprojIdeal.τ).loc Cert.RefInprojIdeal.main_arg4) = m ((c.tc : Thread Cert.RefInprojIdeal.nD Cert.RefInprojIdeal.τ).loc Cert.RefInprojIdeal.main_arg4)
      ∧ r.2.mem ((c.tc : Thread Cert.RefInprojIdeal.nD Cert.RefInprojIdeal.τ).loc Cert.RefInprojIdeal.main_arg5) = m ((c.tc : Thread Cert.RefInprojIdeal.nD Cert.RefInprojIdeal.τ).loc Cert.RefInprojIdeal.main_arg5)
      ∧ r.2.mem ((c.tc : Thread Cert.RefInprojIdeal.nD Cert.RefInprojIdeal.τ).loc Cert.RefInprojIdeal.main_arg6) = m ((c.tc : Thread Cert.RefInprojIdeal.nD Cert.RefInprojIdeal.τ).loc Cert.RefInprojIdeal.main_arg6)
      ∧ r.2.mem ((c.tc : Thread Cert.RefInprojIdeal.nD Cert.RefInprojIdeal.τ).loc Cert.RefInprojIdeal.main_arg7) = m ((c.tc : Thread Cert.RefInprojIdeal.nD Cert.RefInprojIdeal.τ).loc Cert.RefInprojIdeal.main_arg7)
      ∧ r.2.mem ((c.tc : Thread Cert.RefInprojIdeal.nD Cert.RefInprojIdeal.τ).loc Cert.RefInprojIdeal.main_arg8) = m ((c.tc : Thread Cert.RefInprojIdeal.nD Cert.RefInprojIdeal.τ).loc Cert.RefInprojIdeal.main_arg8)
      ∧ r.2.mem ((c.tc : Thread Cert.RefInprojIdeal.nD Cert.RefInprojIdeal.τ).loc Cert.RefInprojIdeal.main_arg9) = m ((c.tc : Thread Cert.RefInprojIdeal.nD Cert.RefInprojIdeal.τ).loc Cert.RefInprojIdeal.main_arg9)
      ∧ r.2.mem ((c.tc : Thread Cert.RefInprojIdeal.nD Cert.RefInprojIdeal.τ).loc Cert.RefInprojIdeal.main_arg10) = m ((c.tc : Thread Cert.RefInprojIdeal.nD Cert.RefInprojIdeal.τ).loc Cert.RefInprojIdeal.main_arg10)
      ∧ r.2.mem ((c.tc : Thread Cert.RefInprojIdeal.nD Cert.RefInprojIdeal.τ).loc Cert.RefInprojIdeal.main_arg11) = m ((c.tc : Thread Cert.RefInprojIdeal.nD Cert.RefInprojIdeal.τ).loc Cert.RefInprojIdeal.main_arg11)
      ∧ r.2.mem ((c.tc : Thread Cert.RefInprojIdeal.nD Cert.RefInprojIdeal.τ).loc Cert.RefInprojIdeal.main_arg12) = m ((c.tc : Thread Cert.RefInprojIdeal.nD Cert.RefInprojIdeal.τ).loc Cert.RefInprojIdeal.main_arg12))
      ∧ r.2.sem = fun _ => 0)

def preserves_FfnPrompt_FfnPromptIdeal : Prop :=
  True

def algebraic_FfnPromptIdeal_RefFfnPromptIdeal [hFfnPromptIdeal : Cert.FfnPromptIdeal.Facts] [hRefFfnPromptIdeal : Cert.RefFfnPromptIdeal.Facts] : Prop :=
  ∀ (m : (ℓ : Loc Cert.FfnPromptIdeal.nD Cert.FfnPromptIdeal.τ Cert.FfnPromptIdeal.sig) → Buf (Elt Ideal) ℓ) (g : Dev Cert.FfnPromptIdeal.nD → PrngReg)
    (m' : (ℓ : Loc Cert.RefFfnPromptIdeal.nD Cert.RefFfnPromptIdeal.τ Cert.RefFfnPromptIdeal.sig) → Buf (Elt Ideal) ℓ) (g' : Dev Cert.RefFfnPromptIdeal.nD → PrngReg), Pre_FfnPromptIdeal m →
    (∀ c : Dev Cert.FfnPromptIdeal.nD,
      m' ((c.tc : Thread Cert.RefFfnPromptIdeal.nD Cert.RefFfnPromptIdeal.τ).loc Cert.RefFfnPromptIdeal.main_arg0) = m ((c.tc : Thread Cert.FfnPromptIdeal.nD Cert.FfnPromptIdeal.τ).loc Cert.FfnPromptIdeal.main_arg0)
      ∧ m' ((c.tc : Thread Cert.RefFfnPromptIdeal.nD Cert.RefFfnPromptIdeal.τ).loc Cert.RefFfnPromptIdeal.main_arg1) = m ((c.tc : Thread Cert.FfnPromptIdeal.nD Cert.FfnPromptIdeal.τ).loc Cert.FfnPromptIdeal.main_arg1)
      ∧ m' ((c.tc : Thread Cert.RefFfnPromptIdeal.nD Cert.RefFfnPromptIdeal.τ).loc Cert.RefFfnPromptIdeal.main_arg2) = m ((c.tc : Thread Cert.FfnPromptIdeal.nD Cert.FfnPromptIdeal.τ).loc Cert.FfnPromptIdeal.main_arg2)
      ∧ m' ((c.tc : Thread Cert.RefFfnPromptIdeal.nD Cert.RefFfnPromptIdeal.τ).loc Cert.RefFfnPromptIdeal.main_arg3) = m ((c.tc : Thread Cert.FfnPromptIdeal.nD Cert.FfnPromptIdeal.τ).loc Cert.FfnPromptIdeal.main_arg3)
      ∧ m' ((c.tc : Thread Cert.RefFfnPromptIdeal.nD Cert.RefFfnPromptIdeal.τ).loc Cert.RefFfnPromptIdeal.main_arg4) = m ((c.tc : Thread Cert.FfnPromptIdeal.nD Cert.FfnPromptIdeal.τ).loc Cert.FfnPromptIdeal.main_arg4)
      ∧ m' ((c.tc : Thread Cert.RefFfnPromptIdeal.nD Cert.RefFfnPromptIdeal.τ).loc Cert.RefFfnPromptIdeal.main_arg5) = m ((c.tc : Thread Cert.FfnPromptIdeal.nD Cert.FfnPromptIdeal.τ).loc Cert.FfnPromptIdeal.main_arg5)) →
    ∃ (v0 : (c : Dev Cert.FfnPromptIdeal.nD) → Buf (Elt Ideal) ((c.tc : Thread Cert.FfnPromptIdeal.nD Cert.FfnPromptIdeal.τ).loc Cert.FfnPromptIdeal.main_v4)),
      θ_run (Cert.FfnPromptIdeal.defs (F := Ideal)) (onTc (τ := Cert.FfnPromptIdeal.τ) (Cert.FfnPromptIdeal.main (F := Ideal))) ⟨m, fun _ => 0, g⟩ (fun r => ∀ c : Dev Cert.FfnPromptIdeal.nD,
          r.2.mem ((c.tc : Thread Cert.FfnPromptIdeal.nD Cert.FfnPromptIdeal.τ).loc Cert.FfnPromptIdeal.main_v4) = v0 c
          ∧ r.2.mem ((c.tc : Thread Cert.FfnPromptIdeal.nD Cert.FfnPromptIdeal.τ).loc Cert.FfnPromptIdeal.main_arg0) = m ((c.tc : Thread Cert.FfnPromptIdeal.nD Cert.FfnPromptIdeal.τ).loc Cert.FfnPromptIdeal.main_arg0)
          ∧ r.2.mem ((c.tc : Thread Cert.FfnPromptIdeal.nD Cert.FfnPromptIdeal.τ).loc Cert.FfnPromptIdeal.main_arg1) = m ((c.tc : Thread Cert.FfnPromptIdeal.nD Cert.FfnPromptIdeal.τ).loc Cert.FfnPromptIdeal.main_arg1)
          ∧ r.2.mem ((c.tc : Thread Cert.FfnPromptIdeal.nD Cert.FfnPromptIdeal.τ).loc Cert.FfnPromptIdeal.main_arg2) = m ((c.tc : Thread Cert.FfnPromptIdeal.nD Cert.FfnPromptIdeal.τ).loc Cert.FfnPromptIdeal.main_arg2)
          ∧ r.2.mem ((c.tc : Thread Cert.FfnPromptIdeal.nD Cert.FfnPromptIdeal.τ).loc Cert.FfnPromptIdeal.main_arg3) = m ((c.tc : Thread Cert.FfnPromptIdeal.nD Cert.FfnPromptIdeal.τ).loc Cert.FfnPromptIdeal.main_arg3)
          ∧ r.2.mem ((c.tc : Thread Cert.FfnPromptIdeal.nD Cert.FfnPromptIdeal.τ).loc Cert.FfnPromptIdeal.main_arg4) = m ((c.tc : Thread Cert.FfnPromptIdeal.nD Cert.FfnPromptIdeal.τ).loc Cert.FfnPromptIdeal.main_arg4)
          ∧ r.2.mem ((c.tc : Thread Cert.FfnPromptIdeal.nD Cert.FfnPromptIdeal.τ).loc Cert.FfnPromptIdeal.main_arg5) = m ((c.tc : Thread Cert.FfnPromptIdeal.nD Cert.FfnPromptIdeal.τ).loc Cert.FfnPromptIdeal.main_arg5))
      ∧ θ_run (Cert.RefFfnPromptIdeal.defs (F := Ideal)) (onTc (τ := Cert.RefFfnPromptIdeal.τ) (Cert.RefFfnPromptIdeal.main (F := Ideal))) ⟨m', fun _ => 0, g'⟩ (fun r => ∀ c : Dev Cert.RefFfnPromptIdeal.nD,
          r.2.mem ((c.tc : Thread Cert.RefFfnPromptIdeal.nD Cert.RefFfnPromptIdeal.τ).loc Cert.RefFfnPromptIdeal.main_v51) = v0 c
          ∧ r.2.mem ((c.tc : Thread Cert.RefFfnPromptIdeal.nD Cert.RefFfnPromptIdeal.τ).loc Cert.RefFfnPromptIdeal.main_arg0) = m' ((c.tc : Thread Cert.RefFfnPromptIdeal.nD Cert.RefFfnPromptIdeal.τ).loc Cert.RefFfnPromptIdeal.main_arg0)
          ∧ r.2.mem ((c.tc : Thread Cert.RefFfnPromptIdeal.nD Cert.RefFfnPromptIdeal.τ).loc Cert.RefFfnPromptIdeal.main_arg1) = m' ((c.tc : Thread Cert.RefFfnPromptIdeal.nD Cert.RefFfnPromptIdeal.τ).loc Cert.RefFfnPromptIdeal.main_arg1)
          ∧ r.2.mem ((c.tc : Thread Cert.RefFfnPromptIdeal.nD Cert.RefFfnPromptIdeal.τ).loc Cert.RefFfnPromptIdeal.main_arg2) = m' ((c.tc : Thread Cert.RefFfnPromptIdeal.nD Cert.RefFfnPromptIdeal.τ).loc Cert.RefFfnPromptIdeal.main_arg2)
          ∧ r.2.mem ((c.tc : Thread Cert.RefFfnPromptIdeal.nD Cert.RefFfnPromptIdeal.τ).loc Cert.RefFfnPromptIdeal.main_arg3) = m' ((c.tc : Thread Cert.RefFfnPromptIdeal.nD Cert.RefFfnPromptIdeal.τ).loc Cert.RefFfnPromptIdeal.main_arg3)
          ∧ r.2.mem ((c.tc : Thread Cert.RefFfnPromptIdeal.nD Cert.RefFfnPromptIdeal.τ).loc Cert.RefFfnPromptIdeal.main_arg4) = m' ((c.tc : Thread Cert.RefFfnPromptIdeal.nD Cert.RefFfnPromptIdeal.τ).loc Cert.RefFfnPromptIdeal.main_arg4)
          ∧ r.2.mem ((c.tc : Thread Cert.RefFfnPromptIdeal.nD Cert.RefFfnPromptIdeal.τ).loc Cert.RefFfnPromptIdeal.main_arg5) = m' ((c.tc : Thread Cert.RefFfnPromptIdeal.nD Cert.RefFfnPromptIdeal.τ).loc Cert.RefFfnPromptIdeal.main_arg5))

def preserves_MixerSample_MixerSampleIdeal : Prop :=
  IdealRules.named_const.Statement Cert.MixerSampleIdeal.κ "log2e" .f32 0x3FB8AA3B#32 (((Real.log 2)⁻¹ : ℝ) : EReal)

def algebraic_MixerSampleIdeal_RefSampleIdeal_pre_finite_sm [hMixerSampleIdeal : Cert.MixerSampleIdeal.Facts] [hRefSampleIdeal : Cert.RefSampleIdeal.Facts] [hPre_finite_sm : Cert.Pre_finite_sm.Facts] : Prop :=
  ∀ (m : (ℓ : Loc Cert.MixerSampleIdeal.nD Cert.MixerSampleIdeal.τ Cert.MixerSampleIdeal.sig) → Buf (Elt Ideal) ℓ) (g : Dev Cert.MixerSampleIdeal.nD → PrngReg)
    (m' : (ℓ : Loc Cert.RefSampleIdeal.nD Cert.RefSampleIdeal.τ Cert.RefSampleIdeal.sig) → Buf (Elt Ideal) ℓ) (g' : Dev Cert.RefSampleIdeal.nD → PrngReg), Pre_MixerSampleIdeal_finite_sm m →
    (∀ c : Dev Cert.MixerSampleIdeal.nD,
      m' ((c.tc : Thread Cert.RefSampleIdeal.nD Cert.RefSampleIdeal.τ).loc Cert.RefSampleIdeal.main_arg0) = m ((c.tc : Thread Cert.MixerSampleIdeal.nD Cert.MixerSampleIdeal.τ).loc Cert.MixerSampleIdeal.main_arg0)
      ∧ m' ((c.tc : Thread Cert.RefSampleIdeal.nD Cert.RefSampleIdeal.τ).loc Cert.RefSampleIdeal.main_arg1) = m ((c.tc : Thread Cert.MixerSampleIdeal.nD Cert.MixerSampleIdeal.τ).loc Cert.MixerSampleIdeal.main_arg1)
      ∧ m' ((c.tc : Thread Cert.RefSampleIdeal.nD Cert.RefSampleIdeal.τ).loc Cert.RefSampleIdeal.main_arg2) = m ((c.tc : Thread Cert.MixerSampleIdeal.nD Cert.MixerSampleIdeal.τ).loc Cert.MixerSampleIdeal.main_arg2)
      ∧ m' ((c.tc : Thread Cert.RefSampleIdeal.nD Cert.RefSampleIdeal.τ).loc Cert.RefSampleIdeal.main_arg3) = m ((c.tc : Thread Cert.MixerSampleIdeal.nD Cert.MixerSampleIdeal.τ).loc Cert.MixerSampleIdeal.main_arg3)
      ∧ m' ((c.tc : Thread Cert.RefSampleIdeal.nD Cert.RefSampleIdeal.τ).loc Cert.RefSampleIdeal.main_arg4) = m ((c.tc : Thread Cert.MixerSampleIdeal.nD Cert.MixerSampleIdeal.τ).loc Cert.MixerSampleIdeal.main_arg4)
      ∧ m' ((c.tc : Thread Cert.RefSampleIdeal.nD Cert.RefSampleIdeal.τ).loc Cert.RefSampleIdeal.main_arg5) = m ((c.tc : Thread Cert.MixerSampleIdeal.nD Cert.MixerSampleIdeal.τ).loc Cert.MixerSampleIdeal.main_arg5)
      ∧ m' ((c.tc : Thread Cert.RefSampleIdeal.nD Cert.RefSampleIdeal.τ).loc Cert.RefSampleIdeal.main_arg6) = m ((c.tc : Thread Cert.MixerSampleIdeal.nD Cert.MixerSampleIdeal.τ).loc Cert.MixerSampleIdeal.main_arg6)
      ∧ m' ((c.tc : Thread Cert.RefSampleIdeal.nD Cert.RefSampleIdeal.τ).loc Cert.RefSampleIdeal.main_arg7) = m ((c.tc : Thread Cert.MixerSampleIdeal.nD Cert.MixerSampleIdeal.τ).loc Cert.MixerSampleIdeal.main_arg7)
      ∧ m' ((c.tc : Thread Cert.RefSampleIdeal.nD Cert.RefSampleIdeal.τ).loc Cert.RefSampleIdeal.main_arg8) = m ((c.tc : Thread Cert.MixerSampleIdeal.nD Cert.MixerSampleIdeal.τ).loc Cert.MixerSampleIdeal.main_arg8)
      ∧ m' ((c.tc : Thread Cert.RefSampleIdeal.nD Cert.RefSampleIdeal.τ).loc Cert.RefSampleIdeal.main_arg9) = m ((c.tc : Thread Cert.MixerSampleIdeal.nD Cert.MixerSampleIdeal.τ).loc Cert.MixerSampleIdeal.main_arg9)
      ∧ m' ((c.tc : Thread Cert.RefSampleIdeal.nD Cert.RefSampleIdeal.τ).loc Cert.RefSampleIdeal.main_arg10) = m ((c.tc : Thread Cert.MixerSampleIdeal.nD Cert.MixerSampleIdeal.τ).loc Cert.MixerSampleIdeal.main_arg10)
      ∧ m' ((c.tc : Thread Cert.RefSampleIdeal.nD Cert.RefSampleIdeal.τ).loc Cert.RefSampleIdeal.main_arg11) = m ((c.tc : Thread Cert.MixerSampleIdeal.nD Cert.MixerSampleIdeal.τ).loc Cert.MixerSampleIdeal.main_arg11)
      ∧ m' ((c.tc : Thread Cert.RefSampleIdeal.nD Cert.RefSampleIdeal.τ).loc Cert.RefSampleIdeal.main_arg12) = m ((c.tc : Thread Cert.MixerSampleIdeal.nD Cert.MixerSampleIdeal.τ).loc Cert.MixerSampleIdeal.main_arg12)
      ∧ m' ((c.tc : Thread Cert.RefSampleIdeal.nD Cert.RefSampleIdeal.τ).loc Cert.RefSampleIdeal.main_arg13) = m ((c.tc : Thread Cert.MixerSampleIdeal.nD Cert.MixerSampleIdeal.τ).loc Cert.MixerSampleIdeal.main_arg13)) →
    ∃ (v0 : (c : Dev Cert.MixerSampleIdeal.nD) → Buf (Elt Ideal) ((c.tc : Thread Cert.MixerSampleIdeal.nD Cert.MixerSampleIdeal.τ).loc Cert.MixerSampleIdeal.main_v39_0)) (v1 : (c : Dev Cert.MixerSampleIdeal.nD) → Buf (Elt Ideal) ((c.tc : Thread Cert.MixerSampleIdeal.nD Cert.MixerSampleIdeal.τ).loc Cert.MixerSampleIdeal.main_v39_1)),
      θ_run (Cert.MixerSampleIdeal.defs (F := Ideal)) (onTc (τ := Cert.MixerSampleIdeal.τ) (Cert.MixerSampleIdeal.main (F := Ideal))) ⟨m, fun _ => 0, g⟩ (fun r => ∀ c : Dev Cert.MixerSampleIdeal.nD,
          r.2.mem ((c.tc : Thread Cert.MixerSampleIdeal.nD Cert.MixerSampleIdeal.τ).loc Cert.MixerSampleIdeal.main_v39_0) = v0 c
          ∧ r.2.mem ((c.tc : Thread Cert.MixerSampleIdeal.nD Cert.MixerSampleIdeal.τ).loc Cert.MixerSampleIdeal.main_v39_1) = v1 c
          ∧ r.2.mem ((c.tc : Thread Cert.MixerSampleIdeal.nD Cert.MixerSampleIdeal.τ).loc Cert.MixerSampleIdeal.main_arg0) = m ((c.tc : Thread Cert.MixerSampleIdeal.nD Cert.MixerSampleIdeal.τ).loc Cert.MixerSampleIdeal.main_arg0)
          ∧ r.2.mem ((c.tc : Thread Cert.MixerSampleIdeal.nD Cert.MixerSampleIdeal.τ).loc Cert.MixerSampleIdeal.main_arg1) = m ((c.tc : Thread Cert.MixerSampleIdeal.nD Cert.MixerSampleIdeal.τ).loc Cert.MixerSampleIdeal.main_arg1)
          ∧ r.2.mem ((c.tc : Thread Cert.MixerSampleIdeal.nD Cert.MixerSampleIdeal.τ).loc Cert.MixerSampleIdeal.main_arg2) = m ((c.tc : Thread Cert.MixerSampleIdeal.nD Cert.MixerSampleIdeal.τ).loc Cert.MixerSampleIdeal.main_arg2)
          ∧ r.2.mem ((c.tc : Thread Cert.MixerSampleIdeal.nD Cert.MixerSampleIdeal.τ).loc Cert.MixerSampleIdeal.main_arg3) = m ((c.tc : Thread Cert.MixerSampleIdeal.nD Cert.MixerSampleIdeal.τ).loc Cert.MixerSampleIdeal.main_arg3)
          ∧ r.2.mem ((c.tc : Thread Cert.MixerSampleIdeal.nD Cert.MixerSampleIdeal.τ).loc Cert.MixerSampleIdeal.main_arg4) = m ((c.tc : Thread Cert.MixerSampleIdeal.nD Cert.MixerSampleIdeal.τ).loc Cert.MixerSampleIdeal.main_arg4)
          ∧ r.2.mem ((c.tc : Thread Cert.MixerSampleIdeal.nD Cert.MixerSampleIdeal.τ).loc Cert.MixerSampleIdeal.main_arg5) = m ((c.tc : Thread Cert.MixerSampleIdeal.nD Cert.MixerSampleIdeal.τ).loc Cert.MixerSampleIdeal.main_arg5)
          ∧ r.2.mem ((c.tc : Thread Cert.MixerSampleIdeal.nD Cert.MixerSampleIdeal.τ).loc Cert.MixerSampleIdeal.main_arg6) = m ((c.tc : Thread Cert.MixerSampleIdeal.nD Cert.MixerSampleIdeal.τ).loc Cert.MixerSampleIdeal.main_arg6)
          ∧ r.2.mem ((c.tc : Thread Cert.MixerSampleIdeal.nD Cert.MixerSampleIdeal.τ).loc Cert.MixerSampleIdeal.main_arg7) = m ((c.tc : Thread Cert.MixerSampleIdeal.nD Cert.MixerSampleIdeal.τ).loc Cert.MixerSampleIdeal.main_arg7)
          ∧ r.2.mem ((c.tc : Thread Cert.MixerSampleIdeal.nD Cert.MixerSampleIdeal.τ).loc Cert.MixerSampleIdeal.main_arg8) = m ((c.tc : Thread Cert.MixerSampleIdeal.nD Cert.MixerSampleIdeal.τ).loc Cert.MixerSampleIdeal.main_arg8)
          ∧ r.2.mem ((c.tc : Thread Cert.MixerSampleIdeal.nD Cert.MixerSampleIdeal.τ).loc Cert.MixerSampleIdeal.main_arg9) = m ((c.tc : Thread Cert.MixerSampleIdeal.nD Cert.MixerSampleIdeal.τ).loc Cert.MixerSampleIdeal.main_arg9)
          ∧ r.2.mem ((c.tc : Thread Cert.MixerSampleIdeal.nD Cert.MixerSampleIdeal.τ).loc Cert.MixerSampleIdeal.main_arg10) = m ((c.tc : Thread Cert.MixerSampleIdeal.nD Cert.MixerSampleIdeal.τ).loc Cert.MixerSampleIdeal.main_arg10)
          ∧ r.2.mem ((c.tc : Thread Cert.MixerSampleIdeal.nD Cert.MixerSampleIdeal.τ).loc Cert.MixerSampleIdeal.main_arg11) = m ((c.tc : Thread Cert.MixerSampleIdeal.nD Cert.MixerSampleIdeal.τ).loc Cert.MixerSampleIdeal.main_arg11)
          ∧ r.2.mem ((c.tc : Thread Cert.MixerSampleIdeal.nD Cert.MixerSampleIdeal.τ).loc Cert.MixerSampleIdeal.main_arg12) = m ((c.tc : Thread Cert.MixerSampleIdeal.nD Cert.MixerSampleIdeal.τ).loc Cert.MixerSampleIdeal.main_arg12)
          ∧ r.2.mem ((c.tc : Thread Cert.MixerSampleIdeal.nD Cert.MixerSampleIdeal.τ).loc Cert.MixerSampleIdeal.main_arg13) = m ((c.tc : Thread Cert.MixerSampleIdeal.nD Cert.MixerSampleIdeal.τ).loc Cert.MixerSampleIdeal.main_arg13))
      ∧ θ_run (Cert.RefSampleIdeal.defs (F := Ideal)) (onTc (τ := Cert.RefSampleIdeal.τ) (Cert.RefSampleIdeal.main (F := Ideal))) ⟨m', fun _ => 0, g'⟩ (fun r => ∀ c : Dev Cert.RefSampleIdeal.nD,
          r.2.mem ((c.tc : Thread Cert.RefSampleIdeal.nD Cert.RefSampleIdeal.τ).loc Cert.RefSampleIdeal.main_v136) = v0 c
          ∧ r.2.mem ((c.tc : Thread Cert.RefSampleIdeal.nD Cert.RefSampleIdeal.τ).loc Cert.RefSampleIdeal.main_v137) = v1 c
          ∧ r.2.mem ((c.tc : Thread Cert.RefSampleIdeal.nD Cert.RefSampleIdeal.τ).loc Cert.RefSampleIdeal.main_arg0) = m' ((c.tc : Thread Cert.RefSampleIdeal.nD Cert.RefSampleIdeal.τ).loc Cert.RefSampleIdeal.main_arg0)
          ∧ r.2.mem ((c.tc : Thread Cert.RefSampleIdeal.nD Cert.RefSampleIdeal.τ).loc Cert.RefSampleIdeal.main_arg1) = m' ((c.tc : Thread Cert.RefSampleIdeal.nD Cert.RefSampleIdeal.τ).loc Cert.RefSampleIdeal.main_arg1)
          ∧ r.2.mem ((c.tc : Thread Cert.RefSampleIdeal.nD Cert.RefSampleIdeal.τ).loc Cert.RefSampleIdeal.main_arg2) = m' ((c.tc : Thread Cert.RefSampleIdeal.nD Cert.RefSampleIdeal.τ).loc Cert.RefSampleIdeal.main_arg2)
          ∧ r.2.mem ((c.tc : Thread Cert.RefSampleIdeal.nD Cert.RefSampleIdeal.τ).loc Cert.RefSampleIdeal.main_arg3) = m' ((c.tc : Thread Cert.RefSampleIdeal.nD Cert.RefSampleIdeal.τ).loc Cert.RefSampleIdeal.main_arg3)
          ∧ r.2.mem ((c.tc : Thread Cert.RefSampleIdeal.nD Cert.RefSampleIdeal.τ).loc Cert.RefSampleIdeal.main_arg4) = m' ((c.tc : Thread Cert.RefSampleIdeal.nD Cert.RefSampleIdeal.τ).loc Cert.RefSampleIdeal.main_arg4)
          ∧ r.2.mem ((c.tc : Thread Cert.RefSampleIdeal.nD Cert.RefSampleIdeal.τ).loc Cert.RefSampleIdeal.main_arg5) = m' ((c.tc : Thread Cert.RefSampleIdeal.nD Cert.RefSampleIdeal.τ).loc Cert.RefSampleIdeal.main_arg5)
          ∧ r.2.mem ((c.tc : Thread Cert.RefSampleIdeal.nD Cert.RefSampleIdeal.τ).loc Cert.RefSampleIdeal.main_arg6) = m' ((c.tc : Thread Cert.RefSampleIdeal.nD Cert.RefSampleIdeal.τ).loc Cert.RefSampleIdeal.main_arg6)
          ∧ r.2.mem ((c.tc : Thread Cert.RefSampleIdeal.nD Cert.RefSampleIdeal.τ).loc Cert.RefSampleIdeal.main_arg7) = m' ((c.tc : Thread Cert.RefSampleIdeal.nD Cert.RefSampleIdeal.τ).loc Cert.RefSampleIdeal.main_arg7)
          ∧ r.2.mem ((c.tc : Thread Cert.RefSampleIdeal.nD Cert.RefSampleIdeal.τ).loc Cert.RefSampleIdeal.main_arg8) = m' ((c.tc : Thread Cert.RefSampleIdeal.nD Cert.RefSampleIdeal.τ).loc Cert.RefSampleIdeal.main_arg8)
          ∧ r.2.mem ((c.tc : Thread Cert.RefSampleIdeal.nD Cert.RefSampleIdeal.τ).loc Cert.RefSampleIdeal.main_arg9) = m' ((c.tc : Thread Cert.RefSampleIdeal.nD Cert.RefSampleIdeal.τ).loc Cert.RefSampleIdeal.main_arg9)
          ∧ r.2.mem ((c.tc : Thread Cert.RefSampleIdeal.nD Cert.RefSampleIdeal.τ).loc Cert.RefSampleIdeal.main_arg10) = m' ((c.tc : Thread Cert.RefSampleIdeal.nD Cert.RefSampleIdeal.τ).loc Cert.RefSampleIdeal.main_arg10)
          ∧ r.2.mem ((c.tc : Thread Cert.RefSampleIdeal.nD Cert.RefSampleIdeal.τ).loc Cert.RefSampleIdeal.main_arg11) = m' ((c.tc : Thread Cert.RefSampleIdeal.nD Cert.RefSampleIdeal.τ).loc Cert.RefSampleIdeal.main_arg11)
          ∧ r.2.mem ((c.tc : Thread Cert.RefSampleIdeal.nD Cert.RefSampleIdeal.τ).loc Cert.RefSampleIdeal.main_arg12) = m' ((c.tc : Thread Cert.RefSampleIdeal.nD Cert.RefSampleIdeal.τ).loc Cert.RefSampleIdeal.main_arg12)
          ∧ r.2.mem ((c.tc : Thread Cert.RefSampleIdeal.nD Cert.RefSampleIdeal.τ).loc Cert.RefSampleIdeal.main_arg13) = m' ((c.tc : Thread Cert.RefSampleIdeal.nD Cert.RefSampleIdeal.τ).loc Cert.RefSampleIdeal.main_arg13))

def preserves_InprojPrompt_InprojPromptIdeal : Prop :=
  IdealRules.named_const.Statement Cert.InprojPromptIdeal.κ "gelu_ck" .f32 0x3D122279#32 ((80338380498831 / 2251799813685248 : ℝ) : EReal)

def algebraic_InprojPromptIdeal_RefInprojIdeal_pre_finite_ip [hInprojPromptIdeal : Cert.InprojPromptIdeal.Facts] [hRefInprojIdeal : Cert.RefInprojIdeal.Facts] [hPre_finite_ip : Cert.Pre_finite_ip.Facts] : Prop :=
  ∀ (m : (ℓ : Loc Cert.InprojPromptIdeal.nD Cert.InprojPromptIdeal.τ Cert.InprojPromptIdeal.sig) → Buf (Elt Ideal) ℓ) (g : Dev Cert.InprojPromptIdeal.nD → PrngReg)
    (m' : (ℓ : Loc Cert.RefInprojIdeal.nD Cert.RefInprojIdeal.τ Cert.RefInprojIdeal.sig) → Buf (Elt Ideal) ℓ) (g' : Dev Cert.RefInprojIdeal.nD → PrngReg), Pre_InprojPromptIdeal_finite_ip m →
    (∀ c : Dev Cert.InprojPromptIdeal.nD,
      m' ((c.tc : Thread Cert.RefInprojIdeal.nD Cert.RefInprojIdeal.τ).loc Cert.RefInprojIdeal.main_arg0) = m ((c.tc : Thread Cert.InprojPromptIdeal.nD Cert.InprojPromptIdeal.τ).loc Cert.InprojPromptIdeal.main_arg0)
      ∧ m' ((c.tc : Thread Cert.RefInprojIdeal.nD Cert.RefInprojIdeal.τ).loc Cert.RefInprojIdeal.main_arg1) = m ((c.tc : Thread Cert.InprojPromptIdeal.nD Cert.InprojPromptIdeal.τ).loc Cert.InprojPromptIdeal.main_arg1)
      ∧ m' ((c.tc : Thread Cert.RefInprojIdeal.nD Cert.RefInprojIdeal.τ).loc Cert.RefInprojIdeal.main_arg2) = m ((c.tc : Thread Cert.InprojPromptIdeal.nD Cert.InprojPromptIdeal.τ).loc Cert.InprojPromptIdeal.main_arg2)
      ∧ m' ((c.tc : Thread Cert.RefInprojIdeal.nD Cert.RefInprojIdeal.τ).loc Cert.RefInprojIdeal.main_arg3) = m ((c.tc : Thread Cert.InprojPromptIdeal.nD Cert.InprojPromptIdeal.τ).loc Cert.InprojPromptIdeal.main_arg3)
      ∧ m' ((c.tc : Thread Cert.RefInprojIdeal.nD Cert.RefInprojIdeal.τ).loc Cert.RefInprojIdeal.main_arg4) = m ((c.tc : Thread Cert.InprojPromptIdeal.nD Cert.InprojPromptIdeal.τ).loc Cert.InprojPromptIdeal.main_arg4)
      ∧ m' ((c.tc : Thread Cert.RefInprojIdeal.nD Cert.RefInprojIdeal.τ).loc Cert.RefInprojIdeal.main_arg5) = m ((c.tc : Thread Cert.InprojPromptIdeal.nD Cert.InprojPromptIdeal.τ).loc Cert.InprojPromptIdeal.main_arg5)
      ∧ m' ((c.tc : Thread Cert.RefInprojIdeal.nD Cert.RefInprojIdeal.τ).loc Cert.RefInprojIdeal.main_arg6) = m ((c.tc : Thread Cert.InprojPromptIdeal.nD Cert.InprojPromptIdeal.τ).loc Cert.InprojPromptIdeal.main_arg6)
      ∧ m' ((c.tc : Thread Cert.RefInprojIdeal.nD Cert.RefInprojIdeal.τ).loc Cert.RefInprojIdeal.main_arg7) = m ((c.tc : Thread Cert.InprojPromptIdeal.nD Cert.InprojPromptIdeal.τ).loc Cert.InprojPromptIdeal.main_arg7)
      ∧ m' ((c.tc : Thread Cert.RefInprojIdeal.nD Cert.RefInprojIdeal.τ).loc Cert.RefInprojIdeal.main_arg8) = m ((c.tc : Thread Cert.InprojPromptIdeal.nD Cert.InprojPromptIdeal.τ).loc Cert.InprojPromptIdeal.main_arg8)
      ∧ m' ((c.tc : Thread Cert.RefInprojIdeal.nD Cert.RefInprojIdeal.τ).loc Cert.RefInprojIdeal.main_arg9) = m ((c.tc : Thread Cert.InprojPromptIdeal.nD Cert.InprojPromptIdeal.τ).loc Cert.InprojPromptIdeal.main_arg9)
      ∧ m' ((c.tc : Thread Cert.RefInprojIdeal.nD Cert.RefInprojIdeal.τ).loc Cert.RefInprojIdeal.main_arg10) = m ((c.tc : Thread Cert.InprojPromptIdeal.nD Cert.InprojPromptIdeal.τ).loc Cert.InprojPromptIdeal.main_arg10)
      ∧ m' ((c.tc : Thread Cert.RefInprojIdeal.nD Cert.RefInprojIdeal.τ).loc Cert.RefInprojIdeal.main_arg11) = m ((c.tc : Thread Cert.InprojPromptIdeal.nD Cert.InprojPromptIdeal.τ).loc Cert.InprojPromptIdeal.main_arg11)
      ∧ m' ((c.tc : Thread Cert.RefInprojIdeal.nD Cert.RefInprojIdeal.τ).loc Cert.RefInprojIdeal.main_arg12) = m ((c.tc : Thread Cert.InprojPromptIdeal.nD Cert.InprojPromptIdeal.τ).loc Cert.InprojPromptIdeal.main_arg12)) →
    ∃ (v0 : (c : Dev Cert.InprojPromptIdeal.nD) → Buf (Elt Ideal) ((c.tc : Thread Cert.InprojPromptIdeal.nD Cert.InprojPromptIdeal.τ).loc Cert.InprojPromptIdeal.main_v0_0)) (v1 : (c : Dev Cert.InprojPromptIdeal.nD) → Buf (Elt Ideal) ((c.tc : Thread Cert.InprojPromptIdeal.nD Cert.InprojPromptIdeal.τ).loc Cert.InprojPromptIdeal.main_v0_1)) (v2 : (c : Dev Cert.InprojPromptIdeal.nD) → Buf (Elt Ideal) ((c.tc : Thread Cert.InprojPromptIdeal.nD Cert.InprojPromptIdeal.τ).loc Cert.InprojPromptIdeal.main_v0_2)) (v3 : (c : Dev Cert.InprojPromptIdeal.nD) → Buf (Elt Ideal) ((c.tc : Thread Cert.InprojPromptIdeal.nD Cert.InprojPromptIdeal.τ).loc Cert.InprojPromptIdeal.main_v0_3)) (v4 : (c : Dev Cert.InprojPromptIdeal.nD) → Buf (Elt Ideal) ((c.tc : Thread Cert.InprojPromptIdeal.nD Cert.InprojPromptIdeal.τ).loc Cert.InprojPromptIdeal.main_v0_4)) (v5 : (c : Dev Cert.InprojPromptIdeal.nD) → Buf (Elt Ideal) ((c.tc : Thread Cert.InprojPromptIdeal.nD Cert.InprojPromptIdeal.τ).loc Cert.InprojPromptIdeal.main_v0_5)) (v6 : (c : Dev Cert.InprojPromptIdeal.nD) → Buf (Elt Ideal) ((c.tc : Thread Cert.InprojPromptIdeal.nD Cert.InprojPromptIdeal.τ).loc Cert.InprojPromptIdeal.main_v0_6)) (v7 : (c : Dev Cert.InprojPromptIdeal.nD) → Buf (Elt Ideal) ((c.tc : Thread Cert.InprojPromptIdeal.nD Cert.InprojPromptIdeal.τ).loc Cert.InprojPromptIdeal.main_v0_7)) (v8 : (c : Dev Cert.InprojPromptIdeal.nD) → Buf (Elt Ideal) ((c.tc : Thread Cert.InprojPromptIdeal.nD Cert.InprojPromptIdeal.τ).loc Cert.InprojPromptIdeal.main_v2)),
      θ_run (Cert.InprojPromptIdeal.defs (F := Ideal)) (onTc (τ := Cert.InprojPromptIdeal.τ) (Cert.InprojPromptIdeal.main (F := Ideal))) ⟨m, fun _ => 0, g⟩ (fun r => ∀ c : Dev Cert.InprojPromptIdeal.nD,
          r.2.mem ((c.tc : Thread Cert.InprojPromptIdeal.nD Cert.InprojPromptIdeal.τ).loc Cert.InprojPromptIdeal.main_v0_0) = v0 c
          ∧ r.2.mem ((c.tc : Thread Cert.InprojPromptIdeal.nD Cert.InprojPromptIdeal.τ).loc Cert.InprojPromptIdeal.main_v0_1) = v1 c
          ∧ r.2.mem ((c.tc : Thread Cert.InprojPromptIdeal.nD Cert.InprojPromptIdeal.τ).loc Cert.InprojPromptIdeal.main_v0_2) = v2 c
          ∧ r.2.mem ((c.tc : Thread Cert.InprojPromptIdeal.nD Cert.InprojPromptIdeal.τ).loc Cert.InprojPromptIdeal.main_v0_3) = v3 c
          ∧ r.2.mem ((c.tc : Thread Cert.InprojPromptIdeal.nD Cert.InprojPromptIdeal.τ).loc Cert.InprojPromptIdeal.main_v0_4) = v4 c
          ∧ r.2.mem ((c.tc : Thread Cert.InprojPromptIdeal.nD Cert.InprojPromptIdeal.τ).loc Cert.InprojPromptIdeal.main_v0_5) = v5 c
          ∧ r.2.mem ((c.tc : Thread Cert.InprojPromptIdeal.nD Cert.InprojPromptIdeal.τ).loc Cert.InprojPromptIdeal.main_v0_6) = v6 c
          ∧ r.2.mem ((c.tc : Thread Cert.InprojPromptIdeal.nD Cert.InprojPromptIdeal.τ).loc Cert.InprojPromptIdeal.main_v0_7) = v7 c
          ∧ r.2.mem ((c.tc : Thread Cert.InprojPromptIdeal.nD Cert.InprojPromptIdeal.τ).loc Cert.InprojPromptIdeal.main_v2) = v8 c
          ∧ r.2.mem ((c.tc : Thread Cert.InprojPromptIdeal.nD Cert.InprojPromptIdeal.τ).loc Cert.InprojPromptIdeal.main_arg0) = m ((c.tc : Thread Cert.InprojPromptIdeal.nD Cert.InprojPromptIdeal.τ).loc Cert.InprojPromptIdeal.main_arg0)
          ∧ r.2.mem ((c.tc : Thread Cert.InprojPromptIdeal.nD Cert.InprojPromptIdeal.τ).loc Cert.InprojPromptIdeal.main_arg1) = m ((c.tc : Thread Cert.InprojPromptIdeal.nD Cert.InprojPromptIdeal.τ).loc Cert.InprojPromptIdeal.main_arg1)
          ∧ r.2.mem ((c.tc : Thread Cert.InprojPromptIdeal.nD Cert.InprojPromptIdeal.τ).loc Cert.InprojPromptIdeal.main_arg2) = m ((c.tc : Thread Cert.InprojPromptIdeal.nD Cert.InprojPromptIdeal.τ).loc Cert.InprojPromptIdeal.main_arg2)
          ∧ r.2.mem ((c.tc : Thread Cert.InprojPromptIdeal.nD Cert.InprojPromptIdeal.τ).loc Cert.InprojPromptIdeal.main_arg3) = m ((c.tc : Thread Cert.InprojPromptIdeal.nD Cert.InprojPromptIdeal.τ).loc Cert.InprojPromptIdeal.main_arg3)
          ∧ r.2.mem ((c.tc : Thread Cert.InprojPromptIdeal.nD Cert.InprojPromptIdeal.τ).loc Cert.InprojPromptIdeal.main_arg4) = m ((c.tc : Thread Cert.InprojPromptIdeal.nD Cert.InprojPromptIdeal.τ).loc Cert.InprojPromptIdeal.main_arg4)
          ∧ r.2.mem ((c.tc : Thread Cert.InprojPromptIdeal.nD Cert.InprojPromptIdeal.τ).loc Cert.InprojPromptIdeal.main_arg5) = m ((c.tc : Thread Cert.InprojPromptIdeal.nD Cert.InprojPromptIdeal.τ).loc Cert.InprojPromptIdeal.main_arg5)
          ∧ r.2.mem ((c.tc : Thread Cert.InprojPromptIdeal.nD Cert.InprojPromptIdeal.τ).loc Cert.InprojPromptIdeal.main_arg6) = m ((c.tc : Thread Cert.InprojPromptIdeal.nD Cert.InprojPromptIdeal.τ).loc Cert.InprojPromptIdeal.main_arg6)
          ∧ r.2.mem ((c.tc : Thread Cert.InprojPromptIdeal.nD Cert.InprojPromptIdeal.τ).loc Cert.InprojPromptIdeal.main_arg7) = m ((c.tc : Thread Cert.InprojPromptIdeal.nD Cert.InprojPromptIdeal.τ).loc Cert.InprojPromptIdeal.main_arg7)
          ∧ r.2.mem ((c.tc : Thread Cert.InprojPromptIdeal.nD Cert.InprojPromptIdeal.τ).loc Cert.InprojPromptIdeal.main_arg8) = m ((c.tc : Thread Cert.InprojPromptIdeal.nD Cert.InprojPromptIdeal.τ).loc Cert.InprojPromptIdeal.main_arg8)
          ∧ r.2.mem ((c.tc : Thread Cert.InprojPromptIdeal.nD Cert.InprojPromptIdeal.τ).loc Cert.InprojPromptIdeal.main_arg9) = m ((c.tc : Thread Cert.InprojPromptIdeal.nD Cert.InprojPromptIdeal.τ).loc Cert.InprojPromptIdeal.main_arg9)
          ∧ r.2.mem ((c.tc : Thread Cert.InprojPromptIdeal.nD Cert.InprojPromptIdeal.τ).loc Cert.InprojPromptIdeal.main_arg10) = m ((c.tc : Thread Cert.InprojPromptIdeal.nD Cert.InprojPromptIdeal.τ).loc Cert.InprojPromptIdeal.main_arg10)
          ∧ r.2.mem ((c.tc : Thread Cert.InprojPromptIdeal.nD Cert.InprojPromptIdeal.τ).loc Cert.InprojPromptIdeal.main_arg11) = m ((c.tc : Thread Cert.InprojPromptIdeal.nD Cert.InprojPromptIdeal.τ).loc Cert.InprojPromptIdeal.main_arg11)
          ∧ r.2.mem ((c.tc : Thread Cert.InprojPromptIdeal.nD Cert.InprojPromptIdeal.τ).loc Cert.InprojPromptIdeal.main_arg12) = m ((c.tc : Thread Cert.InprojPromptIdeal.nD Cert.InprojPromptIdeal.τ).loc Cert.InprojPromptIdeal.main_arg12))
      ∧ θ_run (Cert.RefInprojIdeal.defs (F := Ideal)) (onTc (τ := Cert.RefInprojIdeal.τ) (Cert.RefInprojIdeal.main (F := Ideal))) ⟨m', fun _ => 0, g'⟩ (fun r => ∀ c : Dev Cert.RefInprojIdeal.nD,
          r.2.mem ((c.tc : Thread Cert.RefInprojIdeal.nD Cert.RefInprojIdeal.τ).loc Cert.RefInprojIdeal.main_v51) = v0 c
          ∧ r.2.mem ((c.tc : Thread Cert.RefInprojIdeal.nD Cert.RefInprojIdeal.τ).loc Cert.RefInprojIdeal.main_v52) = v1 c
          ∧ r.2.mem ((c.tc : Thread Cert.RefInprojIdeal.nD Cert.RefInprojIdeal.τ).loc Cert.RefInprojIdeal.main_v58) = v2 c
          ∧ r.2.mem ((c.tc : Thread Cert.RefInprojIdeal.nD Cert.RefInprojIdeal.τ).loc Cert.RefInprojIdeal.main_v72) = v3 c
          ∧ r.2.mem ((c.tc : Thread Cert.RefInprojIdeal.nD Cert.RefInprojIdeal.τ).loc Cert.RefInprojIdeal.main_v112) = v4 c
          ∧ r.2.mem ((c.tc : Thread Cert.RefInprojIdeal.nD Cert.RefInprojIdeal.τ).loc Cert.RefInprojIdeal.main_v113) = v5 c
          ∧ r.2.mem ((c.tc : Thread Cert.RefInprojIdeal.nD Cert.RefInprojIdeal.τ).loc Cert.RefInprojIdeal.main_v114) = v6 c
          ∧ r.2.mem ((c.tc : Thread Cert.RefInprojIdeal.nD Cert.RefInprojIdeal.τ).loc Cert.RefInprojIdeal.main_v49) = v7 c
          ∧ r.2.mem ((c.tc : Thread Cert.RefInprojIdeal.nD Cert.RefInprojIdeal.τ).loc Cert.RefInprojIdeal.main_v115) = v8 c
          ∧ r.2.mem ((c.tc : Thread Cert.RefInprojIdeal.nD Cert.RefInprojIdeal.τ).loc Cert.RefInprojIdeal.main_arg0) = m' ((c.tc : Thread Cert.RefInprojIdeal.nD Cert.RefInprojIdeal.τ).loc Cert.RefInprojIdeal.main_arg0)
          ∧ r.2.mem ((c.tc : Thread Cert.RefInprojIdeal.nD Cert.RefInprojIdeal.τ).loc Cert.RefInprojIdeal.main_arg1) = m' ((c.tc : Thread Cert.RefInprojIdeal.nD Cert.RefInprojIdeal.τ).loc Cert.RefInprojIdeal.main_arg1)
          ∧ r.2.mem ((c.tc : Thread Cert.RefInprojIdeal.nD Cert.RefInprojIdeal.τ).loc Cert.RefInprojIdeal.main_arg2) = m' ((c.tc : Thread Cert.RefInprojIdeal.nD Cert.RefInprojIdeal.τ).loc Cert.RefInprojIdeal.main_arg2)
          ∧ r.2.mem ((c.tc : Thread Cert.RefInprojIdeal.nD Cert.RefInprojIdeal.τ).loc Cert.RefInprojIdeal.main_arg3) = m' ((c.tc : Thread Cert.RefInprojIdeal.nD Cert.RefInprojIdeal.τ).loc Cert.RefInprojIdeal.main_arg3)
          ∧ r.2.mem ((c.tc : Thread Cert.RefInprojIdeal.nD Cert.RefInprojIdeal.τ).loc Cert.RefInprojIdeal.main_arg4) = m' ((c.tc : Thread Cert.RefInprojIdeal.nD Cert.RefInprojIdeal.τ).loc Cert.RefInprojIdeal.main_arg4)
          ∧ r.2.mem ((c.tc : Thread Cert.RefInprojIdeal.nD Cert.RefInprojIdeal.τ).loc Cert.RefInprojIdeal.main_arg5) = m' ((c.tc : Thread Cert.RefInprojIdeal.nD Cert.RefInprojIdeal.τ).loc Cert.RefInprojIdeal.main_arg5)
          ∧ r.2.mem ((c.tc : Thread Cert.RefInprojIdeal.nD Cert.RefInprojIdeal.τ).loc Cert.RefInprojIdeal.main_arg6) = m' ((c.tc : Thread Cert.RefInprojIdeal.nD Cert.RefInprojIdeal.τ).loc Cert.RefInprojIdeal.main_arg6)
          ∧ r.2.mem ((c.tc : Thread Cert.RefInprojIdeal.nD Cert.RefInprojIdeal.τ).loc Cert.RefInprojIdeal.main_arg7) = m' ((c.tc : Thread Cert.RefInprojIdeal.nD Cert.RefInprojIdeal.τ).loc Cert.RefInprojIdeal.main_arg7)
          ∧ r.2.mem ((c.tc : Thread Cert.RefInprojIdeal.nD Cert.RefInprojIdeal.τ).loc Cert.RefInprojIdeal.main_arg8) = m' ((c.tc : Thread Cert.RefInprojIdeal.nD Cert.RefInprojIdeal.τ).loc Cert.RefInprojIdeal.main_arg8)
          ∧ r.2.mem ((c.tc : Thread Cert.RefInprojIdeal.nD Cert.RefInprojIdeal.τ).loc Cert.RefInprojIdeal.main_arg9) = m' ((c.tc : Thread Cert.RefInprojIdeal.nD Cert.RefInprojIdeal.τ).loc Cert.RefInprojIdeal.main_arg9)
          ∧ r.2.mem ((c.tc : Thread Cert.RefInprojIdeal.nD Cert.RefInprojIdeal.τ).loc Cert.RefInprojIdeal.main_arg10) = m' ((c.tc : Thread Cert.RefInprojIdeal.nD Cert.RefInprojIdeal.τ).loc Cert.RefInprojIdeal.main_arg10)
          ∧ r.2.mem ((c.tc : Thread Cert.RefInprojIdeal.nD Cert.RefInprojIdeal.τ).loc Cert.RefInprojIdeal.main_arg11) = m' ((c.tc : Thread Cert.RefInprojIdeal.nD Cert.RefInprojIdeal.τ).loc Cert.RefInprojIdeal.main_arg11)
          ∧ r.2.mem ((c.tc : Thread Cert.RefInprojIdeal.nD Cert.RefInprojIdeal.τ).loc Cert.RefInprojIdeal.main_arg12) = m' ((c.tc : Thread Cert.RefInprojIdeal.nD Cert.RefInprojIdeal.τ).loc Cert.RefInprojIdeal.main_arg12))

def Claim : Prop :=
  ∃ (hFfnPrompt : Cert.FfnPrompt.Facts) (hFfnPromptIdeal : Cert.FfnPromptIdeal.Facts) (hRefFfnPromptIdeal : Cert.RefFfnPromptIdeal.Facts) (hMixerSample : Cert.MixerSample.Facts) (hMixerSampleIdeal : Cert.MixerSampleIdeal.Facts) (hRefSampleIdeal : Cert.RefSampleIdeal.Facts) (hInprojPrompt : Cert.InprojPrompt.Facts) (hInprojPromptIdeal : Cert.InprojPromptIdeal.Facts) (hRefInprojIdeal : Cert.RefInprojIdeal.Facts) (hPre_finite_sm : Cert.Pre_finite_sm.Facts) (hPre_finite_ip : Cert.Pre_finite_ip.Facts),
    quiescent_FfnPrompt (hFfnPrompt := hFfnPrompt)
    ∧ quiescent_FfnPromptIdeal (hFfnPromptIdeal := hFfnPromptIdeal)
    ∧ quiescent_RefFfnPromptIdeal (hRefFfnPromptIdeal := hRefFfnPromptIdeal)
    ∧ quiescent_MixerSample (hMixerSample := hMixerSample)
    ∧ quiescent_MixerSampleIdeal (hMixerSampleIdeal := hMixerSampleIdeal)
    ∧ quiescent_MixerSampleIdeal_pre_finite_sm (hMixerSampleIdeal := hMixerSampleIdeal) (hPre_finite_sm := hPre_finite_sm)
    ∧ quiescent_RefSampleIdeal (hRefSampleIdeal := hRefSampleIdeal)
    ∧ quiescent_RefSampleIdeal_pre_finite_sm (hRefSampleIdeal := hRefSampleIdeal) (hPre_finite_sm := hPre_finite_sm)
    ∧ quiescent_InprojPrompt (hInprojPrompt := hInprojPrompt)
    ∧ quiescent_InprojPromptIdeal (hInprojPromptIdeal := hInprojPromptIdeal)
    ∧ quiescent_InprojPromptIdeal_pre_finite_ip (hInprojPromptIdeal := hInprojPromptIdeal) (hPre_finite_ip := hPre_finite_ip)
    ∧ quiescent_RefInprojIdeal (hRefInprojIdeal := hRefInprojIdeal)
    ∧ quiescent_RefInprojIdeal_pre_finite_ip (hRefInprojIdeal := hRefInprojIdeal) (hPre_finite_ip := hPre_finite_ip)
    ∧ preserves_FfnPrompt_FfnPromptIdeal
    ∧ algebraic_FfnPromptIdeal_RefFfnPromptIdeal (hFfnPromptIdeal := hFfnPromptIdeal) (hRefFfnPromptIdeal := hRefFfnPromptIdeal)
    ∧ preserves_MixerSample_MixerSampleIdeal
    ∧ algebraic_MixerSampleIdeal_RefSampleIdeal_pre_finite_sm (hMixerSampleIdeal := hMixerSampleIdeal) (hRefSampleIdeal := hRefSampleIdeal) (hPre_finite_sm := hPre_finite_sm)
    ∧ preserves_InprojPrompt_InprojPromptIdeal
    ∧ algebraic_InprojPromptIdeal_RefInprojIdeal_pre_finite_ip (hInprojPromptIdeal := hInprojPromptIdeal) (hRefInprojIdeal := hRefInprojIdeal) (hPre_finite_ip := hPre_finite_ip)
-- ==== Pre_finite_ip.lean ====
abbrev S8192x2048 : Shape := ⟨2, ![8192, 2048]⟩
abbrev S4x1x4096 : Shape := ⟨3, ![4, 1, 4096]⟩
abbrev S1x2048 : Shape := ⟨2, ![1, 2048]⟩
abbrev S1x128 : Shape := ⟨2, ![1, 128]⟩
abbrev S1x1024 : Shape := ⟨2, ![1, 1024]⟩
abbrev S2048x2688 : Shape := ⟨2, ![2048, 2688]⟩
abbrev S2048x2048 : Shape := ⟨2, ![2048, 2048]⟩
abbrev S136x2048 : Shape := ⟨2, ![136, 2048]⟩
abbrev S2048x12288 : Shape := ⟨2, ![2048, 12288]⟩
abbrev S1x12288 : Shape := ⟨2, ![1, 12288]⟩
abbrev S_ : Shape := ⟨0, ![]⟩

class Facts : Prop where
  bcast_S_S4x1x4096 : S_.BroadcastsInDim S4x1x4096 (![] : Fin 0 → Fin S4x1x4096.rank)
  bcast_S_S1x2048 : S_.BroadcastsInDim S1x2048 (![] : Fin 0 → Fin S1x2048.rank)
  bitsLt_bf16_f32 : FTy.bits .bf16 < FTy.bits .f32
  bcast_S_S2048x2688 : S_.BroadcastsInDim S2048x2688 (![] : Fin 0 → Fin S2048x2688.rank)
  bcast_S_S2048x2048 : S_.BroadcastsInDim S2048x2048 (![] : Fin 0 → Fin S2048x2048.rank)

variable [Facts]

def fn {F : FTy → Type} [FloatOps F] (main_arg0 : FVec F S8192x2048 .f32) (main_arg1 : FVec F S4x1x4096 .f32) (main_arg2 : FVec F S1x2048 .f32) (main_arg3 : FVec F S1x2048 .f32) (main_arg4 : FVec F S1x128 .f32) (main_arg5 : FVec F S1x1024 .f32) (main_arg6 : FVec F S1x1024 .f32) (main_arg7 : FVec F S2048x2688 .bf16) (main_arg8 : FVec F S2048x2048 .bf16) (main_arg9 : FVec F S2048x2048 .f32) (main_arg10 : FVec F S136x2048 .bf16) (main_arg11 : FVec F S2048x12288 .f32) (main_arg12 : FVec F S1x12288 .f32) : IVec S4x1x4096 1 × IVec S1x2048 1 × IVec S1x2048 1 × IVec S2048x2688 1 × IVec S2048x2048 1 :=
  let main_v0 : FVec F S4x1x4096 .f32 := Host.absf main_arg1
  let main_cst : FVec F S_ .f32 := constant S_ .f32 0x7F800000#32
  let main_v1 : FVec F S4x1x4096 .f32 := broadcastInDim S4x1x4096 ![] bcast_S_S4x1x4096 main_cst
  let main_v2 : IVec S4x1x4096 1 := cmpf .olt main_v0 main_v1
  let main_v3 : FVec F S1x2048 .f32 := Host.absf main_arg2
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048 .f32 := Host.absf main_arg3
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S2048x2688 .f32 := (extf .f32 · bitsLt_bf16_f32) main_arg7
  let main_v10 : FVec F S2048x2688 .f32 := Host.absf main_v9
  let main_cst_2 : FVec F S_ .f32 := constant S_ .f32 0x7F800000#32
  let main_v11 : FVec F S2048x2688 .f32 := broadcastInDim S2048x2688 ![] bcast_S_S2048x2688 main_cst_2
  let main_v12 : IVec S2048x2688 1 := cmpf .olt main_v10 main_v11
  let main_v13 : FVec F S2048x2048 .f32 := (extf .f32 · bitsLt_bf16_f32) main_arg8
  let main_v14 : FVec F S2048x2048 .f32 := Host.absf main_v13
  let main_cst_3 : FVec F S_ .f32 := constant S_ .f32 0x7F800000#32
  let main_v15 : FVec F S2048x2048 .f32 := broadcastInDim S2048x2048 ![] bcast_S_S2048x2048 main_cst_3
  let main_v16 : IVec S2048x2048 1 := cmpf .olt main_v14 main_v15
  (main_v2, main_v5, main_v8, main_v12, main_v16)
-- ==== Pre_finite_sm.lean ====
abbrev S1024x1024 : Shape := ⟨2, ![1024, 1024]⟩
abbrev S1024x1536 : Shape := ⟨2, ![1024, 1536]⟩
abbrev S1024x128 : Shape := ⟨2, ![1024, 128]⟩
abbrev S1x128x16x64x128 : Shape := ⟨5, ![1, 128, 16, 64, 128]⟩
abbrev S1x128x3x1536 : Shape := ⟨4, ![1, 128, 3, 1536]⟩
abbrev S1x4x1536 : Shape := ⟨3, ![1, 4, 1536]⟩
abbrev S1x1536 : Shape := ⟨2, ![1, 1536]⟩
abbrev S1x16 : Shape := ⟨2, ![1, 16]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S1024x1536 : S_.BroadcastsInDim S1024x1536 (![] : Fin 0 → Fin S1024x1536.rank)
  bcast_S_S1024x128 : S_.BroadcastsInDim S1024x128 (![] : Fin 0 → Fin S1024x128.rank)
  bcast_S_S1x128x3x1536 : S_.BroadcastsInDim S1x128x3x1536 (![] : Fin 0 → Fin S1x128x3x1536.rank)
  bcast_S_S1x4x1536 : S_.BroadcastsInDim S1x4x1536 (![] : Fin 0 → Fin S1x4x1536.rank)
  bcast_S_S1x1536 : S_.BroadcastsInDim S1x1536 (![] : Fin 0 → Fin S1x1536.rank)
  bcast_S_S1x16 : S_.BroadcastsInDim S1x16 (![] : Fin 0 → Fin S1x16.rank)

variable [Facts]

def fn {F : FTy → Type} [FloatOps F] (main_arg0 : FVec F S1024x1024 .f32) (main_arg1 : FVec F S1024x1536 .f32) (main_arg2 : FVec F S1024x128 .f32) (main_arg3 : FVec F S1024x1024 .f32) (main_arg4 : FVec F S1024x1024 .f32) (main_arg5 : FVec F S1x128x16x64x128 .f32) (main_arg6 : FVec F S1x128x3x1536 .f32) (main_arg7 : FVec F S1x4x1536 .f32) (main_arg8 : FVec F S1x1536 .f32) (main_arg9 : FVec F S1x16 .f32) (main_arg10 : FVec F S1x16 .f32) (main_arg11 : FVec F S1x1024 .f32) (main_arg12 : FVec F S1x8x128x128 .f32) (main_arg13 : FVec F S1x8x128 .f32) : IVec S1024x1536 1 × IVec S1024x128 1 × IVec S1x128x3x1536 1 × IVec S1x4x1536 1 × IVec S1x1536 1 × IVec S1x16 1 :=
  let main_v0 : FVec F S1024x1536 .f32 := Host.absf main_arg1
  let main_cst : FVec F S_ .f32 := constant S_ .f32 0x7F800000#32
  let main_v1 : FVec F S1024x1536 .f32 := broadcastInDim S1024x1536 ![] bcast_S_S1024x1536 main_cst
  let main_v2 : IVec S1024x1536 1 := cmpf .olt main_v0 main_v1
  let main_v3 : FVec F S1024x128 .f32 := Host.absf main_arg2
  let main_cst_0 : FVec F S_ .f32 := constant S_ .f32 0x7F800000#32
  let main_v4 : FVec F S1024x128 .f32 := broadcastInDim S1024x128 ![] bcast_S_S1024x128 main_cst_0
  let main_v5 : IVec S1024x128 1 := cmpf .olt main_v3 main_v4
  let main_v6 : FVec F S1x128x3x1536 .f32 := Host.absf main_arg6
  let main_cst_1 : FVec F S_ .f32 := constant S_ .f32 0x7F800000#32
  let main_v7 : FVec F S1x128x3x1536 .f32 := broadcastInDim S1x128x3x1536 ![] bcast_S_S1x128x3x1536 main_cst_1
  let main_v8 : IVec S1x128x3x1536 1 := cmpf .olt main_v6 main_v7
  let main_v9 : FVec F S1x4x1536 .f32 := Host.absf main_arg7
  let main_cst_2 : FVec F S_ .f32 := constant S_ .f32 0x7F800000#32
  let main_v10 : FVec F S1x4x1536 .f32 := broadcastInDim S1x4x1536 ![] bcast_S_S1x4x1536 main_cst_2
  let main_v11 : IVec S1x4x1536 1 := cmpf .olt main_v9 main_v10
  let main_v12 : FVec F S1x1536 .f32 := Host.absf main_arg8
  let main_cst_3 : FVec F S_ .f32 := constant S_ .f32 0x7F800000#32
  let main_v13 : FVec F S1x1536 .f32 := broadcastInDim S1x1536 ![] bcast_S_S1x1536 main_cst_3
  let main_v14 : IVec S1x1536 1 := cmpf .olt main_v12 main_v13
  let main_v15 : FVec F S1x16 .f32 := Host.absf main_arg9
  let main_cst_4 : FVec F S_ .f32 := constant S_ .f32 0x7F800000#32
  let main_v16 : FVec F S1x16 .f32 := broadcastInDim S1x16 ![] bcast_S_S1x16 main_cst_4
  let main_v17 : IVec S1x16 1 := cmpf .olt main_v15 main_v16
  (main_v2, main_v5, main_v8, main_v11, main_v14, main_v17)
-- ==== FfnPrompt.lean ====
abbrev S8192x2048 : Shape := ⟨2, ![8192, 2048]⟩
abbrev S4x1x8192 : Shape := ⟨3, ![4, 1, 8192]⟩
abbrev S8x2048x1024 : Shape := ⟨3, ![8, 2048, 1024]⟩
abbrev S1x2048 : Shape := ⟨2, ![1, 2048]⟩
abbrev S2048 : Shape := ⟨1, ![2048]⟩
abbrev S512x2048 : Shape := ⟨2, ![512, 2048]⟩
abbrev S1x1x2048 : Shape := ⟨3, ![1, 1, 2048]⟩
abbrev S1x2048x1024 : Shape := ⟨3, ![1, 2048, 1024]⟩
abbrev S1024x2048 : Shape := ⟨2, ![1024, 2048]⟩
abbrev S2048x1024 : Shape := ⟨2, ![2048, 1024]⟩
abbrev S512x1024 : Shape := ⟨2, ![512, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S4x1x8192, .f32⟩
  | .hbm, ⟨2, _⟩ => ⟨S8x2048x1024, .bf16⟩
  | .hbm, ⟨3, _⟩ => ⟨S8192x2048, .bf16⟩
  | .hbm, ⟨4, _⟩ => ⟨S1x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048x1024, .bf16⟩
  | .local _ .vmem, ⟨9, _⟩ => ⟨S1x2048x1024, .bf16⟩
  | .local _ .vmem, ⟨10, _⟩ => ⟨S1024x2048, .bf16⟩
  | .local _ .vmem, ⟨11, _⟩ => ⟨S1024x2048, .bf16⟩
  | .local _ .vmem, ⟨12, _⟩ => ⟨S1x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c7_i32 : BitVec 32 := 7#32
  let v3 : BitVec 1 := Scalar.cmpi .slt arg1 c7_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c7_i32_2 : BitVec 32 := 7#32
  let v6 : BitVec 1 := Scalar.cmpi .eq arg1 c7_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== RefFfnPromptIdeal.lean ====
abbrev S8192x2048 : Shape := ⟨2, ![8192, 2048]⟩
abbrev S4x1x8192 : Shape := ⟨3, ![4, 1, 8192]⟩
abbrev S8x2048x1024 : Shape := ⟨3, ![8, 2048, 1024]⟩
abbrev S1x2048 : Shape := ⟨2, ![1, 2048]⟩
abbrev S4x2048x2048 : Shape := ⟨3, ![4, 2048, 2048]⟩
abbrev S2048x8x1024 : Shape := ⟨3, ![2048, 8, 1024]⟩
abbrev S2048x8192 : Shape := ⟨2, ![2048, 8192]⟩
abbrev S4x1x2048 : Shape := ⟨3, ![4, 1, 2048]⟩
abbrev S_ : Shape := ⟨0, ![]⟩
abbrev S4x2048x8192 : Shape := ⟨3, ![4, 2048, 8192]⟩
abbrev S4x2048 : Shape := ⟨2, ![4, 2048]⟩
abbrev S4x2048x1 : Shape := ⟨3, ![4, 2048, 1]⟩
abbrev S2048 : Shape := ⟨1, ![2048]⟩
abbrev S1x1x2048 : Shape := ⟨3, ![1, 1, 2048]⟩

abbrev nBuf : Space → Nat
  | .hbm => 68
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x1x8192, .f32⟩
  | .hbm, ⟨2, _⟩ => ⟨S8x2048x1024, .bf16⟩
  | .hbm, ⟨3, _⟩ => ⟨S8192x2048, .bf16⟩
  | .hbm, ⟨4, _⟩ => ⟨S1x2048, .f32⟩
  | .hbm, ⟨5, _⟩ => ⟨S1x2048, .f32⟩
  | .hbm, ⟨6, _⟩ => ⟨S4x2048x2048, .f32⟩
  | .hbm, ⟨7, _⟩ => ⟨S2048x8x1024, .bf16⟩
  | .hbm, ⟨8, _⟩ => ⟨S2048x8192, .bf16⟩
  | .hbm, ⟨9, _⟩ => ⟨S2048x8192, .f32⟩
  | .hbm, ⟨10, _⟩ => ⟨S8192x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S_, .f32⟩
  | .hbm, ⟨15, _⟩ => ⟨S4x1x2048, .f32⟩
  | .hbm, ⟨16, _⟩ => ⟨S4x1x2048, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S4x2048x8192, .f32⟩
  | .hbm, ⟨22, _⟩ => ⟨S_, .f32⟩
  | .hbm, ⟨23, _⟩ => ⟨S4x2048x8192, .f32⟩
  | .hbm, ⟨24, _⟩ => ⟨S4x2048x8192, .f32⟩
  | .hbm, ⟨25, _⟩ => ⟨S4x2048x8192, .f32⟩
  | .hbm, ⟨26, _⟩ => ⟨S4x2048x2048, .f32⟩
  | .hbm, ⟨27, _⟩ => ⟨S_, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x1x2048, .f32⟩
  | .hbm, ⟨32, _⟩ => ⟨S4x1x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S_, .f32⟩
  | .hbm, ⟨40, _⟩ => ⟨S4x2048x1, .f32⟩
  | .hbm, ⟨41, _⟩ => ⟨S4x2048x1, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S_, .f32⟩
  | .hbm, ⟨46, _⟩ => ⟨S4x2048, .f32⟩
  | .hbm, ⟨47, _⟩ => ⟨S4x2048x1, .f32⟩
  | .hbm, ⟨48, _⟩ => ⟨S_, .f32⟩
  | .hbm, ⟨49, _⟩ => ⟨S4x2048x1, .f32⟩
  | .hbm, ⟨50, _⟩ => ⟨S4x2048x1, .f32⟩
  | .hbm, ⟨51, _⟩ => ⟨S4x2048x2048, .f32⟩
  | .hbm, ⟨52, _⟩ => ⟨S4x2048x2048, .f32⟩
  | .hbm, ⟨53, _⟩ => ⟨S_, .f32⟩
  | .hbm, ⟨54, _⟩ => ⟨S4x2048x1, .f32⟩
  | .hbm, ⟨55, _⟩ => ⟨S4x2048x1, .f32⟩
  | .hbm, ⟨56, _⟩ => ⟨S4x2048x1, .f32⟩
  | .hbm, ⟨57, _⟩ => ⟨S4x2048x2048, .f32⟩
  | .hbm, ⟨58, _⟩ => ⟨S4x2048x2048, .f32⟩
  | .hbm, ⟨59, _⟩ => ⟨S2048, .f32⟩
  | .hbm, ⟨60, _⟩ => ⟨S1x1x2048, .f32⟩
  | .hbm, ⟨61, _⟩ => ⟨S4x2048x2048, .f32⟩
  | .hbm, ⟨62, _⟩ => ⟨S4x2048x2048, .f32⟩
  | .hbm, ⟨63, _⟩ => ⟨S2048, .f32⟩
  | .hbm, ⟨64, _⟩ => ⟨S1x1x2048, .f32⟩
  | .hbm, ⟨65, _⟩ => ⟨S4x2048x2048, .f32⟩
  | .hbm, ⟨66, _⟩ => ⟨S4x2048x2048, .f32⟩
  | .hbm, ⟨67, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== MixerSample.lean ====
abbrev S1024x1024 : Shape := ⟨2, ![1024, 1024]⟩
abbrev S1024x1536 : Shape := ⟨2, ![1024, 1536]⟩
abbrev S1024x128 : Shape := ⟨2, ![1024, 128]⟩
abbrev S1x128x16x64x128 : Shape := ⟨5, ![1, 128, 16, 64, 128]⟩
abbrev S1x128x3x1536 : Shape := ⟨4, ![1, 128, 3, 1536]⟩
abbrev S1x4x1536 : Shape := ⟨3, ![1, 4, 1536]⟩
abbrev S1x1536 : Shape := ⟨2, ![1, 1536]⟩
abbrev S1x16 : Shape := ⟨2, ![1, 16]⟩
abbrev S1x1024 : Shape := ⟨2, ![1, 1024]⟩
abbrev S1x8x128x128 : Shape := ⟨4, ![1, 8, 128, 128]⟩
abbrev S1x8x128 : Shape := ⟨3, ![1, 8, 128]⟩
abbrev S1024 : Shape := ⟨1, ![1024]⟩
abbrev S_ : Shape := ⟨0, ![]⟩
abbrev S128 : Shape := ⟨1, ![128]⟩
abbrev S128x1 : Shape := ⟨2, ![128, 1]⟩
abbrev S128x1024 : Shape := ⟨2, ![128, 1024]⟩
abbrev S384x1024 : Shape := ⟨2, ![384, 1024]⟩
abbrev S128x128 : Shape := ⟨2, ![128, 128]⟩
abbrev S128x384 : Shape := ⟨2, ![128, 384]⟩
abbrev S16 : Shape := ⟨1, ![16]⟩
abbrev S16x64 : Shape := ⟨2, ![16, 64]⟩
abbrev S1x128 : Shape := ⟨2, ![1, 128]⟩
abbrev S4x1536 : Shape := ⟨2, ![4, 1536]⟩
abbrev S1536 : Shape := ⟨1, ![1536]⟩
abbrev S8x128 : Shape := ⟨2, ![8, 128]⟩
abbrev S8x8 : Shape := ⟨2, ![8, 8]⟩
abbrev S8x8x128 : Shape := ⟨3, ![8, 8, 128]⟩
abbrev S8x1024 : Shape := ⟨2, ![8, 1024]⟩
abbrev S1x8x1x1024 : Shape := ⟨4, ![1, 8, 1, 1024]⟩
abbrev S16x8x1x1024 : Shape := ⟨4, ![16, 8, 1, 1024]⟩
abbrev S128x3x1536 : Shape := ⟨3, ![128, 3, 1536]⟩
abbrev S128x8x1536 : Shape := ⟨3, ![128, 8, 1536]⟩
abbrev S128x16x64x128 : Shape := ⟨4, ![128, 16, 64, 128]⟩
abbrev S128x1024x128 : Shape := ⟨3, ![128, 1024, 128]⟩
abbrev S8x128x128 : Shape := ⟨3, ![8, 128, 128]⟩
abbrev S1024x2048 : Shape := ⟨2, ![1024, 2048]⟩
abbrev S128x1536 : Shape := ⟨2, ![128, 1536]⟩
abbrev S16x1024x128 : Shape := ⟨3, ![16, 1024, 128]⟩
abbrev S128x2048 : Shape := ⟨2, ![128, 2048]⟩
abbrev S128x256 : Shape := ⟨2, ![128, 256]⟩
abbrev S1x128x128 : Shape := ⟨3, ![1, 128, 128]⟩
abbrev S8x256 : Shape := ⟨2, ![8, 256]⟩
abbrev S1x512x128 : Shape := ⟨3, ![1, 512, 128]⟩
abbrev S512x128 : Shape := ⟨2, ![512, 128]⟩
abbrev S8x512 : Shape := ⟨2, ![8, 512]⟩
abbrev S16x512 : Shape := ⟨2, ![16, 512]⟩
abbrev S16x256 : Shape := ⟨2, ![16, 256]⟩
abbrev S512x256 : Shape := ⟨2, ![512, 256]⟩
abbrev S128x512 : Shape := ⟨2, ![128, 512]⟩

abbrev nBuf : Space → Nat
  | .hbm => 85
  | .vmem => 33
  | .smem => 0
  | _ => 0

abbrev bufTy : (tb : Table) → Fin (tcTables nBuf tb) → BufTy
  | .hbm, ⟨0, _⟩ => ⟨S1024x1024, .f32⟩
  | .hbm, ⟨1, _⟩ => ⟨S1024x1536, .f32⟩
  | .hbm, ⟨2, _⟩ => ⟨S1024x128, .f32⟩
  | .hbm, ⟨3, _⟩ => ⟨S1024x1024, .f32⟩
  | .hbm, ⟨4, _⟩ => ⟨S1024x1024, .f32⟩
  | .hbm, ⟨5, _⟩ => ⟨S1x128x16x64x128, .f32⟩
  | .hbm, ⟨6, _⟩ => ⟨S1x128x3x1536, .f32⟩
  | .hbm, ⟨7, _⟩ => ⟨S1x4x1536, .f32⟩
  | .hbm, ⟨8, _⟩ => ⟨S1x1536, .f32⟩
  | .hbm, ⟨9, _⟩ => ⟨S1x16, .f32⟩
  | .hbm, ⟨10, _⟩ => ⟨S1x16, .f32⟩
  | .hbm, ⟨11, _⟩ => ⟨S1x1024, .f32⟩
  | .hbm, ⟨12, _⟩ => ⟨S1x8x128x128, .f32⟩
  | .hbm, ⟨13, _⟩ => ⟨S1x8x128, .f32⟩
  | .hbm, ⟨14, _⟩ => ⟨S1024, .i32⟩
  | .hbm, ⟨15, _⟩ => ⟨S_, .i32⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S1024, .i32⟩
  | .hbm, ⟨24, _⟩ => ⟨S1024, .i32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S1024, .i1⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S128, .i32⟩
  | .hbm, ⟨34, _⟩ => ⟨S128x1, .i32⟩
  | .hbm, ⟨35, _⟩ => ⟨S1x1024, .i32⟩
  | .hbm, ⟨36, _⟩ => ⟨S128x1024, .i32⟩
  | .hbm, ⟨37, _⟩ => ⟨S128x1024, .i32⟩
  | .hbm, ⟨38, _⟩ => ⟨S128x1024, .i1⟩
  | .hbm, ⟨39, _⟩ => ⟨S128x1024, .bf16⟩
  | .hbm, ⟨40, _⟩ => ⟨S384x1024, .bf16⟩
  | .hbm, ⟨41, _⟩ => ⟨S_, .bf16⟩
  | .hbm, ⟨42, _⟩ => ⟨S128x128, .bf16⟩
  | .hbm, ⟨43, _⟩ => ⟨S128x128, .i32⟩
  | .hbm, ⟨44, _⟩ => ⟨S_, .i32⟩
  | .hbm, ⟨45, _⟩ => ⟨S128x128, .i32⟩
  | .hbm, ⟨46, _⟩ => ⟨S128x128, .i32⟩
  | .hbm, ⟨47, _⟩ => ⟨S128x128, .i32⟩
  | .hbm, ⟨48, _⟩ => ⟨S128x128, .i1⟩
  | .hbm, ⟨49, _⟩ => ⟨S_, .bf16⟩
  | .hbm, ⟨50, _⟩ => ⟨S128x128, .bf16⟩
  | .hbm, ⟨51, _⟩ => ⟨S128x128, .bf16⟩
  | .hbm, ⟨52, _⟩ => ⟨S128x384, .bf16⟩
  | .hbm, ⟨53, _⟩ => ⟨S16, .f32⟩
  | .hbm, ⟨54, _⟩ => ⟨S16x64, .f32⟩
  | .hbm, ⟨55, _⟩ => ⟨S1024, .f32⟩
  | .hbm, ⟨56, _⟩ => ⟨S1x1024, .f32⟩
  | .hbm, ⟨57, _⟩ => ⟨S16, .f32⟩
  | .hbm, ⟨58, _⟩ => ⟨S1x16, .f32⟩
  | .hbm, ⟨59, _⟩ => ⟨S_, .i32⟩
  | .hbm, ⟨60, _⟩ => ⟨S_, .f32⟩
  | .hbm, ⟨61, _⟩ => ⟨S1x128, .f32⟩
  | .hbm, ⟨62, _⟩ => ⟨S4x1536, .f32⟩
  | .hbm, ⟨63, _⟩ => ⟨S1536, .f32⟩
  | .hbm, ⟨64, _⟩ => ⟨S1x1536, .f32⟩
  | .hbm, ⟨65, _⟩ => ⟨S1024, .f32⟩
  | .hbm, ⟨66, _⟩ => ⟨S1x1024, .f32⟩
  | .hbm, ⟨67, _⟩ => ⟨S8x128, .f32⟩
  | .hbm, ⟨68, _⟩ => ⟨S8x8, .f32⟩
  | .hbm, ⟨69, _⟩ => ⟨S8x8, .f32⟩
  | .hbm, ⟨70, _⟩ => ⟨S8x8x128, .f32⟩
  | .hbm, ⟨71, _⟩ => ⟨S8x1024, .f32⟩
  | .hbm, ⟨72, _⟩ => ⟨S1x8x1x1024, .f32⟩
  | .hbm, ⟨73, _⟩ => ⟨S16x8x1x1024, .f32⟩
  | .hbm, ⟨74, _⟩ => ⟨S128x1024, .f32⟩
  | .hbm, ⟨75, _⟩ => ⟨S128x3x1536, .f32⟩
  | .hbm, ⟨76, _⟩ => ⟨S_, .i32⟩
  | .hbm, ⟨77, _⟩ => ⟨S_, .f32⟩
  | .hbm, ⟨78, _⟩ => ⟨S128x8x1536, .f32⟩
  | .hbm, ⟨79, _⟩ => ⟨S1024x1536, .f32⟩
  | .hbm, ⟨80, _⟩ => ⟨S128x16x64x128, .f32⟩
  | .hbm, ⟨81, _⟩ => ⟨S128x1024x128, .f32⟩
  | .hbm, ⟨82, _⟩ => ⟨S8x128x128, .f32⟩
  | .hbm, ⟨83, _⟩ => ⟨S1024x2048, .bf16⟩
  | .hbm, ⟨84, _⟩ => ⟨S128x1024x128, .f32⟩
  | .local _ .vmem, ⟨0, _⟩ => ⟨S128x1024, .f32⟩
  | .local _ .vmem, ⟨1, _⟩ => ⟨S128x1024, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x128, .f32⟩
  | .local _ .vmem, ⟨7, _⟩ => ⟨S128x128, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S16x1024x128, .f32⟩
  | .local _ .vmem, ⟨13, _⟩ => ⟨S16x1024x128, .f32⟩
  | .local _ .vmem, ⟨14, _⟩ => ⟨S4x1536, .f32⟩
  | .local _ .vmem, ⟨15, _⟩ => ⟨S1x1536, .f32⟩
  | .local _ .vmem, ⟨16, _⟩ => ⟨S1x128, .f32⟩
  | .local _ .vmem, ⟨17, _⟩ => ⟨S1x1024, .f32⟩
  | .local _ .vmem, ⟨18, _⟩ => ⟨S384x1024, .bf16⟩
  | .local _ .vmem, ⟨19, _⟩ => ⟨S128x384, .bf16⟩
  | .local _ .vmem, ⟨20, _⟩ => ⟨S1x1024, .f32⟩
  | .local _ .vmem, ⟨21, _⟩ => ⟨S8x128x128, .f32⟩
  | .local _ .vmem, ⟨22, _⟩ => ⟨S128x1024, .f32⟩
  | .local _ .vmem, ⟨23, _⟩ => ⟨S128x2048, .bf16⟩
  | .local _ .vmem, ⟨24, _⟩ => ⟨S128x2048, .bf16⟩
  | .local _ .vmem, ⟨25, _⟩ => ⟨S16x1024x128, .f32⟩
  | .local _ .vmem, ⟨26, _⟩ => ⟨S16x1024x128, .f32⟩
  | .local _ .vmem, ⟨27, _⟩ => ⟨S128x256, .f32⟩
  | .local _ .vmem, ⟨28, _⟩ => ⟨S128x256, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | .local _ .vmem, ⟨32, _⟩ => ⟨S8x128x128, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst : Ref sig .tc := ⟨.hbm, 41, rfl⟩
abbrev main_v10 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_cst : Ref sig .tc := ⟨.hbm, 49, rfl⟩
abbrev main_call1_v5 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_0 : Ref sig .tc := ⟨.hbm, 59, rfl⟩
abbrev main_call2_v0 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_c_1 : Ref sig .tc := ⟨.hbm, 76, rfl⟩
abbrev main_call3_v0 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39_0 : Ref sig .tc := ⟨.hbm, 83, rfl⟩
abbrev main_v39_1 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![8], ![false]⟩

def k0_mult1 : BitVec 32 :=
  let c0_i32_162 : BitVec 32 := 0#32
  let c8_i32_163 : BitVec 32 := 8#32
  let v597 : BitVec 32 := Scalar.muli c0_i32_162 c8_i32_163
  v597
def k0_off1 (c0_i32_162 : BitVec 32) : Fin 2 → Nat :=
  let c8_i32_163 : BitVec 32 := 8#32
  let v597 : BitVec 32 := Scalar.muli c0_i32_162 c8_i32_163
  let v598 : BitVec 32 := v597
  let v602 : Index := Scalar.indexCast v598
  let c0_166 : Index := 0#32
  ![v602.toNat, 0]
def k0_off2 (c0_i32_162 : BitVec 32) : Fin 2 → Nat :=
  let c8_i32_163 : BitVec 32 := 8#32
  let v597 : BitVec 32 := Scalar.muli c0_i32_162 c8_i32_163
  let v598 : BitVec 32 := v597
  let v607 : Index := Scalar.indexCast v598
  let c0_168 : Index := 0#32
  ![v607.toNat, 0]
def k0_off3 (c0_i32_162 : BitVec 32) : Fin 2 → Nat :=
  let c8_i32_163 : BitVec 32 := 8#32
  let v597 : BitVec 32 := Scalar.muli c0_i32_162 c8_i32_163
  let v598 : BitVec 32 := v597
  let v634 : Index := Scalar.indexCast v598
  let c128 : Index := 128#32
  ![v634.toNat, 128]
def k0_off4 (c0_i32_162 : BitVec 32) : Fin 2 → Nat :=
  let c8_i32_163 : BitVec 32 := 8#32
  let v597 : BitVec 32 := Scalar.muli c0_i32_162 c8_i32_163
  let v598 : BitVec 32 := v597
  let v639 : Index := Scalar.indexCast v598
  let c512_177 : Index := 512#32
  ![v639.toNat, 512]
def k0_mult2 : BitVec 32 :=
  let c1_i32_184 : BitVec 32 := 1#32
  let c8_i32_185 : BitVec 32 := 8#32
  let v663 : BitVec 32 := Scalar.muli c1_i32_184 c8_i32_185
  v663
def k0_mult3 : BitVec 32 :=
  let c2_i32_208 : BitVec 32 := 2#32
  let c8_i32_209 : BitVec 32 := 8#32
  let v729 : BitVec 32 := Scalar.muli c2_i32_208 c8_i32_209
  v729
def k0_mult4 : BitVec 32 :=
  let c3_i32_232 : BitVec 32 := 3#32
  let c8_i32_233 : BitVec 32 := 8#32
  let v795 : BitVec 32 := Scalar.muli c3_i32_232 c8_i32_233
  v795
def k0_mult5 : BitVec 32 :=
  let c4_i32_256 : BitVec 32 := 4#32
  let c8_i32_257 : BitVec 32 := 8#32
  let v861 : BitVec 32 := Scalar.muli c4_i32_256 c8_i32_257
  v861
def k0_mult6 : BitVec 32 :=
  let c5_i32 : BitVec 32 := 5#32
  let c8_i32_280 : BitVec 32 := 8#32
  let v927 : BitVec 32 := Scalar.muli c5_i32 c8_i32_280
  v927
def k0_mult7 : BitVec 32 :=
  let c6_i32 : BitVec 32 := 6#32
  let c8_i32_303 : BitVec 32 := 8#32
  let v993 : BitVec 32 := Scalar.muli c6_i32 c8_i32_303
  v993
def k0_mult8 : BitVec 32 :=
  let c7_i32_326 : BitVec 32 := 7#32
  let c8_i32_327 : BitVec 32 := 8#32
  let v1059 : BitVec 32 := Scalar.muli c7_i32_326 c8_i32_327
  v1059
def k0_mult9 : BitVec 32 :=
  let c8_i32_350 : BitVec 32 := 8#32
  let c8_i32_351 : BitVec 32 := 8#32
  let v1125 : BitVec 32 := Scalar.muli c8_i32_350 c8_i32_351
  v1125
def k0_mult10 : BitVec 32 :=
  let c9_i32 : BitVec 32 := 9#32
  let c8_i32_374 : BitVec 32 := 8#32
  let v1191 : BitVec 32 := Scalar.muli c9_i32 c8_i32_374
  v1191
def k0_mult11 : BitVec 32 :=
  let c10_i32 : BitVec 32 := 10#32
  let c8_i32_397 : BitVec 32 := 8#32
  let v1257 : BitVec 32 := Scalar.muli c10_i32 c8_i32_397
  v1257
def k0_mult12 : BitVec 32 :=
  let c11_i32 : BitVec 32 := 11#32
  let c8_i32_420 : BitVec 32 := 8#32
  let v1323 : BitVec 32 := Scalar.muli c11_i32 c8_i32_420
  v1323
def k0_mult13 : BitVec 32 :=
  let c12_i32 : BitVec 32 := 12#32
  let c8_i32_443 : BitVec 32 := 8#32
  let v1389 : BitVec 32 := Scalar.muli c12_i32 c8_i32_443
  v1389
def k0_mult14 : BitVec 32 :=
  let c13_i32 : BitVec 32 := 13#32
  let c8_i32_466 : BitVec 32 := 8#32
  let v1455 : BitVec 32 := Scalar.muli c13_i32 c8_i32_466
  v1455
def k0_mult15 : BitVec 32 :=
  let c14_i32 : BitVec 32 := 14#32
  let c8_i32_489 : BitVec 32 := 8#32
  let v1521 : BitVec 32 := Scalar.muli c14_i32 c8_i32_489
  v1521
def k0_mult16 : BitVec 32 :=
  let c15_i32 : BitVec 32 := 15#32
  let c8_i32_512 : BitVec 32 := 8#32
  let v1587 : BitVec 32 := Scalar.muli c15_i32 c8_i32_512
  v1587
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x384 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x1024x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MixerSampleIdeal.lean ====
variable {F : FTy → Type} [FloatOps F] [Named F]
def κ : String → Option EReal := fun
  | "log2e" => some (((Real.log 2)⁻¹ : ℝ) : EReal)
  | _ => none
-- ==== RefSampleIdeal.lean ====
abbrev S1024x1024 : Shape := ⟨2, ![1024, 1024]⟩
abbrev S1024x1536 : Shape := ⟨2, ![1024, 1536]⟩
abbrev S1024x128 : Shape := ⟨2, ![1024, 128]⟩
abbrev S1x128x16x64x128 : Shape := ⟨5, ![1, 128, 16, 64, 128]⟩
abbrev S1x128x3x1536 : Shape := ⟨4, ![1, 128, 3, 1536]⟩
abbrev S1x4x1536 : Shape := ⟨3, ![1, 4, 1536]⟩
abbrev S1x1536 : Shape := ⟨2, ![1, 1536]⟩
abbrev S1x16 : Shape := ⟨2, ![1, 16]⟩
abbrev S1x1024 : Shape := ⟨2, ![1, 1024]⟩
abbrev S1x8x128x128 : Shape := ⟨4, ![1, 8, 128, 128]⟩
abbrev S1x8x128 : Shape := ⟨3, ![1, 8, 128]⟩
abbrev S128x3x1536 : Shape := ⟨3, ![128, 3, 1536]⟩
abbrev S128x8x1536 : Shape := ⟨3, ![128, 8, 1536]⟩
abbrev S128x11x1536 : Shape := ⟨3, ![128, 11, 1536]⟩
abbrev S1x1x1536 : Shape := ⟨3, ![1, 1, 1536]⟩
abbrev S1536 : Shape := ⟨1, ![1536]⟩
abbrev S_ : Shape := ⟨0, ![]⟩
abbrev S128x8x1024 : Shape := ⟨3, ![128, 8, 1024]⟩
abbrev S128x8x16x64 : Shape := ⟨4, ![128, 8, 16, 64]⟩
abbrev S128x8x256 : Shape := ⟨3, ![128, 8, 256]⟩
abbrev S128x8x2x128 : Shape := ⟨4, ![128, 8, 2, 128]⟩
abbrev S1024x16 : Shape := ⟨2, ![1024, 16]⟩
abbrev S128x8x16 : Shape := ⟨3, ![128, 8, 16]⟩
abbrev S16 : Shape := ⟨1, ![16]⟩
abbrev S128x8x2x8x128 : Shape := ⟨5, ![128, 8, 2, 8, 128]⟩
abbrev S128x8x16x128 : Shape := ⟨4, ![128, 8, 16, 128]⟩
abbrev S1x1x16 : Shape := ⟨3, ![1, 1, 16]⟩
abbrev S128x8x1x16 : Shape := ⟨4, ![128, 8, 1, 16]⟩
abbrev S128x1x8x16 : Shape := ⟨4, ![128, 1, 8, 16]⟩
abbrev S128x8x8x16 : Shape := ⟨4, ![128, 8, 8, 16]⟩
abbrev S8x8 : Shape := ⟨2, ![8, 8]⟩
abbrev S8x8x1 : Shape := ⟨3, ![8, 8, 1]⟩
abbrev S128x8x16x1 : Shape := ⟨4, ![128, 8, 16, 1]⟩
abbrev S128x16x8x8 : Shape := ⟨4, ![128, 16, 8, 8]⟩
abbrev S128x16x64x8 : Shape := ⟨4, ![128, 16, 64, 8]⟩
abbrev S128x1x16 : Shape := ⟨3, ![128, 1, 16]⟩
abbrev S128x16x64x128 : Shape := ⟨4, ![128, 16, 64, 128]⟩
abbrev S128x16 : Shape := ⟨2, ![128, 16]⟩
abbrev S128x16x1x1 : Shape := ⟨4, ![128, 16, 1, 1]⟩
abbrev S16x1 : Shape := ⟨2, ![16, 1]⟩
abbrev S1x1x16x1 : Shape := ⟨4, ![1, 1, 16, 1]⟩
abbrev S1024x2x512 : Shape := ⟨3, ![1024, 2, 512]⟩
abbrev S1024x2 : Shape := ⟨2, ![1024, 2]⟩
abbrev S1024x2x1 : Shape := ⟨3, ![1024, 2, 1]⟩
abbrev S1024 : Shape := ⟨1, ![1024]⟩
abbrev S8x128x128 : Shape := ⟨3, ![8, 128, 128]⟩
abbrev S8x8x8 : Shape := ⟨3, ![8, 8, 8]⟩
abbrev S128x8x8x128 : Shape := ⟨4, ![128, 8, 8, 128]⟩
abbrev S8x128x128x8 : Shape := ⟨4, ![8, 128, 128, 8]⟩
abbrev S8x128 : Shape := ⟨2, ![8, 128]⟩
abbrev S1x8x8x1 : Shape := ⟨4, ![1, 8, 8, 1]⟩
abbrev S1024x2048 : Shape := ⟨2, ![1024, 2048]⟩
abbrev S128x1024x128 : Shape := ⟨3, ![128, 1024, 128]⟩

abbrev nBuf : Space → Nat
  | .hbm => 191
  | .vmem => 0
  | .smem => 0
  | _ => 0

abbrev hbmTy0_0 (i : Nat) : BufTy := match i % 128 with
  | 0 => ⟨S1024x1024, .f32⟩
  | 1 => ⟨S1024x1536, .f32⟩
  | 2 => ⟨S1024x128, .f32⟩
  | 3 => ⟨S1024x1024, .f32⟩
  | 4 => ⟨S1024x1024, .f32⟩
  | 5 => ⟨S1x128x16x64x128, .f32⟩
  | 6 => ⟨S1x128x3x1536, .f32⟩
  | 7 => ⟨S1x4x1536, .f32⟩
  | 8 => ⟨S1x1536, .f32⟩
  | 9 => ⟨S1x16, .f32⟩
  | 10 => ⟨S1x16, .f32⟩
  | 11 => ⟨S1x1024, .f32⟩
  | 12 => ⟨S1x8x128x128, .f32⟩
  | 13 => ⟨S1x8x128, .f32⟩
  | 14 => ⟨S128x3x1536, .f32⟩
  | 15 => ⟨S128x8x1536, .f32⟩
  | 16 => ⟨S128x11x1536, .f32⟩
  | 17 => ⟨S128x8x1536, .f32⟩
  | 18 => ⟨S1x1x1536, .f32⟩
  | 19 => ⟨S1536, .f32⟩
  | 20 => ⟨S1x1x1536, .f32⟩
  | 21 => ⟨S128x8x1536, .f32⟩
  | 22 => ⟨S128x8x1536, .f32⟩
  | 23 => ⟨S128x8x1536, .f32⟩
  | 24 => ⟨S1x1x1536, .f32⟩
  | 25 => ⟨S1536, .f32⟩
  | 26 => ⟨S1x1x1536, .f32⟩
  | 27 => ⟨S128x8x1536, .f32⟩
  | 28 => ⟨S128x8x1536, .f32⟩
  | 29 => ⟨S128x8x1536, .f32⟩
  | 30 => ⟨S128x8x1536, .f32⟩
  | 31 => ⟨S1x1x1536, .f32⟩
  | 32 => ⟨S1536, .f32⟩
  | 33 => ⟨S1x1x1536, .f32⟩
  | 34 => ⟨S128x8x1536, .f32⟩
  | 35 => ⟨S128x8x1536, .f32⟩
  | 36 => ⟨S128x8x1536, .f32⟩
  | 37 => ⟨S128x8x1536, .f32⟩
  | 38 => ⟨S1x1x1536, .f32⟩
  | 39 => ⟨S1536, .f32⟩
  | 40 => ⟨S1x1x1536, .f32⟩
  | 41 => ⟨S128x8x1536, .f32⟩
  | 42 => ⟨S128x8x1536, .f32⟩
  | 43 => ⟨S128x8x1536, .f32⟩
  | 44 => ⟨S1536, .f32⟩
  | 45 => ⟨S1x1x1536, .f32⟩
  | 46 => ⟨S128x8x1536, .f32⟩
  | 47 => ⟨S128x8x1536, .f32⟩
  | 48 => ⟨S128x8x1536, .f32⟩
  | 49 => ⟨S128x8x1536, .f32⟩
  | 50 => ⟨S_, .f32⟩
  | 51 => ⟨S128x8x1536, .f32⟩
  | 52 => ⟨S128x8x1536, .f32⟩
  | 53 => ⟨S_, .f32⟩
  | 54 => ⟨S128x8x1536, .f32⟩
  | 55 => ⟨S128x8x1536, .f32⟩
  | 56 => ⟨S128x8x1536, .f32⟩
  | 57 => ⟨S128x8x1024, .f32⟩
  | 58 => ⟨S128x8x16x64, .f32⟩
  | 59 => ⟨S128x8x256, .f32⟩
  | 60 => ⟨S128x8x2x128, .f32⟩
  | 61 => ⟨S128x8x256, .f32⟩
  | 62 => ⟨S128x8x2x128, .f32⟩
  | 63 => ⟨S1024x16, .f32⟩
  | 64 => ⟨S128x8x16, .f32⟩
  | 65 => ⟨S16, .f32⟩
  | 66 => ⟨S16, .f32⟩
  | 67 => ⟨S16, .f32⟩
  | 68 => ⟨S128x8x2x8x128, .f32⟩
  | 69 => ⟨S128x8x16x128, .f32⟩
  | 70 => ⟨S128x8x2x8x128, .f32⟩
  | 71 => ⟨S128x8x16x128, .f32⟩
  | 72 => ⟨S1x1x16, .f32⟩
  | 73 => ⟨S128x8x16, .f32⟩
  | 74 => ⟨S128x8x16, .f32⟩
  | 75 => ⟨S_, .f32⟩
  | 76 => ⟨S_, .f32⟩
  | 77 => ⟨S128x8x16, .f32⟩
  | 78 => ⟨S128x8x1x16, .f32⟩
  | 79 => ⟨S128x1x8x16, .f32⟩
  | 80 => ⟨S128x8x8x16, .f32⟩
  | 81 => ⟨S128x8x8x16, .f32⟩
  | 82 => ⟨S128x8x8x16, .f32⟩
  | 83 => ⟨S_, .i1⟩
  | 84 => ⟨S8x8, .i1⟩
  | 85 => ⟨S8x8, .i32⟩
  | 86 => ⟨S_, .i32⟩
  | 87 => ⟨S8x8, .i32⟩
  | 88 => ⟨S8x8, .i32⟩
  | 89 => ⟨S8x8, .i32⟩
  | 90 => ⟨S8x8, .i1⟩
  | 91 => ⟨S_, .i1⟩
  | 92 => ⟨S8x8, .i1⟩
  | 93 => ⟨S8x8, .i1⟩
  | 94 => ⟨S8x8x1, .i1⟩
  | 95 => ⟨S_, .f32⟩
  | 96 => ⟨S_, .f32⟩
  | 97 => ⟨S128x8x8x16, .i1⟩
  | 98 => ⟨S128x8x8x16, .f32⟩
  | 99 => ⟨S128x8x8x16, .f32⟩
  | 100 => ⟨S128x8x8x16, .f32⟩
  | 101 => ⟨S128x8x16x1, .f32⟩
  | 102 => ⟨S128x8x16x64, .f32⟩
  | 103 => ⟨S128x8x16x64, .f32⟩
  | 104 => ⟨S128x16x8x8, .f32⟩
  | 105 => ⟨S128x8x8x16, .f32⟩
  | 106 => ⟨S128x8x8x16, .f32⟩
  | 107 => ⟨S128x16x64x8, .f32⟩
  | 108 => ⟨S128x8x16x64, .f32⟩
  | 109 => ⟨S128x1x16, .f32⟩
  | 110 => ⟨S128x8x16, .f32⟩
  | 111 => ⟨S128x8x16, .f32⟩
  | 112 => ⟨S128x8x16, .f32⟩
  | 113 => ⟨S128x8x16x1, .f32⟩
  | 114 => ⟨S128x8x16x128, .f32⟩
  | 115 => ⟨S128x8x16x128, .f32⟩
  | 116 => ⟨S128x16x64x128, .f32⟩
  | 117 => ⟨S128x1x16, .f32⟩
  | 118 => ⟨S128x16, .f32⟩
  | 119 => ⟨S128x16, .f32⟩
  | 120 => ⟨S128x16x64x128, .f32⟩
  | 121 => ⟨S128x16x1x1, .f32⟩
  | 122 => ⟨S128x16x64x128, .f32⟩
  | 123 => ⟨S128x16x64x128, .f32⟩
  | 124 => ⟨S128x16x64x128, .f32⟩
  | 125 => ⟨S128x16x64x8, .f32⟩
  | 126 => ⟨S128x8x16x64, .f32⟩
  | 127 => ⟨S128x8x16, .f32⟩
  | _ => ⟨S1024x1024, .f32⟩

abbrev hbmTy0_1 (i : Nat) : BufTy := match i % 128 with
  | 0 => ⟨S128x8x16x1, .f32⟩
  | 1 => ⟨S128x8x16x64, .f32⟩
  | 2 => ⟨S128x8x16x64, .f32⟩
  | 3 => ⟨S128x8x16x64, .f32⟩
  | 4 => ⟨S16, .f32⟩
  | 5 => ⟨S16x1, .f32⟩
  | 6 => ⟨S1x1x16x1, .f32⟩
  | 7 => ⟨S128x8x16x64, .f32⟩
  | 8 => ⟨S128x8x16x64, .f32⟩
  | 9 => ⟨S128x8x16x64, .f32⟩
  | 10 => ⟨S1024x1024, .f32⟩
  | 11 => ⟨S1024x1024, .f32⟩
  | 12 => ⟨S1024x2x512, .f32⟩
  | 13 => ⟨S1024x2x512, .f32⟩
  | 14 => ⟨S_, .f32⟩
  | 15 => ⟨S1024x2, .f32⟩
  | 16 => ⟨S1024x2x1, .f32⟩
  | 17 => ⟨S_, .f32⟩
  | 18 => ⟨S1024x2x1, .f32⟩
  | 19 => ⟨S1024x2x1, .f32⟩
  | 20 => ⟨S_, .f32⟩
  | 21 => ⟨S1024x2x1, .f32⟩
  | 22 => ⟨S1024x2x1, .f32⟩
  | 23 => ⟨S1024x2x1, .f32⟩
  | 24 => ⟨S1024x2x512, .f32⟩
  | 25 => ⟨S1024x2x512, .f32⟩
  | 26 => ⟨S1024x1024, .f32⟩
  | 27 => ⟨S1024, .f32⟩
  | 28 => ⟨S1x1024, .f32⟩
  | 29 => ⟨S1024x1024, .f32⟩
  | 30 => ⟨S1024x1024, .f32⟩
  | 31 => ⟨S_, .i1⟩
  | 32 => ⟨S8x8, .i1⟩
  | 33 => ⟨S8x8, .i32⟩
  | 34 => ⟨S_, .i32⟩
  | 35 => ⟨S8x8, .i32⟩
  | 36 => ⟨S8x8, .i32⟩
  | 37 => ⟨S8x8, .i32⟩
  | 38 => ⟨S8x8, .i1⟩
  | 39 => ⟨S_, .i1⟩
  | 40 => ⟨S8x8, .i1⟩
  | 41 => ⟨S8x8, .i1⟩
  | 42 => ⟨S8x128x128, .f32⟩
  | 43 => ⟨S8x8x8, .f32⟩
  | 44 => ⟨S_, .f32⟩
  | 45 => ⟨S_, .f32⟩
  | 46 => ⟨S8x8x8, .i1⟩
  | 47 => ⟨S8x8x8, .f32⟩
  | 48 => ⟨S8x8x8, .f32⟩
  | 49 => ⟨S128x8x8x128, .f32⟩
  | 50 => ⟨S8x128x128x8, .f32⟩
  | 51 => ⟨S128x8x8x128, .f32⟩
  | 52 => ⟨S8x128, .f32⟩
  | 53 => ⟨S8x8, .f32⟩
  | 54 => ⟨S8x8, .f32⟩
  | 55 => ⟨S1x8x8x1, .f32⟩
  | 56 => ⟨S128x8x8x128, .f32⟩
  | 57 => ⟨S128x8x8x128, .f32⟩
  | 58 => ⟨S1024x1024, .f32⟩
  | 59 => ⟨S1024x1024, .f32⟩
  | 60 => ⟨S1024x2048, .f32⟩
  | 61 => ⟨S1024x2048, .bf16⟩
  | 62 => ⟨S128x1024x128, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call1_call0_cst : Ref sig .tc := ⟨.hbm, 75, rfl⟩
abbrev main_call1_call0_v0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c : Ref sig .tc := ⟨.hbm, 83, rfl⟩
abbrev main_v59 : Ref sig .tc := ⟨.hbm, 84, rfl⟩
abbrev main_call2_v0 : Ref sig .tc := ⟨.hbm, 85, rfl⟩
abbrev main_call2_c : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_c_0 : Ref sig .tc := ⟨.hbm, 91, rfl⟩
abbrev main_call2_v5 : Ref sig .tc := ⟨.hbm, 92, rfl⟩
abbrev main_v60 : Ref sig .tc := ⟨.hbm, 93, rfl⟩
abbrev main_v61 : Ref sig .tc := ⟨.hbm, 94, rfl⟩
abbrev main_cst : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_0 : Ref sig .tc := ⟨.hbm, 142, rfl⟩
abbrev main_v105 : Ref sig .tc := ⟨.hbm, 143, rfl⟩
abbrev main_v106 : Ref sig .tc := ⟨.hbm, 144, rfl⟩
abbrev main_cst_1 : Ref sig .tc := ⟨.hbm, 145, rfl⟩
abbrev main_v107 : Ref sig .tc := ⟨.hbm, 146, rfl⟩
abbrev main_v108 : Ref sig .tc := ⟨.hbm, 147, rfl⟩
abbrev main_cst_2 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_c_3 : Ref sig .tc := ⟨.hbm, 159, rfl⟩
abbrev main_v119 : Ref sig .tc := ⟨.hbm, 160, rfl⟩
abbrev main_call4_v0 : Ref sig .tc := ⟨.hbm, 161, rfl⟩
abbrev main_call4_c : Ref sig .tc := ⟨.hbm, 162, rfl⟩
abbrev main_call4_v1 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_call4_c_0 : Ref sig .tc := ⟨.hbm, 167, rfl⟩
abbrev main_call4_v5 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_4 : Ref sig .tc := ⟨.hbm, 172, rfl⟩
abbrev main_call5_v0 : Ref sig .tc := ⟨.hbm, 173, rfl⟩
abbrev main_call5_v1 : Ref sig .tc := ⟨.hbm, 174, rfl⟩
abbrev main_call5_v2 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩

abbrev nD : Nat := 1
abbrev τ : Topo := Topo.v7x

variable {F : FTy → Type} [FloatOps F]
-- ==== InprojPrompt.lean ====
abbrev S8192x2048 : Shape := ⟨2, ![8192, 2048]⟩
abbrev S4x1x4096 : Shape := ⟨3, ![4, 1, 4096]⟩
abbrev S1x2048 : Shape := ⟨2, ![1, 2048]⟩
abbrev S1x128 : Shape := ⟨2, ![1, 128]⟩
abbrev S1x1024 : Shape := ⟨2, ![1, 1024]⟩
abbrev S2048x2688 : Shape := ⟨2, ![2048, 2688]⟩
abbrev S2048x2048 : Shape := ⟨2, ![2048, 2048]⟩
abbrev S136x2048 : Shape := ⟨2, ![136, 2048]⟩
abbrev S2048x12288 : Shape := ⟨2, ![2048, 12288]⟩
abbrev S1x12288 : Shape := ⟨2, ![1, 12288]⟩
abbrev S8192x1024 : Shape := ⟨2, ![8192, 1024]⟩
abbrev S8192x1536 : Shape := ⟨2, ![8192, 1536]⟩
abbrev S8192x128 : Shape := ⟨2, ![8192, 128]⟩
abbrev S136x8192 : Shape := ⟨2, ![136, 8192]⟩
abbrev S256x2048 : Shape := ⟨2, ![256, 2048]⟩
abbrev S1x1x2048 : Shape := ⟨3, ![1, 1, 2048]⟩
abbrev S64x2048 : Shape := ⟨2, ![64, 2048]⟩
abbrev S2048x256 : Shape := ⟨2, ![2048, 256]⟩
abbrev S1x256 : Shape := ⟨2, ![1, 256]⟩
abbrev S256x1024 : Shape := ⟨2, ![256, 1024]⟩
abbrev S256x1536 : Shape := ⟨2, ![256, 1536]⟩
abbrev S256x128 : Shape := ⟨2, ![256, 128]⟩
abbrev S136x256 : Shape := ⟨2, ![136, 256]⟩
abbrev S256 : Shape := ⟨1, ![256]⟩
abbrev S256x1 : Shape := ⟨2, ![256, 1]⟩
abbrev S2048x1024 : Shape := ⟨2, ![2048, 1024]⟩
abbrev S2048x1536 : Shape := ⟨2, ![2048, 1536]⟩
abbrev S2048x128 : Shape := ⟨2, ![2048, 128]⟩
abbrev S4x2048x1536 : Shape := ⟨3, ![4, 2048, 1536]⟩
abbrev S4x3x1536 : Shape := ⟨3, ![4, 3, 1536]⟩

abbrev nBuf : Space → Nat
  | .hbm => 23
  | .vmem => 36
  | .smem => 0
  | _ => 0

abbrev bufTy : (tb : Table) → Fin (tcTables nBuf tb) → BufTy
  | .hbm, ⟨0, _⟩ => ⟨S8192x2048, .f32⟩
  | .hbm, ⟨1, _⟩ => ⟨S4x1x4096, .f32⟩
  | .hbm, ⟨2, _⟩ => ⟨S1x2048, .f32⟩
  | .hbm, ⟨3, _⟩ => ⟨S1x2048, .f32⟩
  | .hbm, ⟨4, _⟩ => ⟨S1x128, .f32⟩
  | .hbm, ⟨5, _⟩ => ⟨S1x1024, .f32⟩
  | .hbm, ⟨6, _⟩ => ⟨S1x1024, .f32⟩
  | .hbm, ⟨7, _⟩ => ⟨S2048x2688, .bf16⟩
  | .hbm, ⟨8, _⟩ => ⟨S2048x2048, .bf16⟩
  | .hbm, ⟨9, _⟩ => ⟨S2048x2048, .f32⟩
  | .hbm, ⟨10, _⟩ => ⟨S136x2048, .bf16⟩
  | .hbm, ⟨11, _⟩ => ⟨S2048x12288, .f32⟩
  | .hbm, ⟨12, _⟩ => ⟨S1x12288, .f32⟩
  | .hbm, ⟨13, _⟩ => ⟨S8192x1024, .f32⟩
  | .hbm, ⟨14, _⟩ => ⟨S8192x1536, .f32⟩
  | .hbm, ⟨15, _⟩ => ⟨S8192x128, .f32⟩
  | .hbm, ⟨16, _⟩ => ⟨S8192x1024, .f32⟩
  | .hbm, ⟨17, _⟩ => ⟨S8192x1024, .f32⟩
  | .hbm, ⟨18, _⟩ => ⟨S8192x2048, .f32⟩
  | .hbm, ⟨19, _⟩ => ⟨S2048x2048, .bf16⟩
  | .hbm, ⟨20, _⟩ => ⟨S136x8192, .f32⟩
  | .hbm, ⟨21, _⟩ => ⟨S4x2048x1536, .f32⟩
  | .hbm, ⟨22, _⟩ => ⟨S4x3x1536, .f32⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x2048, .f32⟩
  | .local _ .vmem, ⟨8, _⟩ => ⟨S1x128, .f32⟩
  | .local _ .vmem, ⟨9, _⟩ => ⟨S1x1024, .f32⟩
  | .local _ .vmem, ⟨10, _⟩ => ⟨S1x1024, .f32⟩
  | .local _ .vmem, ⟨11, _⟩ => ⟨S2048x2688, .bf16⟩
  | .local _ .vmem, ⟨12, _⟩ => ⟨S2048x2048, .bf16⟩
  | .local _ .vmem, ⟨13, _⟩ => ⟨S64x2048, .f32⟩
  | .local _ .vmem, ⟨14, _⟩ => ⟨S64x2048, .f32⟩
  | .local _ .vmem, ⟨15, _⟩ => ⟨S136x2048, .bf16⟩
  | .local _ .vmem, ⟨16, _⟩ => ⟨S2048x256, .f32⟩
  | .local _ .vmem, ⟨17, _⟩ => ⟨S2048x256, .f32⟩
  | .local _ .vmem, ⟨18, _⟩ => ⟨S1x256, .f32⟩
  | .local _ .vmem, ⟨19, _⟩ => ⟨S1x256, .f32⟩
  | .local _ .vmem, ⟨20, _⟩ => ⟨S256x1024, .f32⟩
  | .local _ .vmem, ⟨21, _⟩ => ⟨S256x1024, .f32⟩
  | .local _ .vmem, ⟨22, _⟩ => ⟨S256x1536, .f32⟩
  | .local _ .vmem, ⟨23, _⟩ => ⟨S256x1536, .f32⟩
  | .local _ .vmem, ⟨24, _⟩ => ⟨S256x128, .f32⟩
  | .local _ .vmem, ⟨25, _⟩ => ⟨S256x128, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x2048, .f32⟩
  | .local _ .vmem, ⟨31, _⟩ => ⟨S256x2048, .f32⟩
  | .local _ .vmem, ⟨32, _⟩ => ⟨S64x2048, .bf16⟩
  | .local _ .vmem, ⟨33, _⟩ => ⟨S64x2048, .bf16⟩
  | .local _ .vmem, ⟨34, _⟩ => ⟨S136x256, .f32⟩
  | .local _ .vmem, ⟨35, _⟩ => ⟨S136x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev main_v0_7 : Ref sig .tc := ⟨.hbm, 20, rfl⟩
abbrev main_v1 : Ref sig .tc := ⟨.hbm, 21, rfl⟩
abbrev main_v2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2688 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S136x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1536 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S136x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== InprojPromptIdeal.lean ====
variable {F : FTy → Type} [FloatOps F] [Named F]
def κ : String → Option EReal := fun
  | "gelu_ck" => some ((80338380498831 / 2251799813685248 : ℝ) : EReal)
  | _ => none
-- ==== RefInprojIdeal.lean ====
abbrev S8192x2048 : Shape := ⟨2, ![8192, 2048]⟩
abbrev S4x1x4096 : Shape := ⟨3, ![4, 1, 4096]⟩
abbrev S1x2048 : Shape := ⟨2, ![1, 2048]⟩
abbrev S1x128 : Shape := ⟨2, ![1, 128]⟩
abbrev S1x1024 : Shape := ⟨2, ![1, 1024]⟩
abbrev S2048x2688 : Shape := ⟨2, ![2048, 2688]⟩
abbrev S2048x2048 : Shape := ⟨2, ![2048, 2048]⟩
abbrev S136x2048 : Shape := ⟨2, ![136, 2048]⟩
abbrev S2048x12288 : Shape := ⟨2, ![2048, 12288]⟩
abbrev S1x12288 : Shape := ⟨2, ![1, 12288]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S2048 : Shape := ⟨1, ![2048]⟩
abbrev S1x1x2048 : Shape := ⟨3, ![1, 1, 2048]⟩
abbrev S4x1x2048 : Shape := ⟨3, ![4, 1, 2048]⟩
abbrev S4x2048x2688 : Shape := ⟨3, ![4, 2048, 2688]⟩
abbrev S4x2048x1024 : Shape := ⟨3, ![4, 2048, 1024]⟩
abbrev S4x2048x1536 : Shape := ⟨3, ![4, 2048, 1536]⟩
abbrev S4x2048x128 : Shape := ⟨3, ![4, 2048, 128]⟩
abbrev S2048x8192 : Shape := ⟨2, ![2048, 8192]⟩
abbrev S136x8192 : Shape := ⟨2, ![136, 8192]⟩
abbrev S1x8192 : Shape := ⟨2, ![1, 8192]⟩
abbrev S8192x1024 : Shape := ⟨2, ![8192, 1024]⟩
abbrev S8192x1536 : Shape := ⟨2, ![8192, 1536]⟩
abbrev S128 : Shape := ⟨1, ![128]⟩
abbrev S1x1x128 : Shape := ⟨3, ![1, 1, 128]⟩
abbrev S8192x128 : Shape := ⟨2, ![8192, 128]⟩
abbrev S1024 : Shape := ⟨1, ![1024]⟩
abbrev S1x1x1024 : Shape := ⟨3, ![1, 1, 1024]⟩
abbrev S4x3x1536 : Shape := ⟨3, ![4, 3, 1536]⟩

abbrev nBuf : Space → Nat
  | .hbm => 169
  | .vmem => 0
  | .smem => 0
  | _ => 0

abbrev hbmTy0_0 (i : Nat) : BufTy := match i % 128 with
  | 0 => ⟨S8192x2048, .f32⟩
  | 1 => ⟨S4x1x4096, .f32⟩
  | 2 => ⟨S1x2048, .f32⟩
  | 3 => ⟨S1x2048, .f32⟩
  | 4 => ⟨S1x128, .f32⟩
  | 5 => ⟨S1x1024, .f32⟩
  | 6 => ⟨S1x1024, .f32⟩
  | 7 => ⟨S2048x2688, .bf16⟩
  | 8 => ⟨S2048x2048, .bf16⟩
  | 9 => ⟨S2048x2048, .f32⟩
  | 10 => ⟨S136x2048, .bf16⟩
  | 11 => ⟨S2048x12288, .f32⟩
  | 12 => ⟨S1x12288, .f32⟩
  | 13 => ⟨S4x2048x2048, .f32⟩
  | 14 => ⟨S_, .f32⟩
  | 15 => ⟨S4x2048, .f32⟩
  | 16 => ⟨S4x2048x1, .f32⟩
  | 17 => ⟨S_, .f32⟩
  | 18 => ⟨S4x2048x1, .f32⟩
  | 19 => ⟨S4x2048x1, .f32⟩
  | 20 => ⟨S4x2048x2048, .f32⟩
  | 21 => ⟨S4x2048x2048, .f32⟩
  | 22 => ⟨S4x2048x2048, .f32⟩
  | 23 => ⟨S_, .f32⟩
  | 24 => ⟨S4x2048, .f32⟩
  | 25 => ⟨S4x2048x1, .f32⟩
  | 26 => ⟨S_, .f32⟩
  | 27 => ⟨S4x2048x1, .f32⟩
  | 28 => ⟨S4x2048x1, .f32⟩
  | 29 => ⟨S4x2048x2048, .f32⟩
  | 30 => ⟨S4x2048x2048, .f32⟩
  | 31 => ⟨S_, .f32⟩
  | 32 => ⟨S4x2048x1, .f32⟩
  | 33 => ⟨S4x2048x1, .f32⟩
  | 34 => ⟨S4x2048x1, .f32⟩
  | 35 => ⟨S4x2048x2048, .f32⟩
  | 36 => ⟨S4x2048x2048, .f32⟩
  | 37 => ⟨S2048, .f32⟩
  | 38 => ⟨S1x1x2048, .f32⟩
  | 39 => ⟨S4x2048x2048, .f32⟩
  | 40 => ⟨S4x2048x2048, .f32⟩
  | 41 => ⟨S2048, .f32⟩
  | 42 => ⟨S1x1x2048, .f32⟩
  | 43 => ⟨S4x2048x2048, .f32⟩
  | 44 => ⟨S4x2048x2048, .f32⟩
  | 45 => ⟨S4x1x2048, .f32⟩
  | 46 => ⟨S_, .f32⟩
  | 47 => ⟨S4x1x2048, .f32⟩
  | 48 => ⟨S4x1x2048, .f32⟩
  | 49 => ⟨S4x2048x2048, .f32⟩
  | 50 => ⟨S4x2048x2048, .f32⟩
  | 51 => ⟨S4x1x2048, .f32⟩
  | 52 => ⟨S4x2048x2048, .f32⟩
  | 53 => ⟨S4x2048x2048, .f32⟩
  | 54 => ⟨S2048x2688, .f32⟩
  | 55 => ⟨S4x2048x2688, .f32⟩
  | 56 => ⟨S2048x2048, .f32⟩
  | 57 => ⟨S4x2048x2048, .f32⟩
  | 58 => ⟨S4x2048x1024, .f32⟩
  | 59 => ⟨S4x2048x1536, .f32⟩
  | 60 => ⟨S4x2048x128, .f32⟩
  | 61 => ⟨S4x2048x1024, .f32⟩
  | 62 => ⟨S4x2048x1024, .f32⟩
  | 63 => ⟨S136x2048, .f32⟩
  | 64 => ⟨S2048x8192, .f32⟩
  | 65 => ⟨S136x8192, .f32⟩
  | 66 => ⟨S1x8192, .f32⟩
  | 67 => ⟨S136x8192, .f32⟩
  | 68 => ⟨S136x8192, .f32⟩
  | 69 => ⟨S4x2048x1024, .f32⟩
  | 70 => ⟨S4x2048x1024, .f32⟩
  | 71 => ⟨S_, .f32⟩
  | 72 => ⟨S4x2048x1024, .f32⟩
  | 73 => ⟨S4x2048x1024, .f32⟩
  | 74 => ⟨S_, .f32⟩
  | 75 => ⟨S4x2048x1024, .f32⟩
  | 76 => ⟨S4x2048x1024, .f32⟩
  | 77 => ⟨S4x2048x1024, .f32⟩
  | 78 => ⟨S8192x1024, .f32⟩
  | 79 => ⟨S8192x1536, .f32⟩
  | 80 => ⟨S128, .f32⟩
  | 81 => ⟨S1x1x128, .f32⟩
  | 82 => ⟨S4x2048x128, .f32⟩
  | 83 => ⟨S4x2048x128, .f32⟩
  | 84 => ⟨S_, .f32⟩
  | 85 => ⟨S4x2048x128, .f32⟩
  | 86 => ⟨S4x2048x128, .f32⟩
  | 87 => ⟨S4x2048x128, .f32⟩
  | 88 => ⟨S4x2048x128, .f32⟩
  | 89 => ⟨S4x2048x128, .i1⟩
  | 90 => ⟨S4x2048x128, .f32⟩
  | 91 => ⟨S4x2048x128, .f32⟩
  | 92 => ⟨S4x2048x128, .f32⟩
  | 93 => ⟨S4x2048x128, .f32⟩
  | 94 => ⟨S4x2048x128, .f32⟩
  | 95 => ⟨S4x2048x128, .f32⟩
  | 96 => ⟨S4x2048x128, .f32⟩
  | 97 => ⟨S4x2048x128, .f32⟩
  | 98 => ⟨S8192x128, .f32⟩
  | 99 => ⟨S4x2048x1024, .f32⟩
  | 100 => ⟨S4x2048x1024, .f32⟩
  | 101 => ⟨S_, .f32⟩
  | 102 => ⟨S4x2048x1024, .f32⟩
  | 103 => ⟨S4x2048x1024, .f32⟩
  | 104 => ⟨S4x2048x1024, .f32⟩
  | 105 => ⟨S_, .f32⟩
  | 106 => ⟨S4x2048x1024, .f32⟩
  | 107 => ⟨S4x2048x1024, .f32⟩
  | 108 => ⟨S4x2048x1024, .f32⟩
  | 109 => ⟨S_, .f32⟩
  | 110 => ⟨S4x2048x1024, .f32⟩
  | 111 => ⟨S4x2048x1024, .f32⟩
  | 112 => ⟨S_, .f32⟩
  | 113 => ⟨S4x2048x1024, .f32⟩
  | 114 => ⟨S4x2048x1024, .f32⟩
  | 115 => ⟨S4x2048x1024, .f32⟩
  | 116 => ⟨S8192x1024, .f32⟩
  | 117 => ⟨S4x2048x1024, .f32⟩
  | 118 => ⟨S4x2048x1024, .f32⟩
  | 119 => ⟨S_, .f32⟩
  | 120 => ⟨S4x2048x1024, .f32⟩
  | 121 => ⟨S4x2048x1024, .f32⟩
  | 122 => ⟨S4x2048x1024, .f32⟩
  | 123 => ⟨S_, .f32⟩
  | 124 => ⟨S4x2048x1024, .f32⟩
  | 125 => ⟨S4x2048x1024, .f32⟩
  | 126 => ⟨S4x2048x1024, .f32⟩
  | 127 => ⟨S_, .f32⟩
  | _ => ⟨S8192x2048, .f32⟩

abbrev hbmTy0_1 (i : Nat) : BufTy := match i % 128 with
  | 0 => ⟨S4x2048x1024, .f32⟩
  | 1 => ⟨S4x2048x1024, .f32⟩
  | 2 => ⟨S_, .f32⟩
  | 3 => ⟨S4x2048x1024, .f32⟩
  | 4 => ⟨S4x2048x1024, .f32⟩
  | 5 => ⟨S4x2048x1024, .f32⟩
  | 6 => ⟨S_, .f32⟩
  | 7 => ⟨S4x2048, .f32⟩
  | 8 => ⟨S4x2048x1, .f32⟩
  | 9 => ⟨S_, .f32⟩
  | 10 => ⟨S4x2048x1, .f32⟩
  | 11 => ⟨S4x2048x1, .f32⟩
  | 12 => ⟨S4x2048x1024, .f32⟩
  | 13 => ⟨S4x2048x1024, .f32⟩
  | 14 => ⟨S4x2048x1024, .f32⟩
  | 15 => ⟨S_, .f32⟩
  | 16 => ⟨S4x2048, .f32⟩
  | 17 => ⟨S4x2048x1, .f32⟩
  | 18 => ⟨S_, .f32⟩
  | 19 => ⟨S4x2048x1, .f32⟩
  | 20 => ⟨S4x2048x1, .f32⟩
  | 21 => ⟨S4x2048x1024, .f32⟩
  | 22 => ⟨S4x2048x1024, .f32⟩
  | 23 => ⟨S_, .f32⟩
  | 24 => ⟨S4x2048x1, .f32⟩
  | 25 => ⟨S4x2048x1, .f32⟩
  | 26 => ⟨S4x2048x1, .f32⟩
  | 27 => ⟨S4x2048x1024, .f32⟩
  | 28 => ⟨S4x2048x1024, .f32⟩
  | 29 => ⟨S1024, .f32⟩
  | 30 => ⟨S1x1x1024, .f32⟩
  | 31 => ⟨S4x2048x1024, .f32⟩
  | 32 => ⟨S4x2048x1024, .f32⟩
  | 33 => ⟨S1024, .f32⟩
  | 34 => ⟨S1x1x1024, .f32⟩
  | 35 => ⟨S4x2048x1024, .f32⟩
  | 36 => ⟨S4x2048x1024, .f32⟩
  | 37 => ⟨S8192x1024, .f32⟩
  | 38 => ⟨S8192x2048, .f32⟩
  | 39 => ⟨S2048x2048, .bf16⟩
  | 40 => ⟨S4x3x1536, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_5 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_6 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_7 : Ref sig .tc := ⟨.hbm, 109, rfl⟩
abbrev main_v67 : Ref sig .tc := ⟨.hbm, 110, rfl⟩
abbrev main_v68 : Ref sig .tc := ⟨.hbm, 111, rfl⟩
abbrev main_cst_8 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_9 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_10 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_11 : Ref sig .tc := ⟨.hbm, 127, rfl⟩
abbrev main_v81 : Ref sig .tc := ⟨.hbm, 128, rfl⟩
abbrev main_v82 : Ref sig .tc := ⟨.hbm, 129, rfl⟩
abbrev main_cst_12 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_13 : Ref sig .tc := ⟨.hbm, 134, rfl⟩
abbrev main_v86 : Ref sig .tc := ⟨.hbm, 135, rfl⟩
abbrev main_v87 : Ref sig .tc := ⟨.hbm, 136, rfl⟩
abbrev main_cst_14 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_cst_15 : Ref sig .tc := ⟨.hbm, 143, rfl⟩
abbrev main_v93 : Ref sig .tc := ⟨.hbm, 144, rfl⟩
abbrev main_v94 : Ref sig .tc := ⟨.hbm, 145, rfl⟩
abbrev main_cst_16 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_cst_17 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩

abbrev nD : Nat := 1
abbrev τ : Topo := Topo.v7x

variable {F : FTy → Type} [FloatOps F]
-- ==== Proof.Ffn.lean ====
module

public import Idealize.ShloMosaic.Lib.Pointwise

@[expose] public section
noncomputable section
namespace Ffn
open Idealize.ShloMosaic

/-- The number of columns of a row, as the programs write it. -/
abbrev width : EReal := Ideal.ofBits .f32 0x45000000#32
/-- The small number under the root of the normalisation. -/
abbrev eps : EReal := Ideal.ofBits .f32 0x3727C5AC#32
/-- The weight of the residual. -/
abbrev alpha : EReal := Ideal.ofBits .f32 0x3F9837F0#32

/-- A row shifted and scaled. -/
def modRow (x sc sh : Fin 2048 → EReal) (d : Fin 2048) : EReal := x d * (1 + sc d) + sh d

/-- A hidden unit: the positive part of its product, squared. -/
def unit (h w : Fin 2048 → EReal) : EReal := max (∑ d, h d * w d) 0 * max (∑ d, h d * w d) 0

/-- What a block of 1024 hidden units adds to an output column. -/
def blk (h : Fin 2048 → EReal) (W1 : Fin 2048 → Fin 1024 → EReal) (W2 : Fin 1024 → Fin 2048 → EReal) (k : Fin 2048) : EReal :=
  ∑ q, unit h (fun d => W1 d q) * W2 q k

/-- The mean of a row. -/
def mean (y : Fin 2048 → EReal) : EReal := Ideal.div (∑ d, y d) width

/-- The normalisation of a row. -/
def lnorm (y g b : Fin 2048 → EReal) (k : Fin 2048) : EReal :=
  (y k - mean y) * Ideal.rsqrt (mean (fun d => (y d - mean y) * (y d - mean y)) + eps) * g k + b k

/-- The row that is normalised: the residual and the gated sum. -/
def resid (x g f : Fin 2048 → EReal) (k : Fin 2048) : EReal := alpha * x k + (1 + g k) * f k

/-- A sum over all hidden units, block by block. -/
theorem sum_blocks (f : Fin 8192 → EReal) : ∑ n, f n = ∑ j : Fin 8, ∑ q : Fin 1024, f ⟨1024 * j.val + q.val, by omega⟩ := by
  rw [← Fintype.sum_prod_type']
  refine (Fintype.sum_equiv (finProdFinEquiv (m := 8) (n := 1024)) _ _ fun p => ?_).symm
  exact congrArg f (Fin.ext (by show 1024 * p.1.val + p.2.val = p.2.val + 1024 * p.1.val; omega))

end Ffn
end
-- ==== Proof.FpPay.lean ====
module

public import proofs.«01_k».proof.Proof.Gen.FfnPromptIdeal.Skeleton
public import proofs.«01_k».proof.Proof.Ffn

@[expose] public section
set_option maxRecDepth 16384
noncomputable section
namespace Cert.FfnPromptIdeal.Val
open Cert.FfnPromptIdeal Cert.FfnPromptIdeal.Gen Idealize.ShloMosaic Idealize.ShloMosaic.TcCoe Idealize.ShloMosaic.Tactic Ffn

/-- The row of a block that a point works on, shifted and scaled. -/
def hrow {n : Nat} (x : (⟨2, ![n, 2048]⟩ : Shape).Idx → EReal) (sc sh : Vec Ideal S1x1x2048 .f32) (r : Fin n) : Fin 2048 → EReal :=
  modRow (fun d => x (ix2 r d)) (fun d => sc (ix3 0 0 d)) (fun d => sh (ix3 0 0 d))

/-- What a point adds to row `r`. -/
def pblk {n : Nat} (x : (⟨2, ![n, 2048]⟩ : Shape).Idx → EReal) (sc sh : Vec Ideal S1x1x2048 .f32) (w1 : Vec Ideal S1x2048x1024 .bf16) (w2 : Vec Ideal S1024x2048 .bf16)
    (r : Fin n) : Fin 2048 → EReal :=
  blk (hrow x sc sh r) (fun d q => w1 (ix3 0 d q)) (fun q k => w2 (ix2 q k))

/-- The zero block. -/
theorem pay1_apply (i : S512x2048.Idx) : k0_pay1 (F := Ideal) i = 0 := by
  unfold k0_pay1
  pointwise

/-- A point adds its block of hidden units. -/
theorem pay2_apply (x : Vec Ideal S512x2048 .f32) (sc sh : Vec Ideal S1x1x2048 .f32) (w1 : Vec Ideal S1x2048x1024 .bf16) (o : Vec Ideal S512x2048 .f32)
    (w2 : Vec Ideal S1024x2048 .bf16) (r : Fin 512) (k : Fin 2048) :
    k0_pay2 x sc sh w1 o w2 (ix2 r k) = o (ix2 r k) + pblk x sc sh w1 w2 r k := by
  generalize hR : o (ix2 r k) + pblk x sc sh w1 w2 r k = R
  unfold k0_pay2
  pointwise
  exact hR

/-- The last point's sum with the residual, on the first half of the rows. -/
theorem pay5_apply (g : Vec Ideal S1x1x2048 .f32) (x x' : Vec Ideal S256x2048 .f32) (sc sh : Vec Ideal S1x1x2048 .f32) (w1 : Vec Ideal S1x2048x1024 .bf16)
    (o : Vec Ideal S256x2048 .f32) (w2 : Vec Ideal S1024x2048 .bf16) (r : Fin 256) (k : Fin 2048) :
    k0_pay5 g x x' sc sh w1 o w2 (ix2 r k)
      = resid (fun k => x (ix2 r k)) (fun k => g (ix3 0 0 k)) (fun k => o (ix2 r k) + pblk x' sc sh w1 w2 r k) k := by
  generalize hR : resid (fun k => x (ix2 r k)) (fun k => g (ix3 0 0 k)) (fun k => o (ix2 r k) + pblk x' sc sh w1 w2 r k) k = R
  unfold k0_pay5 k0_pay4
  pointwise
  exact hR

/-- The normalisation of the first half of the rows. -/
theorem pay6_apply (y : FVec Ideal S256x2048 .f32) (g b : Vec Ideal S1x2048 .f32) (r : Fin 256) (k : Fin 2048) :
    k0_pay6 y g b (ix2 r k) = lnorm (fun k => y (ix2 r k)) (fun k => g (ix2 0 k)) (fun k => b (ix2 0 k)) k := by
  generalize hR : lnorm (fun k => y (ix2 r k)) (fun k => g (ix2 0 k)) (fun k => b (ix2 0 k)) k = R
  unfold k0_pay6
  pointwise
  exact hR

end Cert.FfnPromptIdeal.Val
end
-- ==== Proof.FpOpen.lean ====
module

public import proofs.«01_k».proof.Proof.Gen.FfnPromptIdeal.Frame
public import proofs.«01_k».proof.Proof.FpPay
public import Idealize.ShloMosaic.Lib.Pipeline.Value

@[expose] public section
set_option maxRecDepth 16384
noncomputable section
namespace Cert.FfnPromptIdeal.Val
open Cert.FfnPromptIdeal Cert.FfnPromptIdeal.Gen Idealize.ShloMosaic Idealize.ShloMosaic.TcCoe Idealize.ShloMosaic.Tactic Ffn

/-- The zero offsets of a two-dimensional window. -/
theorem hz2 : (![0, 0] : Fin 2 → ℕ) = fun _ => 0 := by decide
/-- The zero offsets of a three-dimensional window. -/
theorem hz3 : (![0, 0, 0] : Fin 3 → ℕ) = fun _ => 0 := by decide

/-- The normalised row of a block. -/
def finRow (x0 : Vec Ideal S512x2048 .f32) (x1 x2 x3 : Vec Ideal S1x1x2048 .f32) (x4 : Vec Ideal S1x2048x1024 .bf16) (x5 : Vec Ideal S1024x2048 .bf16)
    (x6 x7 : Vec Ideal S1x2048 .f32) (xo : Vec Ideal S512x2048 .f32) (r : Fin 512) (k : Fin 2048) : EReal :=
  lnorm (resid (fun k => x0 (ix2 r k)) (fun k => x3 (ix3 0 0 k)) (fun k => xo (ix2 r k) + pblk x0 x2 x1 x4 x5 r k)) (fun k => x6 (ix2 0 k)) (fun k => x7 (ix2 0 k)) k

/-- Half a block of rows, stored by the last point. -/
theorem half_at (o : ℕ) (ho : o + 256 ≤ 512) (inb) (x0 : Vec Ideal S512x2048 .f32) (x1 x2 x3 : Vec Ideal S1x1x2048 .f32) (x4 : Vec Ideal S1x2048x1024 .bf16)
    (x5 : Vec Ideal S1024x2048 .bf16) (x6 x7 : Vec Ideal S1x2048 .f32) (xo : Vec Ideal S512x2048 .f32) (p : Fin 256) (k : Fin 2048) :
    k0_pay6 (k0_pay5 x3 (View.ld (S := S512x2048) x0 (Rect.unit ![o, 0] ![256, 2048] inb)) (View.ld (S := S512x2048) x0 (Rect.unit ![o, 0] ![256, 2048] inb)) x2 x1 x4
        (View.ld (S := S512x2048) xo (Rect.unit ![o, 0] ![256, 2048] inb)) x5) x6 x7 (ix2 p k)
      = (fun y : S512x2048.Idx => finRow x0 x1 x2 x3 x4 x5 x6 x7 xo (y 0) (y 1)) ((Rect.unit (s := S512x2048) ![o, 0] ![256, 2048] inb).emb (ix2 p k)) := by
  have e : ∀ d : Fin 2048, (Rect.unit (s := S512x2048) ![o, 0] ![256, 2048] inb).emb (ix2 p d) = (ix2 (⟨o + p.val, by omega⟩ : Fin 512) d : S512x2048.Idx) := fun d =>
    Shape.idx_ext₂ (by show o + 1 * p.val = o + p.val; omega) (by show 0 + 1 * d.val = d.val; omega)
  have hl : ∀ (X : Vec Ideal S512x2048 .f32) (d : Fin 2048), View.ld (S := S512x2048) X (Rect.unit ![o, 0] ![256, 2048] inb) (ix2 p d)
      = X (ix2 (⟨o + p.val, by omega⟩ : Fin 512) d) := fun X d => congrArg X (e d)
  refine Eq.trans ?_ (congrArg (fun y : S512x2048.Idx => finRow x0 x1 x2 x3 x4 x5 x6 x7 xo (y 0) (y 1)) (e k).symm)
  show _ = finRow x0 x1 x2 x3 x4 x5 x6 x7 xo ⟨o + p.val, _⟩ k
  rw [pay6_apply]
  unfold finRow
  refine congrArg (fun y => lnorm y (fun k => x6 (ix2 0 k)) (fun k => x7 (ix2 0 k)) k) (funext fun d => ?_)
  rw [pay5_apply]
  exact congrArg₂ (fun (X : Fin 2048 → EReal) (o : EReal) => alpha * X d + (1 + x3 (ix3 0 0 d)) * (o + blk (modRow X (fun d => x2 (ix3 0 0 d)) fun d => x1 (ix3 0 0 d))
    (fun d q => x4 (ix3 0 d q)) (fun q k => x5 (ix2 q k)) d)) (funext (hl x0)) (hl xo d)

/-- The same at every place of the half. -/
theorem half (o : ℕ) (ho : o + 256 ≤ 512) (inb) (x0 : Vec Ideal S512x2048 .f32) (x1 x2 x3 : Vec Ideal S1x1x2048 .f32) (x4 : Vec Ideal S1x2048x1024 .bf16)
    (x5 : Vec Ideal S1024x2048 .bf16) (x6 x7 : Vec Ideal S1x2048 .f32) (xo : Vec Ideal S512x2048 .f32) (x : S256x2048.Idx) :
    k0_pay6 (k0_pay5 x3 (View.ld (S := S512x2048) x0 (Rect.unit ![o, 0] ![256, 2048] inb)) (View.ld (S := S512x2048) x0 (Rect.unit ![o, 0] ![256, 2048] inb)) x2 x1 x4
        (View.ld (S := S512x2048) xo (Rect.unit ![o, 0] ![256, 2048] inb)) x5) x6 x7 x
      = (fun y : S512x2048.Idx => finRow x0 x1 x2 x3 x4 x5 x6 x7 xo (y 0) (y 1)) ((Rect.unit (s := S512x2048) ![o, 0] ![256, 2048] inb).emb x) := by
  have hx : x = ix2 (x 0) (x 1) := eq_ix2 x
  rw [hx]
  exact half_at o ho inb x0 x1 x2 x3 x4 x5 x6 x7 xo (x 0) (x 1)

/-- The first point of a row block starts from zero. -/
theorem oA (c : Dev nD) (i : grid0.Coords) (arg2 : Memref sig .tc .vmem S512x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x1024 .bf16) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (hc0 : cond0_0 i) (hc1 : cond0_1 i) (hc2 : ¬cond0_2 i)
    (x0 : Vec Ideal S512x2048 .f32) (x1 : Vec Ideal S1x1x2048 .f32) (x2 : Vec Ideal S1x1x2048 .f32) (x3 : Vec Ideal S1x1x2048 .f32) (x4 : Vec Ideal S1x2048x1024 .bf16) (x5 : Vec Ideal S1024x2048 .bf16) (x6 : Vec Ideal S1x2048 .f32) (x7 : Vec Ideal S1x2048 .f32) (r : Fin 512) (k : Fin 2048) :
    out0_A_8 c i arg2 harg2 arg3 harg3 arg4 harg4 arg5 harg5 arg6 harg6 arg7 harg7 arg8 harg8 arg9 harg9 arg10 harg10 hc0 hc1 hc2 x0 x1 x2 x3 x4 x5 x6 x7 (ix2 r k) = pblk x0 x2 x1 x4 x5 r k := by
  unfold out0_A_8
  rw [View.read_writes_junk_eq_canon]
  unfold kernelRun0_A
  dsimp only
  sl_unfold_words
  simp only [View.readAt_eq_ld, harg2.read_unread, harg3.read_unread, harg4.read_unread, harg5.read_unread, harg6.read_unread, harg7.read_unread, harg8.read_unread, harg9.read_unread, View.readCov_unit_zero (S := S512x2048) _ hz2, View.ld_unit_zero (S := S512x2048) hz2, View.ld_unit_zero (S := S1x1x2048) hz3, View.ld_unit_zero (S := S1x2048x1024) hz3, View.ld_unit_zero (S := S1024x2048) hz2, View.ld_unit_zero (S := S1x2048) hz2]
  rw [View.canon_cons_unit_zero (S := S512x2048) hz2]
  rw [pay2_apply, pay1_apply, zero_add]

/-- A middle point adds to what the point before left. -/
theorem oB (c : Dev nD) (i : grid0.Coords) (arg2 : Memref sig .tc .vmem S512x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x1024 .bf16) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (hc0 : ¬cond0_0 i) (hc1 : cond0_1 i) (hc2 : ¬cond0_2 i)
    (x0 : Vec Ideal S512x2048 .f32) (x1 : Vec Ideal S1x1x2048 .f32) (x2 : Vec Ideal S1x1x2048 .f32) (x3 : Vec Ideal S1x1x2048 .f32) (x4 : Vec Ideal S1x2048x1024 .bf16) (x5 : Vec Ideal S1024x2048 .bf16) (x6 : Vec Ideal S1x2048 .f32) (x7 : Vec Ideal S1x2048 .f32) (xo8 : Vec Ideal S512x2048 .f32) (r : Fin 512) (k : Fin 2048) :
    out0_B_8 c i arg2 harg2 arg3 harg3 arg4 harg4 arg5 harg5 arg6 harg6 arg7 harg7 arg8 harg8 arg9 harg9 arg10 harg10 hc0 hc1 hc2 x0 x1 x2 x3 x4 x5 x6 x7 xo8 (ix2 r k) = xo8 (ix2 r k) + pblk x0 x2 x1 x4 x5 r k := by
  unfold out0_B_8
  rw [View.read_writes_junk_eq_canon]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, View.ld_unit_zero (S := S512x2048) hz2, View.ld_unit_zero (S := S1x1x2048) hz3, View.ld_unit_zero (S := S1x2048x1024) hz3, View.ld_unit_zero (S := S1024x2048) hz2, View.ld_unit_zero (S := S1x2048) hz2]
  rw [View.canon_unit_zero (S := S512x2048) hz2]
  rw [pay2_apply]

/-- The last point adds its own block, then normalises. -/
theorem oC (c : Dev nD) (i : grid0.Coords) (arg2 : Memref sig .tc .vmem S512x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x1024 .bf16) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (hc0 : ¬cond0_0 i) (hc1 : ¬cond0_1 i) (hc2 : cond0_2 i)
    (x0 : Vec Ideal S512x2048 .f32) (x1 : Vec Ideal S1x1x2048 .f32) (x2 : Vec Ideal S1x1x2048 .f32) (x3 : Vec Ideal S1x1x2048 .f32) (x4 : Vec Ideal S1x2048x1024 .bf16) (x5 : Vec Ideal S1024x2048 .bf16) (x6 : Vec Ideal S1x2048 .f32) (x7 : Vec Ideal S1x2048 .f32) (xo8 : Vec Ideal S512x2048 .f32) (r : Fin 512) (k : Fin 2048) :
    out0_C_8 c i arg2 harg2 arg3 harg3 arg4 harg4 arg5 harg5 arg6 harg6 arg7 harg7 arg8 harg8 arg9 harg9 arg10 harg10 hc0 hc1 hc2 x0 x1 x2 x3 x4 x5 x6 x7 xo8 (ix2 r k) = finRow x0 x1 x2 x3 x4 x5 x6 x7 xo8 r k := by
  unfold out0_C_8
  rw [View.read_writes_junk_eq_canon]
  refine View.canon_apply_of_pieces (fun y : S512x2048.Idx => finRow x0 x1 x2 x3 x4 x5 x6 x7 xo8 (y 0) (y 1)) _ ?_ (ix2 r k)
    (cover0_C_8 c i arg2 harg2 arg3 harg3 arg4 harg4 arg5 harg5 arg6 harg6 arg7 harg7 arg8 harg8 arg9 harg9 arg10 harg10 hc0 hc1 hc2 x0 x1 x2 x3 x4 x5 x6 x7 xo8 (ix2 r k))
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, View.ld_unit_zero (S := S512x2048) hz2, View.ld_unit_zero (S := S1x1x2048) hz3, View.ld_unit_zero (S := S1x2048x1024) hz3, View.ld_unit_zero (S := S1024x2048) hz2, View.ld_unit_zero (S := S1x2048) hz2]
  simp only [List.forall_mem_cons]
  refine ⟨half 256 (by decide) _ x0 x1 x2 x3 x4 x5 x6 x7 xo8, half 0 (by decide) _ x0 x1 x2 x3 x4 x5 x6 x7 xo8, ?_⟩
  intro p hp
  exact absurd hp List.not_mem_nil

end Cert.FfnPromptIdeal.Val
end
-- ==== Proof.FpSweep.lean ====
module

public import proofs.«01_k».proof.Proof.FpOpen
public import proofs.«01_k».proof.Proof.Gen.FfnPromptIdeal.Value

@[expose] public section
set_option maxRecDepth 16384
noncomputable section
namespace Cert.FfnPromptIdeal.Val
open Cert.FfnPromptIdeal Cert.FfnPromptIdeal.Gen Cert.FfnPromptIdeal.Value Idealize.ShloMosaic Idealize.ShloMosaic.TcCoe Idealize.ShloMosaic.Tactic Ffn

variable (m : (ℓ : Loc nD τ sig) → Buf (Elt Ideal) ℓ)

/-- The rows. -/
abbrev A0 (c : Dev nD) : Vec Ideal S8192x2048 .f32 := m ((c : Thread nD τ).loc main_arg0)
/-- The modulation. -/
abbrev A1 (c : Dev nD) : Vec Ideal S4x1x8192 .f32 := m ((c : Thread nD τ).loc main_arg1)
/-- The first weights, in blocks of columns. -/
abbrev A2 (c : Dev nD) : Vec Ideal S8x2048x1024 .bf16 := m ((c : Thread nD τ).loc main_arg2)
/-- The second weights. -/
abbrev A3 (c : Dev nD) : Vec Ideal S8192x2048 .bf16 := m ((c : Thread nD τ).loc main_arg3)
/-- The normalisation's gain. -/
abbrev A4 (c : Dev nD) : Vec Ideal S1x2048 .f32 := m ((c : Thread nD τ).loc main_arg4)
/-- The normalisation's offset. -/
abbrev A5 (c : Dev nD) : Vec Ideal S1x2048 .f32 := m ((c : Thread nD τ).loc main_arg5)

/-- The windows' block numbers at every point. -/
theorem idx : ∀ t : Fin cfg0.N, (win0_0.index t 0 = t.val / 8 ∧ win0_0.index t 1 = 0)
    ∧ (win0_1.index t 0 = t.val / 32 ∧ win0_1.index t 1 = 0 ∧ win0_1.index t 2 = 1)
    ∧ (win0_2.index t 0 = t.val / 32 ∧ win0_2.index t 1 = 0 ∧ win0_2.index t 2 = 2)
    ∧ (win0_3.index t 0 = t.val / 32 ∧ win0_3.index t 1 = 0 ∧ win0_3.index t 2 = 3)
    ∧ (win0_4.index t 0 = t.val % 8 ∧ win0_4.index t 1 = 0 ∧ win0_4.index t 2 = 0)
    ∧ (win0_5.index t 0 = t.val % 8 ∧ win0_5.index t 1 = 0)
    ∧ (win0_6.index t 0 = 0 ∧ win0_6.index t 1 = 0) ∧ (win0_7.index t 0 = 0 ∧ win0_7.index t 1 = 0)
    ∧ (win0_8.index t 0 = t.val / 8 ∧ win0_8.index t 1 = 0) := by
  decide +kernel

/-- The number of points. -/
theorem ptlt (t : Fin cfg0.N) : t.val < 128 := by have := t.isLt; have : cfg0.N = 128 := N_0; omega

/-- The row of the whole batch that is row `r` of a point's block. -/
def ro (t : Fin cfg0.N) (r : Fin 512) : Fin 8192 := ⟨512 * (t.val / 8) + r.val, by have := ptlt t; omega⟩
/-- A row's sequence. -/
def sq (R : Fin 8192) : Fin 4 := ⟨R.val / 2048, by omega⟩
/-- A point's block of hidden units. -/
def jb (t : Fin cfg0.N) : Fin 8 := ⟨t.val % 8, by omega⟩
/-- A column of one of the modulation's pieces. -/
def pc (p : Fin 4) (d : Fin 2048) : Fin 8192 := ⟨2048 * p.val + d.val, by omega⟩

/-- A block of rows. -/
theorem b0 (c : Dev nD) (t : Fin cfg0.N) (r : Fin 512) (k : Fin 2048) :
    (iblk m c 0 t : Vec Ideal S512x2048 .f32) (ix2 r k) = A0 m c (ix2 (ro t r) k) := by
  have hi := (idx t).1
  unfold A0
  rw [← V_main_arg0 m c]
  unfold iblk
  rw [View.read_apply]
  refine congrArg (V m c main_arg0) (funext fun a => Fin.ext ?_)
  match a with
  | ⟨0, _⟩ => show win0_0.index t 0 * 512 + 1 * r.val = 512 * (t.val / 8) + r.val; rw [hi.1]; omega
  | ⟨1, _⟩ => show win0_0.index t 1 * 2048 + 1 * k.val = k.val; rw [hi.2]; omega

/-- The shift of a block. -/
theorem b1 (c : Dev nD) (t : Fin cfg0.N) (r : Fin 512) (k : Fin 2048) :
    (iblk m c 1 t : Vec Ideal S1x1x2048 .f32) (ix3 0 0 k) = A1 m c (ix3 (sq (ro t r)) 0 (pc 1 k)) := by
  have hi := (idx t).2.1
  unfold A1
  rw [← V_main_arg1 m c]
  unfold iblk
  rw [View.read_apply]
  refine congrArg (V m c main_arg1) (funext fun a => Fin.ext ?_)
  match a with
  | ⟨0, _⟩ => show win0_1.index t 0 * 1 + 1 * 0 = (512 * (t.val / 8) + r.val) / 2048; rw [hi.1]; omega
  | ⟨1, _⟩ => show win0_1.index t 1 * 1 + 1 * 0 = 0; rw [hi.2.1]
  | ⟨2, _⟩ => show win0_1.index t 2 * 2048 + 1 * k.val = 2048 * 1 + k.val; rw [hi.2.2]; omega

/-- The scale of a block. -/
theorem b2 (c : Dev nD) (t : Fin cfg0.N) (r : Fin 512) (k : Fin 2048) :
    (iblk m c 2 t : Vec Ideal S1x1x2048 .f32) (ix3 0 0 k) = A1 m c (ix3 (sq (ro t r)) 0 (pc 2 k)) := by
  have hi := (idx t).2.2.1
  unfold A1
  rw [← V_main_arg1 m c]
  unfold iblk
  rw [View.read_apply]
  refine congrArg (V m c main_arg1) (funext fun a => Fin.ext ?_)
  match a with
  | ⟨0, _⟩ => show win0_2.index t 0 * 1 + 1 * 0 = (512 * (t.val / 8) + r.val) / 2048; rw [hi.1]; omega
  | ⟨1, _⟩ => show win0_2.index t 1 * 1 + 1 * 0 = 0; rw [hi.2.1]
  | ⟨2, _⟩ => show win0_2.index t 2 * 2048 + 1 * k.val = 2048 * 2 + k.val; rw [hi.2.2]; omega

/-- The gate of a block. -/
theorem b3 (c : Dev nD) (t : Fin cfg0.N) (r : Fin 512) (k : Fin 2048) :
    (iblk m c 3 t : Vec Ideal S1x1x2048 .f32) (ix3 0 0 k) = A1 m c (ix3 (sq (ro t r)) 0 (pc 3 k)) := by
  have hi := (idx t).2.2.2.1
  unfold A1
  rw [← V_main_arg1 m c]
  unfold iblk
  rw [View.read_apply]
  refine congrArg (V m c main_arg1) (funext fun a => Fin.ext ?_)
  match a with
  | ⟨0, _⟩ => show win0_3.index t 0 * 1 + 1 * 0 = (512 * (t.val / 8) + r.val) / 2048; rw [hi.1]; omega
  | ⟨1, _⟩ => show win0_3.index t 1 * 1 + 1 * 0 = 0; rw [hi.2.1]
  | ⟨2, _⟩ => show win0_3.index t 2 * 2048 + 1 * k.val = 2048 * 3 + k.val; rw [hi.2.2]; omega

/-- A block of the first weights. -/
theorem b4 (c : Dev nD) (t : Fin cfg0.N) (d : Fin 2048) (q : Fin 1024) :
    (iblk m c 4 t : Vec Ideal S1x2048x1024 .bf16) (ix3 0 d q) = A2 m c (ix3 (jb t) d q) := by
  have hi := (idx t).2.2.2.2.1
  unfold A2
  rw [← V_main_arg2 m c]
  unfold iblk
  rw [View.read_apply]
  refine congrArg (V m c main_arg2) (funext fun a => Fin.ext ?_)
  match a with
  | ⟨0, _⟩ => show win0_4.index t 0 * 1 + 1 * 0 = t.val % 8; rw [hi.1]; omega
  | ⟨1, _⟩ => show win0_4.index t 1 * 2048 + 1 * d.val = d.val; rw [hi.2.1]; omega
  | ⟨2, _⟩ => show win0_4.index t 2 * 1024 + 1 * q.val = q.val; rw [hi.2.2]; omega

/-- A block of the second weights. -/
theorem b5 (c : Dev nD) (t : Fin cfg0.N) (q : Fin 1024) (k : Fin 2048) :
    (iblk m c 5 t : Vec Ideal S1024x2048 .bf16) (ix2 q k) = A3 m c (ix2 ⟨1024 * (jb t).val + q.val, by have := (jb t).isLt; omega⟩ k) := by
  have hi := (idx t).2.2.2.2.2.1
  unfold A3
  rw [← V_main_arg3 m c]
  unfold iblk
  rw [View.read_apply]
  refine congrArg (V m c main_arg3) (funext fun a => Fin.ext ?_)
  match a with
  | ⟨0, _⟩ => show win0_5.index t 0 * 1024 + 1 * q.val = 1024 * (t.val % 8) + q.val; rw [hi.1]; omega
  | ⟨1, _⟩ => show win0_5.index t 1 * 2048 + 1 * k.val = k.val; rw [hi.2]; omega

/-- The gain. -/
theorem b6 (c : Dev nD) (t : Fin cfg0.N) (k : Fin 2048) :
    (iblk m c 6 t : Vec Ideal S1x2048 .f32) (ix2 0 k) = (V m c main_v1 : Vec Ideal S1x2048 .f32) (ix2 0 k) := by
  have hi := (idx t).2.2.2.2.2.2.1
  unfold iblk
  rw [View.read_apply]
  refine congrArg (V m c main_v1) (funext fun a => Fin.ext ?_)
  match a with
  | ⟨0, _⟩ => show win0_6.index t 0 * 1 + 1 * 0 = 0; rw [hi.1]
  | ⟨1, _⟩ => show win0_6.index t 1 * 2048 + 1 * k.val = k.val; rw [hi.2]; omega

/-- The offset. -/
theorem b7 (c : Dev nD) (t : Fin cfg0.N) (k : Fin 2048) :
    (iblk m c 7 t : Vec Ideal S1x2048 .f32) (ix2 0 k) = (V m c main_v3 : Vec Ideal S1x2048 .f32) (ix2 0 k) := by
  have hi := (idx t).2.2.2.2.2.2.2.1
  unfold iblk
  rw [View.read_apply]
  refine congrArg (V m c main_v3) (funext fun a => Fin.ext ?_)
  match a with
  | ⟨0, _⟩ => show win0_7.index t 0 * 1 + 1 * 0 = 0; rw [hi.1]
  | ⟨1, _⟩ => show win0_7.index t 1 * 2048 + 1 * k.val = k.val; rw [hi.2]; omega

/-- The gain as the call takes it. -/
theorem h1 (c : Dev nD) (k : Fin 2048) : (V m c main_v1 : Vec Ideal S1x2048 .f32) (ix2 0 k) = A4 m c (ix2 0 k) := by
  generalize hR : A4 m c (ix2 0 k) = R
  show StableHlo.after _ _ _ _ = _
  simp only [hostOps0, List.flatten_cons, List.flatten_nil, List.append_nil, List.cons_append, List.nil_append]
  after_results_simp
  after_results_loop
  pointwise
  rw [← hR]

/-- The offset as the call takes it. -/
theorem h3 (c : Dev nD) (k : Fin 2048) : (V m c main_v3 : Vec Ideal S1x2048 .f32) (ix2 0 k) = A5 m c (ix2 0 k) := by
  generalize hR : A5 m c (ix2 0 k) = R
  show StableHlo.after _ _ _ _ = _
  simp only [hostOps0, List.flatten_cons, List.flatten_nil, List.append_nil, List.cons_append, List.nil_append]
  after_results_simp
  after_results_loop
  pointwise
  rw [← hR]

/-- The shifted and scaled row. -/
def gh (c : Dev nD) (R : Fin 8192) : Fin 2048 → EReal :=
  modRow (fun d => A0 m c (ix2 R d)) (fun d => A1 m c (ix3 (sq R) 0 (pc 2 d))) (fun d => A1 m c (ix3 (sq R) 0 (pc 1 d)))

/-- What block `j` of the hidden units adds to a row. -/
def gb (c : Dev nD) (R : Fin 8192) (j : Fin 8) : Fin 2048 → EReal :=
  blk (gh m c R) (fun d q => A2 m c (ix3 j d q)) (fun q k => A3 m c (ix2 ⟨1024 * j.val + q.val, by omega⟩ k))

/-- The normalised row. -/
def gF (c : Dev nD) (R : Fin 8192) : Fin 2048 → EReal :=
  lnorm (resid (fun k => A0 m c (ix2 R k)) (fun k => A1 m c (ix3 (sq R) 0 (pc 3 k))) (fun k => ∑ j, gb m c R j k)) (fun k => A4 m c (ix2 0 k)) (fun k => A5 m c (ix2 0 k))

/-- A point's share of a row. -/
theorem pblk_eq (c : Dev nD) (t : Fin cfg0.N) (r : Fin 512) (k : Fin 2048) :
    pblk (n := 512) (iblk m c 0 t) (iblk m c 2 t) (iblk m c 1 t) (iblk m c 4 t) (iblk m c 5 t) r k = gb m c (ro t r) (jb t) k := by
  unfold pblk gb hrow gh
  have e0 : (fun d => (iblk m c 0 t : Vec Ideal S512x2048 .f32) (ix2 r d)) = fun d => A0 m c (ix2 (ro t r) d) := funext (b0 m c t r)
  have e1 : (fun d => (iblk m c 1 t : Vec Ideal S1x1x2048 .f32) (ix3 0 0 d)) = fun d => A1 m c (ix3 (sq (ro t r)) 0 (pc 1 d)) := funext (b1 m c t r)
  have e2 : (fun d => (iblk m c 2 t : Vec Ideal S1x1x2048 .f32) (ix3 0 0 d)) = fun d => A1 m c (ix3 (sq (ro t r)) 0 (pc 2 d)) := funext (b2 m c t r)
  have e4 : (fun d q => (iblk m c 4 t : Vec Ideal S1x2048x1024 .bf16) (ix3 0 d q)) = fun d q => A2 m c (ix3 (jb t) d q) := funext fun d => funext (b4 m c t d)
  have e5 : (fun q k => (iblk m c 5 t : Vec Ideal S1024x2048 .bf16) (ix2 q k)) = fun q k => A3 m c (ix2 ⟨1024 * (jb t).val + q.val, by have := (jb t).isLt; omega⟩ k) := funext fun q => funext (b5 m c t q)
  rw [← e0, ← e1, ← e2, ← e4, ← e5]

/-- What block number `j` adds, for any number. -/
def gbN (c : Dev nD) (R : Fin 8192) (k : Fin 2048) (j : ℕ) : EReal := if h : j < 8 then gb m c R ⟨j, h⟩ k else 0

/-- A point's share by its number. -/
theorem gbN_eq (c : Dev nD) (t : Fin cfg0.N) (R : Fin 8192) (k : Fin 2048) : gb m c R (jb t) k = gbN m c R k (t.val % 8) :=
  (dif_pos (c := t.val % 8 < 8) (t := fun h => gb m c R ⟨t.val % 8, h⟩ k) (e := fun _ => (0 : EReal)) (by omega)).symm

/-- Before the last point of a row block, the block holds the sum over the hidden units so far. -/
theorem acc (c : Dev nD) (r : Fin 512) (k : Fin 2048) : ∀ (n : ℕ) (hn : n < cfg0.N), n % 8 ≤ 6 →
    (outsAt0 m c n hn : Vec Ideal S512x2048 .f32) (ix2 r k) = ∑ j ∈ Finset.range (n % 8 + 1), gbN m c (ro ⟨n, hn⟩ r) k j
  | n, hn, h6 => by
    by_cases h0 : n % 8 = 0
    · rw [show outsAt0 m c n hn = _ from outsAt0_A m c ⟨n, hn⟩ h0 h6 (by show ¬ n % 8 = 7; omega), oA]
      rw [pblk_eq, gbN_eq]
      show gbN m c _ k (n % 8) = _
      rw [h0, Finset.sum_range_one]
    · obtain ⟨p, rfl⟩ : ∃ p, n = p + 1 := ⟨n - 1, by omega⟩
      rw [show outsAt0 m c (p + 1) hn = _ from outsAt0_B m c ⟨p + 1, hn⟩ h0 h6 (by show ¬ (p + 1) % 8 = 7; omega), oB]
      rw [pblk_eq, gbN_eq]
      have ih := acc c r k p (by omega) (by omega)
      have hr : ro ⟨p, by omega⟩ r = ro ⟨p + 1, hn⟩ r := Fin.ext (by show 512 * (p / 8) + r.val = 512 * ((p + 1) / 8) + r.val; omega)
      have hp : p % 8 + 1 = (p + 1) % 8 := by omega
      rw [hr, hp] at ih
      show (outsAt0 m c p _ : Vec Ideal S512x2048 .f32) (ix2 r k) + gbN m c _ k ((p + 1) % 8) = _
      rw [ih, Finset.sum_range_succ]

/-- The last point of a row block leaves the normalised rows. -/
theorem fin_at (c : Dev nD) (t : Fin cfg0.N) (h7 : t.val % 8 = 7) (r : Fin 512) (k : Fin 2048) :
    (outsAt0 m c t.val t.isLt : Vec Ideal S512x2048 .f32) (ix2 r k) = gF m c (ro t r) k := by
  rw [outsAt0_C m c t (by omega) (by omega) h7, oC]
  unfold finRow gF
  have e0 : (fun d => (iblk m c 0 t : Vec Ideal S512x2048 .f32) (ix2 r d)) = fun d => A0 m c (ix2 (ro t r) d) := funext (b0 m c t r)
  have e3 : (fun d => (iblk m c 3 t : Vec Ideal S1x1x2048 .f32) (ix3 0 0 d)) = fun d => A1 m c (ix3 (sq (ro t r)) 0 (pc 3 d)) := funext (b3 m c t r)
  have e6 : (fun d => (iblk m c 6 t : Vec Ideal S1x2048 .f32) (ix2 0 d)) = fun d => A4 m c (ix2 0 d) := funext fun d => (b6 m c t d).trans (h1 m c d)
  have e7 : (fun d => (iblk m c 7 t : Vec Ideal S1x2048 .f32) (ix2 0 d)) = fun d => A5 m c (ix2 0 d) := funext fun d => (b7 m c t d).trans (h3 m c d)
  rw [← e0, ← e3, ← e6, ← e7]
  refine congrArg (fun f => lnorm (resid (fun d => (iblk m c 0 t : Vec Ideal S512x2048 .f32) (ix2 r d)) (fun d => (iblk m c 3 t : Vec Ideal S1x1x2048 .f32) (ix3 0 0 d)) f)
    (fun d => (iblk m c 6 t : Vec Ideal S1x2048 .f32) (ix2 0 d)) (fun d => (iblk m c 7 t : Vec Ideal S1x2048 .f32) (ix2 0 d)) k) (funext fun d => ?_)
  have hl := t.isLt
  rw [pblk_eq, gbN_eq, acc m c r d (t.val - 1) (by omega) (by omega)]
  have hr : ro ⟨t.val - 1, by omega⟩ r = ro t r := Fin.ext (by show 512 * ((t.val - 1) / 8) + r.val = 512 * (t.val / 8) + r.val; omega)
  rw [hr, show (t.val - 1) % 8 + 1 = 7 from by omega, h7, ← Finset.sum_range_succ, ← Fin.sum_univ_eq_sum_range]
  exact Finset.sum_congr rfl fun j _ => dif_pos j.isLt

/-- The whole result. -/
def G (c : Dev nD) : Vec Ideal S8192x2048 .f32 := fun i => gF m c (i 0) (i 1)

/-- Each row block that is written back is a block of the result. -/
theorem flushed_eq (c : Dev nD) (t : Fin cfg0.N) (hf : (cfg0.win 8).flush t = true) :
    (dats m 0 c).flushed 8 t = ((cfg0.win 8).blk t).view.read (Elt Ideal) (G m c) := by
  rw [flushed8]
  have h7 := (flush0_8 t).mp hf
  obtain ⟨e0, e1⟩ := (idx t).2.2.2.2.2.2.2.2
  funext y
  have hb : ((cfg0.win 8).blk t).view.emb y = (ix2 (ro t (y 0)) (y 1) : S8192x2048.Idx) := Shape.idx_ext₂
    (by show win0_8.index t 0 * 512 + 1 * (y 0).val = 512 * (t.val / 8) + (y 0).val; rw [e0]; omega)
    (by show win0_8.index t 1 * 2048 + 1 * (y 1).val = (y 1).val; rw [e1]; omega)
  refine Eq.trans ?_ (congrArg (G m c) hb).symm
  refine Eq.trans (congrArg (outsAt0 m c t.val t.isLt : Vec Ideal S512x2048 .f32) (eq_ix2 _)) ?_
  exact fin_at m c t h7 (y 0) (y 1)

/-- The array after the run is the result. -/
theorem final (c : Dev nD) : (dats m 0 c).arrAt 8 cfg0.N = G m c :=
  (dats m 0 c).arrAt_eq_of_cover 8 _ (fun t hf => flushed_eq m c t hf) fun i => by
    have h0 : (i 0).val < 8192 := (i 0).isLt
    have h1 : (i 1).val < 2048 := (i 1).isLt
    have hN : cfg0.N = 128 := N_0
    obtain ⟨t, ht⟩ : ∃ t : Fin cfg0.N, t.val = 8 * ((i 0).val / 512) + 7 := ⟨⟨8 * ((i 0).val / 512) + 7, by omega⟩, rfl⟩
    obtain ⟨e0, e1⟩ := (idx t).2.2.2.2.2.2.2.2
    refine ⟨t, (flush0_8 t).mpr (by omega), ?_⟩
    show i ∈ ((View.whole main_v4).slice (win0_8.rect t)).set
    rw [View.set_slice_whole, Rect.mem_set_unit]
    intro a
    match a with
    | ⟨0, _⟩ => show win0_8.index t (0 : Fin 2) * 512 ≤ (i 0).val ∧ (i 0).val < win0_8.index t (0 : Fin 2) * 512 + 512; rw [e0]; omega
    | ⟨1, _⟩ => show win0_8.index t (1 : Fin 2) * 2048 ≤ (i 1).val ∧ (i 1).val < win0_8.index t (1 : Fin 2) * 2048 + 2048; rw [e1]; omega

end Cert.FfnPromptIdeal.Val
end
-- ==== Proof.FpRef.lean ====
module

public import proofs.«01_k».proof.Proof.Gen.RefFfnPromptIdeal.Read
public import proofs.«01_k».proof.Proof.Ffn

@[expose] public section
set_option maxRecDepth 16384
noncomputable section
namespace Cert.RefFfnPromptIdeal.Closed
open Cert.RefFfnPromptIdeal Cert.RefFfnPromptIdeal.Read Idealize.ShloMosaic Idealize.ShloMosaic.TcCoe Ffn

/-- The contents of an `f32` buffer. -/
abbrev Con (S : Shape) : Type := (⟨S, EltTy.f32⟩ : BufTy).Contents (Elt Ideal)
/-- The contents of a `bf16` buffer. -/
abbrev Conb (S : Shape) : Type := (⟨S, EltTy.bf16⟩ : BufTy).Contents (Elt Ideal)

/-- Column `d` of a piece of the modulation. -/
abbrev pc (p : Fin 4) (d : Fin 2048) : Fin 8192 := ⟨2048 * p.val + d.val, by omega⟩
/-- Row `s` of sequence `b`. -/
abbrev rg (b : Fin 4) (s : Fin 2048) : Fin 8192 := ⟨2048 * b.val + s.val, by omega⟩
/-- A piece of a sequence's modulation. -/
def aM (x1 : Con S4x1x8192) (b : Fin 4) (p : Fin 4) (d : Fin 2048) : EReal := x1 (ix3 b 0 (pc p d))
/-- A row of the input. -/
def aX (x0 : Con S8192x2048) (b : Fin 4) (s : Fin 2048) (d : Fin 2048) : EReal := x0 (ix2 (rg b s) d)
/-- The first weights, by block of columns. -/
def aW1 (x2 : Conb S8x2048x1024) (j : Fin 8) (d : Fin 2048) (q : Fin 1024) : EReal := x2 (ix3 j d q)
/-- The second weights, by block of rows. -/
def aW2 (x3 : Conb S8192x2048) (j : Fin 8) (q : Fin 1024) (k : Fin 2048) : EReal := x3 (ix2 ⟨1024 * j.val + q.val, by omega⟩ k)
/-- The row that enters the first product. -/
def aH (x0 : Con S8192x2048) (x1 : Con S4x1x8192) (b : Fin 4) (s : Fin 2048) : Fin 2048 → EReal :=
  modRow (aX x0 b s) (aM x1 b 2) (aM x1 b 1)
/-- The feed-forward sum, block by block. -/
def aF (x0 : Con S8192x2048) (x1 : Con S4x1x8192) (x2 : Conb S8x2048x1024) (x3 : Conb S8192x2048) (b : Fin 4) (s k : Fin 2048) : EReal :=
  ∑ j, blk (aH x0 x1 b s) (aW1 x2 j) (aW2 x3 j) k

/-- The rows as sequences. -/
theorem rows_apply (x0 : Con S8192x2048) (b : Fin 4) (s d : Fin 2048) : val_main_v0 (F := Ideal) x0 (ix3 b s d) = aX x0 b s d := by
  rw [val_main_v0_apply]
  refine congrArg x0 (Shape.idx_ext₂ ?_ ?_)
  · show ((b.val * 2048 + s.val) * 2048 + d.val) / 2048 = 2048 * b.val + s.val
    omega
  · show ((b.val * 2048 + s.val) * 2048 + d.val) % 2048 = d.val
    omega

/-- The first weights as one matrix. -/
theorem w1_apply (x2 : Conb S8x2048x1024) (d : Fin 2048) (j : Fin 8) (q : Fin 1024) :
    val_main_v3 (F := Ideal) x2 (ix2 d ⟨1024 * j.val + q.val, by omega⟩) = aW1 x2 j d q := by
  rw [val_main_v3_apply, val_main_v2_apply, val_main_v1_apply]
  refine congrArg x2 (funext fun a => Fin.ext ?_)
  match a with
  | ⟨0, _⟩ => show (d.val * 8192 + (1024 * j.val + q.val)) / 1024 % 8 = j.val; omega
  | ⟨1, _⟩ => show (d.val * 8192 + (1024 * j.val + q.val)) / 8192 = d.val; omega
  | ⟨2, _⟩ => show (d.val * 8192 + (1024 * j.val + q.val)) % 1024 = q.val; omega

/-- The shifted and scaled rows. -/
theorem mod_apply (x0 : Con S8192x2048) (x1 : Con S4x1x8192) (b : Fin 4) (s d : Fin 2048) :
    val_main_v13 (F := Ideal) x0 x1 (ix3 b s d) = aH x0 x1 b s d := by
  unfold val_main_v13 val_main_v12 val_main_v11 val_main_v10 val_main_v9 val_main_v8 val_main_v6 val_main_v5 val_main_cst
  pointwise
  rw [rows_apply]
  rfl

/-- A hidden unit. -/
theorem unit_apply (x0 : Con S8192x2048) (x1 : Con S4x1x8192) (x2 : Conb S8x2048x1024) (b : Fin 4) (s : Fin 2048) (n : Fin 8192) :
    val_main_v16 (F := Ideal) x0 x1 x2 (ix3 b s n) = unit (aH x0 x1 b s) (fun d => val_main_v3 (F := Ideal) x2 (ix2 d n)) := by
  unfold val_main_v16 val_main_v15 val_main_v14 val_main_call0_v0 val_main_call0_cst
  pointwise
  simp only [mod_apply]
  rfl

/-- The feed-forward sum. -/
theorem ff_apply (x0 : Con S8192x2048) (x1 : Con S4x1x8192) (x2 : Conb S8x2048x1024) (x3 : Conb S8192x2048) (b : Fin 4) (s k : Fin 2048) :
    val_main_v17 (F := Ideal) x0 x1 x2 x3 (ix3 b s k) = aF x0 x1 x2 x3 b s k := by
  unfold val_main_v17 val_main_v4
  pointwise
  simp only [unit_apply]
  rw [sum_blocks]
  simp only [w1_apply]
  rfl

/-- The row that is normalised. -/
theorem resid_apply (x0 : Con S8192x2048) (x1 : Con S4x1x8192) (x2 : Conb S8x2048x1024) (x3 : Conb S8192x2048) (b : Fin 4) (s k : Fin 2048) :
    val_main_v24 (F := Ideal) x0 x1 x2 x3 (ix3 b s k) = resid (aX x0 b s) (aM x1 b 3) (aF x0 x1 x2 x3 b s) k := by
  unfold val_main_v24 val_main_v23 val_main_v22 val_main_v21 val_main_v20 val_main_v19 val_main_v18 val_main_v7 val_main_cst_0 val_main_cst_1
  pointwise
  rw [rows_apply, ff_apply]
  rfl

/-- The normalised row. -/
theorem norm_apply (x0 : Con S8192x2048) (x1 : Con S4x1x8192) (x2 : Conb S8x2048x1024) (x3 : Conb S8192x2048) (x4 x5 : Con S1x2048) (b : Fin 4) (s k : Fin 2048) :
    val_main_v50 (F := Ideal) x0 x1 x2 x3 x4 x5 (ix3 b s k)
      = lnorm (resid (aX x0 b s) (aM x1 b 3) (aF x0 x1 x2 x3 b s)) (fun k => x4 (ix2 0 k)) (fun k => x5 (ix2 0 k)) k := by
  unfold val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_cst_2 val_main_cst_3 val_main_cst_4 val_main_cst_5 val_main_cst_6
  pointwise
  simp only [resid_apply]
  rfl

/-- The result. -/
theorem result_apply (x0 : Con S8192x2048) (x1 : Con S4x1x8192) (x2 : Conb S8x2048x1024) (x3 : Conb S8192x2048) (x4 x5 : Con S1x2048) (b : Fin 4) (s k : Fin 2048) :
    val_main_v51 (F := Ideal) x0 x1 x2 x3 x4 x5 (ix2 (rg b s) k)
      = lnorm (resid (aX x0 b s) (aM x1 b 3) (aF x0 x1 x2 x3 b s)) (fun k => x4 (ix2 0 k)) (fun k => x5 (ix2 0 k)) k := by
  rw [val_main_v51_apply, ← norm_apply]
  refine congrArg (val_main_v50 (F := Ideal) x0 x1 x2 x3 x4 x5) (funext fun a => Fin.ext ?_)
  match a with
  | ⟨0, _⟩ => show ((2048 * b.val + s.val) * 2048 + k.val) / 4194304 = b.val; omega
  | ⟨1, _⟩ => show ((2048 * b.val + s.val) * 2048 + k.val) / 2048 % 2048 = s.val; omega
  | ⟨2, _⟩ => show ((2048 * b.val + s.val) * 2048 + k.val) % 2048 = k.val; omega

end Cert.RefFfnPromptIdeal.Closed
end
-- ==== Proof.FpMatch.lean ====
module

public import proofs.«01_k».proof.Proof.FpSweep
public import proofs.«01_k».proof.Proof.FpRef

@[expose] public section
set_option maxRecDepth 16384
noncomputable section
namespace Cert.FfnPromptIdeal.Val
open Cert.FfnPromptIdeal Cert.FfnPromptIdeal.Gen Idealize.ShloMosaic Idealize.ShloMosaic.TcCoe Ffn

variable (m : (ℓ : Loc nD τ sig) → Buf (Elt Ideal) ℓ)

/-- The array after the run is what the reference computes from the same arguments. -/
theorem match_ref (c : Dev nD) : (dats m 0 c).arrAt 8 cfg0.N
    = Cert.RefFfnPromptIdeal.Read.val_main_v51 (F := Ideal) (A0 m c) (A1 m c) (A2 m c) (A3 m c) (A4 m c) (A5 m c) := by
  rw [final]
  refine funext fun i => ?_
  have h0 : (i 0).val < 8192 := (i 0).isLt
  have hr := Cert.RefFfnPromptIdeal.Closed.result_apply (A0 m c) (A1 m c) (A2 m c) (A3 m c) (A4 m c) (A5 m c)
    (sq (i 0)) ⟨(i 0).val % 2048, Nat.mod_lt _ (by decide)⟩ (i 1)
  have hi : (ix2 (Cert.RefFfnPromptIdeal.Closed.rg (sq (i 0)) ⟨(i 0).val % 2048, Nat.mod_lt _ (by decide)⟩) (i 1) : S8192x2048.Idx) = i :=
    Shape.idx_ext₂ (by show 2048 * ((i 0).val / 2048) + (i 0).val % 2048 = (i 0).val; omega) rfl
  refine Eq.trans ?_ ((congrArg (Cert.RefFfnPromptIdeal.Read.val_main_v51 (F := Ideal) (A0 m c) (A1 m c) (A2 m c) (A3 m c) (A4 m c) (A5 m c)) hi).symm.trans hr).symm
  have hx : Cert.RefFfnPromptIdeal.Closed.rg (sq (i 0)) ⟨(i 0).val % 2048, Nat.mod_lt _ (by decide)⟩ = i 0 :=
    Fin.ext (by show 2048 * ((i 0).val / 2048) + (i 0).val % 2048 = (i 0).val; omega)
  have ex : Cert.RefFfnPromptIdeal.Closed.aX (A0 m c) (sq (i 0)) ⟨(i 0).val % 2048, Nat.mod_lt _ (by decide)⟩ = fun d => A0 m c (ix2 (i 0) d) := by
    unfold Cert.RefFfnPromptIdeal.Closed.aX
    rw [hx]
  unfold Cert.RefFfnPromptIdeal.Closed.aF Cert.RefFfnPromptIdeal.Closed.aH
  rw [ex]
  rfl

end Cert.FfnPromptIdeal.Val
end
-- ==== Proof.Pieces.lean ====
module

public import proofs.«01_k».proof.Proof.Gen.MixerSampleIdeal.Frame
public import Idealize.ShloMosaic.Lib.Pointwise

@[expose] public section
set_option maxRecDepth 16384
noncomputable section
namespace Cert.MixerSampleIdeal.Val
open Cert.MixerSampleIdeal Cert.MixerSampleIdeal.Gen Idealize.ShloMosaic Idealize.ShloMosaic.TcCoe Idealize.ShloMosaic.Tactic

/-- Two zero offsets, however spelt. -/
theorem hz2 : (![0, 0] : Fin 2 → Nat) = fun _ => 0 := funext fun a => by fin_cases a <;> rfl

/-- Three zero offsets, however spelt. -/
theorem hz3 : (![0, 0, 0] : Fin 3 → Nat) = fun _ => 0 := funext fun a => by fin_cases a <;> rfl

/-- One whole store into a 128 × 1024 buffer leaves what was stored. -/
theorem canon_full1024 (inb) (w : Vec Ideal S128x1024 .f32) :
    View.canon [(⟨Rect.unit (s := S128x1024) ![0, 0] ![128, 1024] inb, w⟩ : View.Piece (Elt Ideal) S128x1024 .f32)] = w :=
  View.canon_unit_zero hz2 inb w

/-- One whole store into a 128 × 256 buffer leaves what was stored. -/
theorem canon_full256 (inb) (w : Vec Ideal S128x256 .f32) :
    View.canon [(⟨Rect.unit (s := S128x256) ![0, 0] ![128, 256] inb, w⟩ : View.Piece (Elt Ideal) S128x256 .f32)] = w :=
  View.canon_unit_zero hz2 inb w

/-- The right-hand operand of the carry rows: ones in the first three rows of its upper half. -/
abbrev onesP : FVec Ideal S8x256 .f32 := k0_pay90 (iota Kind.tc S8x256 32 [1] iota_S8x256_d1_w32) k0_pay88 k0_pay89

theorem slt3 : ∀ t : Fin 8, IntOp.cmpi CmpIPredicate.slt (BitVec.ofNat 32 ↑t) 3#32 = if t.val < 3 then 1#1 else 0#1 := by decide

theorem sge128 : ∀ n : Fin 256, IntOp.cmpi CmpIPredicate.sge (BitVec.ofNat 32 ↑n) 128#32 = if 128 ≤ n.val then 1#1 else 0#1 := by
  decide

/-- The entries of the right-hand operand of the carry rows. -/
theorem ones_apply (t : Fin 8) (n : Fin 256) : onesP (ix2 t n) = if t.val < 3 ∧ 128 ≤ n.val then 1 else 0 := by
  unfold onesP k0_pay90 k0_pay88 k0_pay89
  pointwise
  rw [slt3, sge128]
  by_cases h1 : t.val < 3 <;> by_cases h2 : 128 ≤ n.val <;> simp [h1, h2, IntOp.andi, Scalar.select]

/-- One head group of one sequence: the old state scaled by the carried decay, plus the outer products of its eight steps. -/
theorem st_pay_apply (s : Vec Ideal S1x512x128 .f32) (w a : Vec Ideal S8x512 .f32) (b : Vec Ideal S8x128 .f32) (r : Fin 512)
    (n : Fin 128) :
    k0_pay97 onesP k0_pay91 s w a b (ix3 0 r n)
      = (∑ t : Fin 8, if t.val < 3 then a (ix2 t r) else 0) * s (ix3 0 r n) + ∑ t : Fin 8, w (ix2 t r) * b (ix2 t n) := by
  generalize hR : (∑ t : Fin 8, if t.val < 3 then a (ix2 t r) else 0) = R
  unfold k0_pay97
  generalize ho : onesP = o
  unfold k0_pay91 k0_pay95
  pointwise
  subst ho hR
  simp only [ones_apply]
  have hn : ¬ 128 ≤ n.val := by have := n.isLt; omega
  have h1 : 128 ≤ 128 + n.val := by omega
  simp only [hn, h1, and_true, and_false, if_false, mul_zero, Finset.sum_const_zero, zero_add, add_zero, mul_ite, mul_one]

/-- The state block the pieces make up, from the step weights, the carried decays, the keys and the old state. -/
def stG (W A : Vec Ideal S128x1024 .f32) (B : Vec Ideal S128x256 .f32) (S : Vec Ideal S16x1024x128 .f32) (i : S16x1024x128.Idx) : EReal :=
  (∑ t : Fin 8, if t.val < 3 then A (ix2 ⟨8 * (i 0).val + t.val, by have : (i 0).val < 16 := (i 0).isLt; omega⟩ ⟨(i 1).val, (i 1).isLt⟩) else 0) * S i
    + ∑ t : Fin 8, W (ix2 ⟨8 * (i 0).val + t.val, by have : (i 0).val < 16 := (i 0).isLt; omega⟩ ⟨(i 1).val, (i 1).isLt⟩)
        * B (ix2 ⟨8 * (i 0).val + t.val, by have : (i 0).val < 16 := (i 0).isLt; omega⟩
            ⟨128 * ((i 1).val / 512) + (i 2).val, by have : (i 1).val < 1024 := (i 1).isLt; have : (i 2).val < 128 := (i 2).isLt; omega⟩)

/-- A stored piece is its window of the state block. -/
theorem st_piece (W A : Vec Ideal S128x1024 .f32) (B : Vec Ideal S128x256 .f32) (S : Vec Ideal S16x1024x128 .f32) (q o p l : Nat)
    (ho : o = 8 * q) (hp' : p = 512 * (p / 512)) (hl' : l = 128 * (p / 512))
    (i1 : ∀ a, (![q, p, 0] : Fin 3 → Nat) a + (![1, 512, 128] : Fin 3 → Nat) a ≤ S16x1024x128.size a)
    (i2 : ∀ a, (![o, p] : Fin 2 → Nat) a + (![8, 512] : Fin 2 → Nat) a ≤ S128x1024.size a)
    (i3 : ∀ a, (![o, l] : Fin 2 → Nat) a + (![8, 128] : Fin 2 → Nat) a ≤ S128x256.size a)
    (x : (Rect.unit (s := S16x1024x128) ![q, p, 0] ![1, 512, 128] i1).shape.Idx) :
    k0_pay97 onesP k0_pay91 (View.ld S (Rect.unit (s := S16x1024x128) ![q, p, 0] ![1, 512, 128] i1))
        (fun j => W ((Rect.unit (s := S128x1024) ![o, p] ![8, 512] i2).toLoadRect.idx j))
        (fun j => A ((Rect.unit (s := S128x1024) ![o, p] ![8, 512] i2).toLoadRect.idx j))
        (fun j => B ((Rect.unit (s := S128x256) ![o, l] ![8, 128] i3).toLoadRect.idx j)) x
      = stG W A B S ((Rect.unit (s := S16x1024x128) ![q, p, 0] ![1, 512, 128] i1).emb x) := by
  obtain ⟨g, hp, hl⟩ : ∃ g, p = 512 * g ∧ l = 128 * g := ⟨p / 512, hp', hl'⟩
  clear hp' hl'
  subst ho hp hl
  obtain ⟨r, n, rfl⟩ : ∃ (r : Fin 512) (n : Fin 128), x = ix3 (0 : Fin 1) r n :=
    ⟨x 1, x 2, by
      refine (eq_ix3 (n0 := 1) (n1 := 512) (n2 := 128) x).trans ?_
      congr 1
      exact Subsingleton.elim (α := Fin 1) _ _⟩
  refine (st_pay_apply _ _ _ _ r n).trans ?_
  unfold stG
  have hg : (512 * g + 1 * r.val) / 512 = g := by omega
  have e0 : (((Rect.unit (s := S16x1024x128) ![q, 512 * g, 0] ![1, 512, 128] i1).emb (ix3 (0 : Fin 1) r n)) 0).val = q := by
    show q + 1 * 0 = q
    omega
  have e1 : (((Rect.unit (s := S16x1024x128) ![q, 512 * g, 0] ![1, 512, 128] i1).emb (ix3 (0 : Fin 1) r n)) 1).val = 512 * g + r.val := by
    show 512 * g + 1 * r.val = _
    omega
  have e2 : (((Rect.unit (s := S16x1024x128) ![q, 512 * g, 0] ![1, 512, 128] i1).emb (ix3 (0 : Fin 1) r n)) 2).val = n.val := by
    show 0 + 1 * n.val = _
    omega
  simp only [e0, e1, e2]
  congr 1
  · congr 1
    refine Finset.sum_congr rfl fun t _ => ?_
    congr 2
    funext a
    apply Fin.ext
    fin_cases a
    · show 8 * q + 1 * t.val = _
      simp
    · show 512 * g + 1 * r.val = _
      simp
  · refine Finset.sum_congr rfl fun t _ => ?_
    congr 2
    · funext a
      apply Fin.ext
      fin_cases a
      · show 8 * q + 1 * t.val = _
        simp
      · show 512 * g + 1 * r.val = _
        simp
    · funext a
      apply Fin.ext
      fin_cases a
      · show 8 * q + 1 * t.val = _
        simp
      · show 128 * g + 1 * n.val = 128 * ((512 * g + r.val) / 512) + n.val
        omega

/-- Stored pieces that agree with one function and cover the buffer leave that function. -/
theorem canon_fun {S : Shape} {e : EltTy} (G : S.Idx → Elt Ideal e) (L : List (View.Piece (Elt Ideal) S e))
    (hL : ∀ p ∈ L, ∀ x : p.1.shape.Idx, p.2 x = G (p.1.emb x)) (hc : ∀ y, ∃ p ∈ L, y ∈ p.1.set) : View.canon L = G :=
  funext fun y => View.canon_apply_of_pieces G L hL y (hc y)

/-- One whole store into the result block leaves what was stored. -/
theorem canon_full2048 (inb) (w : Vec Ideal S128x2048 .bf16) :
    View.canon [(⟨Rect.unit (s := S128x2048) ![0, 0] ![128, 2048] inb, w⟩ : View.Piece (Elt Ideal) S128x2048 .bf16)] = w :=
  View.canon_unit_zero hz2 inb w

/-- A load of a whole 1 × 1024 row. -/
theorem ld_row1024 (inb) (w : Vec Ideal S1x1024 .f32) : View.ld w (Rect.unit (s := S1x1024) ![0, 0] ![1, 1024] inb) = w :=
  View.ld_unit_zero hz2 inb w

/-- Reading a whole 128 × 1024 buffer row by row, lane by lane. -/
theorem idx_full1024 (inb) (w : Vec Ideal S128x1024 .f32) :
    (fun j => w ((Rect.unit (s := S128x1024) ![0, 0] ![128, 1024] inb).toLoadRect.idx j)) = w :=
  View.ld_unit_zero hz2 inb w

/-- What the old states give each step: the queries against the state rows. -/
def yoG (C : Vec Ideal S128x256 .f32) (S : Vec Ideal S16x1024x128 .f32) (i : S128x1024.Idx) : EReal :=
  ∑ n : Fin 128, C (ix2 ⟨(i 0).val, (i 0).isLt⟩ ⟨128 * ((i 1).val / 512) + n.val, by have : (i 1).val < 1024 := (i 1).isLt; have := n.isLt; omega⟩)
    * S (ix3 ⟨(i 0).val / 8, by have : (i 0).val < 128 := (i 0).isLt; omega⟩ ⟨(i 1).val, (i 1).isLt⟩ n)

/-- The queries of eight steps against 512 state rows. -/
theorem yo_pay_apply (s : Vec Ideal S1x512x128 .f32) (c : Vec Ideal S8x128 .f32) (t : Fin 8) (r : Fin 512) :
    k0_pay93 s c (ix2 t r) = ∑ n : Fin 128, c (ix2 t n) * s (ix3 0 r n) := by
  unfold k0_pay93 k0_pay92
  pointwise

/-- A stored piece is its window of what the old states give. -/
theorem yo_piece (C : Vec Ideal S128x256 .f32) (S : Vec Ideal S16x1024x128 .f32) (q o p l : Nat)
    (ho : o = 8 * q) (hp' : p = 512 * (p / 512)) (hl' : l = 128 * (p / 512))
    (i1 : ∀ a, (![q, p, 0] : Fin 3 → Nat) a + (![1, 512, 128] : Fin 3 → Nat) a ≤ S16x1024x128.size a)
    (i2 : ∀ a, (![o, p] : Fin 2 → Nat) a + (![8, 512] : Fin 2 → Nat) a ≤ S128x1024.size a)
    (i3 : ∀ a, (![o, l] : Fin 2 → Nat) a + (![8, 128] : Fin 2 → Nat) a ≤ S128x256.size a)
    (x : (Rect.unit (s := S128x1024) ![o, p] ![8, 512] i2).shape.Idx) :
    k0_pay93 (View.ld S (Rect.unit (s := S16x1024x128) ![q, p, 0] ![1, 512, 128] i1))
        (fun j => C ((Rect.unit (s := S128x256) ![o, l] ![8, 128] i3).toLoadRect.idx j)) x
      = yoG C S ((Rect.unit (s := S128x1024) ![o, p] ![8, 512] i2).emb x) := by
  obtain ⟨g, hp, hl⟩ : ∃ g, p = 512 * g ∧ l = 128 * g := ⟨p / 512, hp', hl'⟩
  clear hp' hl'
  subst ho hp hl
  obtain ⟨t, r, rfl⟩ : ∃ (t : Fin 8) (r : Fin 512), x = ix2 t r := ⟨x 0, x 1, eq_ix2 (n0 := 8) (n1 := 512) x⟩
  refine (yo_pay_apply _ _ t r).trans ?_
  unfold yoG
  have e0 : (((Rect.unit (s := S128x1024) ![8 * q, 512 * g] ![8, 512] i2).emb (ix2 t r)) 0).val = 8 * q + t.val := by
    show 8 * q + 1 * t.val = _
    omega
  have e1 : (((Rect.unit (s := S128x1024) ![8 * q, 512 * g] ![8, 512] i2).emb (ix2 t r)) 1).val = 512 * g + r.val := by
    show 512 * g + 1 * r.val = _
    omega
  simp only [e0, e1]
  refine Finset.sum_congr rfl fun n _ => ?_
  congr 2
  · funext a
    apply Fin.ext
    fin_cases a
    · show 8 * q + 1 * t.val = 8 * q + t.val
      omega
    · show 128 * g + 1 * n.val = 128 * ((512 * g + r.val) / 512) + n.val
      omega
  · refine congrArg S ?_
    funext a
    apply Fin.ext
    fin_cases a
    · show q + 1 * 0 = (8 * q + t.val) / 8
      omega
    · show 512 * g + 1 * r.val = 512 * g + r.val
      omega
    · show 0 + 1 * n.val = n.val
      omega
end Cert.MixerSampleIdeal.Val
end
-- ==== Proof.Open.lean ====
module

public import proofs.«01_k».proof.Proof.Pieces

@[expose] public section
set_option maxRecDepth 16384
noncomputable section
namespace Cert.MixerSampleIdeal.Val
open Cert.MixerSampleIdeal Cert.MixerSampleIdeal.Gen Idealize.ShloMosaic Idealize.ShloMosaic.TcCoe Idealize.ShloMosaic.Tactic

/-- The block after the convolution and its gate, from the rows, the carried rows, the taps and the bias. -/
def kX (x1 x2 : Vec Ideal S128x1536 .f32) (x7 : Vec Ideal S4x1536 .f32) (x8 : Vec Ideal S1x1536 .f32) : FVec Ideal S128x1536 .f32 :=
  k0_pay25 k0_pay15 x1 (k0_pay21 x2) (k0_pay22 k0_pay15 x1 x2) (k0_pay23 k0_pay15) (k0_pay24 x1) 122#32 x8
    (View.ld x7 (Rect.unit ![0, 0] ![1, 1536] inb_S4x1536_S1x1536_0_0))
    (View.ld x7 (Rect.unit ![1, 0] ![1, 1536] inb_S4x1536_S1x1536_1_0))
    (View.ld x7 (Rect.unit ![2, 0] ![1, 1536] inb_S4x1536_S1x1536_2_0))
    (View.ld x7 (Rect.unit ![3, 0] ![1, 1536] inb_S4x1536_S1x1536_3_0))

/-- The running decay exponents of the block. -/
def kAc (x3 : Vec Ideal S128x128 .f32) (x9 : Vec Ideal S1x128 .f32) : FVec Ideal S128x128 .f32 := k0_pay27 k0_pay15 x3 (k0_pay26 x9)

/-- Each sequence's last decay exponent, on all its rows. -/
def kTot (x3 : Vec Ideal S128x128 .f32) (x9 : Vec Ideal S1x128 .f32) : FVec Ideal S128x128 .f32 := k0_pay28 k0_pay15 x3 (k0_pay26 x9)

/-- The step weights of the state update. -/
def kW (x1 x2 : Vec Ideal S128x1536 .f32) (x3 : Vec Ideal S128x128 .f32) (x7 : Vec Ideal S4x1536 .f32) (x8 : Vec Ideal S1x1536 .f32)
    (x9 : Vec Ideal S1x128 .f32) (x11 : Vec Ideal S384x1024 .bf16) : Vec Ideal S128x1024 .f32 :=
  k0_pay85 (k0_pay37 (kX x1 x2 x7 x8) x3 (kAc x3 x9) (kTot x3 x9) x11)

/-- The carried decays, in three summands on the first three rows of each sequence. -/
def kA (x3 : Vec Ideal S128x128 .f32) (x9 : Vec Ideal S1x128 .f32) (x11 : Vec Ideal S384x1024 .bf16) : Vec Ideal S128x1024 .f32 :=
  k0_pay84 k0_pay81 (k0_pay82 x11) (k0_pay83 (kTot x3 x9))

set_option maxHeartbeats 4000000 in
/-- Past the first grid point, the stored state block is the block its pieces make up. -/
theorem o17B (c : Dev nD) (i : grid0.Coords) (arg1 : Memref sig .tc .vmem S128x1024 .f32) (harg1 : arg1.IsWhole) (arg2 : Memref sig .tc .vmem S128x1536 .f32) (harg2 : arg2.IsWhole) (arg3 : Memref sig .tc .vmem S128x1536 .f32) (harg3 : arg3.IsWhole) (arg4 : Memref sig .tc .vmem S128x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S16x1024x128 .f32) (harg7 : arg7.IsWhole) (arg8 : Memref sig .tc .vmem S4x1536 .f32) (harg8 : arg8.IsWhole) (arg9 : Memref sig .tc .vmem S1x1536 .f32) (harg9 : arg9.IsWhole) (arg10 : Memref sig .tc .vmem S1x128 .f32) (harg10 : arg10.IsWhole) (arg11 : Memref sig .tc .vmem S1x1024 .f32) (harg11 : arg11.IsWhole) (arg12 : Memref sig .tc .vmem S384x1024 .bf16) (harg12 : arg12.IsWhole) (arg13 : Memref sig .tc .vmem S128x384 .bf16) (harg13 : arg13.IsWhole) (arg14 : Memref sig .tc .vmem S1x1024 .f32) (harg14 : arg14.IsWhole) (arg15 : Memref sig .tc .vmem S8x128x128 .f32) (harg15 : arg15.IsWhole) (arg16 : Memref sig .tc .vmem S128x1024 .f32) (harg16 : arg16.IsWhole) (arg17 : Memref sig .tc .vmem S128x2048 .bf16) (harg17 : arg17.IsWhole) (arg18 : Memref sig .tc .vmem S16x1024x128 .f32) (harg18 : arg18.IsWhole) (arg19 : Memref sig .tc .vmem S128x256 .f32) (harg19 : arg19.IsWhole) (arg20 : Memref sig .tc .vmem S128x256 .f32) (harg20 : arg20.IsWhole) (arg21 : Memref sig .tc .vmem S128x1024 .f32) (harg21 : arg21.IsWhole) (arg22 : Memref sig .tc .vmem S128x1024 .f32) (harg22 : arg22.IsWhole) (arg23 : Memref sig .tc .vmem S128x1024 .f32) (harg23 : arg23.IsWhole) (arg24 : Memref sig .tc .vmem S8x128x128 .bf16) (harg24 : arg24.IsWhole) (hc0 : ¬cond0_0 i)
    (x0 : Vec Ideal S128x1024 .f32) (x1 : Vec Ideal S128x1536 .f32) (x2 : Vec Ideal S128x1536 .f32) (x3 : Vec Ideal S128x128 .f32) (x4 : Vec Ideal S128x1024 .f32) (x5 : Vec Ideal S128x1024 .f32) (x6 : Vec Ideal S16x1024x128 .f32) (x7 : Vec Ideal S4x1536 .f32) (x8 : Vec Ideal S1x1536 .f32) (x9 : Vec Ideal S1x128 .f32) (x10 : Vec Ideal S1x1024 .f32) (x11 : Vec Ideal S384x1024 .bf16) (x12 : Vec Ideal S128x384 .bf16) (x13 : Vec Ideal S1x1024 .f32) (x14 : Vec Ideal S8x128x128 .f32) (x15 : Vec Ideal S128x1024 .f32) (xs5 : Vec Ideal S8x128x128 .bf16) (y) : out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 xs5 y = stG (kW x1 x2 x3 x7 x8 x9 x11) (kA x3 x9 x11) (k0_pay86 (kX x1 x2 x7 x8)) x6 y := by
  unfold out0_B_17
  rw [View.read_writes_junk_eq_canon]
  refine View.canon_apply_of_pieces _ _ ?_ y (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 xs5 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, View.readCov_eq_canon', View.ld_unit_zero (S := S128x1536) hz2, View.ld_unit_zero (S := S128x1024) hz2, View.ld_unit_zero (S := S128x128) hz2, View.ld_unit_zero (S := S384x1024) hz2, View.ld_unit_zero (S := S1x128) hz2, View.ld_unit_zero (S := S1x1536) hz2, canon_full1024, canon_full256]
  rw [show k0_pay25 k0_pay15 x1 (k0_pay21 x2) (k0_pay22 k0_pay15 x1 x2) (k0_pay23 k0_pay15) (k0_pay24 x1) 122#32 x8
    (View.ld x7 (Rect.unit ![0, 0] ![1, 1536] inb_S4x1536_S1x1536_0_0))
    (View.ld x7 (Rect.unit ![1, 0] ![1, 1536] inb_S4x1536_S1x1536_1_0))
    (View.ld x7 (Rect.unit ![2, 0] ![1, 1536] inb_S4x1536_S1x1536_2_0))
    (View.ld x7 (Rect.unit ![3, 0] ![1, 1536] inb_S4x1536_S1x1536_3_0)) = kX x1 x2 x7 x8 from rfl,
    show k0_pay27 k0_pay15 x3 (k0_pay26 x9) = kAc x3 x9 from rfl, show k0_pay28 k0_pay15 x3 (k0_pay26 x9) = kTot x3 x9 from rfl,
    show k0_pay85 (k0_pay37 (kX x1 x2 x7 x8) x3 (kAc x3 x9) (kTot x3 x9) x11) = kW x1 x2 x3 x7 x8 x9 x11 from rfl,
    show k0_pay84 k0_pay81 (k0_pay82 x11) (k0_pay83 (kTot x3 x9)) = kA x3 x9 x11 from rfl]
  generalize kW x1 x2 x3 x7 x8 x9 x11 = W
  generalize kA x3 x9 x11 = A
  generalize k0_pay86 (kX x1 x2 x7 x8) = B
  simp only [List.forall_mem_cons]
  have P := st_piece W A B x6
  unfold onesP k0_pay97 k0_pay95 at P
  simp only [k0_pay92, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205]
  iterate 32 refine ⟨P _ _ _ _ (by rfl) (by rfl) (by rfl) _ _ _, ?_⟩
  exact fun p hp => absurd hp List.not_mem_nil

set_option maxHeartbeats 4000000 in
/-- At the first grid point too, the stored state block is the block its pieces make up. -/
theorem o17A (c : Dev nD) (i : grid0.Coords) (arg1 : Memref sig .tc .vmem S128x1024 .f32) (harg1 : arg1.IsWhole) (arg2 : Memref sig .tc .vmem S128x1536 .f32) (harg2 : arg2.IsWhole) (arg3 : Memref sig .tc .vmem S128x1536 .f32) (harg3 : arg3.IsWhole) (arg4 : Memref sig .tc .vmem S128x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S16x1024x128 .f32) (harg7 : arg7.IsWhole) (arg8 : Memref sig .tc .vmem S4x1536 .f32) (harg8 : arg8.IsWhole) (arg9 : Memref sig .tc .vmem S1x1536 .f32) (harg9 : arg9.IsWhole) (arg10 : Memref sig .tc .vmem S1x128 .f32) (harg10 : arg10.IsWhole) (arg11 : Memref sig .tc .vmem S1x1024 .f32) (harg11 : arg11.IsWhole) (arg12 : Memref sig .tc .vmem S384x1024 .bf16) (harg12 : arg12.IsWhole) (arg13 : Memref sig .tc .vmem S128x384 .bf16) (harg13 : arg13.IsWhole) (arg14 : Memref sig .tc .vmem S1x1024 .f32) (harg14 : arg14.IsWhole) (arg15 : Memref sig .tc .vmem S8x128x128 .f32) (harg15 : arg15.IsWhole) (arg16 : Memref sig .tc .vmem S128x1024 .f32) (harg16 : arg16.IsWhole) (arg17 : Memref sig .tc .vmem S128x2048 .bf16) (harg17 : arg17.IsWhole) (arg18 : Memref sig .tc .vmem S16x1024x128 .f32) (harg18 : arg18.IsWhole) (arg19 : Memref sig .tc .vmem S128x256 .f32) (harg19 : arg19.IsWhole) (arg20 : Memref sig .tc .vmem S128x256 .f32) (harg20 : arg20.IsWhole) (arg21 : Memref sig .tc .vmem S128x1024 .f32) (harg21 : arg21.IsWhole) (arg22 : Memref sig .tc .vmem S128x1024 .f32) (harg22 : arg22.IsWhole) (arg23 : Memref sig .tc .vmem S128x1024 .f32) (harg23 : arg23.IsWhole) (arg24 : Memref sig .tc .vmem S8x128x128 .bf16) (harg24 : arg24.IsWhole) (hc0 : cond0_0 i)
    (x0 : Vec Ideal S128x1024 .f32) (x1 : Vec Ideal S128x1536 .f32) (x2 : Vec Ideal S128x1536 .f32) (x3 : Vec Ideal S128x128 .f32) (x4 : Vec Ideal S128x1024 .f32) (x5 : Vec Ideal S128x1024 .f32) (x6 : Vec Ideal S16x1024x128 .f32) (x7 : Vec Ideal S4x1536 .f32) (x8 : Vec Ideal S1x1536 .f32) (x9 : Vec Ideal S1x128 .f32) (x10 : Vec Ideal S1x1024 .f32) (x11 : Vec Ideal S384x1024 .bf16) (x12 : Vec Ideal S128x384 .bf16) (x13 : Vec Ideal S1x1024 .f32) (x14 : Vec Ideal S8x128x128 .f32) (x15 : Vec Ideal S128x1024 .f32) (y) : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 y = stG (kW x1 x2 x3 x7 x8 x9 x11) (kA x3 x9 x11) (k0_pay86 (kX x1 x2 x7 x8)) x6 y := by
  unfold out0_A_17
  rw [View.read_writes_junk_eq_canon]
  refine View.canon_apply_of_pieces _ _ ?_ y (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, View.readCov_eq_canon', View.ld_unit_zero (S := S128x1536) hz2, View.ld_unit_zero (S := S128x1024) hz2, View.ld_unit_zero (S := S128x128) hz2, View.ld_unit_zero (S := S384x1024) hz2, View.ld_unit_zero (S := S1x128) hz2, View.ld_unit_zero (S := S1x1536) hz2, canon_full1024, canon_full256]
  rw [show k0_pay25 k0_pay15 x1 (k0_pay21 x2) (k0_pay22 k0_pay15 x1 x2) (k0_pay23 k0_pay15) (k0_pay24 x1) 122#32 x8
    (View.ld x7 (Rect.unit ![0, 0] ![1, 1536] inb_S4x1536_S1x1536_0_0))
    (View.ld x7 (Rect.unit ![1, 0] ![1, 1536] inb_S4x1536_S1x1536_1_0))
    (View.ld x7 (Rect.unit ![2, 0] ![1, 1536] inb_S4x1536_S1x1536_2_0))
    (View.ld x7 (Rect.unit ![3, 0] ![1, 1536] inb_S4x1536_S1x1536_3_0)) = kX x1 x2 x7 x8 from rfl,
    show k0_pay27 k0_pay15 x3 (k0_pay26 x9) = kAc x3 x9 from rfl, show k0_pay28 k0_pay15 x3 (k0_pay26 x9) = kTot x3 x9 from rfl,
    show k0_pay85 (k0_pay37 (kX x1 x2 x7 x8) x3 (kAc x3 x9) (kTot x3 x9) x11) = kW x1 x2 x3 x7 x8 x9 x11 from rfl,
    show k0_pay84 k0_pay81 (k0_pay82 x11) (k0_pay83 (kTot x3 x9)) = kA x3 x9 x11 from rfl]
  generalize kW x1 x2 x3 x7 x8 x9 x11 = W
  generalize kA x3 x9 x11 = A
  generalize k0_pay86 (kX x1 x2 x7 x8) = B
  simp only [List.forall_mem_cons]
  have P := st_piece W A B x6
  unfold onesP k0_pay97 k0_pay95 at P
  simp only [k0_pay92, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205]
  iterate 32 refine ⟨P _ _ _ _ (by rfl) (by rfl) (by rfl) _ _ _, ?_⟩
  exact fun p hp => absurd hp List.not_mem_nil

end Cert.MixerSampleIdeal.Val
end
-- ==== Proof.Masks.lean ====
module

public import proofs.«01_k».proof.Proof.Pieces

@[expose] public section
set_option maxRecDepth 16384
noncomputable section
namespace Cert.MixerSampleIdeal.Val
open Cert.MixerSampleIdeal Cert.MixerSampleIdeal.Gen Idealize.ShloMosaic Idealize.ShloMosaic.TcCoe Idealize.ShloMosaic.Tactic

/-- Small numbers as words are equal just when they are equal. -/
theorem cmpi_eq_small (a b : Nat) (ha : a < 4096) (hb : b < 4096) :
    IntOp.cmpi CmpIPredicate.eq (BitVec.ofNat 32 a) (BitVec.ofNat 32 b) = if a = b then 1#1 else 0#1 := by
  have h : (BitVec.ofNat 32 a = BitVec.ofNat 32 b) ↔ a = b := by
    constructor
    · intro h
      have := congrArg BitVec.toNat h
      simp only [BitVec.toNat_ofNat] at this
      omega
    · rintro rfl; rfl
  by_cases hab : a = b
  · subst hab; simp [IntOp.cmpi]
  · rw [if_neg hab]
    have hn : (BitVec.ofNat 32 a == BitVec.ofNat 32 b) = false := beq_false_of_ne fun e => hab (h.1 e)
    simp [IntOp.cmpi, hn]

/-- Small numbers as words are ordered as the numbers. -/
theorem cmpi_sle_small (a b : Nat) (ha : a < 4096) (hb : b < 4096) :
    IntOp.cmpi CmpIPredicate.sle (BitVec.ofNat 32 a) (BitVec.ofNat 32 b) = if a ≤ b then 1#1 else 0#1 := by
  have h : (BitVec.ofNat 32 a).sle (BitVec.ofNat 32 b) = decide (a ≤ b) := by
    rw [BitVec.sle_eq_decide, BitVec.toInt_eq_toNat_of_lt (by simp; omega), BitVec.toInt_eq_toNat_of_lt (by simp; omega)]
    simp only [BitVec.toNat_ofNat, Nat.cast_le]
    rw [Nat.mod_eq_of_lt (by omega), Nat.mod_eq_of_lt (by omega)]
  by_cases hab : a ≤ b <;> simp [IntOp.cmpi, hab, h]

/-- The remainder by eight, as the program works it out. -/
theorem mod_word : ∀ r : Fin 128, Scalar.select
            (IntOp.andi
              (IntOp.xori
                (IntOp.cmpi CmpIPredicate.slt
                  (IntOp.remsi ArithUnit.vector (BitVec.ofNat 32 ↑r)
                    (Scalar.select (Scalar.cmpi CmpIPredicate.eq 8#32 0#32) 1#32 8#32))
                  0#32)
                (Scalar.cmpi CmpIPredicate.slt (Scalar.select (Scalar.cmpi CmpIPredicate.eq 8#32 0#32) 1#32 8#32) 0#32))
              (IntOp.cmpi CmpIPredicate.ne
                (IntOp.remsi ArithUnit.vector (BitVec.ofNat 32 ↑r)
                  (Scalar.select (Scalar.cmpi CmpIPredicate.eq 8#32 0#32) 1#32 8#32))
                0#32))
            (IntOp.addi
              (IntOp.remsi ArithUnit.vector (BitVec.ofNat 32 ↑r)
                (Scalar.select (Scalar.cmpi CmpIPredicate.eq 8#32 0#32) 1#32 8#32))
              (Scalar.select (Scalar.cmpi CmpIPredicate.eq 8#32 0#32) 1#32 8#32))
            (IntOp.remsi ArithUnit.vector (BitVec.ofNat 32 ↑r)
              (Scalar.select (Scalar.cmpi CmpIPredicate.eq 8#32 0#32) 1#32 8#32)) = BitVec.ofNat 32 (r.val % 8) := by decide

/-- The quotient by eight, as the program works it out. -/
theorem div_word : ∀ r : Fin 128, Scalar.select
          (IntOp.andi
            (IntOp.cmpi CmpIPredicate.ne
              (IntOp.subi (BitVec.setWidth 32 (IntOp.cmpi CmpIPredicate.sgt (BitVec.ofNat 32 ↑r) 0#32))
                (BitVec.setWidth 32 (IntOp.cmpi CmpIPredicate.slt (BitVec.ofNat 32 ↑r) 0#32)))
              (Scalar.subi (Scalar.extui (Scalar.cmpi CmpIPredicate.sgt 8#32 0#32))
                (Scalar.extui (Scalar.cmpi CmpIPredicate.slt 8#32 0#32))))
            (IntOp.cmpi CmpIPredicate.ne (IntOp.remsi ArithUnit.vector (BitVec.ofNat 32 ↑r) 8#32) 0#32))
          (IntOp.subi (IntOp.divsi ArithUnit.vector (BitVec.ofNat 32 ↑r) 8#32) 1#32)
          (IntOp.divsi ArithUnit.vector (BitVec.ofNat 32 ↑r) 8#32) = BitVec.ofNat 32 (r.val / 8) := by decide

/-- Which of eight rows: below eight. -/
theorem lt8_word : ∀ r : Fin 128, IntOp.cmpi CmpIPredicate.slt (BitVec.ofNat 32 ↑r) 8#32 = if r.val < 8 then 1#1 else 0#1 := by decide

/-- The row of a 128 × 128 index. -/
abbrev rows128 : IVec S128x128 32 := iota Kind.tc S128x128 32 [0] iota_S128x128_d0_w32

/-- The column of a 128 × 128 index. -/
abbrev cols128 : IVec S128x128 32 := iota Kind.tc S128x128 32 [1] iota_S128x128_d1_w32

/-- A yes-or-no word as a number. -/
theorem sitofp_bit (p : Prop) [Decidable p] :
    (FloatOps.sitofp (F := Ideal) FTy.f32 (BitVec.setWidth 32 (if p then 1#1 else 0#1))) = if p then 1 else 0 := by
  split_ifs
  · show (((BitVec.setWidth 32 1#1).toInt : ℝ) : EReal) = 1
    simp
  · show (((BitVec.setWidth 32 0#1).toInt : ℝ) : EReal) = 0
    simp

/-- The row spreading matrix: row `r` takes row `r mod 8`. -/
theorem p2_apply (r x : Fin 128) : k0_pay2 (F := Ideal) rows128 cols128 (ix2 r x) = if x.val = r.val % 8 then 1 else 0 := by
  generalize hR : (if x.val = r.val % 8 then (1 : EReal) else 0) = R
  unfold rows128 cols128 k0_pay2
  pointwise
  rw [mod_word, cmpi_eq_small _ _ (by omega) (by omega), sitofp_bit]
  exact hR

/-- The column spreading matrix: column `j` takes column `j mod 8`. -/
theorem p3_apply (x j : Fin 128) : k0_pay3 (F := Ideal) rows128 cols128 (ix2 x j) = if x.val = j.val % 8 then 1 else 0 := by
  generalize hR : (if x.val = j.val % 8 then (1 : EReal) else 0) = R
  unfold rows128 cols128 k0_pay3
  pointwise
  rw [mod_word, cmpi_eq_small _ _ (by omega) (by omega), sitofp_bit]
  exact hR

/-- The mask of the upper left eight by eight corner. -/
theorem p4_apply (r x : Fin 128) : k0_pay4 rows128 cols128 (ix2 r x) = if r.val < 8 ∧ x.val < 8 then 1#1 else 0#1 := by
  generalize hR : (if r.val < 8 ∧ x.val < 8 then 1#1 else 0#1) = R
  unfold rows128 cols128 k0_pay4
  pointwise
  rw [lt8_word, lt8_word, ← hR]
  by_cases h1 : r.val < 8 <;> by_cases h2 : x.val < 8 <;> simp [h1, h2, IntOp.andi]

/-- Which rows belong to the same sequence and come no later. -/
def segM : IVec S128x128 1 := k0_pay19 (iota Kind.tc S128x128 32 [0] iota_S128x128_d0_w32) k0_pay16 k0_pay17 8#32 k0_pay18

/-- The causal mask of the block: same sequence, no later. -/
theorem segM_apply (r x : Fin 128) : segM (ix2 r x) = if r.val / 8 = x.val / 8 ∧ x.val ≤ r.val then 1#1 else 0#1 := by
  generalize hR : (if r.val / 8 = x.val / 8 ∧ x.val ≤ r.val then 1#1 else 0#1) = R
  unfold segM k0_pay19 k0_pay16 k0_pay17 k0_pay18
  pointwise
  rw [div_word, div_word, cmpi_sle_small _ _ (by omega) (by omega), cmpi_eq_small _ _ (by omega) (by omega), ← hR]
  by_cases h1 : x.val ≤ r.val <;> by_cases h2 : r.val / 8 = x.val / 8 <;> simp [h1, h2, eq_comm, IntOp.andi]

/-- The step within its sequence. -/
theorem p15_apply (r : Fin 128) : k0_pay15 (ix2 r 0) = BitVec.ofNat 32 (r.val % 8) := by
  unfold k0_pay15
  pointwise
  revert r
  decide

/-- The upper left corner of a head's mixing weights, spread over the block and masked. -/
theorem wm_pay_apply (M : IVec S128x128 1) (s : Vec Ideal S1x128x128 .f32) (r j : Fin 128) :
    k0_pay5 M (k0_pay2 rows128 cols128) (k0_pay3 rows128 cols128) (k0_pay4 rows128 cols128) s (ix3 0 r j)
      = Scalar.select (M (ix2 r j)) (s (ix3 0 (⟨r.val % 8, by omega⟩ : Fin 128) (⟨j.val % 8, by omega⟩ : Fin 128))) 0 := by
  generalize hR : s (ix3 0 (⟨r.val % 8, by omega⟩ : Fin 128) (⟨j.val % 8, by omega⟩ : Fin 128)) = R
  have h2 := p2_apply
  have h3 := p3_apply
  have h4 := p4_apply
  generalize k0_pay2 (F := Ideal) rows128 cols128 = a at h2 ⊢
  generalize k0_pay3 (F := Ideal) rows128 cols128 = b at h3 ⊢
  generalize k0_pay4 rows128 cols128 = m at h4 ⊢
  unfold k0_pay5
  pointwise
  simp only [h2, h3, h4]
  congr 1
  rw [Finset.sum_eq_single (⟨j.val % 8, by omega⟩ : Fin 128)]
  · rw [Finset.sum_eq_single (⟨r.val % 8, by omega⟩ : Fin 128)]
    · have e1 : r.val % 8 < 8 := by omega
      have e2 : j.val % 8 < 8 := by omega
      simp [e1, e2, Scalar.select, hR]
    · intro x _ hx
      have hx' : ¬ x.val = r.val % 8 := fun h => hx (Fin.ext h)
      simp [hx', Scalar.select]
    · simp
  · intro x _ hx
    have hx' : ¬ x.val = j.val % 8 := fun h => hx (Fin.ext h)
    simp [hx']
  · simp

/-- The causal mixing weights of the block, head by head. -/
def wmG (M : IVec S128x128 1) (W : Vec Ideal S8x128x128 .f32) (i : S8x128x128.Idx) : EReal :=
  Scalar.select (M (ix2 ⟨(i 1).val, (i 1).isLt⟩ ⟨(i 2).val, (i 2).isLt⟩))
    (W (ix3 ⟨(i 0).val, (i 0).isLt⟩ ⟨(i 1).val % 8, by omega⟩ ⟨(i 2).val % 8, by omega⟩)) 0

/-- A stored piece is its head's causal weights. -/
theorem wm_piece (M : IVec S128x128 1) (W : Vec Ideal S8x128x128 .f32) (q : Nat)
    (i1 : ∀ a, (![q, 0, 0] : Fin 3 → Nat) a + (![1, 128, 128] : Fin 3 → Nat) a ≤ S8x128x128.size a)
    (x : (Rect.unit (s := S8x128x128) ![q, 0, 0] ![1, 128, 128] i1).shape.Idx) :
    k0_pay5 M (k0_pay2 rows128 cols128) (k0_pay3 rows128 cols128) (k0_pay4 rows128 cols128)
        (View.ld W (Rect.unit (s := S8x128x128) ![q, 0, 0] ![1, 128, 128] i1)) x
      = wmG M W ((Rect.unit (s := S8x128x128) ![q, 0, 0] ![1, 128, 128] i1).emb x) := by
  obtain ⟨r, n, rfl⟩ : ∃ (r : Fin 128) (n : Fin 128), x = ix3 (0 : Fin 1) r n :=
    ⟨x 1, x 2, by
      refine (eq_ix3 (n0 := 1) (n1 := 128) (n2 := 128) x).trans ?_
      congr 1
      exact Subsingleton.elim (α := Fin 1) _ _⟩
  refine (wm_pay_apply M _ r n).trans ?_
  unfold wmG
  have e1 : (((Rect.unit (s := S8x128x128) ![q, 0, 0] ![1, 128, 128] i1).emb (ix3 (0 : Fin 1) r n)) 1).val = r.val := by
    show 0 + 1 * r.val = _
    omega
  have e2 : (((Rect.unit (s := S8x128x128) ![q, 0, 0] ![1, 128, 128] i1).emb (ix3 (0 : Fin 1) r n)) 2).val = n.val := by
    show 0 + 1 * n.val = _
    omega
  simp only [e1, e2]
  congr 1
  refine congrArg W ?_
  funext a
  apply Fin.ext
  fin_cases a
  · show q + 1 * 0 = _
    rfl
  · show 0 + 1 * (r.val % 8) = r.val % 8
    omega
  · show 0 + 1 * (n.val % 8) = n.val % 8
    omega

set_option maxHeartbeats 4000000 in
/-- What the first grid point leaves in the weights' scratch buffer. -/
theorem s5A (c : Dev nD) (i : grid0.Coords) (arg1 : Memref sig .tc .vmem S128x1024 .f32) (harg1 : arg1.IsWhole) (arg2 : Memref sig .tc .vmem S128x1536 .f32) (harg2 : arg2.IsWhole) (arg3 : Memref sig .tc .vmem S128x1536 .f32) (harg3 : arg3.IsWhole) (arg4 : Memref sig .tc .vmem S128x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S16x1024x128 .f32) (harg7 : arg7.IsWhole) (arg8 : Memref sig .tc .vmem S4x1536 .f32) (harg8 : arg8.IsWhole) (arg9 : Memref sig .tc .vmem S1x1536 .f32) (harg9 : arg9.IsWhole) (arg10 : Memref sig .tc .vmem S1x128 .f32) (harg10 : arg10.IsWhole) (arg11 : Memref sig .tc .vmem S1x1024 .f32) (harg11 : arg11.IsWhole) (arg12 : Memref sig .tc .vmem S384x1024 .bf16) (harg12 : arg12.IsWhole) (arg13 : Memref sig .tc .vmem S128x384 .bf16) (harg13 : arg13.IsWhole) (arg14 : Memref sig .tc .vmem S1x1024 .f32) (harg14 : arg14.IsWhole) (arg15 : Memref sig .tc .vmem S8x128x128 .f32) (harg15 : arg15.IsWhole) (arg16 : Memref sig .tc .vmem S128x1024 .f32) (harg16 : arg16.IsWhole) (arg17 : Memref sig .tc .vmem S128x2048 .bf16) (harg17 : arg17.IsWhole) (arg18 : Memref sig .tc .vmem S16x1024x128 .f32) (harg18 : arg18.IsWhole) (arg19 : Memref sig .tc .vmem S128x256 .f32) (harg19 : arg19.IsWhole) (arg20 : Memref sig .tc .vmem S128x256 .f32) (harg20 : arg20.IsWhole) (arg21 : Memref sig .tc .vmem S128x1024 .f32) (harg21 : arg21.IsWhole) (arg22 : Memref sig .tc .vmem S128x1024 .f32) (harg22 : arg22.IsWhole) (arg23 : Memref sig .tc .vmem S128x1024 .f32) (harg23 : arg23.IsWhole) (arg24 : Memref sig .tc .vmem S8x128x128 .bf16) (harg24 : arg24.IsWhole) (hc0 : cond0_0 i)
    (x0 : Vec Ideal S128x1024 .f32) (x1 : Vec Ideal S128x1536 .f32) (x2 : Vec Ideal S128x1536 .f32) (x3 : Vec Ideal S128x128 .f32) (x4 : Vec Ideal S128x1024 .f32) (x5 : Vec Ideal S128x1024 .f32) (x6 : Vec Ideal S16x1024x128 .f32) (x7 : Vec Ideal S4x1536 .f32) (x8 : Vec Ideal S1x1536 .f32) (x9 : Vec Ideal S1x128 .f32) (x10 : Vec Ideal S1x1024 .f32) (x11 : Vec Ideal S384x1024 .bf16) (x12 : Vec Ideal S128x384 .bf16) (x13 : Vec Ideal S1x1024 .f32) (x14 : Vec Ideal S8x128x128 .f32) (x15 : Vec Ideal S128x1024 .f32) : sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 = wmG segM x14 := by
  unfold sout0_A_5
  rw [View.read_writes_junk_eq_canon]
  refine canon_fun _ _ ?_ (scover0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.readCov_eq_canon', View.ld_unit_zero (S := S128x1536) hz2, View.ld_unit_zero (S := S128x1024) hz2, View.ld_unit_zero (S := S128x128) hz2, View.ld_unit_zero (S := S384x1024) hz2, View.ld_unit_zero (S := S1x128) hz2, View.ld_unit_zero (S := S1x1536) hz2, canon_full1024, canon_full2048, ld_row1024, canon_full256]
  have P := wm_piece segM x14
  unfold segM k0_pay5 k0_pay2 k0_pay3 k0_pay4 rows128 cols128 at P
  unfold segM
  simp only [List.forall_mem_cons, k0_pay2, k0_pay3, k0_pay4, k0_pay5, k0_pay6, k0_pay7, k0_pay8, k0_pay9, k0_pay10, k0_pay11, k0_pay12, k0_pay13, k0_pay14, k0_pay20]
  iterate 8 refine ⟨P _ _, ?_⟩
  exact fun p hp => absurd hp List.not_mem_nil

end Cert.MixerSampleIdeal.Val
end
-- ==== Proof.Open16.lean ====
module

public import proofs.«01_k».proof.Proof.Open
public import proofs.«01_k».proof.Proof.Masks

@[expose] public section
set_option maxRecDepth 16384
noncomputable section
namespace Cert.MixerSampleIdeal.Val
open Cert.MixerSampleIdeal Cert.MixerSampleIdeal.Gen Idealize.ShloMosaic Idealize.ShloMosaic.TcCoe Idealize.ShloMosaic.Tactic

/-- The outputs of the state-space half before the old states are added: the steps of the same sequence, and the direct term. -/
def kY (X : FVec Ideal S128x1536 .f32) (Ac : FVec Ideal S128x128 .f32) (x3 : Vec Ideal S128x128 .f32) (x10 : Vec Ideal S1x1024 .f32) : FVec Ideal S128x1024 .f32 :=
  k0_pay73 segM
      (k0_pay29 x10) (k0_pay31 X) (k0_pay36 x3)
      k0_pay39
      (k0_pay46 segM
       (k0_pay34 Ac) (k0_pay35 Ac) (k0_pay36 x3) k0_pay39 (k0_pay40 X) (k0_pay42 X) k0_pay43 (k0_pay44 Ac)
       (k0_pay45 Ac))
      (k0_pay51 segM
       (k0_pay36 x3) k0_pay39 (k0_pay47 (k0_pay38 X)) k0_pay48
       (k0_pay49 segM
        (k0_pay34 Ac) (k0_pay35 Ac) (k0_pay36 x3) (k0_pay38 X) k0_pay39 (k0_pay40 X))
       (k0_pay50 (k0_pay34 Ac) (k0_pay35 Ac) (k0_pay40 X)))
      (k0_pay52 segM
       (k0_pay34 Ac) (k0_pay35 Ac) (k0_pay36 x3) (k0_pay38 X) k0_pay39 (k0_pay40 X))
      (k0_pay57 segM
       (k0_pay34 Ac) (k0_pay35 Ac) (k0_pay36 x3) k0_pay39 (k0_pay40 X) (k0_pay53 (k0_pay38 X)) k0_pay54
       (k0_pay55 (k0_pay34 Ac)) (k0_pay56 (k0_pay35 Ac)))
      (k0_pay62 segM
       (k0_pay36 x3) k0_pay39 (k0_pay58 (k0_pay38 X)) k0_pay59
       (k0_pay60 segM
        (k0_pay34 Ac) (k0_pay35 Ac) (k0_pay36 x3) (k0_pay38 X) k0_pay39 (k0_pay41 X))
       (k0_pay61 (k0_pay34 Ac) (k0_pay35 Ac) (k0_pay41 X)))
      (k0_pay63 segM
       (k0_pay34 Ac) (k0_pay35 Ac) (k0_pay36 x3) (k0_pay38 X) k0_pay39 (k0_pay41 X))
      (k0_pay68 segM
       (k0_pay34 Ac) (k0_pay35 Ac) (k0_pay36 x3) k0_pay39 (k0_pay41 X) (k0_pay64 (k0_pay38 X)) k0_pay65
       (k0_pay66 (k0_pay34 Ac)) (k0_pay67 (k0_pay35 Ac)))
      (k0_pay69 (k0_pay38 X)) k0_pay70
      (k0_pay71 segM
       (k0_pay34 Ac) (k0_pay35 Ac) (k0_pay36 x3) (k0_pay38 X) k0_pay39 (k0_pay41 X))
      (k0_pay72 (k0_pay34 Ac) (k0_pay35 Ac) (k0_pay41 X))

/-- The result block of a step, from its inputs and the causal weights. -/
def kM (x0 : Vec Ideal S128x1024 .f32) (x1 x2 : Vec Ideal S128x1536 .f32) (x3 : Vec Ideal S128x128 .f32) (x4 x5 : Vec Ideal S128x1024 .f32) (x6 : Vec Ideal S16x1024x128 .f32) (x7 : Vec Ideal S4x1536 .f32) (x8 : Vec Ideal S1x1536 .f32) (x9 : Vec Ideal S1x128 .f32) (x10 : Vec Ideal S1x1024 .f32) (x11 : Vec Ideal S384x1024 .bf16) (x13 : Vec Ideal S1x1024 .f32) (x15 : Vec Ideal S128x1024 .f32) (wm : Vec Ideal S8x128x128 .bf16) : Vec Ideal S128x2048 .bf16 :=
  k0_pay1
    (k0_pay80 (k0_pay30 x15) x4 (k0_pay74 x5)
     (k0_pay75 x5 (View.ld wm (Rect.unit ![0, 0, 0] ![1, 128, 128] inb_S8x128x128_S1x128x128_0_0_0)))
     (k0_pay76 x5 (View.ld wm (Rect.unit ![1, 0, 0] ![1, 128, 128] inb_S8x128x128_S1x128x128_1_0_0)))
     (k0_pay77 x5 (View.ld wm (Rect.unit ![2, 0, 0] ![1, 128, 128] inb_S8x128x128_S1x128x128_2_0_0)))
     (k0_pay78 x5 (View.ld wm (Rect.unit ![3, 0, 0] ![1, 128, 128] inb_S8x128x128_S1x128x128_3_0_0)))
     (k0_pay79 x5 (View.ld wm (Rect.unit ![4, 0, 0] ![1, 128, 128] inb_S8x128x128_S1x128x128_4_0_0)))
     (View.ld wm (Rect.unit ![5, 0, 0] ![1, 128, 128] inb_S8x128x128_S1x128x128_5_0_0))
     (View.ld wm (Rect.unit ![6, 0, 0] ![1, 128, 128] inb_S8x128x128_S1x128x128_6_0_0))
     (View.ld wm (Rect.unit ![7, 0, 0] ![1, 128, 128] inb_S8x128x128_S1x128x128_7_0_0)))
    (k0_pay206 x13)
    (k0_pay208 (kAc x3 x9) (kY (kX x1 x2 x7 x8) (kAc x3 x9) x3 x10) (yoG (k0_pay87 (kX x1 x2 x7 x8)) x6) x11 x0)
    (k0_pay209 (kAc x3 x9) (kY (kX x1 x2 x7 x8) (kAc x3 x9) x3 x10) (yoG (k0_pay87 (kX x1 x2 x7 x8)) x6) x11 x0)
    (k0_pay210 (kAc x3 x9) (kY (kX x1 x2 x7 x8) (kAc x3 x9) x3 x10) (yoG (k0_pay87 (kX x1 x2 x7 x8)) x6) x11 x0)

set_option maxHeartbeats 4000000 in
/-- Past the first grid point, the stored result block is that of the step. -/
theorem o16B (c : Dev nD) (i : grid0.Coords) (arg1 : Memref sig .tc .vmem S128x1024 .f32) (harg1 : arg1.IsWhole) (arg2 : Memref sig .tc .vmem S128x1536 .f32) (harg2 : arg2.IsWhole) (arg3 : Memref sig .tc .vmem S128x1536 .f32) (harg3 : arg3.IsWhole) (arg4 : Memref sig .tc .vmem S128x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S16x1024x128 .f32) (harg7 : arg7.IsWhole) (arg8 : Memref sig .tc .vmem S4x1536 .f32) (harg8 : arg8.IsWhole) (arg9 : Memref sig .tc .vmem S1x1536 .f32) (harg9 : arg9.IsWhole) (arg10 : Memref sig .tc .vmem S1x128 .f32) (harg10 : arg10.IsWhole) (arg11 : Memref sig .tc .vmem S1x1024 .f32) (harg11 : arg11.IsWhole) (arg12 : Memref sig .tc .vmem S384x1024 .bf16) (harg12 : arg12.IsWhole) (arg13 : Memref sig .tc .vmem S128x384 .bf16) (harg13 : arg13.IsWhole) (arg14 : Memref sig .tc .vmem S1x1024 .f32) (harg14 : arg14.IsWhole) (arg15 : Memref sig .tc .vmem S8x128x128 .f32) (harg15 : arg15.IsWhole) (arg16 : Memref sig .tc .vmem S128x1024 .f32) (harg16 : arg16.IsWhole) (arg17 : Memref sig .tc .vmem S128x2048 .bf16) (harg17 : arg17.IsWhole) (arg18 : Memref sig .tc .vmem S16x1024x128 .f32) (harg18 : arg18.IsWhole) (arg19 : Memref sig .tc .vmem S128x256 .f32) (harg19 : arg19.IsWhole) (arg20 : Memref sig .tc .vmem S128x256 .f32) (harg20 : arg20.IsWhole) (arg21 : Memref sig .tc .vmem S128x1024 .f32) (harg21 : arg21.IsWhole) (arg22 : Memref sig .tc .vmem S128x1024 .f32) (harg22 : arg22.IsWhole) (arg23 : Memref sig .tc .vmem S128x1024 .f32) (harg23 : arg23.IsWhole) (arg24 : Memref sig .tc .vmem S8x128x128 .bf16) (harg24 : arg24.IsWhole) (hc0 : ¬cond0_0 i)
    (x0 : Vec Ideal S128x1024 .f32) (x1 : Vec Ideal S128x1536 .f32) (x2 : Vec Ideal S128x1536 .f32) (x3 : Vec Ideal S128x128 .f32) (x4 : Vec Ideal S128x1024 .f32) (x5 : Vec Ideal S128x1024 .f32) (x6 : Vec Ideal S16x1024x128 .f32) (x7 : Vec Ideal S4x1536 .f32) (x8 : Vec Ideal S1x1536 .f32) (x9 : Vec Ideal S1x128 .f32) (x10 : Vec Ideal S1x1024 .f32) (x11 : Vec Ideal S384x1024 .bf16) (x12 : Vec Ideal S128x384 .bf16) (x13 : Vec Ideal S1x1024 .f32) (x14 : Vec Ideal S8x128x128 .f32) (x15 : Vec Ideal S128x1024 .f32) (xs5 : Vec Ideal S8x128x128 .bf16) (y) : out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 xs5 y = kM x0 x1 x2 x3 x4 x5 x6 x7 x8 x9 x10 x11 x13 x15 xs5 y := by
  unfold out0_B_16
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg24.read_unread, View.readCov_eq_canon', View.ld_unit_zero (S := S128x1536) hz2, View.ld_unit_zero (S := S128x1024) hz2, View.ld_unit_zero (S := S128x128) hz2, View.ld_unit_zero (S := S384x1024) hz2, View.ld_unit_zero (S := S1x128) hz2, View.ld_unit_zero (S := S1x1536) hz2, canon_full1024, canon_full2048, ld_row1024, canon_full256]
  rw [show k0_pay25 k0_pay15 x1 (k0_pay21 x2) (k0_pay22 k0_pay15 x1 x2) (k0_pay23 k0_pay15) (k0_pay24 x1) 122#32 x8
    (View.ld x7 (Rect.unit ![0, 0] ![1, 1536] inb_S4x1536_S1x1536_0_0))
    (View.ld x7 (Rect.unit ![1, 0] ![1, 1536] inb_S4x1536_S1x1536_1_0))
    (View.ld x7 (Rect.unit ![2, 0] ![1, 1536] inb_S4x1536_S1x1536_2_0))
    (View.ld x7 (Rect.unit ![3, 0] ![1, 1536] inb_S4x1536_S1x1536_3_0)) = kX x1 x2 x7 x8 from rfl,
    show k0_pay27 k0_pay15 x3 (k0_pay26 x9) = kAc x3 x9 from rfl]
-- (k0_pay37 (kX x1 x2 x7 x8) x3 (kAc x3 x9) (kTot x3 x9) x11) = kW x1 x2 x3 x7 x8 x9 x11 from rfl,
-- k0_pay81 (k0_pay82 x11) (k0_pay83 (kTot x3 x9)) = kA x3 x9 x11 from rfl]

  rw [canon_fun (S := S128x1024) (e := .f32) (yoG (k0_pay87 (kX x1 x2 x7 x8)) x6) _ ?h1 ?h2]
  case h2 => exact View.cover_of_tiledL _ S8x512.size (by sl_kernel_rfl)
  case h1 =>
    generalize k0_pay87 (kX x1 x2 x7 x8) = C
    have P := yo_piece C x6
    unfold k0_pay93 k0_pay92 at P
    simp only [List.forall_mem_cons, k0_pay93, k0_pay92, k0_pay95, k0_pay96, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205]
    iterate 32 refine ⟨P _ _ _ _ (by rfl) (by rfl) (by rfl) _ _ _, ?_⟩
    exact fun p hp => absurd hp List.not_mem_nil
  rw [show k0_pay73 (k0_pay19 (iota Kind.tc S128x128 32 [0] iota_S128x128_d0_w32) k0_pay16 k0_pay17 (8#32) k0_pay18)
      (k0_pay29 x10) (k0_pay31 (kX x1 x2 x7 x8)) (k0_pay36 x3)
      k0_pay39
      (k0_pay46 (k0_pay19 (iota Kind.tc S128x128 32 [0] iota_S128x128_d0_w32) k0_pay16 k0_pay17 (8#32) k0_pay18)
       (k0_pay34 (kAc x3 x9)) (k0_pay35 (kAc x3 x9)) (k0_pay36 x3) k0_pay39 (k0_pay40 (kX x1 x2 x7 x8)) (k0_pay42 (kX x1 x2 x7 x8)) k0_pay43 (k0_pay44 (kAc x3 x9))
       (k0_pay45 (kAc x3 x9)))
      (k0_pay51 (k0_pay19 (iota Kind.tc S128x128 32 [0] iota_S128x128_d0_w32) k0_pay16 k0_pay17 (8#32) k0_pay18)
       (k0_pay36 x3) k0_pay39 (k0_pay47 (k0_pay38 (kX x1 x2 x7 x8))) k0_pay48
       (k0_pay49 (k0_pay19 (iota Kind.tc S128x128 32 [0] iota_S128x128_d0_w32) k0_pay16 k0_pay17 (8#32) k0_pay18)
        (k0_pay34 (kAc x3 x9)) (k0_pay35 (kAc x3 x9)) (k0_pay36 x3) (k0_pay38 (kX x1 x2 x7 x8)) k0_pay39 (k0_pay40 (kX x1 x2 x7 x8)))
       (k0_pay50 (k0_pay34 (kAc x3 x9)) (k0_pay35 (kAc x3 x9)) (k0_pay40 (kX x1 x2 x7 x8))))
      (k0_pay52 (k0_pay19 (iota Kind.tc S128x128 32 [0] iota_S128x128_d0_w32) k0_pay16 k0_pay17 (8#32) k0_pay18)
       (k0_pay34 (kAc x3 x9)) (k0_pay35 (kAc x3 x9)) (k0_pay36 x3) (k0_pay38 (kX x1 x2 x7 x8)) k0_pay39 (k0_pay40 (kX x1 x2 x7 x8)))
      (k0_pay57 (k0_pay19 (iota Kind.tc S128x128 32 [0] iota_S128x128_d0_w32) k0_pay16 k0_pay17 (8#32) k0_pay18)
       (k0_pay34 (kAc x3 x9)) (k0_pay35 (kAc x3 x9)) (k0_pay36 x3) k0_pay39 (k0_pay40 (kX x1 x2 x7 x8)) (k0_pay53 (k0_pay38 (kX x1 x2 x7 x8))) k0_pay54
       (k0_pay55 (k0_pay34 (kAc x3 x9))) (k0_pay56 (k0_pay35 (kAc x3 x9))))
      (k0_pay62 (k0_pay19 (iota Kind.tc S128x128 32 [0] iota_S128x128_d0_w32) k0_pay16 k0_pay17 (8#32) k0_pay18)
       (k0_pay36 x3) k0_pay39 (k0_pay58 (k0_pay38 (kX x1 x2 x7 x8))) k0_pay59
       (k0_pay60 (k0_pay19 (iota Kind.tc S128x128 32 [0] iota_S128x128_d0_w32) k0_pay16 k0_pay17 (8#32) k0_pay18)
        (k0_pay34 (kAc x3 x9)) (k0_pay35 (kAc x3 x9)) (k0_pay36 x3) (k0_pay38 (kX x1 x2 x7 x8)) k0_pay39 (k0_pay41 (kX x1 x2 x7 x8)))
       (k0_pay61 (k0_pay34 (kAc x3 x9)) (k0_pay35 (kAc x3 x9)) (k0_pay41 (kX x1 x2 x7 x8))))
      (k0_pay63 (k0_pay19 (iota Kind.tc S128x128 32 [0] iota_S128x128_d0_w32) k0_pay16 k0_pay17 (8#32) k0_pay18)
       (k0_pay34 (kAc x3 x9)) (k0_pay35 (kAc x3 x9)) (k0_pay36 x3) (k0_pay38 (kX x1 x2 x7 x8)) k0_pay39 (k0_pay41 (kX x1 x2 x7 x8)))
      (k0_pay68 (k0_pay19 (iota Kind.tc S128x128 32 [0] iota_S128x128_d0_w32) k0_pay16 k0_pay17 (8#32) k0_pay18)
       (k0_pay34 (kAc x3 x9)) (k0_pay35 (kAc x3 x9)) (k0_pay36 x3) k0_pay39 (k0_pay41 (kX x1 x2 x7 x8)) (k0_pay64 (k0_pay38 (kX x1 x2 x7 x8))) k0_pay65
       (k0_pay66 (k0_pay34 (kAc x3 x9))) (k0_pay67 (k0_pay35 (kAc x3 x9))))
      (k0_pay69 (k0_pay38 (kX x1 x2 x7 x8))) k0_pay70
      (k0_pay71 (k0_pay19 (iota Kind.tc S128x128 32 [0] iota_S128x128_d0_w32) k0_pay16 k0_pay17 (8#32) k0_pay18)
       (k0_pay34 (kAc x3 x9)) (k0_pay35 (kAc x3 x9)) (k0_pay36 x3) (k0_pay38 (kX x1 x2 x7 x8)) k0_pay39 (k0_pay41 (kX x1 x2 x7 x8)))
      (k0_pay72 (k0_pay34 (kAc x3 x9)) (k0_pay35 (kAc x3 x9)) (k0_pay41 (kX x1 x2 x7 x8))) = kY (kX x1 x2 x7 x8) (kAc x3 x9) x3 x10 from rfl]
  simp only [idx_full1024]
  rfl

set_option maxHeartbeats 4000000 in
/-- At the first grid point too, the stored result block is that of the step. -/
theorem o16A (c : Dev nD) (i : grid0.Coords) (arg1 : Memref sig .tc .vmem S128x1024 .f32) (harg1 : arg1.IsWhole) (arg2 : Memref sig .tc .vmem S128x1536 .f32) (harg2 : arg2.IsWhole) (arg3 : Memref sig .tc .vmem S128x1536 .f32) (harg3 : arg3.IsWhole) (arg4 : Memref sig .tc .vmem S128x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S16x1024x128 .f32) (harg7 : arg7.IsWhole) (arg8 : Memref sig .tc .vmem S4x1536 .f32) (harg8 : arg8.IsWhole) (arg9 : Memref sig .tc .vmem S1x1536 .f32) (harg9 : arg9.IsWhole) (arg10 : Memref sig .tc .vmem S1x128 .f32) (harg10 : arg10.IsWhole) (arg11 : Memref sig .tc .vmem S1x1024 .f32) (harg11 : arg11.IsWhole) (arg12 : Memref sig .tc .vmem S384x1024 .bf16) (harg12 : arg12.IsWhole) (arg13 : Memref sig .tc .vmem S128x384 .bf16) (harg13 : arg13.IsWhole) (arg14 : Memref sig .tc .vmem S1x1024 .f32) (harg14 : arg14.IsWhole) (arg15 : Memref sig .tc .vmem S8x128x128 .f32) (harg15 : arg15.IsWhole) (arg16 : Memref sig .tc .vmem S128x1024 .f32) (harg16 : arg16.IsWhole) (arg17 : Memref sig .tc .vmem S128x2048 .bf16) (harg17 : arg17.IsWhole) (arg18 : Memref sig .tc .vmem S16x1024x128 .f32) (harg18 : arg18.IsWhole) (arg19 : Memref sig .tc .vmem S128x256 .f32) (harg19 : arg19.IsWhole) (arg20 : Memref sig .tc .vmem S128x256 .f32) (harg20 : arg20.IsWhole) (arg21 : Memref sig .tc .vmem S128x1024 .f32) (harg21 : arg21.IsWhole) (arg22 : Memref sig .tc .vmem S128x1024 .f32) (harg22 : arg22.IsWhole) (arg23 : Memref sig .tc .vmem S128x1024 .f32) (harg23 : arg23.IsWhole) (arg24 : Memref sig .tc .vmem S8x128x128 .bf16) (harg24 : arg24.IsWhole) (hc0 : cond0_0 i)
    (x0 : Vec Ideal S128x1024 .f32) (x1 : Vec Ideal S128x1536 .f32) (x2 : Vec Ideal S128x1536 .f32) (x3 : Vec Ideal S128x128 .f32) (x4 : Vec Ideal S128x1024 .f32) (x5 : Vec Ideal S128x1024 .f32) (x6 : Vec Ideal S16x1024x128 .f32) (x7 : Vec Ideal S4x1536 .f32) (x8 : Vec Ideal S1x1536 .f32) (x9 : Vec Ideal S1x128 .f32) (x10 : Vec Ideal S1x1024 .f32) (x11 : Vec Ideal S384x1024 .bf16) (x12 : Vec Ideal S128x384 .bf16) (x13 : Vec Ideal S1x1024 .f32) (x14 : Vec Ideal S8x128x128 .f32) (x15 : Vec Ideal S128x1024 .f32) (y) : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 y = kM x0 x1 x2 x3 x4 x5 x6 x7 x8 x9 x10 x11 x13 x15 (wmG segM x14) y := by
  unfold out0_A_16
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.readCov_eq_canon', View.ld_unit_zero (S := S128x1536) hz2, View.ld_unit_zero (S := S128x1024) hz2, View.ld_unit_zero (S := S128x128) hz2, View.ld_unit_zero (S := S384x1024) hz2, View.ld_unit_zero (S := S1x128) hz2, View.ld_unit_zero (S := S1x1536) hz2, canon_full1024, canon_full2048, ld_row1024, canon_full256]
  rw [show k0_pay25 k0_pay15 x1 (k0_pay21 x2) (k0_pay22 k0_pay15 x1 x2) (k0_pay23 k0_pay15) (k0_pay24 x1) 122#32 x8
    (View.ld x7 (Rect.unit ![0, 0] ![1, 1536] inb_S4x1536_S1x1536_0_0))
    (View.ld x7 (Rect.unit ![1, 0] ![1, 1536] inb_S4x1536_S1x1536_1_0))
    (View.ld x7 (Rect.unit ![2, 0] ![1, 1536] inb_S4x1536_S1x1536_2_0))
    (View.ld x7 (Rect.unit ![3, 0] ![1, 1536] inb_S4x1536_S1x1536_3_0)) = kX x1 x2 x7 x8 from rfl,
    show k0_pay27 k0_pay15 x3 (k0_pay26 x9) = kAc x3 x9 from rfl]
-- (k0_pay37 (kX x1 x2 x7 x8) x3 (kAc x3 x9) (kTot x3 x9) x11) = kW x1 x2 x3 x7 x8 x9 x11 from rfl,
-- k0_pay81 (k0_pay82 x11) (k0_pay83 (kTot x3 x9)) = kA x3 x9 x11 from rfl]

  rw [canon_fun (S := S8x128x128) (e := .bf16) (wmG segM x14) _ ?h3 ?h4]
  case h4 => exact View.cover_of_tiledL _ S1x128x128.size (by sl_kernel_rfl)
  case h3 =>
    have P := wm_piece segM x14
    unfold segM k0_pay5 k0_pay2 k0_pay3 k0_pay4 rows128 cols128 at P
    unfold segM
    simp only [List.forall_mem_cons, k0_pay2, k0_pay3, k0_pay4, k0_pay5, k0_pay6, k0_pay7, k0_pay8, k0_pay9, k0_pay10, k0_pay11, k0_pay12, k0_pay13, k0_pay14, k0_pay20]
    iterate 8 refine ⟨P _ _, ?_⟩
    exact fun p hp => absurd hp List.not_mem_nil
  rw [canon_fun (S := S128x1024) (e := .f32) (yoG (k0_pay87 (kX x1 x2 x7 x8)) x6) _ ?h1 ?h2]
  case h2 => exact View.cover_of_tiledL _ S8x512.size (by sl_kernel_rfl)
  case h1 =>
    generalize k0_pay87 (kX x1 x2 x7 x8) = C
    have P := yo_piece C x6
    unfold k0_pay93 k0_pay92 at P
    simp only [List.forall_mem_cons, k0_pay93, k0_pay92, k0_pay95, k0_pay96, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205]
    iterate 32 refine ⟨P _ _ _ _ (by rfl) (by rfl) (by rfl) _ _ _, ?_⟩
    exact fun p hp => absurd hp List.not_mem_nil
  rw [show k0_pay73 (k0_pay19 (iota Kind.tc S128x128 32 [0] iota_S128x128_d0_w32) k0_pay16 k0_pay17 (8#32) k0_pay18)
      (k0_pay29 x10) (k0_pay31 (kX x1 x2 x7 x8)) (k0_pay36 x3)
      k0_pay39
      (k0_pay46 (k0_pay19 (iota Kind.tc S128x128 32 [0] iota_S128x128_d0_w32) k0_pay16 k0_pay17 (8#32) k0_pay18)
       (k0_pay34 (kAc x3 x9)) (k0_pay35 (kAc x3 x9)) (k0_pay36 x3) k0_pay39 (k0_pay40 (kX x1 x2 x7 x8)) (k0_pay42 (kX x1 x2 x7 x8)) k0_pay43 (k0_pay44 (kAc x3 x9))
       (k0_pay45 (kAc x3 x9)))
      (k0_pay51 (k0_pay19 (iota Kind.tc S128x128 32 [0] iota_S128x128_d0_w32) k0_pay16 k0_pay17 (8#32) k0_pay18)
       (k0_pay36 x3) k0_pay39 (k0_pay47 (k0_pay38 (kX x1 x2 x7 x8))) k0_pay48
       (k0_pay49 (k0_pay19 (iota Kind.tc S128x128 32 [0] iota_S128x128_d0_w32) k0_pay16 k0_pay17 (8#32) k0_pay18)
        (k0_pay34 (kAc x3 x9)) (k0_pay35 (kAc x3 x9)) (k0_pay36 x3) (k0_pay38 (kX x1 x2 x7 x8)) k0_pay39 (k0_pay40 (kX x1 x2 x7 x8)))
       (k0_pay50 (k0_pay34 (kAc x3 x9)) (k0_pay35 (kAc x3 x9)) (k0_pay40 (kX x1 x2 x7 x8))))
      (k0_pay52 (k0_pay19 (iota Kind.tc S128x128 32 [0] iota_S128x128_d0_w32) k0_pay16 k0_pay17 (8#32) k0_pay18)
       (k0_pay34 (kAc x3 x9)) (k0_pay35 (kAc x3 x9)) (k0_pay36 x3) (k0_pay38 (kX x1 x2 x7 x8)) k0_pay39 (k0_pay40 (kX x1 x2 x7 x8)))
      (k0_pay57 (k0_pay19 (iota Kind.tc S128x128 32 [0] iota_S128x128_d0_w32) k0_pay16 k0_pay17 (8#32) k0_pay18)
       (k0_pay34 (kAc x3 x9)) (k0_pay35 (kAc x3 x9)) (k0_pay36 x3) k0_pay39 (k0_pay40 (kX x1 x2 x7 x8)) (k0_pay53 (k0_pay38 (kX x1 x2 x7 x8))) k0_pay54
       (k0_pay55 (k0_pay34 (kAc x3 x9))) (k0_pay56 (k0_pay35 (kAc x3 x9))))
      (k0_pay62 (k0_pay19 (iota Kind.tc S128x128 32 [0] iota_S128x128_d0_w32) k0_pay16 k0_pay17 (8#32) k0_pay18)
       (k0_pay36 x3) k0_pay39 (k0_pay58 (k0_pay38 (kX x1 x2 x7 x8))) k0_pay59
       (k0_pay60 (k0_pay19 (iota Kind.tc S128x128 32 [0] iota_S128x128_d0_w32) k0_pay16 k0_pay17 (8#32) k0_pay18)
        (k0_pay34 (kAc x3 x9)) (k0_pay35 (kAc x3 x9)) (k0_pay36 x3) (k0_pay38 (kX x1 x2 x7 x8)) k0_pay39 (k0_pay41 (kX x1 x2 x7 x8)))
       (k0_pay61 (k0_pay34 (kAc x3 x9)) (k0_pay35 (kAc x3 x9)) (k0_pay41 (kX x1 x2 x7 x8))))
      (k0_pay63 (k0_pay19 (iota Kind.tc S128x128 32 [0] iota_S128x128_d0_w32) k0_pay16 k0_pay17 (8#32) k0_pay18)
       (k0_pay34 (kAc x3 x9)) (k0_pay35 (kAc x3 x9)) (k0_pay36 x3) (k0_pay38 (kX x1 x2 x7 x8)) k0_pay39 (k0_pay41 (kX x1 x2 x7 x8)))
      (k0_pay68 (k0_pay19 (iota Kind.tc S128x128 32 [0] iota_S128x128_d0_w32) k0_pay16 k0_pay17 (8#32) k0_pay18)
       (k0_pay34 (kAc x3 x9)) (k0_pay35 (kAc x3 x9)) (k0_pay36 x3) k0_pay39 (k0_pay41 (kX x1 x2 x7 x8)) (k0_pay64 (k0_pay38 (kX x1 x2 x7 x8))) k0_pay65
       (k0_pay66 (k0_pay34 (kAc x3 x9))) (k0_pay67 (k0_pay35 (kAc x3 x9))))
      (k0_pay69 (k0_pay38 (kX x1 x2 x7 x8))) k0_pay70
      (k0_pay71 (k0_pay19 (iota Kind.tc S128x128 32 [0] iota_S128x128_d0_w32) k0_pay16 k0_pay17 (8#32) k0_pay18)
       (k0_pay34 (kAc x3 x9)) (k0_pay35 (kAc x3 x9)) (k0_pay36 x3) (k0_pay38 (kX x1 x2 x7 x8)) k0_pay39 (k0_pay41 (kX x1 x2 x7 x8)))
      (k0_pay72 (k0_pay34 (kAc x3 x9)) (k0_pay35 (kAc x3 x9)) (k0_pay41 (kX x1 x2 x7 x8))) = kY (kX x1 x2 x7 x8) (kAc x3 x9) x3 x10 from rfl]
  simp only [idx_full1024]
  rfl
end Cert.MixerSampleIdeal.Val
end
-- ==== Proof.Alg.lean ====
module

public import Idealize.ShloMosaic.Lib.Pointwise

/-! The mathematics of the sample mixer for one sequence of eight rows, over the extended reals: the closed forms both
    programs are read to, and the sum laws that take the kernel's lane-wide forms to them. -/

@[expose] public section
noncomputable section
namespace Mix
open Idealize.ShloMosaic

/-- A value that is a real number. -/
def IsR (x : EReal) : Prop := ∃ r : ℝ, x = (r : EReal)

/-- Reals are closed under addition. -/
theorem IsR.add {x y : EReal} (hx : IsR x) (hy : IsR y) : IsR (x + y) := by
  obtain ⟨a, rfl⟩ := hx; obtain ⟨b, rfl⟩ := hy; exact ⟨a + b, (EReal.coe_add a b).symm⟩
/-- Reals are closed under subtraction. -/
theorem IsR.sub {x y : EReal} (hx : IsR x) (hy : IsR y) : IsR (x - y) := by
  obtain ⟨a, rfl⟩ := hx; obtain ⟨b, rfl⟩ := hy; exact ⟨a - b, (EReal.coe_sub a b).symm⟩
/-- Reals are closed under multiplication. -/
theorem IsR.mul {x y : EReal} (hx : IsR x) (hy : IsR y) : IsR (x * y) := by
  obtain ⟨a, rfl⟩ := hx; obtain ⟨b, rfl⟩ := hy; exact ⟨a * b, (EReal.coe_mul a b).symm⟩
/-- Reals are closed under negation. -/
theorem IsR.neg {x : EReal} (hx : IsR x) : IsR (-x) := by
  obtain ⟨a, rfl⟩ := hx; exact ⟨-a, (EReal.coe_neg a).symm⟩
/-- The exponential of a real is a real. -/
theorem IsR.exp {x : EReal} (hx : IsR x) : IsR (Ideal.exp x) := by
  obtain ⟨a, rfl⟩ := hx; exact ⟨Real.exp a, rfl⟩
/-- Zero is a real. -/
theorem IsR.zero : IsR 0 := ⟨0, rfl⟩
/-- A finite sum of reals is a real. -/
theorem IsR.sum {ι : Type} (s : Finset ι) (f : ι → EReal) (h : ∀ i, IsR (f i)) : IsR (∑ i ∈ s, f i) := by
  classical
  induction s using Finset.induction_on with
  | empty => simpa using IsR.zero
  | insert a s ha ih => rw [Finset.sum_insert ha]; exact (h a).add ih
/-- A real less itself is zero. -/
theorem IsR.sub_self {x : EReal} (hx : IsR x) : x - x = 0 := by
  obtain ⟨a, rfl⟩ := hx; rw [← EReal.coe_sub, _root_.sub_self, EReal.coe_zero]

/-- A value whose absolute value is below infinity is a real. -/
theorem isR_of_ne {x : EReal} (h1 : x ≠ ⊤) (h2 : x ≠ ⊥) : IsR x := ⟨x.toReal, (EReal.coe_toReal h1 h2).symm⟩

/-- The word 0.5 is one half. -/
theorem half_eq : Ideal.ofBits .f32 1056964608#32 = ((1 / 2 : ℝ) : EReal) := by
  simp [Ideal.ofBits, Ideal.ieee, -EReal.coe_mul]; norm_num

/-- The kernel's `h + h·tanh h` at `h = x/2` is `x·logistic x`. -/
theorem silu_eq {x : EReal} (hx : IsR x) :
    Ideal.ofBits .f32 1056964608#32 * x + Ideal.ofBits .f32 1056964608#32 * x * Ideal.tanh (Ideal.ofBits .f32 1056964608#32 * x)
      = x * Ideal.logistic x := by
  obtain ⟨a, rfl⟩ := hx
  rw [half_eq, Ideal.logistic_coe, ← EReal.coe_mul, Ideal.tanh_coe, ← EReal.coe_mul, ← EReal.coe_add, ← EReal.coe_mul]
  congr 1
  have h1 : Real.exp (-a) = Real.exp (-(1/2*a)) * Real.exp (-(1/2*a)) := by rw [← Real.exp_add]; congr 1; ring
  have h2 : Real.exp (1/2*a) * Real.exp (-(1/2*a)) = 1 := by rw [← Real.exp_add]; simp
  rw [Real.tanh_eq_sinh_div_cosh, Real.sinh_eq, Real.cosh_eq, h1]
  have p1 := Real.exp_pos (1/2*a)
  have p2 := Real.exp_pos (-(1/2*a))
  generalize Real.exp (1/2*a) = e at *
  generalize Real.exp (-(1/2*a)) = f at *
  have : e + f ≠ 0 := by positivity
  have : 1 + f * f ≠ 0 := by positivity
  field_simp
  linear_combination (2 * a * f) * h2

/-- Two raised to a difference of arguments scaled by `1/ln 2` is the exponential of the difference. -/
theorem exp2_log2 {x y : EReal} (hx : IsR x) (hy : IsR y) :
    Ideal.exp2 (x * (((Real.log 2)⁻¹ : ℝ) : EReal) - y * (((Real.log 2)⁻¹ : ℝ) : EReal)) = Ideal.exp (x - y) := by
  obtain ⟨a, rfl⟩ := hx; obtain ⟨b, rfl⟩ := hy
  rw [← EReal.coe_mul, ← EReal.coe_mul, ← EReal.coe_sub, ← EReal.coe_sub, Ideal.exp2_coe, Ideal.exp_coe]
  congr 1
  have h2 : Real.log 2 ≠ 0 := (Real.log_pos (by norm_num)).ne'
  refine (Real.rpow_eq_pow _ _).trans ((Real.rpow_def_of_pos (by norm_num) _).trans ?_)
  congr 1
  field_simp

/-- Row `t` of sequence `q` among the 128 rows of a block. -/
abbrev rowOf (q : Fin 16) (t : Fin 8) : Fin 128 := ⟨8 * q.val + t.val, by omega⟩

/-- One doubling of the scan: add the row `k` above when it is in the same sequence. -/
def sstep (k : ℕ) (a : Fin 128 → EReal) (r : Fin 128) : EReal :=
  a r + if k ≤ r.val % 8 then a ⟨(r.val + 128 - k) % 128, Nat.mod_lt _ (by decide)⟩ else 0

/-- A doubling step read inside a sequence. -/
theorem sstep_row (k : ℕ) (a : Fin 128 → EReal) (q : Fin 16) (t : Fin 8) :
    sstep k a (rowOf q t) = a (rowOf q t) + if h : k ≤ t.val then a (rowOf q ⟨t.val - k, by omega⟩) else 0 := by
  unfold sstep
  have : (rowOf q t).val % 8 = t.val := by simp only [rowOf]; omega
  rw [this]
  congr 1
  split
  · rename_i h
    congr 1; apply Fin.ext; simp only [rowOf]; omega
  · rfl

/-- Three doublings are the running sum within a sequence. -/
theorem scan_row (a : Fin 128 → EReal) (q : Fin 16) (t : Fin 8) :
    sstep 4 (sstep 2 (sstep 1 a)) (rowOf q t) = ∑ j : Fin 8, if j ≤ t then a (rowOf q j) else 0 := by
  obtain ⟨g, hg⟩ : ∃ g : ℕ → EReal, ∀ j : Fin 8, a (rowOf q j) = g j.val :=
    ⟨fun n => if h : n < 8 then a (rowOf q ⟨n, h⟩) else 0, fun j => by simp⟩
  simp only [sstep_row, hg]
  rw [Fin.sum_univ_eight]
  fin_cases t <;> simp [Fin.le_def] <;> ac_rfl

/-- One step of the spreading of a sequence's last row. -/
def lstep (k : ℕ) (a : Fin 128 → EReal) (r : Fin 128) : EReal :=
  a r + a ⟨(r.val + 128 - k) % 128, Nat.mod_lt _ (by decide)⟩

/-- A single row kept per sequence: its last. -/
def keep7 (a : Fin 128 → EReal) (r : Fin 128) : EReal := if r.val % 8 = 7 then a r else 0

/-- The spreading puts a sequence's last row in each of its rows. -/
theorem last_row (a : Fin 128 → EReal) (q : Fin 16) (t : Fin 8) :
    lstep 124 (lstep 126 (lstep 127 (keep7 a))) (rowOf q t) = a (rowOf q 7) := by
  have step : ∀ (b : Fin 128 → EReal) (k n : ℕ) (_ : k < 8) (_ : 0 < k) (h : (8 * q.val + n) % 128 < 128),
      lstep (128 - k) b ⟨(8 * q.val + n) % 128, h⟩
        = b ⟨(8 * q.val + n) % 128, h⟩ + b ⟨(8 * q.val + (n + k)) % 128, Nat.mod_lt _ (by decide)⟩ := by
    intro b k n hk h0 h
    unfold lstep
    congr 2
    apply Fin.ext; simp only; omega
  have kp : ∀ (n : ℕ) (_ : n < 15) (h : (8 * q.val + n) % 128 < 128),
      keep7 a ⟨(8 * q.val + n) % 128, h⟩ = if n = 7 then a (rowOf q 7) else 0 := by
    intro n hn h
    unfold keep7
    by_cases e : n = 7
    · subst e
      rw [if_pos (by simp only; omega), if_pos rfl]
      congr 1; apply Fin.ext; simp only [rowOf]
      have := q.isLt
      show (8 * q.val + 7) % 128 = 8 * q.val + 7
      omega
    · rw [if_neg (by simp only; omega), if_neg e]
  have hr : rowOf q t = ⟨(8 * q.val + t.val) % 128, Nat.mod_lt _ (by decide)⟩ := by
    apply Fin.ext; simp only [rowOf]; omega
  have ht := t.isLt
  rw [hr, step _ 4 _ (by decide) (by decide), step _ 2 _ (by decide) (by decide), step _ 2 _ (by decide) (by decide),
    step _ 1 _ (by decide) (by decide), step _ 1 _ (by decide) (by decide), step _ 1 _ (by decide) (by decide),
    step _ 1 _ (by decide) (by decide)]
  simp only [kp _ (show t.val < 15 by omega), kp _ (show t.val + 1 < 15 by omega), kp _ (show t.val + 2 < 15 by omega),
    kp _ (show t.val + 2 + 1 < 15 by omega), kp _ (show t.val + 4 < 15 by omega), kp _ (show t.val + 4 + 1 < 15 by omega),
    kp _ (show t.val + 4 + 2 < 15 by omega), kp _ (show t.val + 4 + 2 + 1 < 15 by omega)]
  fin_cases t <;> simp

/-- A sum over 128 rows of a term that lives in one sequence is the sum over its eight rows. -/
theorem sum_seq (f : Fin 128 → EReal) (q : Fin 16) (h : ∀ k : Fin 128, k.val / 8 ≠ q.val → f k = 0) :
    ∑ k, f k = ∑ j : Fin 8, f (rowOf q j) := by
  rw [Fin.sum_univ_tiles 16 8 rfl f, Finset.sum_eq_single q]
  · exact Finset.sum_congr rfl fun j _ => congrArg f (Fin.ext (by simp only [rowOf]; omega))
  · intro b _ hb
    exact Finset.sum_eq_zero fun j _ => h _ (by simp only; intro e; apply hb; apply Fin.ext; omega)
  · intro hq; exact absurd (Finset.mem_univ _) hq

/-- The head of a channel. -/
abbrev hd (c : Fin 1024) : Fin 16 := ⟨c.val / 64, by omega⟩

/-- The three-part one-hot product picks one lane of a real-valued row. -/
theorem expand_sum (w : Fin 128 → EReal) (e : Fin 384 → EReal) (h : Fin 128) (hw : ∀ k, IsR (w k))
    (he : ∀ k : Fin 384, e k = if k.val % 128 = h.val then 1 else 0) :
    ∑ x : Fin 384, (if h : x.val < 128 then w ⟨x.val, h⟩
        else if h2 : x.val - 128 < 128 then w ⟨x.val - 128, h2⟩ - w ⟨x.val - 128, h2⟩
        else w ⟨x.val - 128 - 128, by omega⟩ - w ⟨x.val - 128 - 128, by omega⟩ -
          (w ⟨x.val - 128 - 128, by omega⟩ - w ⟨x.val - 128 - 128, by omega⟩)) * e x = w h := by
  rw [Finset.sum_eq_single (⟨h.val, by omega⟩ : Fin 384)]
  · rw [he]
    have := h.isLt
    simp [Nat.mod_eq_of_lt h.isLt]
  · intro x _ hx
    rw [he]
    split
    · rename_i h1
      rw [if_neg, mul_zero]
      intro e; apply hx; apply Fin.ext; simp only; omega
    · split
      · rw [(hw _).sub_self, zero_mul]
      · rw [(hw _).sub_self, IsR.zero.sub_self, zero_mul]
  · intro hq; exact absurd (Finset.mem_univ _) hq

/-- Column of `B` for a channel's group and a state index. -/
abbrev bcol (c : Fin 1024) (n : Fin 128) : Fin 1536 := ⟨1024 + (c.val / 64 / 8 * 128 + n.val), by omega⟩
/-- Column of `C` for a channel's group and a state index. -/
abbrev ccol (c : Fin 1024) (n : Fin 128) : Fin 1536 := ⟨1280 + (c.val / 64 / 8 * 128 + n.val), by omega⟩
/-- A channel as a column of the convolved row. -/
abbrev xcol (c : Fin 1024) : Fin 1536 := ⟨c.val, by omega⟩

/-- Row `t + k - 3` of a sequence, the three rows before it coming from the buffer. -/
def tap (X : Fin 8 → Fin 1536 → EReal) (P : Fin 3 → Fin 1536 → EReal) (k : Fin 4) (t : Fin 8) (c : Fin 1536) : EReal :=
  if h : k.val + t.val < 3 then P ⟨k.val + t.val, h⟩ c else X ⟨k.val + t.val - 3, by omega⟩ c

/-- The causal depthwise convolution of four taps. -/
def conv (X : Fin 8 → Fin 1536 → EReal) (P : Fin 3 → Fin 1536 → EReal) (W : Fin 4 → Fin 1536 → EReal) (b : Fin 1536 → EReal)
    (t : Fin 8) (c : Fin 1536) : EReal :=
  tap X P 0 t c * W 0 c + tap X P 1 t c * W 1 c + tap X P 2 t c * W 2 c + tap X P 3 t c * W 3 c + b c

/-- The convolution under `silu`. -/
def xconv (X : Fin 8 → Fin 1536 → EReal) (P : Fin 3 → Fin 1536 → EReal) (W : Fin 4 → Fin 1536 → EReal) (b : Fin 1536 → EReal)
    (t : Fin 8) (c : Fin 1536) : EReal :=
  conv X P W b t c * Ideal.logistic (conv X P W b t c)

/-- The running log-decay of a head. -/
def acum (D : Fin 8 → Fin 16 → EReal) (A : Fin 16 → EReal) (t : Fin 8) (h : Fin 16) : EReal :=
  ∑ j : Fin 8, if j ≤ t then D j h * A h else 0

/-- The state after the sequence. -/
def newState (x : Fin 8 → Fin 1536 → EReal) (D a : Fin 8 → Fin 16 → EReal) (S : Fin 1024 → Fin 128 → EReal)
    (c : Fin 1024) (n : Fin 128) : EReal :=
  Ideal.exp (a 7 (hd c)) * S c n
    + ∑ t : Fin 8, (x t (xcol c) * D t (hd c)) * (x t (bcol c n) * Ideal.exp (a 7 (hd c) - a t (hd c)))

/-- The scan's output row before the gate: the rows of the sequence up to `t`, the state before it, the skip. -/
def yraw (x : Fin 8 → Fin 1536 → EReal) (D a : Fin 8 → Fin 16 → EReal) (S : Fin 1024 → Fin 128 → EReal) (d : Fin 16 → EReal)
    (t : Fin 8) (c : Fin 1024) : EReal :=
  (∑ j : Fin 8, (x j (xcol c) * D j (hd c)) *
      ((∑ n : Fin 128, x j (bcol c n) * x t (ccol c n)) * (if j ≤ t then Ideal.exp (a t (hd c) - a j (hd c)) else 0)))
    + (∑ n : Fin 128, S c n * x t (ccol c n)) * Ideal.exp (a t (hd c)) + d (hd c) * x t (xcol c)

/-- The gated group normalisation of a row. -/
def gnorm (y z g : Fin 1024 → EReal) (c : Fin 1024) : EReal :=
  y c * z c * Ideal.rsqrt (Ideal.div (∑ k : Fin 512, (y ⟨c.val / 512 * 512 + k.val, by omega⟩ * z ⟨c.val / 512 * 512 + k.val, by omega⟩)
      * (y ⟨c.val / 512 * 512 + k.val, by omega⟩ * z ⟨c.val / 512 * 512 + k.val, by omega⟩))
      (Ideal.ofBits .f32 1140850688#32) + Ideal.ofBits .f32 925353388#32) * g c

/-- The gated chunk mixing of a row. -/
def gmix (u : Fin 1024 → EReal) (v : Fin 8 → Fin 1024 → EReal) (w : Fin 8 → Fin 8 → Fin 8 → EReal) (b : Fin 8 → Fin 8 → EReal)
    (t : Fin 8) (c : Fin 1024) : EReal :=
  u c * (∑ j : Fin 8, v j c * (if j ≤ t then w ⟨c.val / 128, by omega⟩ t j else 0) + b ⟨c.val / 128, by omega⟩ t)

end Mix
end
-- ==== Proof.Ker.lean ====
module

public import proofs.«01_k».proof.Proof.Open16
public import proofs.«01_k».proof.Proof.Alg

@[expose] public section
set_option maxRecDepth 16384
noncomputable section
namespace Cert.MixerSampleIdeal.Val
open Cert.MixerSampleIdeal Cert.MixerSampleIdeal.Gen Idealize.ShloMosaic Idealize.ShloMosaic.TcCoe Idealize.ShloMosaic.Tactic Mix

/-- A choice on a yes-or-no word is a choice on what it says. -/
theorem select_bit {α : Type} (p : Prop) [Decidable p] (x y : α) : Scalar.select (if p then 1#1 else 0#1) x y = if p then x else y := by
  split_ifs <;> rfl

/-- Steps from the first on. -/
theorem sge1 : ∀ n : Fin 8, IntOp.cmpi CmpIPredicate.sge (BitVec.ofNat 32 n.val) 1#32 = if 1 ≤ n.val then 1#1 else 0#1 := by decide

/-- Steps from the second on. -/
theorem sge2 : ∀ n : Fin 8, IntOp.cmpi CmpIPredicate.sge (BitVec.ofNat 32 n.val) 2#32 = if 2 ≤ n.val then 1#1 else 0#1 := by decide

/-- Steps from the third on. -/
theorem sge3 : ∀ n : Fin 8, IntOp.cmpi CmpIPredicate.sge (BitVec.ofNat 32 n.val) 3#32 = if 3 ≤ n.val then 1#1 else 0#1 := by decide

/-- Steps from the fourth on. -/
theorem sge4 : ∀ n : Fin 8, IntOp.cmpi CmpIPredicate.sge (BitVec.ofNat 32 n.val) 4#32 = if 4 ≤ n.val then 1#1 else 0#1 := by decide

/-- The last step. -/
theorem eq7 : ∀ n : Fin 8, IntOp.cmpi CmpIPredicate.eq (BitVec.ofNat 32 n.val) 7#32 = if n.val = 7 then 1#1 else 0#1 := by decide

/-- The step of row `r`, as a number below eight. -/
abbrev stepOf (r : Fin 128) : Fin 8 := ⟨r.val % 8, by omega⟩

/-- The convolution of reals is real. -/
theorem conv_real (X : Fin 8 → Fin 1536 → EReal) (P : Fin 3 → Fin 1536 → EReal) (W : Fin 4 → Fin 1536 → EReal) (b : Fin 1536 → EReal)
    (hX : ∀ t c, IsR (X t c)) (hP : ∀ k c, IsR (P k c)) (hW : ∀ k c, IsR (W k c)) (hb : ∀ c, IsR (b c)) (t : Fin 8) (c : Fin 1536) :
    IsR (conv X P W b t c) := by
  have ht : ∀ k, IsR (tap X P k t c) := fun k => by
    unfold tap
    split_ifs
    · exact hP _ _
    · exact hX _ _
  exact (((((ht 0).mul (hW _ _)).add ((ht 1).mul (hW _ _))).add ((ht 2).mul (hW _ _))).add ((ht 3).mul (hW _ _))).add (hb _)

/-- Rows from their sequence's first step on. -/
theorem row_sge1 (r : Fin 128) : IntOp.cmpi CmpIPredicate.sge (k0_pay15 (ix2 r 0)) 1#32 = if 1 ≤ r.val % 8 then 1#1 else 0#1 := by
  rw [p15_apply]; exact sge1 (stepOf r)

/-- Rows from their sequence's second step on. -/
theorem row_sge2 (r : Fin 128) : IntOp.cmpi CmpIPredicate.sge (k0_pay15 (ix2 r 0)) 2#32 = if 2 ≤ r.val % 8 then 1#1 else 0#1 := by
  rw [p15_apply]; exact sge2 (stepOf r)

/-- Rows from their sequence's third step on. -/
theorem row_sge3 (r : Fin 128) : IntOp.cmpi CmpIPredicate.sge (k0_pay15 (ix2 r 0)) 3#32 = if 3 ≤ r.val % 8 then 1#1 else 0#1 := by
  rw [p15_apply]; exact sge3 (stepOf r)

/-- Rows from their sequence's fourth step on. -/
theorem row_sge4 (r : Fin 128) : IntOp.cmpi CmpIPredicate.sge (k0_pay15 (ix2 r 0)) 4#32 = if 4 ≤ r.val % 8 then 1#1 else 0#1 := by
  rw [p15_apply]; exact sge4 (stepOf r)

/-- Rows of their sequence's last step. -/
theorem row_eq7 (r : Fin 128) : IntOp.cmpi CmpIPredicate.eq (k0_pay15 (ix2 r 0)) 7#32 = if r.val % 8 = 7 then 1#1 else 0#1 := by
  rw [p15_apply]; exact eq7 (stepOf r)

/-- The pre-convolution rows of sequence `q` of a block. -/
def bX (x1 : Vec Ideal S128x1536 .f32) (q : Fin 16) (t : Fin 8) (c : Fin 1536) : EReal := x1 (ix2 (rowOf q t) c)
/-- The three buffered rows of sequence `q` of a block. -/
def bP (x2 : Vec Ideal S128x1536 .f32) (q : Fin 16) (k : Fin 3) (c : Fin 1536) : EReal := x2 (ix2 (rowOf q ⟨5 + k.val, by omega⟩) c)
/-- The taps. -/
def bW (x7 : Vec Ideal S4x1536 .f32) (k : Fin 4) (c : Fin 1536) : EReal := x7 (ix2 k c)
/-- The bias. -/
def bB (x8 : Vec Ideal S1x1536 .f32) (c : Fin 1536) : EReal := x8 (ix2 0 c)
/-- The step sizes of sequence `q` of a block. -/
def bD (x3 : Vec Ideal S128x128 .f32) (q : Fin 16) (t : Fin 8) (h : Fin 16) : EReal := x3 (ix2 (rowOf q t) ⟨h.val, by omega⟩)
/-- The decay rates. -/
def bA (x9 : Vec Ideal S1x128 .f32) (h : Fin 16) : EReal := -Ideal.exp (x9 (ix2 0 ⟨h.val, by omega⟩))

/-- The tap `k` of step `t`: from `3 - k` rows up, or from the buffer. -/
theorem tap_eq (x1 x2 : Vec Ideal S128x1536 .f32) (q : Fin 16) (k : Fin 3) (t : Fin 8) (c : Fin 1536) (r : Fin 128) (hr : r = rowOf q t)
    (m b : Nat) (hm : m = 3 - k.val) (hb : b = 123 - k.val) (i1) (i2) :
    (if m ≤ r.val % 8 then x1 (ix2 (⟨(r.val + 128 - m) % 128, i1⟩ : Fin 128) c)
      else x2 (ix2 (⟨(r.val + 128 - b) % 128, i2⟩ : Fin 128) c)) = tap (bX x1 q) (bP x2 q) ⟨k.val, by omega⟩ t c := by
  have hq := q.isLt
  have ht := t.isLt
  have hk := k.isLt
  subst hr hm hb
  have hs' : (rowOf q t).val % 8 = t.val := by show (8 * q.val + t.val) % 8 = t.val; omega
  rw [hs']
  unfold tap bX bP rowOf
  by_cases h : 3 - k.val ≤ t.val
  · rw [if_pos h, dif_neg (by simp only; omega)]
    congr 2
    apply Fin.ext
    simp only
    omega
  · rw [if_neg h, dif_pos (by simp only; omega)]
    congr 2
    apply Fin.ext
    simp only
    omega

/-- The buffered rows, unchanged. -/
theorem k0_pay21_apply (x2 : Vec Ideal S128x1536 .f32) (r : Fin 128) (c : Fin 1536) : k0_pay21 x2 (ix2 r c) = x2 (ix2 r c) := by
  unfold k0_pay21
  pointwise

/-- The gated convolution of the block, row by row. -/
theorem kX_apply (x1 x2 : Vec Ideal S128x1536 .f32) (x7 : Vec Ideal S4x1536 .f32) (x8 : Vec Ideal S1x1536 .f32) (q : Fin 16) (t : Fin 8)
    (c : Fin 1536) (hr : IsR (conv (bX x1 q) (bP x2 q) (bW x7) (bB x8) t c)) :
    kX x1 x2 x7 x8 (ix2 (rowOf q t) c) = xconv (bX x1 q) (bP x2 q) (bW x7) (bB x8) t c := by
  unfold xconv
  rw [← silu_eq hr]
  have h3 : tap (bX x1 q) (bP x2 q) 3 t c = x1 (ix2 (rowOf q t) c) := by
    unfold tap bX
    rw [dif_neg (by show ¬ 3 + t.val < 3; omega)]
    congr 3
    apply Fin.ext
    show 3 + t.val - 3 = t.val
    omega
  obtain ⟨r, hr0⟩ : ∃ r, r = rowOf q t := ⟨_, rfl⟩
  have h0 := tap_eq x1 x2 q 0 t c r hr0 3 123 rfl rfl
  have h1 := tap_eq x1 x2 q 1 t c r hr0 2 122 rfl rfl
  have h2 := tap_eq x1 x2 q 2 t c r hr0 1 121 rfl rfl
  rw [← hr0] at h3 ⊢
  have hv : conv (bX x1 q) (bP x2 q) (bW x7) (bB x8) t c = x8 (ix2 0 c) + tap (bX x1 q) (bP x2 q) 0 t c * x7 (ix2 0 c)
      + tap (bX x1 q) (bP x2 q) 1 t c * x7 (ix2 1 c) + tap (bX x1 q) (bP x2 q) 2 t c * x7 (ix2 2 c) + tap (bX x1 q) (bP x2 q) 3 t c * x7 (ix2 3 c) := by
    unfold conv bW bB
    ac_rfl
  rw [hv]
  clear hv hr
  unfold kX k0_pay25 k0_pay21 k0_pay22 k0_pay23 k0_pay24
  pointwise
  simp only [row_sge1, row_sge2, row_sge3, select_bit, k0_pay21_apply, h0, h1, h2, ← h3]
  rw [mul_comm (x7 (ix2 0 c)), mul_comm (x7 (ix2 1 c)), mul_comm (x7 (ix2 2 c)), mul_comm (x7 (ix2 3 c))]
  rfl

/-- The running decay exponents of the block, as sums over a sequence's steps. -/
theorem kAc_sum (x3 : Vec Ideal S128x128 .f32) (x9 : Vec Ideal S1x128 .f32) (q : Fin 16) (t : Fin 8) (h : Fin 128) :
    kAc x3 x9 (ix2 (rowOf q t) h) = ∑ j : Fin 8, if j ≤ t then x3 (ix2 (rowOf q j) h) * -Ideal.exp (x9 (ix2 0 h)) else 0 := by
  have key : ∀ r : Fin 128, kAc x3 x9 (ix2 r h) = sstep 4 (sstep 2 (sstep 1 fun r => x3 (ix2 r h) * -Ideal.exp (x9 (ix2 0 h)))) r := by
    intro r
    unfold kAc k0_pay27 k0_pay26
    pointwise
    simp only [row_sge1, row_sge2, row_sge4, select_bit, zero_sub]
    rfl
  rw [key, scan_row]

/-- The running decay exponents of the block. -/
theorem kAc_apply (x3 : Vec Ideal S128x128 .f32) (x9 : Vec Ideal S1x128 .f32) (q : Fin 16) (t : Fin 8) (h : Fin 16) :
    kAc x3 x9 (ix2 (rowOf q t) ⟨h.val, by omega⟩) = acum (bD x3 q) (bA x9) t h := kAc_sum x3 x9 q t _

/-- Every row of a block is a step of one of its sequences. -/
theorem row_eq (r : Fin 128) : r = rowOf ⟨r.val / 8, by omega⟩ ⟨r.val % 8, by omega⟩ := Fin.ext (by show r.val = 8 * (r.val / 8) + r.val % 8; omega)

/-- The running decay exponents are reals. -/
theorem kAc_real (x3 : Vec Ideal S128x128 .f32) (x9 : Vec Ideal S1x128 .f32) (h3 : ∀ i, IsR (x3 i)) (h9 : ∀ i, IsR (x9 i)) (i : S128x128.Idx) :
    IsR (kAc x3 x9 i) := by
  obtain ⟨r, h, rfl⟩ : ∃ (r h : Fin 128), i = ix2 r h := ⟨i 0, i 1, eq_ix2 (n0 := 128) (n1 := 128) i⟩
  rw [row_eq r, kAc_sum]
  refine IsR.sum _ _ fun j => ?_
  split_ifs
  · exact (h3 _).mul (h9 _).exp.neg
  · exact IsR.zero

/-- Each sequence's last decay exponent, on all its rows. -/
theorem kTot_apply (x3 : Vec Ideal S128x128 .f32) (x9 : Vec Ideal S1x128 .f32) (q : Fin 16) (t : Fin 8) (h : Fin 128) :
    kTot x3 x9 (ix2 (rowOf q t) h) = kAc x3 x9 (ix2 (rowOf q 7) h) := by
  have key : ∀ r : Fin 128, kTot x3 x9 (ix2 r h) = lstep 124 (lstep 126 (lstep 127 (keep7 fun r => kAc x3 x9 (ix2 r h)))) r := by
    intro r
    unfold kTot k0_pay28
    pointwise
    simp only [row_eq7, select_bit]
    rfl
  rw [key, last_row]

/-- The last decay exponents are reals. -/
theorem kTot_real (x3 : Vec Ideal S128x128 .f32) (x9 : Vec Ideal S1x128 .f32) (h3 : ∀ i, IsR (x3 i)) (h9 : ∀ i, IsR (x9 i)) (i : S128x128.Idx) :
    IsR (kTot x3 x9 i) := by
  obtain ⟨r, h, rfl⟩ : ∃ (r h : Fin 128), i = ix2 r h := ⟨i 0, i 1, eq_ix2 (n0 := 128) (n1 := 128) i⟩
  rw [row_eq r, kTot_apply]
  exact kAc_real x3 x9 h3 h9 _

/-- Head `c / 64` of column `c`, as one of 128 lanes. -/
abbrev lane (c : Fin 1024) : Fin 128 := ⟨c.val / 64, by omega⟩

/-- The spreading matrix sends lane `h` to the columns of head `h`, in each of its three parts. -/
def Spreads (x11 : Vec Ideal S384x1024 .bf16) : Prop :=
  ∀ (k : Fin 384) (c : Fin 1024), x11 (ix2 k c) = if k.val % 128 = c.val / 64 then 1 else 0

/-- The step weights of the state update. -/
theorem kW_apply (x1 x2 : Vec Ideal S128x1536 .f32) (x3 : Vec Ideal S128x128 .f32) (x7 : Vec Ideal S4x1536 .f32) (x8 : Vec Ideal S1x1536 .f32)
    (x9 : Vec Ideal S1x128 .f32) (x11 : Vec Ideal S384x1024 .bf16) (hE : Spreads x11) (h3 : ∀ i, IsR (x3 i)) (h9 : ∀ i, IsR (kAc x3 x9 i)) (hT : ∀ i, IsR (kTot x3 x9 i)) (r : Fin 128) (c : Fin 1024) :
    kW x1 x2 x3 x7 x8 x9 x11 (ix2 r c) = kX x1 x2 x7 x8 (ix2 r (xcol c))
      * (Ideal.exp (kTot x3 x9 (ix2 r (lane c)) - kAc x3 x9 (ix2 r (lane c))) * x3 (ix2 r (lane c))) := by
  unfold kW k0_pay85 k0_pay37 k0_pay31
  pointwise
  have h := expand_sum (fun h => Ideal.exp (kTot x3 x9 (ix2 r h) - kAc x3 x9 (ix2 r h)) * x3 (ix2 r h)) (fun x => x11 (ix2 x c)) (lane c)
    (fun k => ((hT _).sub (h9 _)).exp.mul (h3 _)) (fun k => hE k c)
  exact congrArg (kX x1 x2 x7 x8 (ix2 r (xcol c)) * ·) h

/-- The first of the eight rows of a sequence. -/
theorem eq0_word : ∀ n : Fin 8, IntOp.cmpi CmpIPredicate.eq (BitVec.ofNat 32 n.val) 0#32 = if n.val = 0 then 1#1 else 0#1 := by decide

/-- The carried decays: on the first row of each sequence, and nothing on the others. -/
theorem kA_apply (x3 : Vec Ideal S128x128 .f32) (x9 : Vec Ideal S1x128 .f32) (x11 : Vec Ideal S384x1024 .bf16) (hE : Spreads x11)
    (hT : ∀ i, IsR (kTot x3 x9 i)) (r : Fin 128) (c : Fin 1024) :
    kA x3 x9 x11 (ix2 r c) = if r.val % 8 = 0 then Ideal.exp (kTot x3 x9 (ix2 r (lane c))) else 0 := by
  have h := expand_sum (fun h => kTot x3 x9 (ix2 r h)) (fun x => x11 (ix2 x c)) (lane c) (fun k => hT _) (fun k => hE k c)
  have hz := (hT (ix2 r (lane c))).exp.sub_self
  generalize hR : (if r.val % 8 = 0 then Ideal.exp (kTot x3 x9 (ix2 r (lane c))) else 0) = R
  unfold kA k0_pay84 k0_pay81 k0_pay82 k0_pay83
  pointwise
  simp only [h, mod_word, hz, eq0_word (stepOf r)]
  rw [select_bit, ← hR, sub_zero]
  simp only [Scalar.select, ite_self]

/-- The key columns of the block. -/
theorem k0_pay86_apply (X : FVec Ideal S128x1536 .f32) (r : Fin 128) (k : Fin 256) : k0_pay86 X (ix2 r k) = X (ix2 r ⟨1024 + k.val, by omega⟩) := by
  unfold k0_pay86
  pointwise

/-- The query columns of the block. -/
theorem k0_pay87_apply (X : FVec Ideal S128x1536 .f32) (r : Fin 128) (k : Fin 256) : k0_pay87 X (ix2 r k) = X (ix2 r ⟨1280 + k.val, by omega⟩) := by
  unfold k0_pay87
  pointwise

/-- The convolved rows of sequence `q` of a block. -/
def bXc (x1 x2 : Vec Ideal S128x1536 .f32) (x7 : Vec Ideal S4x1536 .f32) (x8 : Vec Ideal S1x1536 .f32) (q : Fin 16) : Fin 8 → Fin 1536 → EReal :=
  xconv (bX x1 q) (bP x2 q) (bW x7) (bB x8)

/-- The running decay exponents of sequence `q` of a block. -/
def bAc (x3 : Vec Ideal S128x128 .f32) (x9 : Vec Ideal S1x128 .f32) (q : Fin 16) : Fin 8 → Fin 16 → EReal := acum (bD x3 q) (bA x9)

/-- A block of new states, sequence by sequence. -/
theorem state_block (x1 x2 : Vec Ideal S128x1536 .f32) (x3 : Vec Ideal S128x128 .f32) (x6 : Vec Ideal S16x1024x128 .f32) (x7 : Vec Ideal S4x1536 .f32)
    (x8 : Vec Ideal S1x1536 .f32) (x9 : Vec Ideal S1x128 .f32) (x11 : Vec Ideal S384x1024 .bf16) (hE : Spreads x11) (h1 : ∀ i, IsR (x1 i)) (h2 : ∀ i, IsR (x2 i))
    (h3 : ∀ i, IsR (x3 i)) (h7 : ∀ i, IsR (x7 i)) (h8 : ∀ i, IsR (x8 i)) (h9 : ∀ i, IsR (x9 i)) (q : Fin 16) (c : Fin 1024) (n : Fin 128) :
    stG (kW x1 x2 x3 x7 x8 x9 x11) (kA x3 x9 x11) (k0_pay86 (kX x1 x2 x7 x8)) x6 (ix3 q c n)
      = newState (bXc x1 x2 x7 x8 q) (bD x3 q) (bAc x3 x9 q) (fun c n => x6 (ix3 q c n)) c n := by
  have hA := kAc_real x3 x9 h3 h9
  have hT := kTot_real x3 x9 h3 h9
  have hX : ∀ (t : Fin 8) (c : Fin 1536), kX x1 x2 x7 x8 (ix2 (rowOf q t) c) = bXc x1 x2 x7 x8 q t c := fun t c =>
    kX_apply x1 x2 x7 x8 q t c (conv_real _ _ _ _ (fun t c => h1 _) (fun k c => h2 _) (fun k c => h7 _) (fun c => h8 _) t c)
  have ha : ∀ t : Fin 8, kAc x3 x9 (ix2 (rowOf q t) (lane c)) = bAc x3 x9 q t (hd c) := fun t => kAc_apply x3 x9 q t (hd c)
  have e : ∀ t : Fin 8, (ix2 (⟨8 * q.val + t.val, by omega⟩ : Fin 128) c : S128x1024.Idx) = ix2 (rowOf q t) c := fun t => rfl
  unfold stG newState
  refine congrArg₂ (· + ·) (congrArg (· * _) ?_) (Finset.sum_congr rfl fun t _ => ?_)
  · rw [Finset.sum_eq_single (0 : Fin 8)]
    · show (if (0 : Fin 8).val < 3 then kA x3 x9 x11 (ix2 (rowOf q 0) c) else 0) = _
      rw [if_pos (by decide), kA_apply x3 x9 x11 hE hT, if_pos (by show (8 * q.val + 0) % 8 = 0; omega), kTot_apply, ha]
    · intro t _ ht
      show (if t.val < 3 then kA x3 x9 x11 (ix2 (rowOf q t) c) else 0) = 0
      split_ifs
      · rw [kA_apply x3 x9 x11 hE hT, if_neg]
        show ¬ (8 * q.val + t.val) % 8 = 0
        have : t.val ≠ 0 := fun h => ht (Fin.ext h)
        omega
      · rfl
    · simp
  · show kW x1 x2 x3 x7 x8 x9 x11 (ix2 (rowOf q t) c) * k0_pay86 (kX x1 x2 x7 x8) (ix2 (rowOf q t) ⟨128 * (c.val / 512) + n.val, by omega⟩) = _
    rw [kW_apply x1 x2 x3 x7 x8 x9 x11 hE h3 hA hT, k0_pay86_apply, hX, hX, kTot_apply, ha, ha]
    have e1 : (⟨1024 + (128 * (c.val / 512) + n.val), by omega⟩ : Fin 1536) = bcol c n := Fin.ext (by show 1024 + (128 * (c.val / 512) + n.val) = 1024 + (c.val / 64 / 8 * 128 + n.val); omega)
    rw [e1]
    show bXc x1 x2 x7 x8 q t (xcol c) * (Ideal.exp (bAc x3 x9 q 7 (hd c) - bAc x3 x9 q t (hd c)) * bD x3 q t (hd c)) * bXc x1 x2 x7 x8 q t (bcol c n) = _
    ac_rfl

end Cert.MixerSampleIdeal.Val
end
-- ==== Proof.Host.lean ====
module

public import proofs.«01_k».proof.Proof.Ker
public import proofs.«01_k».proof.Proof.Gen.MixerSampleIdeal.Value
public import Idealize.ShloMosaic.Lib.Pointwise

@[expose] public section
set_option maxRecDepth 16384
noncomputable section
namespace Cert.MixerSampleIdeal.Val
open Cert.MixerSampleIdeal Cert.MixerSampleIdeal.Gen Idealize.ShloMosaic Idealize.ShloMosaic.TcCoe Idealize.ShloMosaic.Tactic Mix

variable (m : (ℓ : Loc nD τ sig) → Buf (Elt Ideal) ℓ)

/-- The argument holding the gate input. -/
abbrev A0 (c : Dev nD) : Vec Ideal S1024x1024 .f32 := m ((c : Thread nD τ).loc main_arg0)
/-- The argument holding the rows before the convolution. -/
abbrev A1 (c : Dev nD) : Vec Ideal S1024x1536 .f32 := m ((c : Thread nD τ).loc main_arg1)
/-- The argument holding the step sizes. -/
abbrev A2 (c : Dev nD) : Vec Ideal S1024x128 .f32 := m ((c : Thread nD τ).loc main_arg2)
/-- The argument holding the gating half's multiplier. -/
abbrev A3 (c : Dev nD) : Vec Ideal S1024x1024 .f32 := m ((c : Thread nD τ).loc main_arg3)
/-- The argument holding the gating half's values. -/
abbrev A4 (c : Dev nD) : Vec Ideal S1024x1024 .f32 := m ((c : Thread nD τ).loc main_arg4)
/-- The argument holding the carried states. -/
abbrev A5 (c : Dev nD) : Vec Ideal S1x128x16x64x128 .f32 := m ((c : Thread nD τ).loc main_arg5)
/-- The argument holding the carried convolution rows. -/
abbrev A6 (c : Dev nD) : Vec Ideal S1x128x3x1536 .f32 := m ((c : Thread nD τ).loc main_arg6)
/-- The argument holding the taps. -/
abbrev A7 (c : Dev nD) : Vec Ideal S1x4x1536 .f32 := m ((c : Thread nD τ).loc main_arg7)
/-- The argument holding the bias. -/
abbrev A8 (c : Dev nD) : Vec Ideal S1x1536 .f32 := m ((c : Thread nD τ).loc main_arg8)
/-- The argument holding the logarithms of the decay rates. -/
abbrev A9 (c : Dev nD) : Vec Ideal S1x16 .f32 := m ((c : Thread nD τ).loc main_arg9)
/-- The argument holding the direct terms. -/
abbrev A10 (c : Dev nD) : Vec Ideal S1x16 .f32 := m ((c : Thread nD τ).loc main_arg10)
/-- The argument holding the normalisation scale. -/
abbrev A11 (c : Dev nD) : Vec Ideal S1x1024 .f32 := m ((c : Thread nD τ).loc main_arg11)
/-- The argument holding the mixing weights. -/
abbrev A12 (c : Dev nD) : Vec Ideal S1x8x128x128 .f32 := m ((c : Thread nD τ).loc main_arg12)
/-- The argument holding the mixing biases. -/
abbrev A13 (c : Dev nD) : Vec Ideal S1x8x128 .f32 := m ((c : Thread nD τ).loc main_arg13)

/-- The word zero as a number. -/
theorem sitofp_zero : FloatOps.sitofp (F := Ideal) FTy.f32 0#32 = 0 := by
  show (((0#32).toInt : ℝ) : EReal) = 0
  simp

set_option maxHeartbeats 4000000 in
/-- The direct terms, one per channel. -/
theorem h16 (c : Dev nD) (k : Fin 1024) : (V m c main_v16 : Vec Ideal S1x1024 .f32) (ix2 0 k) = A10 m c (ix2 0 (hd k)) := by
  generalize hR : A10 m c (ix2 0 (hd k)) = R
  show StableHlo.after _ _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  after_results_loop
  pointwise
  rw [← hR]

set_option maxHeartbeats 4000000 in
/-- The logarithms of the decay rates, padded with zeros. -/
theorem h19 (c : Dev nD) (k : Fin 128) : (V m c main_v19 : Vec Ideal S1x128 .f32) (ix2 0 k) = (if h : k.val < 16 then A9 m c (ix2 0 ⟨k.val, h⟩) else 0) := by
  generalize hR : (if h : k.val < 16 then A9 m c (ix2 0 ⟨k.val, h⟩) else 0) = R
  show StableHlo.after _ _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  after_results_loop
  dsimp only [StableHlo.TRef.toBuf, StableHlo.TRef.ofBuf, cast_eq]
  pointwise
  rw [← hR]
  rw [sitofp_zero]

set_option maxHeartbeats 4000000 in
/-- The taps. -/
theorem h20 (c : Dev nD) (i : Fin 4) (k : Fin 1536) : (V m c main_v20 : Vec Ideal S4x1536 .f32) (ix2 i k) = A7 m c (ix3 0 i k) := by
  generalize hR : A7 m c (ix3 0 i k) = R
  show StableHlo.after _ _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  after_results_loop
  pointwise
  rw [← hR]

set_option maxHeartbeats 4000000 in
/-- The bias. -/
theorem h22 (c : Dev nD) (k : Fin 1536) : (V m c main_v22 : Vec Ideal S1x1536 .f32) (ix2 0 k) = A8 m c (ix2 0 k) := by
  generalize hR : A8 m c (ix2 0 k) = R
  show StableHlo.after _ _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  after_results_loop
  pointwise
  rw [← hR]

set_option maxHeartbeats 4000000 in
/-- The normalisation scale. -/
theorem h24 (c : Dev nD) (k : Fin 1024) : (V m c main_v24 : Vec Ideal S1x1024 .f32) (ix2 0 k) = A11 m c (ix2 0 k) := by
  generalize hR : A11 m c (ix2 0 k) = R
  show StableHlo.after _ _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  after_results_loop
  pointwise
  rw [← hR]

set_option maxHeartbeats 4000000 in
/-- The mixing biases, spread over the rows of a block. -/
theorem h32 (c : Dev nD) (i : Fin 128) (k : Fin 1024) : (V m c main_v32 : Vec Ideal S128x1024 .f32) (ix2 i k) = A13 m c (ix3 0 ⟨k.val / 128, by omega⟩ ⟨i.val % 8, by omega⟩) := by
  generalize hR : A13 m c (ix3 0 ⟨k.val / 128, by omega⟩ ⟨i.val % 8, by omega⟩) = R
  show StableHlo.after _ _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  after_results_loop
  pointwise
  rw [← hR]

set_option maxHeartbeats 4000000 in
/-- The carried convolution rows, each sequence's three after five rows of zeros. -/
theorem h35 (c : Dev nD) (i : Fin 1024) (k : Fin 1536) : (V m c main_v35 : Vec Ideal S1024x1536 .f32) (ix2 i k) = (if h : 5 ≤ i.val % 8 then A6 m c (ix4 0 ⟨i.val / 8, by omega⟩ ⟨i.val % 8 - 5, by omega⟩ k) else 0) := by
  generalize hR : (if h : 5 ≤ i.val % 8 then A6 m c (ix4 0 ⟨i.val / 8, by omega⟩ ⟨i.val % 8 - 5, by omega⟩ k) else 0) = R
  show StableHlo.after _ _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  after_results_loop
  dsimp only [StableHlo.TRef.toBuf, StableHlo.TRef.ofBuf, cast_eq]
  pointwise
  rw [← hR]
  rw [sitofp_zero]
  by_cases h : 5 ≤ i.val % 8
  · rw [dif_pos h, dif_pos ⟨by omega, h, by omega⟩]
  · rw [dif_neg h, dif_neg fun h' => h h'.2.1]

set_option maxHeartbeats 4000000 in
/-- The carried states, one row per channel. -/
theorem h37 (c : Dev nD) (i : Fin 128) (k : Fin 1024) (n : Fin 128) : (V m c main_v37 : Vec Ideal S128x1024x128 .f32) (ix3 i k n) = A5 m c (ix5 0 i ⟨k.val / 64, by omega⟩ ⟨k.val % 64, by omega⟩ n) := by
  generalize hR : A5 m c (ix5 0 i ⟨k.val / 64, by omega⟩ ⟨k.val % 64, by omega⟩ n) = R
  show StableHlo.after _ _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  after_results_loop
  pointwise
  rw [← hR]

set_option maxHeartbeats 4000000 in
/-- The mixing weights. -/
theorem h38 (c : Dev nD) (i : Fin 8) (k n : Fin 128) : (V m c main_v38 : Vec Ideal S8x128x128 .f32) (ix3 i k n) = A12 m c (ix4 0 i k n) := by
  generalize hR : A12 m c (ix4 0 i k n) = R
  show StableHlo.after _ _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  after_results_loop
  pointwise
  rw [← hR]

/-- The quotient by 64, as the host computes it: rounded down. -/
def chanW (w : BitVec 32) : BitVec 32 :=
  Scalar.select
    (IntOp.andi
      (IntOp.cmpi CmpIPredicate.ne (if w = 0 then (0 : BitVec 32) else if w.msb = true then -1 else 1)
        (if (64#32 : BitVec 32) = 0 then (0 : BitVec 32) else if (64#32 : BitVec 32).msb = true then -1 else 1))
      (IntOp.cmpi CmpIPredicate.ne (IntOp.remsi ArithUnit.host w 64#32) 0#32))
    (IntOp.subi (IntOp.divsi ArithUnit.host w 64#32) 1#32) (IntOp.divsi ArithUnit.host w 64#32)

/-- The head a channel belongs to, as the host counts it. -/
theorem chan_word : ∀ x : Fin 1024, chanW (BitVec.ofNat 32 x.val) = BitVec.ofNat 32 (x.val / 64) := by
  decide +kernel

/-- A bit as a number. -/
theorem uitofp_bit (p : Prop) [Decidable p] : FloatOps.uitofp (F := Ideal) FTy.bf16 (if p then 1#1 else 0#1) = if p then 1 else 0 := by
  split_ifs
  · show (((1#1).toNat : ℝ) : EReal) = 1
    simp
  · show (((0#1).toNat : ℝ) : EReal) = 0
    simp

/-- Whether a channel is a head's, as a number. -/
theorem chan_bit (k : Nat) (hk : k < 4096) (x : Fin 1024) :
    FloatOps.uitofp (F := Ideal) FTy.bf16 (IntOp.cmpi CmpIPredicate.eq (BitVec.ofNat 32 k) (chanW (BitVec.ofNat 32 x.val))) = if k = x.val / 64 then 1 else 0 := by
  rw [chan_word, cmpi_eq_small _ _ hk (by omega), uitofp_bit]

set_option maxHeartbeats 4000000 in
/-- The matrix that spreads a head's value over its channels. -/
theorem h9 (c : Dev nD) : Spreads (V m c main_v9 : Vec Ideal S384x1024 .bf16) := by
  intro k x
  generalize hR : (if k.val % 128 = x.val / 64 then (1 : EReal) else 0) = R
  show StableHlo.after _ _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  dsimp only [Matrix.cons_val_zero, Matrix.cons_val_one, Matrix.cons_val]
  after_results_loop
  dsimp only [StableHlo.TRef.toBuf, StableHlo.TRef.ofBuf, cast_eq]
  pointwise
  rw [← hR]
  show (if h : k.val < 128 then FloatOps.uitofp (F := Ideal) FTy.bf16 (IntOp.cmpi CmpIPredicate.eq (BitVec.ofNat 32 k.val) (chanW (BitVec.ofNat 32 x.val)))
    else if h : k.val - 128 < 128 then FloatOps.uitofp (F := Ideal) FTy.bf16 (IntOp.cmpi CmpIPredicate.eq (BitVec.ofNat 32 (k.val - 128)) (chanW (BitVec.ofNat 32 x.val)))
    else FloatOps.uitofp (F := Ideal) FTy.bf16 (IntOp.cmpi CmpIPredicate.eq (BitVec.ofNat 32 (k.val - 128 - 128)) (chanW (BitVec.ofNat 32 x.val)))) = _
  have := k.isLt
  rw [chan_bit _ (by omega), chan_bit _ (by omega), chan_bit _ (by omega)]
  by_cases h1 : k.val < 128
  · rw [dif_pos h1, show k.val % 128 = k.val by omega]
  · rw [dif_neg h1]
    by_cases h2 : k.val - 128 < 128
    · rw [dif_pos h2, show k.val % 128 = k.val - 128 by omega]
    · rw [dif_neg h2, show k.val % 128 = k.val - 128 - 128 by omega]

end Cert.MixerSampleIdeal.Val
end
-- ==== Proof.Blk.lean ====
module

public import proofs.«01_k».proof.Proof.Host

@[expose] public section
set_option maxRecDepth 16384
noncomputable section
namespace Cert.MixerSampleIdeal.Val
open Cert.MixerSampleIdeal Cert.MixerSampleIdeal.Gen Idealize.ShloMosaic Idealize.ShloMosaic.TcCoe Idealize.ShloMosaic.Tactic Mix

variable (m : (ℓ : Loc nD τ sig) → Buf (Elt Ideal) ℓ)

/-- The windows over the rows move with the point. -/
theorem idx_rows : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0 ∧ win0_6.index t 2 = 0) := by
  decide +kernel

/-- The row of the whole batch that is row `r` of block `t`. -/
def ro (t : Fin cfg0.N) (r : Fin 128) : Fin 1024 := ⟨128 * t.val + r.val, by have := t.isLt; have : cfg0.N = 8 := N_0; omega⟩
/-- The sequence of the whole batch that is sequence `q` of block `t`. -/
def sq (t : Fin cfg0.N) (q : Fin 16) : Fin 128 := ⟨16 * t.val + q.val, by have := t.isLt; have : cfg0.N = 8 := N_0; omega⟩

/-- A block of the gate input. -/
theorem b0 (c : Dev nD) (t : Fin cfg0.N) (r : Fin 128) (k : Fin 1024) :
    (iblk m c 0 t : Vec Ideal S128x1024 .f32) (ix2 r k) = A0 m c (ix2 (ro t r) k) := by
  unfold A0
  rw [← V_main_arg0 m c]
  have hi := (idx_rows t).1
  unfold iblk
  rw [View.read_apply]
  refine congrArg (V m c main_arg0) (funext fun a => Fin.ext ?_)
  match a with
  | ⟨0, _⟩ => show win0_0.index t 0 * 128 + 1 * r.val = 128 * t.val + r.val; rw [hi.1]; omega
  | ⟨1, _⟩ => show win0_0.index t 1 * 1024 + 1 * k.val = k.val; rw [hi.2]; omega

/-- A block of the rows before the convolution. -/
theorem b1 (c : Dev nD) (t : Fin cfg0.N) (r : Fin 128) (k : Fin 1536) :
    (iblk m c 1 t : Vec Ideal S128x1536 .f32) (ix2 r k) = A1 m c (ix2 (ro t r) k) := by
  unfold A1
  rw [← V_main_arg1 m c]
  have hi := (idx_rows t).2.1
  unfold iblk
  rw [View.read_apply]
  refine congrArg (V m c main_arg1) (funext fun a => Fin.ext ?_)
  match a with
  | ⟨0, _⟩ => show win0_1.index t 0 * 128 + 1 * r.val = 128 * t.val + r.val; rw [hi.1]; omega
  | ⟨1, _⟩ => show win0_1.index t 1 * 1536 + 1 * k.val = k.val; rw [hi.2]; omega

/-- A block of the padded convolution rows. -/
theorem b2 (c : Dev nD) (t : Fin cfg0.N) (r : Fin 128) (k : Fin 1536) :
    (iblk m c 2 t : Vec Ideal S128x1536 .f32) (ix2 r k) = (V m c main_v35 : Vec Ideal S1024x1536 .f32) (ix2 (ro t r) k) := by
  have hi := (idx_rows t).2.2.1
  unfold iblk
  rw [View.read_apply]
  refine congrArg (V m c main_v35) (funext fun a => Fin.ext ?_)
  match a with
  | ⟨0, _⟩ => show win0_2.index t 0 * 128 + 1 * r.val = 128 * t.val + r.val; rw [hi.1]; omega
  | ⟨1, _⟩ => show win0_2.index t 1 * 1536 + 1 * k.val = k.val; rw [hi.2]; omega

/-- A block of the step sizes. -/
theorem b3 (c : Dev nD) (t : Fin cfg0.N) (r : Fin 128) (k : Fin 128) :
    (iblk m c 3 t : Vec Ideal S128x128 .f32) (ix2 r k) = A2 m c (ix2 (ro t r) k) := by
  unfold A2
  rw [← V_main_arg2 m c]
  have hi := (idx_rows t).2.2.2.1
  unfold iblk
  rw [View.read_apply]
  refine congrArg (V m c main_arg2) (funext fun a => Fin.ext ?_)
  match a with
  | ⟨0, _⟩ => show win0_3.index t 0 * 128 + 1 * r.val = 128 * t.val + r.val; rw [hi.1]; omega
  | ⟨1, _⟩ => show win0_3.index t 1 * 128 + 1 * k.val = k.val; rw [hi.2]; omega

/-- A block of the gating half's multiplier. -/
theorem b4 (c : Dev nD) (t : Fin cfg0.N) (r : Fin 128) (k : Fin 1024) :
    (iblk m c 4 t : Vec Ideal S128x1024 .f32) (ix2 r k) = A3 m c (ix2 (ro t r) k) := by
  unfold A3
  rw [← V_main_arg3 m c]
  have hi := (idx_rows t).2.2.2.2.1
  unfold iblk
  rw [View.read_apply]
  refine congrArg (V m c main_arg3) (funext fun a => Fin.ext ?_)
  match a with
  | ⟨0, _⟩ => show win0_4.index t 0 * 128 + 1 * r.val = 128 * t.val + r.val; rw [hi.1]; omega
  | ⟨1, _⟩ => show win0_4.index t 1 * 1024 + 1 * k.val = k.val; rw [hi.2]; omega

/-- A block of the gating half's values. -/
theorem b5 (c : Dev nD) (t : Fin cfg0.N) (r : Fin 128) (k : Fin 1024) :
    (iblk m c 5 t : Vec Ideal S128x1024 .f32) (ix2 r k) = A4 m c (ix2 (ro t r) k) := by
  unfold A4
  rw [← V_main_arg4 m c]
  have hi := (idx_rows t).2.2.2.2.2.1
  unfold iblk
  rw [View.read_apply]
  refine congrArg (V m c main_arg4) (funext fun a => Fin.ext ?_)
  match a with
  | ⟨0, _⟩ => show win0_5.index t 0 * 128 + 1 * r.val = 128 * t.val + r.val; rw [hi.1]; omega
  | ⟨1, _⟩ => show win0_5.index t 1 * 1024 + 1 * k.val = k.val; rw [hi.2]; omega

/-- A block of the carried states. -/
theorem b6 (c : Dev nD) (t : Fin cfg0.N) (q : Fin 16) (k : Fin 1024) (n : Fin 128) :
    (iblk m c 6 t : Vec Ideal S16x1024x128 .f32) (ix3 q k n) = A5 m c (ix5 0 (sq t q) ⟨k.val / 64, by omega⟩ ⟨k.val % 64, by omega⟩ n) := by
  rw [← h37 m c]
  have hi := (idx_rows t).2.2.2.2.2.2
  unfold iblk
  rw [View.read_apply]
  refine congrArg (V m c main_v37) (funext fun a => Fin.ext ?_)
  match a with
  | ⟨0, _⟩ => show win0_6.index t 0 * 16 + 1 * q.val = 16 * t.val + q.val; rw [hi.1]; omega
  | ⟨1, _⟩ => show win0_6.index t 1 * 1024 + 1 * k.val = k.val; rw [hi.2.1]; omega
  | ⟨2, _⟩ => show win0_6.index t 2 * 128 + 1 * n.val = n.val; rw [hi.2.2]; omega

/-- The taps, whole at every point. -/
theorem b7 (c : Dev nD) (t : Fin cfg0.N) : (iblk m c 7 t : Vec Ideal S4x1536 .f32) = (V m c main_v20 : Vec Ideal S4x1536 .f32) := by
  unfold iblk
  funext i
  rw [View.read_apply]
  refine congrArg (V m c main_v20) (funext fun a => Fin.ext ?_)
  match a with
  | ⟨0, _⟩ => show 0 * 4 + 1 * (i 0).val = (i 0).val; omega
  | ⟨1, _⟩ => show 0 * 1536 + 1 * (i 1).val = (i 1).val; omega

/-- The bias, whole at every point. -/
theorem b8 (c : Dev nD) (t : Fin cfg0.N) : (iblk m c 8 t : Vec Ideal S1x1536 .f32) = (V m c main_v22 : Vec Ideal S1x1536 .f32) := by
  unfold iblk
  funext i
  rw [View.read_apply]
  refine congrArg (V m c main_v22) (funext fun a => Fin.ext ?_)
  match a with
  | ⟨0, _⟩ => show 0 * 1 + 1 * (i 0).val = (i 0).val; omega
  | ⟨1, _⟩ => show 0 * 1536 + 1 * (i 1).val = (i 1).val; omega

/-- The padded logarithms of the decay rates, whole at every point. -/
theorem b9 (c : Dev nD) (t : Fin cfg0.N) : (iblk m c 9 t : Vec Ideal S1x128 .f32) = (V m c main_v19 : Vec Ideal S1x128 .f32) := by
  unfold iblk
  funext i
  rw [View.read_apply]
  refine congrArg (V m c main_v19) (funext fun a => Fin.ext ?_)
  match a with
  | ⟨0, _⟩ => show 0 * 1 + 1 * (i 0).val = (i 0).val; omega
  | ⟨1, _⟩ => show 0 * 128 + 1 * (i 1).val = (i 1).val; omega

/-- The direct terms, whole at every point. -/
theorem b10 (c : Dev nD) (t : Fin cfg0.N) : (iblk m c 10 t : Vec Ideal S1x1024 .f32) = (V m c main_v16 : Vec Ideal S1x1024 .f32) := by
  unfold iblk
  funext i
  rw [View.read_apply]
  refine congrArg (V m c main_v16) (funext fun a => Fin.ext ?_)
  match a with
  | ⟨0, _⟩ => show 0 * 1 + 1 * (i 0).val = (i 0).val; omega
  | ⟨1, _⟩ => show 0 * 1024 + 1 * (i 1).val = (i 1).val; omega

/-- The spreading matrix, whole at every point. -/
theorem b11 (c : Dev nD) (t : Fin cfg0.N) : (iblk m c 11 t : Vec Ideal S384x1024 .bf16) = (V m c main_v9 : Vec Ideal S384x1024 .bf16) := by
  unfold iblk
  funext i
  rw [View.read_apply]
  refine congrArg (V m c main_v9) (funext fun a => Fin.ext ?_)
  match a with
  | ⟨0, _⟩ => show 0 * 384 + 1 * (i 0).val = (i 0).val; omega
  | ⟨1, _⟩ => show 0 * 1024 + 1 * (i 1).val = (i 1).val; omega

/-- The normalisation scale, whole at every point. -/
theorem b13 (c : Dev nD) (t : Fin cfg0.N) : (iblk m c 13 t : Vec Ideal S1x1024 .f32) = (V m c main_v24 : Vec Ideal S1x1024 .f32) := by
  unfold iblk
  funext i
  rw [View.read_apply]
  refine congrArg (V m c main_v24) (funext fun a => Fin.ext ?_)
  match a with
  | ⟨0, _⟩ => show 0 * 1 + 1 * (i 0).val = (i 0).val; omega
  | ⟨1, _⟩ => show 0 * 1024 + 1 * (i 1).val = (i 1).val; omega

/-- The mixing weights, whole at every point. -/
theorem b14 (c : Dev nD) (t : Fin cfg0.N) : (iblk m c 14 t : Vec Ideal S8x128x128 .f32) = (V m c main_v38 : Vec Ideal S8x128x128 .f32) := by
  unfold iblk
  funext i
  rw [View.read_apply]
  refine congrArg (V m c main_v38) (funext fun a => Fin.ext ?_)
  match a with
  | ⟨0, _⟩ => show 0 * 8 + 1 * (i 0).val = (i 0).val; omega
  | ⟨1, _⟩ => show 0 * 128 + 1 * (i 1).val = (i 1).val; omega
  | ⟨2, _⟩ => show 0 * 128 + 1 * (i 2).val = (i 2).val; omega

/-- The mixing biases, whole at every point. -/
theorem b15 (c : Dev nD) (t : Fin cfg0.N) : (iblk m c 15 t : Vec Ideal S128x1024 .f32) = (V m c main_v32 : Vec Ideal S128x1024 .f32) := by
  unfold iblk
  funext i
  rw [View.read_apply]
  refine congrArg (V m c main_v32) (funext fun a => Fin.ext ?_)
  match a with
  | ⟨0, _⟩ => show 0 * 128 + 1 * (i 0).val = (i 0).val; omega
  | ⟨1, _⟩ => show 0 * 1024 + 1 * (i 1).val = (i 1).val; omega

end Cert.MixerSampleIdeal.Val
end
-- ==== Proof.Sweep.lean ====
module

public import proofs.«01_k».proof.Proof.Blk
public import proofs.«01_k».proof.Proof.Open16

@[expose] public section
set_option maxRecDepth 16384
noncomputable section
namespace Cert.MixerSampleIdeal.Val
open Cert.MixerSampleIdeal Cert.MixerSampleIdeal.Gen Cert.MixerSampleIdeal.Value Idealize.ShloMosaic Idealize.ShloMosaic.TcCoe Idealize.ShloMosaic.Tactic Mix

variable (m : (ℓ : Loc nD τ sig) → Buf (Elt Ideal) ℓ)

/-- The mixing weights are the same at every point. -/
theorem ws_same (c : Dev nD) (t t' : Fin cfg0.N) : (iblk m c 14 t : Vec Ideal S8x128x128 .f32) = iblk m c 14 t' := (b14 m c t).trans (b14 m c t').symm

/-- At every point the carried scratch ends holding the causal weights. -/
theorem scratch_eq (c : Dev nD) : ∀ (n : ℕ) (hn : n < cfg0.N), (outsAt0 m c n hn).2.2 = wmG segM (iblk m c 14 ⟨n, hn⟩)
  | 0, hn => by
    rw [outsAt0_zero, stAt0_A m c ⟨0, hn⟩ _ (Nat.zero_mod _)]
    dsimp only
    rw [s5A]
  | n + 1, hn => by
    have hN : cfg0.N = 8 := N_0
    rw [outsAt0_succ, stAt0_B m c ⟨n + 1, hn⟩ _ (by show ¬(n + 1) % 8 = 0; omega)]
    refine Eq.trans ?_ ((scratch_eq c n (Nat.lt_of_succ_lt hn)).trans (congrArg (wmG segM) (ws_same m c _ _)))
    unfold sout0_B_5
    rfl

/-- A point's first result block. -/
theorem out16_eq (c : Dev nD) (t : Fin cfg0.N) (y : S128x2048.Idx) : (outsAt0 m c t.val t.isLt).1 y
    = kM (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (iblk m c 13 t) (iblk m c 15 t) (wmG segM (iblk m c 14 t)) y := by
  obtain ⟨n, hn⟩ := t
  cases n with
  | zero =>
    rw [outsAt0_zero, stAt0_A m c ⟨0, hn⟩ _ (Nat.zero_mod _)]
    dsimp only
    rw [o16A]
  | succ n =>
    have hN : cfg0.N = 8 := N_0
    rw [outsAt0_succ, stAt0_B m c ⟨n + 1, hn⟩ _ (by show ¬(n + 1) % 8 = 0; omega),
      ← (scratch_eq m c n (Nat.lt_of_succ_lt hn)).trans (congrArg (wmG segM) (ws_same m c _ ⟨n + 1, hn⟩))]
    dsimp only
    rw [o16B]

/-- A point's second result block. -/
theorem out17_eq (c : Dev nD) (t : Fin cfg0.N) (y : S16x1024x128.Idx) : (outsAt0 m c t.val t.isLt).2.1 y
    = stG (kW (iblk m c 1 t) (iblk m c 2 t) (iblk m c 3 t) (iblk m c 7 t) (iblk m c 8 t) (iblk m c 9 t) (iblk m c 11 t))
        (kA (iblk m c 3 t) (iblk m c 9 t) (iblk m c 11 t)) (k0_pay86 (kX (iblk m c 1 t) (iblk m c 2 t) (iblk m c 7 t) (iblk m c 8 t)))
        (iblk m c 6 t) y := by
  obtain ⟨n, hn⟩ := t
  cases n with
  | zero =>
    rw [outsAt0_zero, stAt0_A m c ⟨0, hn⟩ _ (Nat.zero_mod _)]
    dsimp only
    rw [o17A]
  | succ n =>
    have hN : cfg0.N = 8 := N_0
    rw [outsAt0_succ, stAt0_B m c ⟨n + 1, hn⟩ _ (by show ¬(n + 1) % 8 = 0; omega)]
    dsimp only
    rw [o17B]

end Cert.MixerSampleIdeal.Val
end
-- ==== Proof.PairY.lean ====
module

public import proofs.«01_k».proof.Proof.Open16
public import proofs.«01_k».proof.Proof.Ker

@[expose] public section
set_option maxRecDepth 16384
noncomputable section
namespace Cert.MixerSampleIdeal.Val
open Cert.MixerSampleIdeal Cert.MixerSampleIdeal.Gen Idealize.ShloMosaic Idealize.ShloMosaic.TcCoe Idealize.ShloMosaic.Tactic Mix

/-- Summing a pair of heads with their half masks keeps the head of the column. -/
theorem pair_eq (M G0 G1 : Fin 128 → _) (d : Nat) (hd : d < 128) :
    (∑ x : Fin 128, Scalar.select (IntOp.cmpi CmpIPredicate.slt (BitVec.ofNat 32 d) 64#32) (Scalar.select (M x : BitVec 1) (G0 x : EReal) 0) 0)
      + (∑ x : Fin 128, Scalar.select (IntOp.xori (IntOp.cmpi CmpIPredicate.slt (BitVec.ofNat 32 d) 64#32) 1#1) (Scalar.select (M x) (G1 x) 0) 0)
      = ∑ x : Fin 128, Scalar.select (M x) (if d < 64 then G0 x else G1 x) 0 := by
  have h : ∀ d : Fin 128, IntOp.cmpi CmpIPredicate.slt (BitVec.ofNat 32 d.val) 64#32 = if d.val < 64 then 1#1 else 0#1 := by decide
  rw [h ⟨d, hd⟩]
  by_cases h' : d < 64
  · simp only [h', if_true]
    simp [Scalar.select, IntOp.xori]
  · simp only [h', if_false]
    simp [Scalar.select, IntOp.xori]

/-- The masked weights of head `c / 64`, summed against the channel. -/
def headS (X : FVec Ideal S128x1536 .f32) (Ac : FVec Ideal S128x128 .f32) (x3 : Vec Ideal S128x128 .f32) (r : Fin 128) (c : Fin 1024) : EReal :=
  ∑ x : Fin 128, Scalar.select (segM (ix2 r x))
    ((∑ n : Fin 128, X (ix2 r (ccol c n)) * X (ix2 x (bcol c n)))
      * FloatOps.exp2 (F := Ideal) (φ := .f32) (Ac (ix2 r (lane c)) * Named.named κ "log2e" 1069066811#32 - Ac (ix2 x (lane c)) * Named.named κ "log2e" 1069066811#32)
      * x3 (ix2 x (lane c)) * X (ix2 x (xcol c))) 0

/-- Both branches of a choice equal to a value. -/
theorem dite_step {p : Prop} [Decidable p] {a : p → EReal} {b : ¬p → EReal} {R : EReal} (ha : ∀ h, a h = R) (hb : ∀ h, b h = R) : dite p a b = R := by
  by_cases h : p
  · rw [dif_pos h, ha]
  · rw [dif_neg h, hb]

/-- A pair of heads at one column is that column's head. -/
theorem pair_head (X : FVec Ideal S128x1536 .f32) (Ac : FVec Ideal S128x128 .f32) (x3 : Vec Ideal S128x128 .f32) (r : Fin 128) (c : Fin 1024)
    (d : Nat) (h0 h1 : Fin 128) (k : Fin 128 → Fin 256) (col : Fin 1536) (hd : d = c.val % 128) (e0 : h0.val = 2 * (c.val / 128))
    (e1 : h1.val = 2 * (c.val / 128) + 1) (hk : ∀ n, (k n).val = 128 * (c.val / 512) + n.val) (hcol : col.val = c.val) :
    (∑ x : Fin 128, Scalar.select (IntOp.cmpi CmpIPredicate.slt (BitVec.ofNat 32 d) 64#32) (Scalar.select (segM (ix2 r x))
      ((∑ n : Fin 128, k0_pay33 X (ix2 r (k n)) * k0_pay32 X (ix2 x (k n)))
        * FloatOps.exp2 (F := Ideal) (φ := .f32) (Ac (ix2 r h0) * Named.named κ "log2e" 1069066811#32 - k0_pay34 Ac (ix2 x h0))
        * x3 (ix2 x h0) * X (ix2 x col)) 0) 0)
      + (∑ x : Fin 128, Scalar.select (IntOp.xori (IntOp.cmpi CmpIPredicate.slt (BitVec.ofNat 32 d) 64#32) 1#1) (Scalar.select (segM (ix2 r x))
      ((∑ n : Fin 128, k0_pay33 X (ix2 r (k n)) * k0_pay32 X (ix2 x (k n)))
        * FloatOps.exp2 (F := Ideal) (φ := .f32) (Ac (ix2 r h1) * Named.named κ "log2e" 1069066811#32 - k0_pay34 Ac (ix2 x h1))
        * x3 (ix2 x h1) * X (ix2 x col)) 0) 0) = headS X Ac x3 r c := by
  rw [pair_eq _ _ _ d (by omega)]
  unfold headS
  refine Finset.sum_congr rfl fun x _ => congrArg (fun z => Scalar.select (segM (ix2 r x)) z (0 : EReal)) ?_
  have hx : col = xcol c := Fin.ext hcol
  have hB : ∀ n, k0_pay32 X (ix2 x (k n)) = X (ix2 x (bcol c n)) := fun n => by
    unfold k0_pay32
    pointwise
    refine congrArg X (congrArg (ix2 x) (Fin.ext ?_))
    show 1024 + (k n).val = 1024 + (c.val / 64 / 8 * 128 + n.val)
    rw [hk]
    omega
  have hC : ∀ n, k0_pay33 X (ix2 r (k n)) = X (ix2 r (ccol c n)) := fun n => by
    unfold k0_pay33
    pointwise
    refine congrArg X (congrArg (ix2 r) (Fin.ext ?_))
    show 1280 + (k n).val = 1280 + (c.val / 64 / 8 * 128 + n.val)
    rw [hk]
    omega
  have hL : ∀ h, k0_pay34 Ac (ix2 x h) = Ac (ix2 x h) * Named.named κ "log2e" 1069066811#32 := fun h => rfl
  simp only [hB, hC, hL, hx]
  split_ifs with h
  · rw [show h0 = lane c from Fin.ext (by show h0.val = c.val / 64; omega)]
  · rw [show h1 = lane c from Fin.ext (by show h1.val = c.val / 64; omega)]

set_option maxHeartbeats 4000000 in
/-- The state-space half within the block: the head's masked sum, and the direct term. -/
theorem kY_apply (X : FVec Ideal S128x1536 .f32) (Ac : FVec Ideal S128x128 .f32) (x3 : Vec Ideal S128x128 .f32) (x10 : Vec Ideal S1x1024 .f32)
    (r : Fin 128) (c : Fin 1024) : kY X Ac x3 x10 (ix2 r c) = headS X Ac x3 r c + x10 (ix2 0 c) * X (ix2 r (xcol c)) := by
  generalize hR : headS X Ac x3 r c + x10 (ix2 0 c) * X (ix2 r (xcol c)) = R
  unfold kY k0_pay73 k0_pay72 k0_pay71 k0_pay70 k0_pay69 k0_pay29 k0_pay46 k0_pay45 k0_pay44 k0_pay43 k0_pay42 k0_pay51 k0_pay49 k0_pay50 k0_pay48 k0_pay47 k0_pay52 k0_pay57 k0_pay56 k0_pay55 k0_pay54 k0_pay53 k0_pay62 k0_pay61 k0_pay60 k0_pay59 k0_pay58 k0_pay63 k0_pay68 k0_pay67 k0_pay66 k0_pay65 k0_pay64 k0_pay41 k0_pay40 k0_pay39 k0_pay38
  unfold k0_pay34 k0_pay35 k0_pay36 k0_pay31
  pointwise
  rw [← hR]
  refine congrArg (· + x10 (ix2 0 c) * X (ix2 r (xcol c))) ?_
  iterate 7
    refine dite_step (fun h => ?_) (fun h => ?_)
    · refine pair_head X Ac x3 r c _ _ _ _ _ ?_ ?_ ?_ (fun n => ?_) ?_
      all_goals first | omega | (dsimp only; done) | (dsimp only; omega)
  refine pair_head X Ac x3 r c _ _ _ _ _ ?_ ?_ ?_ (fun n => ?_) ?_
  all_goals first | omega | (dsimp only; done) | (dsimp only; omega)
end Cert.MixerSampleIdeal.Val
end
-- ==== Proof.Gate.lean ====
module

public import proofs.«01_k».proof.Proof.Ker
public import proofs.«01_k».proof.Proof.Open16

@[expose] public section
set_option maxRecDepth 16384
noncomputable section
namespace Cert.MixerSampleIdeal.Val
open Cert.MixerSampleIdeal Cert.MixerSampleIdeal.Gen Idealize.ShloMosaic Idealize.ShloMosaic.TcCoe Idealize.ShloMosaic.Tactic Mix

/-- Over a block's row, the causal mask within the sequence leaves the steps of that sequence up to the row's own. -/
theorem seg_sum (f : Fin 128 → EReal) (q : Fin 16) (t : Fin 8) :
    ∑ x : Fin 128, Scalar.select (segM (ix2 (rowOf q t) x)) (f x) 0 = ∑ j : Fin 8, if j ≤ t then f (rowOf q j) else 0 := by
  rw [sum_seq _ q]
  · refine Finset.sum_congr rfl fun j _ => ?_
    rw [segM_apply]
    by_cases h : j ≤ t
    · rw [if_pos h, if_pos]
      · rfl
      · have := Fin.le_def.mp h
        constructor
        · show (8 * q.val + t.val) / 8 = (8 * q.val + j.val) / 8
          omega
        · show 8 * q.val + j.val ≤ 8 * q.val + t.val
          omega
    · rw [if_neg h, if_neg]
      · rfl
      · rintro ⟨_, h2⟩
        have h3 : 8 * q.val + j.val ≤ 8 * q.val + t.val := h2
        exact h (Fin.le_def.mpr (by omega))
  · intro k hk
    rw [segM_apply, if_neg]
    · rfl
    · rintro ⟨h1, _⟩
      have h2 : (8 * q.val + t.val) / 8 = k.val / 8 := h1
      omega

/-- The gated outputs of the state-space half. -/
theorem k0_pay207_apply (Ac : FVec Ideal S128x128 .f32) (Y : FVec Ideal S128x1024 .f32) (YO : Vec Ideal S128x1024 .f32) (x11 : Vec Ideal S384x1024 .bf16)
    (x0 : Vec Ideal S128x1024 .f32) (hE : Spreads x11) (hA : ∀ i, IsR (Ac i)) (r : Fin 128) (c : Fin 1024) :
    k0_pay207 Ac Y YO x11 x0 (ix2 r c) = (Y (ix2 r c) + YO (ix2 r c) * Ideal.exp (Ac (ix2 r (lane c)))) * x0 (ix2 r c) := by
  generalize hR : (Y (ix2 r c) + YO (ix2 r c) * Ideal.exp (Ac (ix2 r (lane c)))) * x0 (ix2 r c) = R
  unfold k0_pay207
  pointwise
  rw [← hR]
  exact congrArg (fun e => (Y (ix2 r c) + YO (ix2 r c) * Ideal.exp e) * x0 (ix2 r c))
    (expand_sum (fun h => Ac (ix2 r h)) (fun x => x11 (ix2 x c)) (lane c) (fun k => hA _) (fun k => hE k c))

/-- A matrix of the causal mixing weights, against the rows of one sequence. -/
theorem mix_sum (x14 : Vec Ideal S8x128x128 .f32) (v : Fin 128 → EReal) (k : Fin 8) (q : Fin 16) (t : Fin 8) :
    ∑ x : Fin 128, wmG segM x14 (ix3 k (rowOf q t) x) * v x
      = ∑ j : Fin 8, v (rowOf q j) * (if j ≤ t then x14 (ix3 k ⟨t.val, by omega⟩ ⟨j.val, by omega⟩) else 0) := by
  have e : ∀ x : Fin 128, wmG segM x14 (ix3 k (rowOf q t) x) * v x
      = Scalar.select (segM (ix2 (rowOf q t) x)) (v x * x14 (ix3 k ⟨t.val, by omega⟩ ⟨x.val % 8, by omega⟩)) 0 := fun x => by
    show Scalar.select (segM (ix2 (rowOf q t) x)) (x14 (ix3 k ⟨(8 * q.val + t.val) % 8, by omega⟩ ⟨x.val % 8, by omega⟩)) 0 * v x = _
    rw [show (⟨(8 * q.val + t.val) % 8, by omega⟩ : Fin 128) = ⟨t.val, by omega⟩ from Fin.ext (by show (8 * q.val + t.val) % 8 = t.val; omega)]
    unfold Scalar.select
    split_ifs
    · exact mul_comm _ _
    · exact zero_mul _
  rw [Finset.sum_congr rfl fun x _ => e x, seg_sum]
  refine Finset.sum_congr rfl fun j _ => ?_
  split_ifs
  · rw [show (⟨(8 * q.val + j.val) % 8, by omega⟩ : Fin 128) = ⟨j.val, by omega⟩ from Fin.ext (by show (8 * q.val + j.val) % 8 = j.val; omega)]
  · rw [mul_zero]

/-- A choice between two equal values. -/
theorem dite_both {α : Type} {p : Prop} [Decidable p] {f : p → α} {g : ¬p → α} {R : α} (hf : ∀ h, f h = R) (hg : ∀ h, g h = R) :
    (if h : p then f h else g h) = R := by
  by_cases h : p
  · rw [dif_pos h, hf]
  · rw [dif_neg h, hg]

/-- One head's mixing, named by the head and column it is read at. -/
theorem mix_head (x5 : Vec Ideal S128x1024 .f32) (wm : Vec Ideal S8x128x128 .bf16) (r : Fin 128) (c : Fin 1024) (k : Fin 8) (e : Fin 1024)
    (hk : k.val = c.val / 128) (he : e.val = c.val) :
    ∑ x : Fin 128, wm (ix3 k r x) * x5 (ix2 x e) = ∑ x : Fin 128, wm (ix3 ⟨c.val / 128, by omega⟩ r x) * x5 (ix2 x c) := by
  obtain rfl : e = c := Fin.ext he
  exact Finset.sum_congr rfl fun x _ => congrArg (fun k => wm (ix3 k r x) * x5 (ix2 x e)) (Fin.ext hk)

/-- The gating half of a block. -/
theorem gate_block (x4 x5 x15 : Vec Ideal S128x1024 .f32) (wm : Vec Ideal S8x128x128 .bf16) (r : Fin 128) (c : Fin 1024) :
    k0_pay80 (k0_pay30 x15) x4 (k0_pay74 x5)
     (k0_pay75 x5 (View.ld wm (Rect.unit ![0, 0, 0] ![1, 128, 128] inb_S8x128x128_S1x128x128_0_0_0)))
     (k0_pay76 x5 (View.ld wm (Rect.unit ![1, 0, 0] ![1, 128, 128] inb_S8x128x128_S1x128x128_1_0_0)))
     (k0_pay77 x5 (View.ld wm (Rect.unit ![2, 0, 0] ![1, 128, 128] inb_S8x128x128_S1x128x128_2_0_0)))
     (k0_pay78 x5 (View.ld wm (Rect.unit ![3, 0, 0] ![1, 128, 128] inb_S8x128x128_S1x128x128_3_0_0)))
     (k0_pay79 x5 (View.ld wm (Rect.unit ![4, 0, 0] ![1, 128, 128] inb_S8x128x128_S1x128x128_4_0_0)))
     (View.ld wm (Rect.unit ![5, 0, 0] ![1, 128, 128] inb_S8x128x128_S1x128x128_5_0_0))
     (View.ld wm (Rect.unit ![6, 0, 0] ![1, 128, 128] inb_S8x128x128_S1x128x128_6_0_0))
     (View.ld wm (Rect.unit ![7, 0, 0] ![1, 128, 128] inb_S8x128x128_S1x128x128_7_0_0)) (ix2 r c)
    = x4 (ix2 r c) * (∑ x : Fin 128, wm (ix3 ⟨c.val / 128, by omega⟩ r x) * x5 (ix2 x c) + x15 (ix2 r c)) := by
  generalize hR : x4 (ix2 r c) * (∑ x : Fin 128, wm (ix3 ⟨c.val / 128, by omega⟩ r x) * x5 (ix2 x c) + x15 (ix2 r c)) = R
  unfold k0_pay80 k0_pay79 k0_pay78 k0_pay77 k0_pay76 k0_pay75 k0_pay74 k0_pay30
  pointwise
  rw [← hR]
  refine congrArg (fun e => x4 (ix2 r c) * (e + x15 (ix2 r c))) ?_
  iterate 7
    refine dite_both (fun h => ?_) (fun h => ?_)
    · refine mix_head x5 wm r c _ _ ?_ ?_
      all_goals first | (show (_ : Nat) = _; simp only [Fin.val_zero, Fin.val_one, Fin.val_two]; omega) | (show 0 = _; omega) | (show 1 = _; omega) | (show 2 = _; omega) | (show 3 = _; omega) | (show 4 = _; omega) | (show 5 = _; omega) | (show 6 = _; omega) | (dsimp only; done) | (dsimp only; omega)
  refine mix_head x5 wm r c _ _ ?_ ?_
  · show 7 = _
    omega
  · dsimp only
    omega

/-- The rows of a block's first result: the normalised half, then the gating half. -/
theorem norm_block (x4 : Vec Ideal S128x1024 .f32) (x13 : Vec Ideal S1x1024 .f32) (Ac : FVec Ideal S128x128 .f32) (Y : FVec Ideal S128x1024 .f32)
    (YO : Vec Ideal S128x1024 .f32) (x11 : Vec Ideal S384x1024 .bf16) (x0 : Vec Ideal S128x1024 .f32) (r : Fin 128) (c : Fin 2048)
    (y z : Fin 1024 → EReal) (hP : ∀ c, k0_pay207 Ac Y YO x11 x0 (ix2 r c) = y c * z c) :
    k0_pay1 x4 (k0_pay206 x13) (k0_pay208 Ac Y YO x11 x0) (k0_pay209 Ac Y YO x11 x0) (k0_pay210 Ac Y YO x11 x0) (ix2 r c)
      = if h : c.val < 1024 then gnorm y z (fun c => x13 (ix2 0 c)) ⟨c.val, h⟩ else x4 (ix2 r ⟨c.val - 1024, by omega⟩) := by
  generalize hR : (if h : c.val < 1024 then gnorm y z (fun c => x13 (ix2 0 c)) ⟨c.val, h⟩ else x4 (ix2 r ⟨c.val - 1024, by omega⟩)) = R
  unfold k0_pay1 k0_pay206 k0_pay210 k0_pay209 k0_pay208
  pointwise
  simp only [hP]
  rw [← hR]
  by_cases h : c.val < 1024
  · rw [dif_pos h, dif_pos h]
    unfold gnorm
    refine congrArg (· * x13 (ix2 0 ⟨c.val, h⟩)) ?_
    refine dite_both (fun h' => ?_) (fun h' => ?_)
    · have e : ∀ x : Fin 512, (⟨c.val / 512 * 512 + x.val, by omega⟩ : Fin 1024) = ⟨x.val, by omega⟩ := fun x => Fin.ext (by show c.val / 512 * 512 + x.val = x.val; omega)
      simp only [e]
    · have e : ∀ x : Fin 512, (⟨c.val / 512 * 512 + x.val, by omega⟩ : Fin 1024) = ⟨512 + x.val, by omega⟩ := fun x => Fin.ext (by show c.val / 512 * 512 + x.val = 512 + x.val; omega)
      have e' : (⟨512 + (c.val - 512), by omega⟩ : Fin 1024) = ⟨c.val, h⟩ := Fin.ext (by show 512 + (c.val - 512) = c.val; omega)
      simp only [e, e']
  · rw [dif_neg h, dif_neg h]

end Cert.MixerSampleIdeal.Val
end
-- ==== Proof.KerY.lean ====
module

public import proofs.«01_k».proof.Proof.PairY
public import proofs.«01_k».proof.Proof.Gate

@[expose] public section
set_option maxRecDepth 16384
noncomputable section
namespace Cert.MixerSampleIdeal.Val
open Cert.MixerSampleIdeal Cert.MixerSampleIdeal.Gen Idealize.ShloMosaic Idealize.ShloMosaic.TcCoe Idealize.ShloMosaic.Tactic Mix

/-- The outputs of the state-space half, before the gate. -/
def bY (x1 x2 : Vec Ideal S128x1536 .f32) (x3 : Vec Ideal S128x128 .f32) (x6 : Vec Ideal S16x1024x128 .f32) (x7 : Vec Ideal S4x1536 .f32)
    (x8 : Vec Ideal S1x1536 .f32) (x9 : Vec Ideal S1x128 .f32) (d : Fin 16 → EReal) (q : Fin 16) (t : Fin 8) (c : Fin 1024) : EReal :=
  yraw (bXc x1 x2 x7 x8 q) (bD x3 q) (bAc x3 x9 q) (fun c n => x6 (ix3 q c n)) d t c

/-- A block's outputs of the state-space half, sequence by sequence. -/
theorem y_block (x1 x2 : Vec Ideal S128x1536 .f32) (x3 : Vec Ideal S128x128 .f32) (x6 : Vec Ideal S16x1024x128 .f32) (x7 : Vec Ideal S4x1536 .f32)
    (x8 : Vec Ideal S1x1536 .f32) (x9 : Vec Ideal S1x128 .f32) (x10 : Vec Ideal S1x1024 .f32) (d : Fin 16 → EReal)
    (h10 : ∀ c : Fin 1024, x10 (ix2 0 c) = d (hd c)) (h1 : ∀ i, IsR (x1 i)) (h2 : ∀ i, IsR (x2 i))
    (h3 : ∀ i, IsR (x3 i)) (h7 : ∀ i, IsR (x7 i)) (h8 : ∀ i, IsR (x8 i)) (h9 : ∀ i, IsR (x9 i)) (q : Fin 16) (t : Fin 8) (c : Fin 1024) :
    kY (kX x1 x2 x7 x8) (kAc x3 x9) x3 x10 (ix2 (rowOf q t) c)
      + yoG (k0_pay87 (kX x1 x2 x7 x8)) x6 (ix2 (rowOf q t) c) * Ideal.exp (kAc x3 x9 (ix2 (rowOf q t) (lane c))) = bY x1 x2 x3 x6 x7 x8 x9 d q t c := by
  have hA := kAc_real x3 x9 h3 h9
  have hX : ∀ (t : Fin 8) (c : Fin 1536), kX x1 x2 x7 x8 (ix2 (rowOf q t) c) = bXc x1 x2 x7 x8 q t c := fun t c =>
    kX_apply x1 x2 x7 x8 q t c (conv_real _ _ _ _ (fun t c => h1 _) (fun k c => h2 _) (fun k c => h7 _) (fun c => h8 _) t c)
  have ha : ∀ t : Fin 8, kAc x3 x9 (ix2 (rowOf q t) (lane c)) = bAc x3 x9 q t (hd c) := fun t => kAc_apply x3 x9 q t (hd c)
  have hr : ∀ t : Fin 8, IsR (bAc x3 x9 q t (hd c)) := fun t => ha t ▸ hA _
  rw [kY_apply, h10, ha, hX]
  unfold headS bY yraw
  rw [seg_sum]
  rw [add_right_comm]
  refine congrArg₂ (· + ·) (congrArg₂ (· + ·) (Finset.sum_congr rfl fun j _ => ?_) (congrArg (· * _) ?_)) rfl
  · by_cases h : j ≤ t
    · rw [if_pos h, if_pos h, ha, ha, hX, show (Named.named κ "log2e" 1069066811#32 : Ideal .f32) = (((Real.log 2)⁻¹ : ℝ) : EReal) from rfl]
      rw [show FloatOps.exp2 (F := Ideal) (φ := .f32) (bAc x3 x9 q t (hd c) * (((Real.log 2)⁻¹ : ℝ) : EReal) - bAc x3 x9 q j (hd c) * (((Real.log 2)⁻¹ : ℝ) : EReal))
        = Ideal.exp (bAc x3 x9 q t (hd c) - bAc x3 x9 q j (hd c)) from exp2_log2 (hr t) (hr j)]
      rw [show (∑ n : Fin 128, kX x1 x2 x7 x8 (ix2 (rowOf q t) (ccol c n)) * kX x1 x2 x7 x8 (ix2 (rowOf q j) (bcol c n)))
        = ∑ n : Fin 128, bXc x1 x2 x7 x8 q j (bcol c n) * bXc x1 x2 x7 x8 q t (ccol c n) from Finset.sum_congr rfl fun n _ => by rw [hX, hX, mul_comm]]
      generalize (∑ n : Fin 128, bXc x1 x2 x7 x8 q j (bcol c n) * bXc x1 x2 x7 x8 q t (ccol c n)) = G
      show G * Ideal.exp _ * bD x3 q j (hd c) * _ = _
      ac_rfl
    · rw [if_neg h, if_neg h, mul_zero, mul_zero]
  · unfold yoG
    refine Finset.sum_congr rfl fun n _ => ?_
    show k0_pay87 (kX x1 x2 x7 x8) (ix2 (rowOf q t) ⟨128 * (c.val / 512) + n.val, by omega⟩) * x6 (ix3 ⟨(8 * q.val + t.val) / 8, by omega⟩ c n) = _
    rw [k0_pay87_apply, hX, mul_comm, show (⟨(8 * q.val + t.val) / 8, by omega⟩ : Fin 16) = q from Fin.ext (by show (8 * q.val + t.val) / 8 = q.val; omega),
      show (⟨1280 + (128 * (c.val / 512) + n.val), by omega⟩ : Fin 1536) = ccol c n from Fin.ext (by show 1280 + (128 * (c.val / 512) + n.val) = 1280 + (c.val / 64 / 8 * 128 + n.val); omega)]

/-- A block's first result, sequence by sequence. -/
theorem kM_apply (x0 : Vec Ideal S128x1024 .f32) (x1 x2 : Vec Ideal S128x1536 .f32) (x3 : Vec Ideal S128x128 .f32) (x4 x5 : Vec Ideal S128x1024 .f32)
    (x6 : Vec Ideal S16x1024x128 .f32) (x7 : Vec Ideal S4x1536 .f32) (x8 : Vec Ideal S1x1536 .f32) (x9 : Vec Ideal S1x128 .f32)
    (x10 : Vec Ideal S1x1024 .f32) (x11 : Vec Ideal S384x1024 .bf16) (x13 : Vec Ideal S1x1024 .f32) (x14 : Vec Ideal S8x128x128 .f32)
    (x15 : Vec Ideal S128x1024 .f32) (d : Fin 16 → EReal) (hE : Spreads x11)
    (h10 : ∀ c : Fin 1024, x10 (ix2 0 c) = d (hd c)) (h1 : ∀ i, IsR (x1 i)) (h2 : ∀ i, IsR (x2 i))
    (h3 : ∀ i, IsR (x3 i)) (h7 : ∀ i, IsR (x7 i)) (h8 : ∀ i, IsR (x8 i)) (h9 : ∀ i, IsR (x9 i)) (q : Fin 16) (t : Fin 8) (c : Fin 2048) :
    kM x0 x1 x2 x3 x4 x5 x6 x7 x8 x9 x10 x11 x13 x15 (wmG segM x14) (ix2 (rowOf q t) c)
      = if h : c.val < 1024 then gnorm (bY x1 x2 x3 x6 x7 x8 x9 d q t) (fun c => x0 (ix2 (rowOf q t) c)) (fun c => x13 (ix2 0 c)) ⟨c.val, h⟩
        else gmix (fun c => x4 (ix2 (rowOf q t) c)) (fun j c => x5 (ix2 (rowOf q j) c))
          (fun h t j => x14 (ix3 h ⟨t.val, by omega⟩ ⟨j.val, by omega⟩)) (fun _ _ => x15 (ix2 (rowOf q t) ⟨c.val - 1024, by omega⟩)) t ⟨c.val - 1024, by omega⟩ := by
  unfold kM
  rw [norm_block _ _ _ _ _ _ _ _ _ (bY x1 x2 x3 x6 x7 x8 x9 d q t) (fun c => x0 (ix2 (rowOf q t) c))
    (fun c => (k0_pay207_apply _ _ _ _ _ hE (kAc_real x3 x9 h3 h9) _ c).trans
      (congrArg (· * x0 (ix2 (rowOf q t) c)) (y_block x1 x2 x3 x6 x7 x8 x9 x10 d h10 h1 h2 h3 h7 h8 h9 q t c)))]
  by_cases h : c.val < 1024
  · rw [dif_pos h, dif_pos h]
  · rw [dif_neg h, dif_neg h, gate_block, mix_sum]
    rfl

end Cert.MixerSampleIdeal.Val
end
-- ==== Proof.Ref.lean ====
module

public import proofs.«01_k».proof.Proof.Gen.RefSampleIdeal.Read
public import proofs.«01_k».proof.Proof.Alg

@[expose] public section
set_option maxRecDepth 16384
noncomputable section
namespace Cert.RefSampleIdeal.Closed
open Cert.RefSampleIdeal Cert.RefSampleIdeal.Read Idealize.ShloMosaic Idealize.ShloMosaic.TcCoe Mix

/-- The contents of an `f32` buffer. -/
abbrev Con (S : Shape) : Type := (⟨S, EltTy.f32⟩ : BufTy).Contents (Elt Ideal)

/-- The running sum of the host program is the sum of the rows up to `t`. -/
theorem cumsum_apply (x : FVec Ideal S128x8x16 .f32) (b : Fin 128) (t : Fin 8) (h : Fin 16) :
    Host.reduceWindowAdd ![1, 8, 1] ![1, 1, 1] ![0, 7, 0] ![0, 0, 0] x (val_main_call1_call0_v0 (F := Ideal))
      Gen.reduceWindows_S128x8x16_S128x8x16_w1s1p0_0_w8s1p7_0_w1s1p0_0 Gen.h_S_ (ix3 b t h)
      = ∑ j : Fin 8, if j ≤ t then x (ix3 b j h) else 0 := by
  unfold Host.reduceWindowAdd
  simp only [Ideal.hostReduceWindowAdd_def]
  unfold Ideal.hostReduceWindowAdd
  unfold Host.reduceWindow
  have hv : val_main_call1_call0_v0 (F := Ideal) (Shape.Idx.first Gen.h_S_) = 0 := by
    unfold val_main_call1_call0_v0 val_main_call1_call0_cst
    show Ideal.ofBits .f32 0#32 = 0
    exact Ideal.ofBits_zero_f32
  have hn : (⟨3, ![1, 8, 1]⟩ : Shape).numel = 8 := by decide
  have hs : ∀ n : Fin (⟨3, ![1, 8, 1]⟩ : Shape).numel, ((⟨3, ![1, 8, 1]⟩ : Shape).rowMajor.symm n 0).val = 0 ∧
      ((⟨3, ![1, 8, 1]⟩ : Shape).rowMajor.symm n 1).val = n.val ∧ ((⟨3, ![1, 8, 1]⟩ : Shape).rowMajor.symm n 2).val = 0 := by
    decide
  have hfold : ∀ (N : ℕ) (f : Fin N → EReal), (List.finRange N).foldl (fun r n => r + f n) 0 = ∑ n, f n := by
    intro N f
    rw [Fin.sum_univ_def, List.sum_eq_foldl, List.foldl_map]
  simp only [hv]
  refine (hfold _ _).trans ?_
  obtain ⟨g, hg⟩ : ∃ g : ℕ → EReal, ∀ j : Fin 8, x (ix3 b j h) = g j.val :=
    ⟨fun n => if hh : n < 8 then x (ix3 b ⟨n, hh⟩ h) else 0, fun j => by simp⟩
  have ht : (∑ n : Fin 8, if 7 ≤ t.val + n.val then g (t.val + n.val - 7) else 0) = ∑ j : Fin 8, if j ≤ t then x (ix3 b j h) else 0 := by
    simp only [hg]
    rw [Fin.sum_univ_eight, Fin.sum_univ_eight]
    fin_cases t <;> simp [Fin.le_def] <;> ac_rfl
  rw [← ht]
  refine Fintype.sum_equiv (finCongr hn) _ _ fun n => ?_
  obtain ⟨h0, h1, h2⟩ := hs n
  have hnl : n.val < 8 := by have := n.isLt; omega
  have hb := b.isLt
  have htl := t.isLt
  have hh := h.isLt
  simp only [finCongr_apply, Fin.val_cast]
  by_cases hc : 7 ≤ t.val + n.val
  · rw [if_pos hc, dif_pos]
    · have := hg ⟨t.val + n.val - 7, by omega⟩
      simp only at this
      rw [← this]
      congr 1
      funext a
      apply Fin.ext
      fin_cases a
      · show b.val * 1 + ((⟨3, ![1, 8, 1]⟩ : Shape).rowMajor.symm n 0).val - 0 = b.val
        rw [h0]; omega
      · show t.val * 1 + ((⟨3, ![1, 8, 1]⟩ : Shape).rowMajor.symm n 1).val - 7 = t.val + n.val - 7
        rw [h1]; omega
      · show h.val * 1 + ((⟨3, ![1, 8, 1]⟩ : Shape).rowMajor.symm n 2).val - 0 = h.val
        rw [h2]; omega
    · intro a
      fin_cases a
      · show 0 ≤ b.val * 1 + ((⟨3, ![1, 8, 1]⟩ : Shape).rowMajor.symm n 0).val ∧ b.val * 1 + ((⟨3, ![1, 8, 1]⟩ : Shape).rowMajor.symm n 0).val - 0 < 128
        rw [h0]; omega
      · show 7 ≤ t.val * 1 + ((⟨3, ![1, 8, 1]⟩ : Shape).rowMajor.symm n 1).val ∧ t.val * 1 + ((⟨3, ![1, 8, 1]⟩ : Shape).rowMajor.symm n 1).val - 7 < 8
        rw [h1]; omega
      · show 0 ≤ h.val * 1 + ((⟨3, ![1, 8, 1]⟩ : Shape).rowMajor.symm n 2).val ∧ h.val * 1 + ((⟨3, ![1, 8, 1]⟩ : Shape).rowMajor.symm n 2).val - 0 < 16
        rw [h2]; omega
  · rw [if_neg hc, dif_neg]
    intro hin
    have h3 := (hin (1 : Fin 3)).1
    have h4 : 7 ≤ t.val * 1 + ((⟨3, ![1, 8, 1]⟩ : Shape).rowMajor.symm n 1).val := h3
    rw [h1] at h4
    omega

/-- The array's rows of sequence `b`. -/
abbrev rg (b : Fin 128) (t : Fin 8) : Fin 1024 := ⟨b.val * 8 + t.val, by omega⟩
/-- The pre-convolution rows of sequence `b`. -/
def aX (x1 : Con S1024x1536) (b : Fin 128) (t : Fin 8) (c : Fin 1536) : EReal := x1 (ix2 (rg b t) c)
/-- The three buffered rows of sequence `b`. -/
def aP (x6 : Con S1x128x3x1536) (b : Fin 128) (k : Fin 3) (c : Fin 1536) : EReal := x6 (ix4 0 b k c)
/-- The convolution's taps. -/
def aW (x7 : Con S1x4x1536) (k : Fin 4) (c : Fin 1536) : EReal := x7 (ix3 0 k c)
/-- The convolution's bias. -/
def aB (x8 : Con S1x1536) (c : Fin 1536) : EReal := x8 (ix2 0 c)
/-- The convolved rows of sequence `b`. -/
def aXc (x1 : Con S1024x1536) (x6 : Con S1x128x3x1536) (x7 : Con S1x4x1536) (x8 : Con S1x1536) (b : Fin 128) : Fin 8 → Fin 1536 → EReal :=
  xconv (aX x1 b) (aP x6 b) (aW x7) (aB x8)
/-- The step sizes of sequence `b`. -/
def aD (x2 : Con S1024x128) (b : Fin 128) (t : Fin 8) (h : Fin 16) : EReal := x2 (ix2 (rg b t) ⟨h.val, by omega⟩)
/-- The decay rates. -/
def aA (x9 : Con S1x16) (h : Fin 16) : EReal := -Ideal.exp (x9 (ix2 0 h))
/-- The running log-decay of sequence `b`. -/
def aAc (x2 : Con S1024x128) (x9 : Con S1x16) (b : Fin 128) : Fin 8 → Fin 16 → EReal := acum (aD x2 b) (aA x9)
/-- The state of sequence `b`. -/
def aS (x5 : Con S1x128x16x64x128) (b : Fin 128) (c : Fin 1024) (n : Fin 128) : EReal :=
  x5 (ix5 0 b ⟨c.val / 64, by omega⟩ ⟨c.val % 64, by omega⟩ n)

/-- The convolution before its activation. -/
theorem conv_apply (x1 : Con S1024x1536) (x6 : Con S1x128x3x1536) (x7 : Con S1x4x1536) (x8 : Con S1x1536) (b : Fin 128) (t : Fin 8) (c : Fin 1536) :
    val_main_v33 (F := Ideal) x1 x6 x7 x8 (ix3 b t c) = conv (aX x1 b) (aP x6 b) (aW x7) (aB x8) t c := by
  unfold val_main_v33 val_main_v32 val_main_v31 val_main_v30 val_main_v29 val_main_v22 val_main_v28 val_main_v15 val_main_v21 val_main_v8 val_main_v14 val_main_v7 val_main_v13 val_main_v20 val_main_v27 val_main_v6 val_main_v12 val_main_v19 val_main_v26 val_main_v5 val_main_v11 val_main_v18 val_main_v25 val_main_v4 val_main_v10 val_main_v17 val_main_v24 val_main_v3 val_main_v9 val_main_v16 val_main_v23 val_main_v2 val_main_v1 val_main_v0
  pointwise
  unfold conv tap aX aP aW aB
  simp
  done

/-- The convolved rows. -/
theorem xconv_apply (x1 : Con S1024x1536) (x6 : Con S1x128x3x1536) (x7 : Con S1x4x1536) (x8 : Con S1x1536) (b : Fin 128) (t : Fin 8) (c : Fin 1536) :
    val_main_v34 (F := Ideal) x1 x6 x7 x8 (ix3 b t c) = aXc x1 x6 x7 x8 b t c := by
  unfold val_main_v34 val_main_call0_v5 val_main_call0_v4 val_main_call0_v3 val_main_call0_v2 val_main_call0_v1 val_main_call0_v0 val_main_call0_cst val_main_call0_cst_0
  pointwise
  rw [conv_apply]
  rfl

/-- The running log-decay. -/
theorem acum_apply (x2 : Con S1024x128) (x9 : Con S1x16) (b : Fin 128) (t : Fin 8) (h : Fin 16) :
    val_main_v53 (F := Ideal) x2 x9 (ix3 b t h) = aAc x2 x9 b t h := by
  unfold val_main_v53
  rw [cumsum_apply]
  unfold aAc acum
  refine Finset.sum_congr rfl fun j _ => ?_
  unfold val_main_v52 val_main_v51 val_main_v50 val_main_v45 val_main_v44 val_main_v43 val_main_v42 val_main_v41
  pointwise
  rfl

/-- The second result: each sequence's state after its rows. -/
theorem state_apply (x1 : Con S1024x1536) (x2 : Con S1024x128) (x5 : Con S1x128x16x64x128) (x6 : Con S1x128x3x1536) (x7 : Con S1x4x1536)
    (x8 : Con S1x1536) (x9 : Con S1x16) (b : Fin 128) (c : Fin 1024) (n : Fin 128) :
    val_main_v137 (F := Ideal) x1 x2 x5 x6 x7 x8 x9 (ix3 b c n)
      = newState (aXc x1 x6 x7 x8 b) (aD x2 b) (aAc x2 x9 b) (aS x5 b) c n := by
  unfold val_main_v137 val_main_v87 val_main_v86 val_main_v85 val_main_v84 val_main_v82 val_main_v81 val_main_v80 val_main_v83 val_main_v79 val_main_v78 val_main_v77 val_main_v76 val_main_v75 val_main_v74 val_main_v73 val_main_v72 val_main_v66 val_main_v65 val_main_v64 val_main_v42 val_main_v41 val_main_v47 val_main_v46 val_main_v38 val_main_v37 val_main_v36 val_main_v35
  pointwise
  simp only [xconv_apply, acum_apply]
  rfl

/-- The lower triangle's test on two rows of a sequence. -/
theorem tril_eq {α : Type} (i j : Fin 8) (x y : α) :
    Scalar.select (Scalar.select (IntOp.cmpi CmpIPredicate.sge (IntOp.addi (BitVec.ofNat 32 i.val) 0#32) (BitVec.ofNat 32 j.val)) 1#1 0#1) x y
      = if j ≤ i then x else y := by
  revert i j
  have : ∀ i j : Fin 8, (Scalar.select (IntOp.cmpi CmpIPredicate.sge (IntOp.addi (BitVec.ofNat 32 i.val) 0#32) (BitVec.ofNat 32 j.val)) 1#1 0#1)
      = if j ≤ i then 1#1 else 0#1 := by decide
  intro i j
  rw [this]
  split <;> rfl

/-- Row `r`'s place in its sequence. -/
abbrev tOf (r : Fin 1024) : Fin 8 := ⟨r.val % 8, by omega⟩
/-- Row `r`'s sequence. -/
abbrev bOf (r : Fin 1024) : Fin 128 := ⟨r.val / 8, by omega⟩

/-- The scan's rows before the gate. -/
theorem yraw_apply (x1 : Con S1024x1536) (x2 : Con S1024x128) (x5 : Con S1x128x16x64x128) (x6 : Con S1x128x3x1536) (x7 : Con S1x4x1536)
    (x8 : Con S1x1536) (x9 x10 : Con S1x16) (r : Fin 1024) (c : Fin 1024) :
    val_main_v101 (F := Ideal) x1 x2 x5 x6 x7 x8 x9 x10 (ix2 r c)
      = yraw (aXc x1 x6 x7 x8 (bOf r)) (aD x2 (bOf r)) (aAc x2 x9 (bOf r)) (aS x5 (bOf r)) (fun h => x10 (ix2 0 h)) (tOf r) c := by
  unfold val_main_v101 val_main_v100 val_main_v99 val_main_v98 val_main_v97 val_main_v96 val_main_v95 val_main_v94 val_main_v93 val_main_v92 val_main_v91 val_main_v90 val_main_v89 val_main_v88 val_main_v71 val_main_v70 val_main_v69 val_main_v68 val_main_v67 val_main_v63 val_main_v62 val_main_call3_v2 val_main_call3_v1 val_main_call3_v0 val_main_v61 val_main_v60 val_main_v59 val_main_v58 val_main_v57 val_main_v56 val_main_v55 val_main_v54 val_main_call2_v5 val_main_call2_v4 val_main_call2_v3 val_main_call2_v2 val_main_call2_v1 val_main_call2_v0 val_main_v49 val_main_v48 val_main_v40 val_main_v39  val_main_v83 val_main_v66 val_main_v65 val_main_v64 val_main_v42 val_main_v41 val_main_v47 val_main_v46 val_main_v38 val_main_v37 val_main_v36 val_main_v35 val_main_c val_main_call2_c val_main_call2_c_0 val_main_cst
  pointwise
  simp only [xconv_apply, acum_apply]
  have hbot : ∀ i, (id (constant (F := Ideal) S_ FTy.f32 4286578688#32) i : EReal) = ⊥ := by
    intro i
    show Ideal.ofBits .f32 4286578688#32 = ⊥
    simp [Ideal.ofBits, Ideal.ieee]
  simp only [hbot]
  unfold yraw
  congr 2
  refine Finset.sum_congr rfl fun j _ => ?_
  congr 2
  refine (congrArg Ideal.exp (tril_eq (tOf r) j _ _)).trans ?_
  split
  · rfl
  · rfl

/-- The first result's first half: the gated group normalisation. -/
theorem ssd_apply (x0 : Con S1024x1024) (x1 : Con S1024x1536) (x2 : Con S1024x128) (x5 : Con S1x128x16x64x128) (x6 : Con S1x128x3x1536)
    (x7 : Con S1x4x1536) (x8 : Con S1x1536) (x9 x10 : Con S1x16) (x11 : Con S1x1024) (r : Fin 1024) (c : Fin 1024) :
    val_main_v118 (F := Ideal) x0 x1 x2 x5 x6 x7 x8 x9 x10 x11 (ix2 r c)
      = gnorm (yraw (aXc x1 x6 x7 x8 (bOf r)) (aD x2 (bOf r)) (aAc x2 x9 (bOf r)) (aS x5 (bOf r)) (fun h => x10 (ix2 0 h)) (tOf r))
          (fun c => x0 (ix2 r c)) (fun c => x11 (ix2 0 c)) c := by
  unfold val_main_v118 val_main_v117 val_main_v116 val_main_v115 val_main_v114 val_main_v113 val_main_v112 val_main_v111 val_main_v110 val_main_v109 val_main_v108 val_main_v107 val_main_v106 val_main_v105 val_main_v104 val_main_v103 val_main_v102 val_main_cst_0 val_main_cst_1 val_main_cst_2
  pointwise
  simp only [yraw_apply]
  rfl

/-- The first result's second half: the gated chunk mixing. -/
theorem gm_apply (x3 x4 : Con S1024x1024) (x12 : Con S1x8x128x128) (x13 : Con S1x8x128) (r : Fin 1024) (c : Fin 1024) :
    val_main_v134 (F := Ideal) x3 x4 x12 x13 (ix2 r c)
      = gmix (fun c => x3 (ix2 r c)) (fun j c => x4 (ix2 (rg (bOf r) j) c))
          (fun h t j => x12 (ix4 0 h ⟨t.val, by omega⟩ ⟨j.val, by omega⟩)) (fun h t => x13 (ix3 0 h ⟨t.val, by omega⟩)) (tOf r) c := by
  unfold val_main_v134 val_main_v133 val_main_v132 val_main_v131 val_main_v130 val_main_v129 val_main_v128 val_main_v127 val_main_v126 val_main_v125 val_main_v124 val_main_v123 val_main_v122 val_main_v121 val_main_call5_v2 val_main_call5_v1 val_main_call5_v0 val_main_v120 val_main_v119 val_main_call4_v5 val_main_call4_v4 val_main_call4_v3 val_main_call4_v2 val_main_call4_v1 val_main_call4_v0 val_main_call4_c val_main_call4_c_0 val_main_c_3 val_main_cst_4
  pointwise
  have hz : ∀ i, (id (constant (F := Ideal) S_ FTy.f32 0#32) i : EReal) = 0 := by
    intro i
    exact Ideal.ofBits_zero_f32
  simp only [hz]
  unfold gmix
  congr 2
  refine Finset.sum_congr rfl fun j _ => ?_
  congr 1
  exact tril_eq (tOf r) j _ _

/-- The first result: the two halves side by side. -/
theorem ymix_apply (x0 : Con S1024x1024) (x1 : Con S1024x1536) (x2 : Con S1024x128) (x3 x4 : Con S1024x1024) (x5 : Con S1x128x16x64x128) (x6 : Con S1x128x3x1536)
    (x7 : Con S1x4x1536) (x8 : Con S1x1536) (x9 x10 : Con S1x16) (x11 : Con S1x1024) (x12 : Con S1x8x128x128) (x13 : Con S1x8x128) (r : Fin 1024) (c : Fin 2048) :
    val_main_v136 (F := Ideal) x0 x1 x2 x3 x4 x5 x6 x7 x8 x9 x10 x11 x12 x13 (ix2 r c)
      = if h : c.val < 1024 then val_main_v118 (F := Ideal) x0 x1 x2 x5 x6 x7 x8 x9 x10 x11 (ix2 r ⟨c.val, h⟩)
        else val_main_v134 (F := Ideal) x3 x4 x12 x13 (ix2 r ⟨c.val - 1024, by omega⟩) := by
  unfold val_main_v136 val_main_v135
  pointwise

end Cert.RefSampleIdeal.Closed
end
-- ==== Proof.Match.lean ====
module

public import proofs.«01_k».proof.Proof.Sweep
public import proofs.«01_k».proof.Proof.KerY
public import proofs.«01_k».proof.Proof.Ref

@[expose] public section
set_option maxRecDepth 16384
noncomputable section
namespace Cert.MixerSampleIdeal.Val
open Cert.MixerSampleIdeal Cert.MixerSampleIdeal.Gen Cert.MixerSampleIdeal.Value Idealize.ShloMosaic Idealize.ShloMosaic.TcCoe Idealize.ShloMosaic.Tactic Mix
open Cert.RefSampleIdeal.Closed (aX aP aW aB aXc aD aA aAc aS rg)

variable (m : (ℓ : Loc nD τ sig) → Buf (Elt Ideal) ℓ)

/-- Row `s` of a block's sequence `q` is row `s` of that sequence in the whole batch. -/
theorem ro_row (t : Fin cfg0.N) (q : Fin 16) (s : Fin 8) : ro t (rowOf q s) = rg (sq t q) s :=
  Fin.ext (by show 128 * t.val + (8 * q.val + s.val) = (16 * t.val + q.val) * 8 + s.val; omega)

/-- The one row of a one-row array. -/
theorem row0 {α : Type} {n : Nat} (f : (⟨2, ![1, n]⟩ : Shape).Idx → α) (i : (⟨2, ![1, n]⟩ : Shape).Idx) : f i = f (ix2 0 (i 1)) :=
  congrArg f ((eq_ix2 i).trans (congrArg (fun a => ix2 a (i 1)) (Subsingleton.elim (α := Fin 1) (i 0) 0)))

/-- A block's rows are the batch's. -/
theorem m1 (c : Dev nD) (t : Fin cfg0.N) (q : Fin 16) : bX (iblk m c 1 t) q = aX (A1 m c) (sq t q) := by
  funext s k
  exact (b1 m c t _ k).trans (congrArg (fun r => A1 m c (ix2 r k)) (ro_row t q s))

/-- A block's buffered rows are the batch's. -/
theorem m2 (c : Dev nD) (t : Fin cfg0.N) (q : Fin 16) : bP (iblk m c 2 t) q = aP (A6 m c) (sq t q) := by
  funext s k
  unfold bP
  rw [b2, h35, ro_row, dif_pos (by show 5 ≤ ((16 * t.val + q.val) * 8 + (5 + s.val)) % 8; omega)]
  exact congrArg₂ (fun a b => A6 m c (ix4 0 a b k)) (Fin.ext (by show ((16 * t.val + q.val) * 8 + (5 + s.val)) / 8 = 16 * t.val + q.val; omega))
    (Fin.ext (by show ((16 * t.val + q.val) * 8 + (5 + s.val)) % 8 - 5 = s.val; omega))

/-- A block's step sizes are the batch's. -/
theorem m3 (c : Dev nD) (t : Fin cfg0.N) (q : Fin 16) : bD (iblk m c 3 t) q = aD (A2 m c) (sq t q) := by
  funext s h
  exact (b3 m c t _ _).trans (congrArg (fun r => A2 m c (ix2 r ⟨h.val, by omega⟩)) (ro_row t q s))

/-- The taps. -/
theorem m7 (c : Dev nD) (t : Fin cfg0.N) : bW (iblk m c 7 t) = aW (A7 m c) := by
  funext i k
  unfold bW
  rw [b7, h20]
  rfl

/-- The bias. -/
theorem m8 (c : Dev nD) (t : Fin cfg0.N) : bB (iblk m c 8 t) = aB (A8 m c) := by
  funext k
  unfold bB
  rw [b8, h22]
  rfl

/-- The decay rates. -/
theorem m9 (c : Dev nD) (t : Fin cfg0.N) : bA (iblk m c 9 t) = aA (A9 m c) := by
  funext h
  unfold bA
  rw [b9, h19, dif_pos h.isLt]
  rfl

/-- The carried states. -/
theorem m6 (c : Dev nD) (t : Fin cfg0.N) (q : Fin 16) :
    (fun ch n => (iblk m c 6 t : Vec Ideal S16x1024x128 .f32) (ix3 q ch n)) = aS (A5 m c) (sq t q) := by
  funext ch n
  exact b6 m c t q ch n

/-- A block's convolved rows are the batch's. -/
theorem mXc (c : Dev nD) (t : Fin cfg0.N) (q : Fin 16) :
    bXc (iblk m c 1 t) (iblk m c 2 t) (iblk m c 7 t) (iblk m c 8 t) q = aXc (A1 m c) (A6 m c) (A7 m c) (A8 m c) (sq t q) := by
  unfold bXc aXc
  rw [m1, m2, m7, m8]

/-- A block's running decays are the batch's. -/
theorem mAc (c : Dev nD) (t : Fin cfg0.N) (q : Fin 16) : bAc (iblk m c 3 t) (iblk m c 9 t) q = aAc (A2 m c) (A9 m c) (sq t q) := by
  unfold bAc aAc
  rw [m3, m9]

/-- The arguments the claim asks to be finite. -/
structure Reals (c : Dev nD) : Prop where
  r1 : ∀ i, IsR (A1 m c i)
  r2 : ∀ i, IsR (A2 m c i)
  r6 : ∀ i, IsR (A6 m c i)
  r7 : ∀ i, IsR (A7 m c i)
  r8 : ∀ i, IsR (A8 m c i)
  r9 : ∀ i, IsR (A9 m c i)

variable {m}
/-- A block's rows are real. -/
theorem Reals.b1 {c : Dev nD} (F : Reals m c) (t : Fin cfg0.N) : ∀ i, IsR ((iblk m c 1 t : Vec Ideal S128x1536 .f32) i) := fun i => by
  rw [eq_ix2 i]
  exact (Val.b1 m c t _ _).symm ▸ F.r1 _

/-- The padded buffered rows are real. -/
theorem Reals.v35 {c : Dev nD} (F : Reals m c) (r : Fin 1024) (k : Fin 1536) : IsR ((V m c main_v35 : Vec Ideal S1024x1536 .f32) (ix2 r k)) := by
  rw [h35]
  split_ifs
  · exact F.r6 _
  · exact ⟨0, EReal.coe_zero.symm⟩

/-- A block's buffered rows are real. -/
theorem Reals.b2 {c : Dev nD} (F : Reals m c) (t : Fin cfg0.N) : ∀ i, IsR ((iblk m c 2 t : Vec Ideal S128x1536 .f32) i) := fun i => by
  rw [eq_ix2 i]
  exact (Val.b2 m c t _ _).symm ▸ F.v35 _ _

/-- A block's step sizes are real. -/
theorem Reals.b3 {c : Dev nD} (F : Reals m c) (t : Fin cfg0.N) : ∀ i, IsR ((iblk m c 3 t : Vec Ideal S128x128 .f32) i) := fun i => by
  rw [eq_ix2 i]
  exact (Val.b3 m c t _ _).symm ▸ F.r2 _

/-- The taps are real. -/
theorem Reals.b7 {c : Dev nD} (F : Reals m c) (t : Fin cfg0.N) : ∀ i, IsR ((iblk m c 7 t : Vec Ideal S4x1536 .f32) i) := fun i => by
  rw [eq_ix2 i, Val.b7]
  exact (h20 m c _ _).symm ▸ F.r7 _

/-- The bias is real. -/
theorem Reals.b8 {c : Dev nD} (F : Reals m c) (t : Fin cfg0.N) : ∀ i, IsR ((iblk m c 8 t : Vec Ideal S1x1536 .f32) i) := fun i => by
  rw [row0 (iblk m c 8 t : Vec Ideal S1x1536 .f32) i, Val.b8]
  exact (h22 m c _).symm ▸ F.r8 _

/-- The logarithms of the decay rates are real. -/
theorem Reals.b9 {c : Dev nD} (F : Reals m c) (t : Fin cfg0.N) : ∀ i, IsR ((iblk m c 9 t : Vec Ideal S1x128 .f32) i) := fun i => by
  rw [row0 (iblk m c 9 t : Vec Ideal S1x128 .f32) i, Val.b9]
  refine (h19 m c _).symm ▸ ?_
  split_ifs
  · exact F.r9 _
  · exact ⟨0, EReal.coe_zero.symm⟩

variable (m)
/-- The spreading matrix at every point. -/
theorem spreads (c : Dev nD) (t : Fin cfg0.N) : Spreads (iblk m c 11 t) := (b11 m c t).symm ▸ h9 m c

/-- The contents after a point depend on the point's number only. -/
theorem outs_congr (c : Dev nD) (t : Fin cfg0.N) : ∀ (n : ℕ) (hn : n < cfg0.N), n = t.val → outsAt0 m c n hn = outsAt0 m c t.val t.isLt := by
  rintro _ _ rfl
  rfl

/-- The second result, sequence by sequence. -/
theorem G17_apply (c : Dev nD) (t : Fin cfg0.N) (q : Fin 16) (ch : Fin 1024) (n : Fin 128) :
    (G17 m c : Vec Ideal S128x1024x128 .f32) (ix3 (sq t q) ch n) = (outsAt0 m c t.val t.isLt).2.1 (ix3 q ch n) := by
  have hp : pt17Of (ix3 (sq t q) ch n) = t.val := by
    show 1 * ((16 * t.val + q.val) / 16 - 0) + 1 * (ch.val / 1024 - 0) + 1 * (n.val / 128 - 0) = t.val
    omega
  have hl : loc17Of (ix3 (sq t q) ch n) = ix3 q ch n := by
    funext a
    apply Fin.ext
    match a with
    | ⟨0, _⟩ => show (16 * t.val + q.val) % 16 = q.val; omega
    | ⟨1, _⟩ => show ch.val % 1024 = ch.val; omega
    | ⟨2, _⟩ => show n.val % 128 = n.val; omega
  have hlt : pt17Of (ix3 (sq t q) ch n) < cfg0.N := hp ▸ t.isLt
  unfold G17
  rw [dif_pos hlt, ← outsAt0_sweep m c _ hlt, outs_congr m c t _ hlt hp, hl]

/-- The first result, row by row. -/
theorem G16_apply (c : Dev nD) (t : Fin cfg0.N) (r : Fin 128) (k : Fin 2048) :
    (G16 m c : Vec Ideal S1024x2048 .bf16) (ix2 (ro t r) k) = (outsAt0 m c t.val t.isLt).1 (ix2 r k) := by
  have hp : pt16Of (ix2 (ro t r) k) = t.val := by
    show 1 * ((128 * t.val + r.val) / 128 - 0) + 1 * (k.val / 2048 - 0) = t.val
    omega
  have hl : loc16Of (ix2 (ro t r) k) = ix2 r k := by
    funext a
    apply Fin.ext
    match a with
    | ⟨0, _⟩ => show (128 * t.val + r.val) % 128 = r.val; omega
    | ⟨1, _⟩ => show k.val % 2048 = k.val; omega
  have hlt : pt16Of (ix2 (ro t r) k) < cfg0.N := hp ▸ t.isLt
  unfold G16
  rw [dif_pos hlt, ← outsAt0_sweep m c _ hlt, outs_congr m c t _ hlt hp, hl]

/-- Every sequence lies in a block. -/
theorem seq_block (b : Fin 128) : ∃ (t : Fin cfg0.N) (q : Fin 16), b = sq t q :=
  ⟨⟨b.val / 16, by have : cfg0.N = 8 := N_0; omega⟩, ⟨b.val % 16, by omega⟩, Fin.ext (by show b.val = 16 * (b.val / 16) + b.val % 16; omega)⟩

/-- Every row lies in a sequence of a block. -/
theorem row_block (r : Fin 1024) : ∃ (t : Fin cfg0.N) (q : Fin 16) (s : Fin 8), r = ro t (rowOf q s) :=
  ⟨⟨r.val / 128, by have : cfg0.N = 8 := N_0; omega⟩, ⟨r.val % 128 / 8, by omega⟩, ⟨r.val % 8, by omega⟩,
    Fin.ext (by show r.val = 128 * (r.val / 128) + (8 * (r.val % 128 / 8) + r.val % 8); omega)⟩

/-- The second result is the reference's at every index: the sequence's state after its rows. -/
theorem state_at (c : Dev nD) (F : Reals m c) (b : Fin 128) (ch : Fin 1024) (n : Fin 128) : (G17 m c : Vec Ideal S128x1024x128 .f32) (ix3 b ch n)
    = Cert.RefSampleIdeal.Read.val_main_v137 (F := Ideal) (A1 m c) (A2 m c) (A5 m c) (A6 m c) (A7 m c) (A8 m c) (A9 m c) (ix3 b ch n) := by
  obtain ⟨t, q, rfl⟩ := seq_block b
  refine (G17_apply m c t q ch n).trans ((out17_eq m c t _).trans ?_)
  refine Eq.trans ?_ (Cert.RefSampleIdeal.Closed.state_apply _ _ _ _ _ _ _ (sq t q) ch n).symm
  rw [state_block _ _ _ _ _ _ _ _ (spreads m c t) (F.b1 t) (F.b2 t) (F.b3 t) (F.b7 t) (F.b8 t) (F.b9 t), mXc, mAc, m3, m6]

/-- The first result is the reference's at every index: the normalised state-space half and the gating half. -/
theorem ymix_at (c : Dev nD) (F : Reals m c) (r : Fin 1024) (k : Fin 2048) : (G16 m c : Vec Ideal S1024x2048 .bf16) (ix2 r k)
    = Cert.RefSampleIdeal.Read.val_main_v136 (F := Ideal) (A0 m c) (A1 m c) (A2 m c) (A3 m c) (A4 m c) (A5 m c) (A6 m c) (A7 m c) (A8 m c) (A9 m c)
        (A10 m c) (A11 m c) (A12 m c) (A13 m c) (ix2 r k) := by
  obtain ⟨t, q, s, rfl⟩ := row_block r
  have hb : Cert.RefSampleIdeal.Closed.bOf (ro t (rowOf q s)) = sq t q :=
    Fin.ext (by show (128 * t.val + (8 * q.val + s.val)) / 8 = 16 * t.val + q.val; omega)
  have ht : Cert.RefSampleIdeal.Closed.tOf (ro t (rowOf q s)) = s :=
    Fin.ext (by show (128 * t.val + (8 * q.val + s.val)) % 8 = s.val; omega)
  refine (G16_apply m c t _ k).trans ((out16_eq m c t _).trans ?_)
  refine Eq.trans ?_ (Cert.RefSampleIdeal.Closed.ymix_apply _ _ _ _ _ _ _ _ _ _ _ _ _ _ (ro t (rowOf q s)) k).symm
  rw [kM_apply _ _ _ _ _ _ _ _ _ _ _ _ _ _ _ (fun h => A10 m c (ix2 0 h)) (spreads m c t) (fun ch => (congrFun (b10 m c t) _).trans (h16 m c ch))
    (F.b1 t) (F.b2 t) (F.b3 t) (F.b7 t) (F.b8 t) (F.b9 t)]
  by_cases h : k.val < 1024
  · rw [dif_pos h, dif_pos h, Cert.RefSampleIdeal.Closed.ssd_apply, hb, ht]
    unfold bY
    rw [mXc, mAc, m3, m6, b13]
    simp only [b0]
    exact congrArg (fun g => gnorm _ _ g ⟨k.val, h⟩) (funext fun ch => h24 m c ch)
  · rw [dif_neg h, dif_neg h, Cert.RefSampleIdeal.Closed.gm_apply, hb, ht]
    unfold gmix
    dsimp only
    refine congrArg₂ (· * ·) (b4 m c t _ _) (congrArg₂ (· + ·) (Finset.sum_congr rfl fun j _ =>
      congrArg₂ (· * ·) ((b5 m c t _ _).trans (congrArg (fun r => A4 m c (ix2 r _)) (ro_row t q j))) ?_) ?_)
    · exact congrArg (fun e => if j ≤ s then e else 0) ((congrFun (b14 m c t) _).trans (h38 m c _ _ _))
    · exact ((congrFun (b15 m c t) _).trans (h32 m c _ _)).trans
        (congrArg (fun e => A13 m c (ix3 0 _ e)) (Fin.ext (by show (8 * q.val + s.val) % 8 = s.val; omega)))

/-- The second result is the reference's. -/
theorem state_eq (c : Dev nD) (F : Reals m c) : (G17 m c : Vec Ideal S128x1024x128 .f32)
    = Cert.RefSampleIdeal.Read.val_main_v137 (F := Ideal) (A1 m c) (A2 m c) (A5 m c) (A6 m c) (A7 m c) (A8 m c) (A9 m c) := by
  refine funext fun i => ?_
  have e : i = ix3 (i 0) (i 1) (i 2) := eq_ix3 i
  rw [e]
  exact state_at m c F _ _ _

/-- The first result is the reference's. -/
theorem ymix_eq (c : Dev nD) (F : Reals m c) : (G16 m c : Vec Ideal S1024x2048 .bf16)
    = Cert.RefSampleIdeal.Read.val_main_v136 (F := Ideal) (A0 m c) (A1 m c) (A2 m c) (A3 m c) (A4 m c) (A5 m c) (A6 m c) (A7 m c) (A8 m c) (A9 m c)
        (A10 m c) (A11 m c) (A12 m c) (A13 m c) := by
  refine funext fun i => ?_
  have e : i = ix2 (i 0) (i 1) := eq_ix2 i
  rw [e]
  exact ymix_at m c F _ _

end Cert.MixerSampleIdeal.Val
end
-- ==== Proof.Ip.lean ====
module

public import proofs.«01_k».proof.Proof.Alg

@[expose] public section
noncomputable section
namespace Ip
open Idealize.ShloMosaic Mix

/-- The number of columns of a wide row, as the programs write it. -/
abbrev w2048 : EReal := Ideal.ofBits .f32 0x45000000#32
/-- The number of columns of a narrow row, as the programs write it. -/
abbrev w1024 : EReal := Ideal.ofBits .f32 0x44800000#32
/-- The small number under the root of the normalisation. -/
abbrev eps : EReal := Ideal.ofBits .f32 0x3727C5AC#32
/-- One half, as the programs write it. -/
abbrev half : EReal := Ideal.ofBits .f32 0x3F000000#32
/-- The factor in front of the argument of the hyperbolic tangent. -/
abbrev gc : EReal := Ideal.ofBits .f32 0x3F4C422A#32
/-- The weight of the cube. -/
abbrev gk : EReal := Ideal.ofBits .f32 0x3D372713#32
/-- The product of the two. -/
abbrev gck : EReal := ((80338380498831 / 2251799813685248 : ℝ) : EReal)

/-- The mean of a row whose number of columns is written `w`. -/
def mean {n : Nat} (w : EReal) (y : Fin n → EReal) : EReal := Ideal.div (∑ d, y d) w

/-- The normalisation of a row. -/
def ln {n : Nat} (w : EReal) (y g b : Fin n → EReal) (k : Fin n) : EReal :=
  (y k - mean w y) * Ideal.rsqrt (mean w (fun d => (y d - mean w y) * (y d - mean w y)) + eps) * g k + b k

/-- The row that enters the projections. -/
def hid (x g b sc sh : Fin 2048 → EReal) (d : Fin 2048) : EReal := ln w2048 x g b d * (1 + sc d) + sh d

/-- A column of a projection. -/
def prd (h w : Fin 2048 → EReal) : EReal := ∑ d, h d * w d

/-- The softened step as the kernel computes it. -/
def ksilu (r : EReal) : EReal := half * r + half * r * Ideal.tanh (half * r)
/-- The softened step of the reference. -/
def rsilu (r : EReal) : EReal := r * Ideal.logistic r
/-- The softened positive part. -/
def soft (r : EReal) : EReal := max r 0 + Ideal.log1p (Ideal.exp (0 - max r (-r)))
/-- The error-function unit as the kernel computes it. -/
def kgelu (r : EReal) : EReal := half * r + half * r * Ideal.tanh (r * (gc + gck * (r * r)))
/-- The error-function unit of the reference. -/
def rgelu (r : EReal) : EReal := r * (half * (1 + Ideal.tanh (gc * (r + gk * (r * r * r)))))

/-- The first factor as a number. -/
theorem gc_eq : gc = ((13386282 / 16777216 : ℝ) : EReal) := by
  simp [gc, Ideal.ofBits, Ideal.ieee, -EReal.coe_mul]; norm_num
/-- The weight of the cube as a number. -/
theorem gk_eq : gk = ((12003091 / 268435456 : ℝ) : EReal) := by
  simp [gk, Ideal.ofBits, Ideal.ieee, -EReal.coe_mul]; norm_num
/-- The small number is a positive real. -/
theorem eps_eq : eps = ((10995116 / 1099511627776 : ℝ) : EReal) := by
  simp [eps, Ideal.ofBits, Ideal.ieee, -EReal.coe_mul]; norm_num
/-- The width as a number. -/
theorem w2048_eq : w2048 = ((2048 : ℝ) : EReal) := by
  simp [w2048, Ideal.ofBits, Ideal.ieee, -EReal.coe_mul]; norm_num

/-- The two forms of the softened step agree on the reals. -/
theorem silu_eq' {r : EReal} (hr : IsR r) : ksilu r = rsilu r := silu_eq hr

/-- The two forms of the error-function unit agree on the reals. -/
theorem gelu_eq {r : EReal} (hr : IsR r) : kgelu r = rgelu r := by
  obtain ⟨a, rfl⟩ := hr
  unfold kgelu rgelu
  rw [gc_eq, gk_eq, show half = ((1 / 2 : ℝ) : EReal) from half_eq]
  have e1 : (a : EReal) * (((13386282 / 16777216 : ℝ) : EReal) + gck * ((a : EReal) * (a : EReal)))
      = ((a * (13386282 / 16777216 + 80338380498831 / 2251799813685248 * (a * a)) : ℝ) : EReal) := by push_cast; rfl
  have e2 : ((13386282 / 16777216 : ℝ) : EReal) * ((a : EReal) + ((12003091 / 268435456 : ℝ) : EReal) * ((a : EReal) * (a : EReal) * (a : EReal)))
      = ((13386282 / 16777216 * (a + 12003091 / 268435456 * (a * a * a)) : ℝ) : EReal) := by push_cast; rfl
  rw [e1, e2]
  show ((1 / 2 : ℝ) : EReal) * (a : EReal) + ((1 / 2 : ℝ) : EReal) * (a : EReal) * ((Real.tanh _ : ℝ) : EReal)
    = (a : EReal) * (((1 / 2 : ℝ) : EReal) * (1 + ((Real.tanh _ : ℝ) : EReal)))
  have e3 : a * (13386282 / 16777216 + 80338380498831 / 2251799813685248 * (a * a)) = 13386282 / 16777216 * (a + 12003091 / 268435456 * (a * a * a)) := by ring
  rw [e3]
  generalize Real.tanh (13386282 / 16777216 * (a + 12003091 / 268435456 * (a * a * a))) = T
  rw [show (1 : EReal) = ((1 : ℝ) : EReal) from rfl]
  norm_cast
  ring

/-- A square is not negative. -/
theorem sq_nonneg' (x : EReal) : 0 ≤ x * x := by
  rcases le_total 0 x with h | h
  · exact mul_nonneg h h
  · have := mul_nonneg (EReal.neg_nonneg.mpr h) (EReal.neg_nonneg.mpr h)
    rwa [neg_mul_neg] at this

/-- Division by the width is multiplication by a positive real. -/
theorem div_w (x : EReal) : Ideal.div x w2048 = x * ((1 / 2048 : ℝ) : EReal) := by
  rw [w2048_eq, Ideal.div_coe (by norm_num)]

/-- If a sum of squares is real then so is each member. -/
theorem isR_of_sq {n : Nat} (f : Fin n → EReal) (h : ∑ d, f d * f d ≠ ⊤) (k : Fin n) : IsR (f k) := by
  have hle : f k * f k ≤ ∑ d, f d * f d := Finset.single_le_sum (f := fun d => f d * f d) (fun d _ => sq_nonneg' (f d)) (Finset.mem_univ k)
  refine isR_of_ne ?_ ?_ <;> intro e <;> rw [e] at hle
  · rw [EReal.top_mul_top] at hle; exact h (top_le_iff.mp hle)
  · rw [EReal.bot_mul_bot] at hle; exact h (top_le_iff.mp hle)

/-- A normalised row is real whatever the row, where the gain and the offset are. -/
theorem isR_ln (y g b : Fin 2048 → EReal) (hg : ∀ k, IsR (g k)) (hb : ∀ k, IsR (b k)) (k : Fin 2048) : IsR (ln w2048 y g b k) := by
  unfold ln
  refine ((?_ : IsR _).mul (hg k)).add (hb k)
  generalize hf : (fun d => y d - mean w2048 y) = f
  rw [show y k - mean w2048 y = f k from congrFun hf k, show (fun d => (y d - mean w2048 y) * (y d - mean w2048 y)) = fun d => f d * f d from by rw [← hf]]
  unfold mean
  rw [div_w]
  by_cases h : ∑ d, f d * f d = ⊤
  · rw [h, EReal.top_mul_of_pos (by exact_mod_cast (by norm_num : (0 : ℝ) < 1 / 2048)), eps_eq, EReal.top_add_coe, Ideal.rsqrt_top, mul_zero]
    exact IsR.zero
  · have hR : IsR (∑ d, f d * f d) := isR_of_ne h fun e => by
      have h0 : (0 : EReal) ≤ ∑ d, f d * f d := Finset.sum_nonneg fun d _ => sq_nonneg' (f d)
      rw [e] at h0
      exact absurd h0 (by simp)
    refine (isR_of_sq f h k).mul ?_
    have h0 : (0 : EReal) ≤ ∑ d, f d * f d := Finset.sum_nonneg fun d _ => sq_nonneg' (f d)
    obtain ⟨s, hs⟩ := hR
    rw [hs] at h0 ⊢
    have h0' : (0 : ℝ) ≤ s := by exact_mod_cast h0
    rw [eps_eq]
    have hp : (0 : ℝ) < s * (1 / 2048) + 10995116 / 1099511627776 := by positivity
    refine ⟨(Real.sqrt (s * (1 / 2048) + 10995116 / 1099511627776))⁻¹, ?_⟩
    have e : (s : EReal) * ((1 / 2048 : ℝ) : EReal) + ((10995116 / 1099511627776 : ℝ) : EReal) = ((s * (1 / 2048) + 10995116 / 1099511627776 : ℝ) : EReal) := by push_cast; rfl
    rw [e, Ideal.rsqrt_coe, if_neg (not_lt.mpr hp.le), if_neg hp.ne']

/-- The row that enters the projections is real. -/
theorem isR_hid (x g b sc sh : Fin 2048 → EReal) (hg : ∀ k, IsR (g k)) (hb : ∀ k, IsR (b k)) (hsc : ∀ k, IsR (sc k)) (hsh : ∀ k, IsR (sh k)) (d : Fin 2048) :
    IsR (hid x g b sc sh d) :=
  ((isR_ln x g b hg hb d).mul (IsR.add ⟨1, rfl⟩ (hsc d))).add (hsh d)

/-- A column of a projection is real. -/
theorem isR_prd (h w : Fin 2048 → EReal) (hh : ∀ d, IsR (h d)) (hw : ∀ d, IsR (w d)) : IsR (prd h w) :=
  IsR.sum _ _ fun d => (hh d).mul (hw d)

end Ip
end
-- ==== Proof.IpPay.lean ====
module

public import proofs.«01_k».proof.Proof.Gen.InprojPromptIdeal.Frame
public import proofs.«01_k».proof.Proof.Ip

@[expose] public section
set_option maxRecDepth 16384
noncomputable section
namespace Cert.InprojPromptIdeal.Val
open Cert.InprojPromptIdeal Cert.InprojPromptIdeal.Gen Idealize.ShloMosaic Idealize.ShloMosaic.TcCoe Idealize.ShloMosaic.Tactic Ip

/-- The named constant is the product of the two factors. -/
theorem ck_eq : (Named.named κ "gelu_ck" 0x3D122279#32 : Ideal .f32) = gck := IdealRules.named_const.ideal_named_scalar _ _ _ _ rfl

/-- The weights that one point casts. -/
theorem pay1_apply (x : Vec Ideal S64x2048 .f32) (i : S64x2048.Idx) : k0_pay1 x i = x i := by
  unfold k0_pay1
  pointwise

/-- A block of the late modulation. -/
theorem pay2_apply (x : Vec Ideal S136x2048 .bf16) (w : Vec Ideal S2048x256 .f32) (b : Vec Ideal S1x256 .f32) (r : Fin 136) (k : Fin 256) :
    k0_pay2 x w b (ix2 r k) = prd (fun d => x (ix2 r d)) (fun d => w (ix2 d k)) + b (ix2 0 k) := by
  generalize hR : prd (fun d => x (ix2 r d)) (fun d => w (ix2 d k)) + b (ix2 0 k) = R
  unfold k0_pay2
  pointwise
  exact hR

/-- The normalised rows. -/
theorem pay3_apply (x : Vec Ideal S256x2048 .f32) (g b : Vec Ideal S1x2048 .f32) (r : Fin 256) (k : Fin 2048) :
    k0_pay3 x g b (ix2 r k) = ln w2048 (fun d => x (ix2 r d)) (fun d => g (ix2 0 d)) (fun d => b (ix2 0 d)) k := by
  generalize hR : ln w2048 (fun d => x (ix2 r d)) (fun d => g (ix2 0 d)) (fun d => b (ix2 0 d)) k = R
  unfold k0_pay3
  pointwise
  exact hR

/-- The rows that enter the projections. -/
theorem pay4_apply (x : Vec Ideal S256x2048 .f32) (g b : Vec Ideal S1x2048 .f32) (sc sh : Vec Ideal S1x1x2048 .f32) (r : Fin 256) (k : Fin 2048) :
    k0_pay4 x g b sc sh (ix2 r k)
      = hid (fun d => x (ix2 r d)) (fun d => g (ix2 0 d)) (fun d => b (ix2 0 d)) (fun d => sc (ix3 0 0 d)) (fun d => sh (ix3 0 0 d)) k := by
  generalize hR : hid (fun d => x (ix2 r d)) (fun d => g (ix2 0 d)) (fun d => b (ix2 0 d)) (fun d => sc (ix3 0 0 d)) (fun d => sh (ix3 0 0 d)) k = R
  unfold k0_pay4
  pointwise
  rw [pay3_apply]
  exact hR

/-- The gate's columns. -/
theorem pay8_apply (h : FVec Ideal S256x2048 .bf16) (w : Vec Ideal S2048x1024 .bf16) (r : Fin 256) (k : Fin 1024) :
    k0_pay8 (k0_pay6 h w) (k0_pay7 h w) (ix2 r k) = ksilu (prd (fun d => h (ix2 r d)) (fun d => w (ix2 d k))) := by
  generalize hR : ksilu (prd (fun d => h (ix2 r d)) (fun d => w (ix2 d k))) = R
  unfold k0_pay8 k0_pay7 k0_pay6
  pointwise
  exact hR

/-- The convolution's columns. -/
theorem pay9_apply (h : FVec Ideal S256x2048 .bf16) (w : Vec Ideal S2048x1536 .bf16) (r : Fin 256) (k : Fin 1536) :
    k0_pay9 h w (ix2 r k) = prd (fun d => h (ix2 r d)) (fun d => w (ix2 d k)) := by
  generalize hR : prd (fun d => h (ix2 r d)) (fun d => w (ix2 d k)) = R
  unfold k0_pay9
  pointwise
  exact hR

/-- The step sizes. -/
theorem pay10_apply (h : FVec Ideal S256x2048 .bf16) (w : Vec Ideal S2048x128 .bf16) (b : Vec Ideal S1x128 .f32) (r : Fin 256) (k : Fin 128) :
    k0_pay10 h w b (ix2 r k) = soft (prd (fun d => h (ix2 r d)) (fun d => w (ix2 d k)) + b (ix2 0 k)) := by
  generalize hR : soft (prd (fun d => h (ix2 r d)) (fun d => w (ix2 d k)) + b (ix2 0 k)) = R
  unfold k0_pay10
  pointwise
  exact hR

/-- The first gated columns. -/
theorem pay11_apply (h : FVec Ideal S256x2048 .bf16) (w : Vec Ideal S2048x1024 .bf16) (r : Fin 256) (k : Fin 1024) :
    k0_pay11 h w (ix2 r k) = kgelu (prd (fun d => h (ix2 r d)) (fun d => w (ix2 d k))) := by
  generalize hR : kgelu (prd (fun d => h (ix2 r d)) (fun d => w (ix2 d k))) = R
  unfold k0_pay11
  simp only [ck_eq]
  pointwise
  exact hR

/-- The second gated columns, normalised. -/
theorem pay5_apply (h : FVec Ideal S256x2048 .bf16) (w : Vec Ideal S2048x1024 .bf16) (g b : Vec Ideal S1x1024 .f32) (r : Fin 256) (k : Fin 1024) :
    k0_pay5 h w g b (ix2 r k)
      = ln w1024 (fun j => kgelu (prd (fun d => h (ix2 r d)) (fun d => w (ix2 d j)))) (fun j => g (ix2 0 j)) (fun j => b (ix2 0 j)) k := by
  generalize hR : ln w1024 (fun j => kgelu (prd (fun d => h (ix2 r d)) (fun d => w (ix2 d j)))) (fun j => g (ix2 0 j)) (fun j => b (ix2 0 j)) k = R
  unfold k0_pay5
  simp only [ck_eq]
  pointwise
  exact hR

end Cert.InprojPromptIdeal.Val
end
-- ==== Proof.IpOpen.lean ====
module

public import proofs.«01_k».proof.Proof.IpPay

@[expose] public section
set_option maxRecDepth 16384
noncomputable section
namespace Cert.InprojPromptIdeal.Val
open Cert.InprojPromptIdeal Cert.InprojPromptIdeal.Gen Idealize.ShloMosaic Idealize.ShloMosaic.TcCoe Idealize.ShloMosaic.Tactic Ip

/-- A block starts at its first place. -/
theorem hz2 : (![0, 0] : Fin 2 → ℕ) = fun _ => 0 := by decide
/-- A block with three axes starts at its first place. -/
theorem hz3 : (![0, 0, 0] : Fin 3 → ℕ) = fun _ => 0 := by decide

variable (x0 : Vec Ideal S256x2048 .f32) (x1 x2 : Vec Ideal S1x1x2048 .f32) (x3 x4 : Vec Ideal S1x2048 .f32) (x5 : Vec Ideal S1x128 .f32) (x6 x7 : Vec Ideal S1x1024 .f32)
  (x8 : Vec Ideal S2048x2688 .bf16) (x9 : Vec Ideal S2048x2048 .bf16) (x10 : Vec Ideal S64x2048 .f32) (x11 : Vec Ideal S136x2048 .bf16) (x12 : Vec Ideal S2048x256 .f32)
  (x13 : Vec Ideal S1x256 .f32)

/-- A row of a point's block, as it enters the projections. -/
def hrow (r : Fin 256) : Fin 2048 → EReal :=
  hid (fun d => x0 (ix2 r d)) (fun d => x3 (ix2 0 d)) (fun d => x4 (ix2 0 d)) (fun d => x2 (ix3 0 0 d)) (fun d => x1 (ix3 0 0 d))

/-- The body's rows are these. -/
theorem pay12_apply (r : Fin 256) (d : Fin 2048) : k0_pay12 x0 x1 x2 x3 x4 x5 x6 x7 x8 x9 x10 x11 x12 x13 (ix2 r d) = hrow x0 x1 x2 x3 x4 r d := by
  unfold k0_pay12
  simp only [View.ld_unit_zero (S := S256x2048) hz2, View.ld_unit_zero (S := S1x2048) hz2, View.ld_unit_zero (S := S1x1x2048) hz3]
  rw [pay4_apply]
  rfl

/-- Columns of the first weights. -/
theorem ld6 (d : Fin 2048) (k : Fin 1024) : View.ld x8 r0_6 (ix2 d k) = x8 (ix2 d ⟨k.val, by omega⟩) :=
  congrArg x8 (Shape.idx_ext₂ (by show 0 + 1 * d.val = d.val; omega) (by show 0 + 1 * k.val = k.val; omega))
/-- Columns of the first weights. -/
theorem ld7 (d : Fin 2048) (k : Fin 1536) : View.ld x8 r0_7 (ix2 d k) = x8 (ix2 d ⟨1024 + k.val, by omega⟩) :=
  congrArg x8 (Shape.idx_ext₂ (by show 0 + 1 * d.val = d.val; omega) (by show 1024 + 1 * k.val = 1024 + k.val; omega))
/-- Columns of the first weights. -/
theorem ld9 (d : Fin 2048) (k : Fin 128) : View.ld x8 r0_9 (ix2 d k) = x8 (ix2 d ⟨2560 + k.val, by omega⟩) :=
  congrArg x8 (Shape.idx_ext₂ (by show 0 + 1 * d.val = d.val; omega) (by show 2560 + 1 * k.val = 2560 + k.val; omega))
/-- Columns of the second weights. -/
theorem ld12 (d : Fin 2048) (k : Fin 1024) : View.ld x9 r0_12 (ix2 d k) = x9 (ix2 d ⟨k.val, by omega⟩) :=
  congrArg x9 (Shape.idx_ext₂ (by show 0 + 1 * d.val = d.val; omega) (by show 0 + 1 * k.val = k.val; omega))
/-- Columns of the second weights. -/
theorem ld3 (d : Fin 2048) (k : Fin 1024) : View.ld x9 r0_3 (ix2 d k) = x9 (ix2 d ⟨1024 + k.val, by omega⟩) :=
  congrArg x9 (Shape.idx_ext₂ (by show 0 + 1 * d.val = d.val; omega) (by show 1024 + 1 * k.val = 1024 + k.val; omega))

/-- The gate's block. -/
theorem o14 (r : Fin 256) (k : Fin 1024) : out0_14 x0 x1 x2 x3 x4 x5 x6 x7 x8 x9 x10 x11 x12 x13 (ix2 r k)
    = ksilu (prd (hrow x0 x1 x2 x3 x4 r) (fun d => x8 (ix2 d ⟨k.val, by omega⟩))) := by
  unfold out0_14
  rw [View.canon_cons_unit_zero (S := S256x1024) hz2, pay8_apply]
  exact congrArg ksilu (congrArg₂ prd (funext fun d => pay12_apply x0 x1 x2 x3 x4 x5 x6 x7 x8 x9 x10 x11 x12 x13 r d) (funext fun d => ld6 x8 d k))

/-- The convolution's block. -/
theorem o15 (r : Fin 256) (k : Fin 1536) : out0_15 x0 x1 x2 x3 x4 x5 x6 x7 x8 x9 x10 x11 x12 x13 (ix2 r k)
    = prd (hrow x0 x1 x2 x3 x4 r) (fun d => x8 (ix2 d ⟨1024 + k.val, by omega⟩)) := by
  unfold out0_15
  rw [View.canon_cons_unit_zero (S := S256x1536) hz2, pay9_apply]
  exact congrArg₂ prd (funext fun d => pay12_apply x0 x1 x2 x3 x4 x5 x6 x7 x8 x9 x10 x11 x12 x13 r d) (funext fun d => ld7 x8 d k)

/-- The step sizes' block. -/
theorem o16 (r : Fin 256) (k : Fin 128) : out0_16 x0 x1 x2 x3 x4 x5 x6 x7 x8 x9 x10 x11 x12 x13 (ix2 r k)
    = soft (prd (hrow x0 x1 x2 x3 x4 r) (fun d => x8 (ix2 d ⟨2560 + k.val, by omega⟩)) + x5 (ix2 0 k)) := by
  unfold out0_16
  rw [View.canon_cons_unit_zero (S := S256x128) hz2, View.ld_unit_zero (S := S1x128) hz2, pay10_apply]
  exact congrArg (fun p => soft (p + x5 (ix2 0 k))) (congrArg₂ prd (funext fun d => pay12_apply x0 x1 x2 x3 x4 x5 x6 x7 x8 x9 x10 x11 x12 x13 r d) (funext fun d => ld9 x8 d k))

/-- The first gated block. -/
theorem o17 (r : Fin 256) (k : Fin 1024) : out0_17 x0 x1 x2 x3 x4 x5 x6 x7 x8 x9 x10 x11 x12 x13 (ix2 r k)
    = kgelu (prd (hrow x0 x1 x2 x3 x4 r) (fun d => x9 (ix2 d ⟨k.val, by omega⟩))) := by
  unfold out0_17
  rw [View.canon_cons_unit_zero (S := S256x1024) hz2, pay11_apply]
  exact congrArg kgelu (congrArg₂ prd (funext fun d => pay12_apply x0 x1 x2 x3 x4 x5 x6 x7 x8 x9 x10 x11 x12 x13 r d) (funext fun d => ld12 x9 d k))

/-- The second gated block. -/
theorem o18 (r : Fin 256) (k : Fin 1024) : out0_18 x0 x1 x2 x3 x4 x5 x6 x7 x8 x9 x10 x11 x12 x13 (ix2 r k)
    = ln w1024 (fun j : Fin 1024 => kgelu (prd (hrow x0 x1 x2 x3 x4 r) (fun d => x9 (ix2 d ⟨1024 + j.val, by omega⟩)))) (fun j => x6 (ix2 0 j)) (fun j => x7 (ix2 0 j)) k := by
  unfold out0_18
  rw [View.canon_cons_unit_zero (S := S256x1024) hz2, View.ld_unit_zero (S := S1x1024) hz2, View.ld_unit_zero (S := S1x1024) hz2, pay5_apply]
  exact congrArg (fun y => ln w1024 y (fun j => x6 (ix2 0 j)) (fun j => x7 (ix2 0 j)) k)
    (funext fun j => congrArg kgelu (congrArg₂ prd (funext fun d => pay12_apply x0 x1 x2 x3 x4 x5 x6 x7 x8 x9 x10 x11 x12 x13 r d) (funext fun d => ld3 x9 d j)))

/-- The normalised block. -/
theorem o19 (r : Fin 256) (k : Fin 2048) : out0_19 x0 x1 x2 x3 x4 x5 x6 x7 x8 x9 x10 x11 x12 x13 (ix2 r k)
    = ln w2048 (fun d => x0 (ix2 r d)) (fun d => x3 (ix2 0 d)) (fun d => x4 (ix2 0 d)) k := by
  unfold out0_19
  rw [View.canon_cons_unit_zero (S := S256x2048) hz2]
  simp only [View.ld_unit_zero (S := S256x2048) hz2, View.ld_unit_zero (S := S1x2048) hz2]
  rw [pay3_apply]

/-- The cast weights' block. -/
theorem o20 (i : S64x2048.Idx) : out0_20 x0 x1 x2 x3 x4 x5 x6 x7 x8 x9 x10 x11 x12 x13 i = x10 i := by
  unfold out0_20
  rw [View.canon_cons_unit_zero (S := S64x2048) hz2, pay1_apply, View.ld_unit_zero (S := S64x2048) hz2]

/-- The late modulation's block. -/
theorem o21 (r : Fin 136) (k : Fin 256) : out0_21 x0 x1 x2 x3 x4 x5 x6 x7 x8 x9 x10 x11 x12 x13 (ix2 r k)
    = prd (fun d => x11 (ix2 r d)) (fun d => x12 (ix2 d k)) + x13 (ix2 0 k) := by
  unfold out0_21
  rw [View.canon_cons_unit_zero (S := S136x256) hz2]
  simp only [View.ld_unit_zero (S := S136x2048) hz2, View.ld_unit_zero (S := S2048x256) hz2, View.ld_unit_zero (S := S1x256) hz2]
  rw [pay2_apply]

end Cert.InprojPromptIdeal.Val
end
-- ==== Proof.IpRef.lean ====
module

public import proofs.«01_k».proof.Proof.Gen.RefInprojIdeal.Read
public import proofs.«01_k».proof.Proof.Ip

@[expose] public section
set_option maxRecDepth 16384
noncomputable section
namespace Cert.RefInprojIdeal.Closed
open Cert.RefInprojIdeal Cert.RefInprojIdeal.Read Idealize.ShloMosaic Idealize.ShloMosaic.TcCoe Ip

/-- The contents of an `f32` buffer. -/
abbrev Con (S : Shape) : Type := (⟨S, EltTy.f32⟩ : BufTy).Contents (Elt Ideal)
/-- The contents of a `bf16` buffer. -/
abbrev Conb (S : Shape) : Type := (⟨S, EltTy.bf16⟩ : BufTy).Contents (Elt Ideal)

/-- Row `s` of sequence `b`. -/
abbrev rg (b : Fin 4) (s : Fin 2048) : Fin 8192 := ⟨2048 * b.val + s.val, by omega⟩
/-- The row that enters the projections, from row `R` of the input and sequence `b` of the modulation. -/
def aH (x0 : Con S8192x2048) (x1 : Con S4x1x4096) (x2 x3 : Con S1x2048) (b : Fin 4) (R : Fin 8192) : Fin 2048 → EReal :=
  hid (fun d => x0 (ix2 R d)) (fun d => x2 (ix2 0 d)) (fun d => x3 (ix2 0 d)) (fun d => x1 (ix3 b 0 ⟨2048 + d.val, by omega⟩))
    (fun d => x1 (ix3 b 0 ⟨d.val, by omega⟩))
/-- Column `k` of the first projection. -/
def aP (x0 : Con S8192x2048) (x1 : Con S4x1x4096) (x2 x3 : Con S1x2048) (x7 : Conb S2048x2688) (b : Fin 4) (R : Fin 8192) (k : Fin 2688) : EReal :=
  prd (aH x0 x1 x2 x3 b R) (fun d => x7 (ix2 d k))
/-- Column `k` of the second projection. -/
def aQ (x0 : Con S8192x2048) (x1 : Con S4x1x4096) (x2 x3 : Con S1x2048) (x8 : Conb S2048x2048) (b : Fin 4) (R : Fin 8192) (k : Fin 2048) : EReal :=
  prd (aH x0 x1 x2 x3 b R) (fun d => x8 (ix2 d k))

variable (x0 : Con S8192x2048) (x1 : Con S4x1x4096) (x2 x3 : Con S1x2048) (x4 : Con S1x128) (x5 x6 : Con S1x1024) (x7 : Conb S2048x2688) (x8 : Conb S2048x2048)
  (x9 : Con S2048x2048) (x10 : Conb S136x2048) (x11 : Con S2048x12288) (x12 : Con S1x12288)

/-- A place of an array with three axes, by its coordinates. -/
theorem idx3 {a b c : Nat} (i : (⟨3, ![a, b, c]⟩ : Shape).Idx) (p : Fin a) (q : Fin b) (r : Fin c) (h0 : (i 0).val = p.val) (h1 : (i 1).val = q.val)
    (h2 : (i 2).val = r.val) : i = ix3 p q r := funext fun x => Fin.ext (match x with
  | ⟨0, _⟩ => h0
  | ⟨1, _⟩ => h1
  | ⟨2, _⟩ => h2)

/-- The rows as sequences. -/
theorem rows_apply (b : Fin 4) (s d : Fin 2048) : val_main_v0 (F := Ideal) x0 (ix3 b s d) = x0 (ix2 (rg b s) d) := by
  rw [val_main_v0_apply]
  refine congrArg x0 (Shape.idx_ext₂ ?_ ?_)
  · show ((b.val * 2048 + s.val) * 2048 + d.val) / 2048 = 2048 * b.val + s.val
    omega
  · show ((b.val * 2048 + s.val) * 2048 + d.val) % 2048 = d.val
    omega

/-- The normalised rows. -/
theorem xn_apply (b : Fin 4) (s k : Fin 2048) : val_main_v26 (F := Ideal) x0 x2 x3 (ix3 b s k)
    = ln w2048 (fun d => x0 (ix2 (rg b s) d)) (fun d => x2 (ix2 0 d)) (fun d => x3 (ix2 0 d)) k := by
  unfold val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_cst_3 val_main_cst_2 val_main_cst_1 val_main_cst_0 val_main_cst
  pointwise
  simp only [rows_apply]
  rfl

/-- The rows that enter the projections. -/
theorem h_apply (b : Fin 4) (s d : Fin 2048) : val_main_v34 (F := Ideal) x0 x1 x2 x3 (ix3 b s d) = aH x0 x1 x2 x3 b (rg b s) d := by
  generalize hR : aH x0 x1 x2 x3 b (rg b s) d = R
  unfold val_main_v34 val_main_v33 val_main_v32 val_main_v31 val_main_v30 val_main_v29 val_main_v28 val_main_v27 val_main_cst_4
  pointwise
  simp only [xn_apply]
  rw [← hR]
  rfl

/-- The first projection. -/
theorem p_apply (b : Fin 4) (s : Fin 2048) (k : Fin 2688) : val_main_v36 (F := Ideal) x0 x1 x2 x3 x7 (ix3 b s k) = aP x0 x1 x2 x3 x7 b (rg b s) k := by
  unfold val_main_v36 val_main_v35
  pointwise
  simp only [h_apply]
  rfl

/-- The second projection. -/
theorem q_apply (b : Fin 4) (s k : Fin 2048) : val_main_v38 (F := Ideal) x0 x1 x2 x3 x8 (ix3 b s k) = aQ x0 x1 x2 x3 x8 b (rg b s) k := by
  unfold val_main_v38 val_main_v37
  pointwise
  simp only [h_apply]
  rfl

/-- The gate's columns of the first projection. -/
theorem pz_apply (b : Fin 4) (s : Fin 2048) (k : Fin 1024) :
    val_main_v39 (F := Ideal) x0 x1 x2 x3 x7 (ix3 b s k) = aP x0 x1 x2 x3 x7 b (rg b s) ⟨k.val, by omega⟩ := by
  rw [val_main_v39_apply, ← p_apply]
  exact congrArg (val_main_v36 (F := Ideal) x0 x1 x2 x3 x7) (idx3 _ _ _ _ rfl rfl rfl)

/-- The convolution's columns of the first projection. -/
theorem px_apply (b : Fin 4) (s : Fin 2048) (k : Fin 1536) :
    val_main_v40 (F := Ideal) x0 x1 x2 x3 x7 (ix3 b s k) = aP x0 x1 x2 x3 x7 b (rg b s) ⟨1024 + k.val, by omega⟩ := by
  rw [val_main_v40_apply, ← p_apply]
  exact congrArg (val_main_v36 (F := Ideal) x0 x1 x2 x3 x7) (idx3 _ _ _ _ rfl rfl (by show 1024 + k.val = 1024 + k.val; omega))

/-- The step sizes' columns of the first projection. -/
theorem pd_apply (b : Fin 4) (s : Fin 2048) (k : Fin 128) :
    val_main_v41 (F := Ideal) x0 x1 x2 x3 x7 (ix3 b s k) = aP x0 x1 x2 x3 x7 b (rg b s) ⟨2560 + k.val, by omega⟩ := by
  rw [val_main_v41_apply, ← p_apply]
  exact congrArg (val_main_v36 (F := Ideal) x0 x1 x2 x3 x7) (idx3 _ _ _ _ rfl rfl (by show 2560 + k.val = 2560 + k.val; omega))

/-- The first columns of the second projection. -/
theorem qu_apply (b : Fin 4) (s : Fin 2048) (k : Fin 1024) :
    val_main_v42 (F := Ideal) x0 x1 x2 x3 x8 (ix3 b s k) = aQ x0 x1 x2 x3 x8 b (rg b s) ⟨k.val, by omega⟩ := by
  rw [val_main_v42_apply, ← q_apply]
  exact congrArg (val_main_v38 (F := Ideal) x0 x1 x2 x3 x8) (idx3 _ _ _ _ rfl rfl rfl)

/-- The last columns of the second projection. -/
theorem qv_apply (b : Fin 4) (s : Fin 2048) (k : Fin 1024) :
    val_main_v43 (F := Ideal) x0 x1 x2 x3 x8 (ix3 b s k) = aQ x0 x1 x2 x3 x8 b (rg b s) ⟨1024 + k.val, by omega⟩ := by
  rw [val_main_v43_apply, ← q_apply]
  exact congrArg (val_main_v38 (F := Ideal) x0 x1 x2 x3 x8) (idx3 _ _ _ _ rfl rfl (by show 1024 + k.val = 1024 + k.val; omega))

/-- The gate. -/
theorem z_apply (b : Fin 4) (s : Fin 2048) (k : Fin 1024) :
    val_main_v51 (F := Ideal) x0 x1 x2 x3 x7 (ix2 (rg b s) k) = rsilu (aP x0 x1 x2 x3 x7 b (rg b s) ⟨k.val, by omega⟩) := by
  have e : val_main_v50 (F := Ideal) x0 x1 x2 x3 x7 (ix3 b s k) = rsilu (aP x0 x1 x2 x3 x7 b (rg b s) ⟨k.val, by omega⟩) := by
    unfold val_main_v50 val_main_call0_v5 val_main_call0_v4 val_main_call0_v3 val_main_call0_v2 val_main_call0_v1 val_main_call0_v0 val_main_call0_cst val_main_call0_cst_0
    pointwise
    simp only [pz_apply]
    rfl
  rw [val_main_v51_apply, ← e]
  exact congrArg (val_main_v50 (F := Ideal) x0 x1 x2 x3 x7) (idx3 _ _ _ _ (by show ((2048 * b.val + s.val) * 1024 + k.val) / 2097152 = b.val; omega)
    (by show ((2048 * b.val + s.val) * 1024 + k.val) / 1024 % 2048 = s.val; omega) (by show ((2048 * b.val + s.val) * 1024 + k.val) % 1024 = k.val; omega))

/-- The convolution's columns. -/
theorem xbc_apply (b : Fin 4) (s : Fin 2048) (k : Fin 1536) :
    val_main_v52 (F := Ideal) x0 x1 x2 x3 x7 (ix2 (rg b s) k) = aP x0 x1 x2 x3 x7 b (rg b s) ⟨1024 + k.val, by omega⟩ := by
  rw [val_main_v52_apply, ← px_apply]
  exact congrArg (val_main_v40 (F := Ideal) x0 x1 x2 x3 x7) (idx3 _ _ _ _ (by show ((2048 * b.val + s.val) * 1536 + k.val) / 3145728 = b.val; omega)
    (by show ((2048 * b.val + s.val) * 1536 + k.val) / 1536 % 2048 = s.val; omega) (by show ((2048 * b.val + s.val) * 1536 + k.val) % 1536 = k.val; omega))

/-- The step sizes. -/
theorem dt_apply (b : Fin 4) (s : Fin 2048) (k : Fin 128) :
    val_main_v58 (F := Ideal) x0 x1 x2 x3 x4 x7 (ix2 (rg b s) k) = soft (aP x0 x1 x2 x3 x7 b (rg b s) ⟨2560 + k.val, by omega⟩ + x4 (ix2 0 k)) := by
  have e : val_main_v57 (F := Ideal) x0 x1 x2 x3 x4 x7 (ix3 b s k) = soft (aP x0 x1 x2 x3 x7 b (rg b s) ⟨2560 + k.val, by omega⟩ + x4 (ix2 0 k)) := by
    have e6 : val_main_v56 (F := Ideal) x0 x1 x2 x3 x4 x7 (ix3 b s k) = aP x0 x1 x2 x3 x7 b (rg b s) ⟨2560 + k.val, by omega⟩ + x4 (ix2 0 k) := by
      unfold val_main_v56 val_main_v55 val_main_v54 val_main_v53
      pointwise
      rw [pd_apply]
    rw [← e6]
    generalize hR : soft (val_main_v56 (F := Ideal) x0 x1 x2 x3 x4 x7 (ix3 b s k)) = R
    unfold val_main_v57 val_main_call1_v11 val_main_call1_v10 val_main_call1_v9 val_main_call1_v8 val_main_call1_v7 val_main_call1_v6 val_main_call1_v5 val_main_call1_v4 val_main_call1_v3 val_main_call1_v2 val_main_call1_v1 val_main_call1_v0 val_main_call1_cst
    pointwise
    rw [if_neg (fun h => h rfl), ← hR]
    unfold soft
    rw [zero_sub]
    rfl
  rw [val_main_v58_apply, ← e]
  exact congrArg (val_main_v57 (F := Ideal) x0 x1 x2 x3 x4 x7) (idx3 _ _ _ _ (by show ((2048 * b.val + s.val) * 128 + k.val) / 262144 = b.val; omega)
    (by show ((2048 * b.val + s.val) * 128 + k.val) / 128 % 2048 = s.val; omega) (by show ((2048 * b.val + s.val) * 128 + k.val) % 128 = k.val; omega))

/-- The first gated columns. -/
theorem u_apply (b : Fin 4) (s : Fin 2048) (k : Fin 1024) :
    val_main_v72 (F := Ideal) x0 x1 x2 x3 x8 (ix2 (rg b s) k) = rgelu (aQ x0 x1 x2 x3 x8 b (rg b s) ⟨k.val, by omega⟩) := by
  have e : val_main_v71 (F := Ideal) x0 x1 x2 x3 x8 (ix3 b s k) = rgelu (aQ x0 x1 x2 x3 x8 b (rg b s) ⟨k.val, by omega⟩) := by
    unfold val_main_v71 val_main_v70 val_main_v69 val_main_v68 val_main_v67 val_main_v66 val_main_v65 val_main_v64 val_main_v63 val_main_v62 val_main_v61 val_main_v60 val_main_v59 val_main_cst_5 val_main_cst_6 val_main_cst_7 val_main_cst_8
    pointwise
    simp only [qu_apply]
    rfl
  rw [val_main_v72_apply, ← e]
  exact congrArg (val_main_v71 (F := Ideal) x0 x1 x2 x3 x8) (idx3 _ _ _ _ (by show ((2048 * b.val + s.val) * 1024 + k.val) / 2097152 = b.val; omega)
    (by show ((2048 * b.val + s.val) * 1024 + k.val) / 1024 % 2048 = s.val; omega) (by show ((2048 * b.val + s.val) * 1024 + k.val) % 1024 = k.val; omega))

/-- The second gated columns before their normalisation. -/
theorem g_apply (b : Fin 4) (s : Fin 2048) (k : Fin 1024) :
    val_main_v85 (F := Ideal) x0 x1 x2 x3 x8 (ix3 b s k) = rgelu (aQ x0 x1 x2 x3 x8 b (rg b s) ⟨1024 + k.val, by omega⟩) := by
  unfold val_main_v85 val_main_v84 val_main_v83 val_main_v82 val_main_v81 val_main_v80 val_main_v79 val_main_v78 val_main_v77 val_main_v76 val_main_v75 val_main_v74 val_main_v73 val_main_cst_9 val_main_cst_10 val_main_cst_11 val_main_cst_12
  pointwise
  simp only [qv_apply]
  rfl

/-- The second gated columns. -/
theorem v_apply (b : Fin 4) (s : Fin 2048) (k : Fin 1024) :
    val_main_v112 (F := Ideal) x0 x1 x2 x3 x5 x6 x8 (ix2 (rg b s) k)
      = ln w1024 (fun j : Fin 1024 => rgelu (aQ x0 x1 x2 x3 x8 b (rg b s) ⟨1024 + j.val, by omega⟩)) (fun j => x5 (ix2 0 j)) (fun j => x6 (ix2 0 j)) k := by
  have e : val_main_v111 (F := Ideal) x0 x1 x2 x3 x5 x6 x8 (ix3 b s k)
      = ln w1024 (fun j : Fin 1024 => rgelu (aQ x0 x1 x2 x3 x8 b (rg b s) ⟨1024 + j.val, by omega⟩)) (fun j => x5 (ix2 0 j)) (fun j => x6 (ix2 0 j)) k := by
    unfold val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_cst_13 val_main_cst_14 val_main_cst_15 val_main_cst_16 val_main_cst_17
    pointwise
    simp only [g_apply]
    rfl
  rw [val_main_v112_apply, ← e]
  exact congrArg (val_main_v111 (F := Ideal) x0 x1 x2 x3 x5 x6 x8) (idx3 _ _ _ _ (by show ((2048 * b.val + s.val) * 1024 + k.val) / 2097152 = b.val; omega)
    (by show ((2048 * b.val + s.val) * 1024 + k.val) / 1024 % 2048 = s.val; omega) (by show ((2048 * b.val + s.val) * 1024 + k.val) % 1024 = k.val; omega))

/-- The normalised rows, flat. -/
theorem xnf_apply (b : Fin 4) (s k : Fin 2048) : val_main_v113 (F := Ideal) x0 x2 x3 (ix2 (rg b s) k)
    = ln w2048 (fun d => x0 (ix2 (rg b s) d)) (fun d => x2 (ix2 0 d)) (fun d => x3 (ix2 0 d)) k := by
  rw [val_main_v113_apply, ← xn_apply]
  exact congrArg (val_main_v26 (F := Ideal) x0 x2 x3) (idx3 _ _ _ _ (by show ((2048 * b.val + s.val) * 2048 + k.val) / 4194304 = b.val; omega)
    (by show ((2048 * b.val + s.val) * 2048 + k.val) / 2048 % 2048 = s.val; omega) (by show ((2048 * b.val + s.val) * 2048 + k.val) % 2048 = k.val; omega))

/-- The cast weights. -/
theorem wo_apply (i : S2048x2048.Idx) : val_main_v114 (F := Ideal) x9 i = x9 i := by
  unfold val_main_v114
  pointwise

/-- The late modulation. -/
theorem ml_apply (r : Fin 136) (k : Fin 8192) : val_main_v49 (F := Ideal) x10 x11 x12 (ix2 r k)
    = prd (fun d => x10 (ix2 r d)) (fun d => x11 (ix2 d ⟨4096 + k.val, by omega⟩)) + x12 (ix2 0 ⟨4096 + k.val, by omega⟩) := by
  generalize hR : prd (fun d => x10 (ix2 r d)) (fun d => x11 (ix2 d ⟨4096 + k.val, by omega⟩)) + x12 (ix2 0 ⟨4096 + k.val, by omega⟩) = R
  unfold val_main_v49 val_main_v48 val_main_v47 val_main_v46 val_main_v45 val_main_v44
  pointwise
  rw [← hR]
  rfl

/-- The rows that the next chunk's convolution starts from. -/
theorem cv_apply (b : Fin 4) (j : Fin 3) (k : Fin 1536) : val_main_v115 (F := Ideal) x0 x1 x2 x3 x7 (ix3 b j k)
    = aP x0 x1 x2 x3 x7 b (rg b ⟨2045 + j.val, by omega⟩) ⟨1024 + k.val, by omega⟩ := by
  rw [val_main_v115_apply, ← px_apply]
  exact congrArg (val_main_v40 (F := Ideal) x0 x1 x2 x3 x7) (idx3 _ _ _ _ rfl (by show 2045 + j.val = 2045 + j.val; omega) rfl)

end Cert.RefInprojIdeal.Closed
end
-- ==== Proof.IpSweep.lean ====
module

public import proofs.«01_k».proof.Proof.IpOpen
public import proofs.«01_k».proof.Proof.IpRef
public import Idealize.ShloMosaic.Lib.Pipeline.Value

@[expose] public section
set_option maxRecDepth 16384
noncomputable section
namespace Cert.InprojPromptIdeal.Val
open Cert.InprojPromptIdeal Cert.InprojPromptIdeal.Gen Idealize.ShloMosaic Idealize.ShloMosaic.TcCoe Idealize.ShloMosaic.Tactic Ip

variable (m : (ℓ : Loc nD τ sig) → Buf (Elt Ideal) ℓ)

/-- The rows. -/
abbrev A0 (c : Dev nD) : Vec Ideal S8192x2048 .f32 := m ((c : Thread nD τ).loc main_arg0)
/-- The modulation. -/
abbrev A1 (c : Dev nD) : Vec Ideal S4x1x4096 .f32 := m ((c : Thread nD τ).loc main_arg1)
/-- The gain. -/
abbrev A2 (c : Dev nD) : Vec Ideal S1x2048 .f32 := m ((c : Thread nD τ).loc main_arg2)
/-- The offset. -/
abbrev A3 (c : Dev nD) : Vec Ideal S1x2048 .f32 := m ((c : Thread nD τ).loc main_arg3)
/-- The step sizes' offset. -/
abbrev A4 (c : Dev nD) : Vec Ideal S1x128 .f32 := m ((c : Thread nD τ).loc main_arg4)
/-- The gain of the gated columns. -/
abbrev A5 (c : Dev nD) : Vec Ideal S1x1024 .f32 := m ((c : Thread nD τ).loc main_arg5)
/-- The offset of the gated columns. -/
abbrev A6 (c : Dev nD) : Vec Ideal S1x1024 .f32 := m ((c : Thread nD τ).loc main_arg6)
/-- The first weights. -/
abbrev A7 (c : Dev nD) : Vec Ideal S2048x2688 .bf16 := m ((c : Thread nD τ).loc main_arg7)
/-- The second weights. -/
abbrev A8 (c : Dev nD) : Vec Ideal S2048x2048 .bf16 := m ((c : Thread nD τ).loc main_arg8)
/-- The output weights. -/
abbrev A9 (c : Dev nD) : Vec Ideal S2048x2048 .f32 := m ((c : Thread nD τ).loc main_arg9)
/-- The conditioning. -/
abbrev A10 (c : Dev nD) : Vec Ideal S136x2048 .bf16 := m ((c : Thread nD τ).loc main_arg10)
/-- The modulation's weights. -/
abbrev A11 (c : Dev nD) : Vec Ideal S2048x12288 .f32 := m ((c : Thread nD τ).loc main_arg11)
/-- The modulation's offset. -/
abbrev A12 (c : Dev nD) : Vec Ideal S1x12288 .f32 := m ((c : Thread nD τ).loc main_arg12)

/-- The input windows' block numbers at every point. -/
theorem idxIn : ∀ t : Fin cfg0.N, (win0_0.index t 0 = t.val ∧ win0_0.index t 1 = 0)
    ∧ (win0_1.index t 0 = t.val / 8 ∧ win0_1.index t 1 = 0 ∧ win0_1.index t 2 = 0)
    ∧ (win0_2.index t 0 = t.val / 8 ∧ win0_2.index t 1 = 0 ∧ win0_2.index t 2 = 1)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0)
    ∧ (win0_9.index t 0 = 0 ∧ win0_9.index t 1 = 0) ∧ (win0_10.index t 0 = t.val ∧ win0_10.index t 1 = 0)
    ∧ (win0_11.index t 0 = 0 ∧ win0_11.index t 1 = 0) ∧ (win0_12.index t 0 = 0 ∧ win0_12.index t 1 = 16 + t.val)
    ∧ (win0_13.index t 0 = 0 ∧ win0_13.index t 1 = 16 + t.val) := by
  decide +kernel

/-- The output windows' block numbers at every point. -/
theorem idxOut : ∀ t : Fin cfg0.N, (win0_14.index t 0 = t.val ∧ win0_14.index t 1 = 0)
    ∧ (win0_15.index t 0 = t.val ∧ win0_15.index t 1 = 0) ∧ (win0_16.index t 0 = t.val ∧ win0_16.index t 1 = 0)
    ∧ (win0_17.index t 0 = t.val ∧ win0_17.index t 1 = 0) ∧ (win0_18.index t 0 = t.val ∧ win0_18.index t 1 = 0)
    ∧ (win0_19.index t 0 = t.val ∧ win0_19.index t 1 = 0) ∧ (win0_20.index t 0 = t.val ∧ win0_20.index t 1 = 0)
    ∧ (win0_21.index t 0 = 0 ∧ win0_21.index t 1 = t.val) := by
  decide +kernel

/-- The number of points. -/
theorem ptlt (t : Fin cfg0.N) : t.val < 32 := by have := t.isLt; have : cfg0.N = 32 := N_0; omega

/-- The row of the whole batch that is row `r` of a point's block. -/
def ro (t : Fin cfg0.N) (r : Fin 256) : Fin 8192 := ⟨256 * t.val + r.val, by have := ptlt t; omega⟩
/-- A row's sequence. -/
def sq (R : Fin 8192) : Fin 4 := ⟨R.val / 2048, by omega⟩
/-- The row of the output weights that is row `r` of a point's block. -/
def rw64 (t : Fin cfg0.N) (r : Fin 64) : Fin 2048 := ⟨64 * t.val + r.val, by have := ptlt t; omega⟩
/-- The column of the late modulation that is column `k` of a point's block. -/
def cl (t : Fin cfg0.N) (k : Fin 256) : Fin 8192 := ⟨256 * t.val + k.val, by have := ptlt t; omega⟩

/-- The place of an entry in the array, where the block number is the point's. -/
theorem place {a t b r : Nat} (h : a = t) : a * b + 1 * r = b * t + r := by rw [h, Nat.one_mul, Nat.mul_comm]
/-- The place of an entry in the array, where the block is the first. -/
theorem place0 {a b r : Nat} (h : a = 0) : a * b + 1 * r = r := by rw [h, Nat.zero_mul, Nat.zero_add, Nat.one_mul]

/-- An entry of a block is the entry of the array at its place. -/
theorem entry_of (c : Dev nD) (w : Fin cfg0.W) (t : Fin cfg0.N) (y : ((cfg0.win w).xblock (cfg0.grid.coords t)).Idx) :
    iblk m c w t y = _root_.cast (congrArg (Elt Ideal) ((cfg0.win w).blk t).view.elt_eq) (V m c (Pipeline.arrRef spec0 w) (((cfg0.win w).blk t).view.emb y)) := rfl

/-- A block of rows. -/
theorem b0 (c : Dev nD) (t : Fin cfg0.N) (r : Fin 256) (k : Fin 2048) :
    (iblk m c 0 t : Vec Ideal S256x2048 .f32) (ix2 r k) = A0 m c (ix2 (ro t r) k) := by
  have hi := (idxIn t).1
  unfold iblk
  rw [View.read_apply]
  refine congrArg (V m c main_arg0) (funext fun a => Fin.ext ?_)
  match a with
  | ⟨0, _⟩ => show win0_0.index t 0 * 256 + 1 * r.val = 256 * t.val + r.val; rw [hi.1]; omega
  | ⟨1, _⟩ => show win0_0.index t 1 * 2048 + 1 * k.val = k.val; rw [hi.2]; omega

/-- The shift of a block. -/
theorem b1 (c : Dev nD) (t : Fin cfg0.N) (r : Fin 256) (k : Fin 2048) :
    (iblk m c 1 t : Vec Ideal S1x1x2048 .f32) (ix3 0 0 k) = A1 m c (ix3 (sq (ro t r)) 0 ⟨k.val, by omega⟩) := by
  have hi := (idxIn t).2.1
  unfold iblk
  rw [View.read_apply]
  refine congrArg (V m c main_arg1) (funext fun a => Fin.ext ?_)
  match a with
  | ⟨0, _⟩ => show win0_1.index t 0 * 1 + 1 * 0 = (256 * t.val + r.val) / 2048; rw [hi.1]; omega
  | ⟨1, _⟩ => show win0_1.index t 1 * 1 + 1 * 0 = 0; rw [hi.2.1]
  | ⟨2, _⟩ => show win0_1.index t 2 * 2048 + 1 * k.val = k.val; rw [hi.2.2]; omega

/-- The scale of a block. -/
theorem b2 (c : Dev nD) (t : Fin cfg0.N) (r : Fin 256) (k : Fin 2048) :
    (iblk m c 2 t : Vec Ideal S1x1x2048 .f32) (ix3 0 0 k) = A1 m c (ix3 (sq (ro t r)) 0 ⟨2048 + k.val, by omega⟩) := by
  have hi := (idxIn t).2.2.1
  unfold iblk
  rw [View.read_apply]
  refine congrArg (V m c main_arg1) (funext fun a => Fin.ext ?_)
  match a with
  | ⟨0, _⟩ => show win0_2.index t 0 * 1 + 1 * 0 = (256 * t.val + r.val) / 2048; rw [hi.1]; omega
  | ⟨1, _⟩ => show win0_2.index t 1 * 1 + 1 * 0 = 0; rw [hi.2.1]
  | ⟨2, _⟩ => show win0_2.index t 2 * 2048 + 1 * k.val = 2048 + k.val; rw [hi.2.2]; omega

/-- The gain, whole at every point. -/
theorem b3 (c : Dev nD) (t : Fin cfg0.N) : (iblk m c 3 t : Vec Ideal S1x2048 .f32) = A2 m c :=
  funext fun y => (entry_of m c 3 t y).trans (congrArg (V m c main_arg2) (Shape.idx_ext₂ (place0 (idxIn t).2.2.2.1.1) (place0 (idxIn t).2.2.2.1.2)))

/-- The offset, whole at every point. -/
theorem b4 (c : Dev nD) (t : Fin cfg0.N) : (iblk m c 4 t : Vec Ideal S1x2048 .f32) = A3 m c :=
  funext fun y => (entry_of m c 4 t y).trans (congrArg (V m c main_arg3) (Shape.idx_ext₂ (place0 (idxIn t).2.2.2.2.1.1) (place0 (idxIn t).2.2.2.2.1.2)))

/-- The step sizes' offset, whole at every point. -/
theorem b5 (c : Dev nD) (t : Fin cfg0.N) : (iblk m c 5 t : Vec Ideal S1x128 .f32) = A4 m c :=
  funext fun y => (entry_of m c 5 t y).trans (congrArg (V m c main_arg4) (Shape.idx_ext₂ (place0 (idxIn t).2.2.2.2.2.1.1) (place0 (idxIn t).2.2.2.2.2.1.2)))

/-- The gain of the gated columns, whole at every point. -/
theorem b6 (c : Dev nD) (t : Fin cfg0.N) : (iblk m c 6 t : Vec Ideal S1x1024 .f32) = A5 m c :=
  funext fun y => (entry_of m c 6 t y).trans (congrArg (V m c main_arg5) (Shape.idx_ext₂ (place0 (idxIn t).2.2.2.2.2.2.1.1) (place0 (idxIn t).2.2.2.2.2.2.1.2)))

/-- The offset of the gated columns, whole at every point. -/
theorem b7 (c : Dev nD) (t : Fin cfg0.N) : (iblk m c 7 t : Vec Ideal S1x1024 .f32) = A6 m c :=
  funext fun y => (entry_of m c 7 t y).trans (congrArg (V m c main_arg6) (Shape.idx_ext₂ (place0 (idxIn t).2.2.2.2.2.2.2.1.1) (place0 (idxIn t).2.2.2.2.2.2.2.1.2)))

/-- The first weights, whole at every point. -/
theorem b8 (c : Dev nD) (t : Fin cfg0.N) : (iblk m c 8 t : Vec Ideal S2048x2688 .bf16) = A7 m c :=
  funext fun y => (entry_of m c 8 t y).trans (congrArg (V m c main_arg7) (Shape.idx_ext₂ (place0 (idxIn t).2.2.2.2.2.2.2.2.1.1) (place0 (idxIn t).2.2.2.2.2.2.2.2.1.2)))

/-- The second weights, whole at every point. -/
theorem b9 (c : Dev nD) (t : Fin cfg0.N) : (iblk m c 9 t : Vec Ideal S2048x2048 .bf16) = A8 m c :=
  funext fun y => (entry_of m c 9 t y).trans (congrArg (V m c main_arg8) (Shape.idx_ext₂ (place0 (idxIn t).2.2.2.2.2.2.2.2.2.1.1) (place0 (idxIn t).2.2.2.2.2.2.2.2.2.1.2)))

/-- The conditioning, whole at every point. -/
theorem b11 (c : Dev nD) (t : Fin cfg0.N) : (iblk m c 11 t : Vec Ideal S136x2048 .bf16) = A10 m c :=
  funext fun y => (entry_of m c 11 t y).trans (congrArg (V m c main_arg10) (Shape.idx_ext₂ (place0 (idxIn t).2.2.2.2.2.2.2.2.2.2.2.1.1) (place0 (idxIn t).2.2.2.2.2.2.2.2.2.2.2.1.2)))

/-- A block of rows of the output weights. -/
theorem b10 (c : Dev nD) (t : Fin cfg0.N) (r : Fin 64) (k : Fin 2048) :
    (iblk m c 10 t : Vec Ideal S64x2048 .f32) (ix2 r k) = A9 m c (ix2 (rw64 t r) k) := by
  have hi := (idxIn t).2.2.2.2.2.2.2.2.2.2.1
  unfold iblk
  rw [View.read_apply]
  exact congrArg (V m c main_arg9) (Shape.idx_ext₂ (by show win0_10.index t 0 * 64 + 1 * r.val = 64 * t.val + r.val; rw [hi.1]; omega)
    (by show win0_10.index t 1 * 2048 + 1 * k.val = k.val; rw [hi.2]; omega))

/-- A block of columns of the modulation's weights. -/
theorem b12 (c : Dev nD) (t : Fin cfg0.N) (d : Fin 2048) (k : Fin 256) :
    (iblk m c 12 t : Vec Ideal S2048x256 .f32) (ix2 d k) = A11 m c (ix2 d ⟨4096 + (cl t k).val, by have := (cl t k).isLt; omega⟩) := by
  have hi := (idxIn t).2.2.2.2.2.2.2.2.2.2.2.2.1
  unfold iblk
  rw [View.read_apply]
  exact congrArg (V m c main_arg11) (Shape.idx_ext₂ (by show win0_12.index t 0 * 2048 + 1 * d.val = d.val; rw [hi.1]; omega)
    (by show win0_12.index t 1 * 256 + 1 * k.val = 4096 + (256 * t.val + k.val); rw [hi.2]; omega))

/-- A block of columns of the modulation's offset. -/
theorem b13 (c : Dev nD) (t : Fin cfg0.N) (k : Fin 256) :
    (iblk m c 13 t : Vec Ideal S1x256 .f32) (ix2 0 k) = A12 m c (ix2 0 ⟨4096 + (cl t k).val, by have := (cl t k).isLt; omega⟩) := by
  have hi := (idxIn t).2.2.2.2.2.2.2.2.2.2.2.2.2
  unfold iblk
  rw [View.read_apply]
  exact congrArg (V m c main_arg12) (Shape.idx_ext₂ (by show win0_13.index t 0 * 1 + 1 * 0 = 0; rw [hi.1])
    (by show win0_13.index t 1 * 256 + 1 * k.val = 4096 + (256 * t.val + k.val); rw [hi.2]; omega))

/-- A column of the first projection at a row. -/
abbrev gP (c : Dev nD) (R : Fin 8192) (k : Fin 2688) : EReal := Cert.RefInprojIdeal.Closed.aP (A0 m c) (A1 m c) (A2 m c) (A3 m c) (A7 m c) (sq R) R k
/-- A column of the second projection at a row. -/
abbrev gQ (c : Dev nD) (R : Fin 8192) (k : Fin 2048) : EReal := Cert.RefInprojIdeal.Closed.aQ (A0 m c) (A1 m c) (A2 m c) (A3 m c) (A8 m c) (sq R) R k

/-- A row that enters the projections. -/
theorem hrow_eq (c : Dev nD) (t : Fin cfg0.N) (r : Fin 256) :
    hrow (iblk m c 0 t) (iblk m c 1 t) (iblk m c 2 t) (iblk m c 3 t) (iblk m c 4 t) r
      = Cert.RefInprojIdeal.Closed.aH (A0 m c) (A1 m c) (A2 m c) (A3 m c) (sq (ro t r)) (ro t r) := by
  unfold hrow Cert.RefInprojIdeal.Closed.aH
  have e0 : (fun d => (iblk m c 0 t : Vec Ideal S256x2048 .f32) (ix2 r d)) = fun d => A0 m c (ix2 (ro t r) d) := funext (b0 m c t r)
  have e1 : (fun d => (iblk m c 1 t : Vec Ideal S1x1x2048 .f32) (ix3 0 0 d)) = fun d : Fin 2048 => A1 m c (ix3 (sq (ro t r)) 0 ⟨d.val, by omega⟩) := funext (b1 m c t r)
  have e2 : (fun d => (iblk m c 2 t : Vec Ideal S1x1x2048 .f32) (ix3 0 0 d)) = fun d : Fin 2048 => A1 m c (ix3 (sq (ro t r)) 0 ⟨2048 + d.val, by omega⟩) := funext (b2 m c t r)
  rw [b3, b4, e0, e1, e2]

/-- The array a window leaves, from what each point writes and that every entry is written. -/
theorem final_of (c : Dev nD) (w : Fin cfg0.W) (G : Buf (Elt Ideal) ((cfg0.win w).arr.view.loc (c.tc : Thread nD τ))) (hf : ∀ t, (cfg0.win w).flush t = true)
    (hval : ∀ t y, (dats m 0 c).flushed w t y = ((cfg0.win w).blk t).view.read (Elt Ideal) G y) (hcov : ∀ i : ((cfg0.win w).arr.view.loc (c.tc : Thread nD τ)).2.ty.Idx, ∃ t : Fin cfg0.N, ∃ y, (((cfg0.win w).blk t).view.emb y : ((cfg0.win w).arr.view.loc (c.tc : Thread nD τ)).2.ty.Idx) = i) :
    (dats m 0 c).arrAt w cfg0.N = G :=
  (dats m 0 c).arrAt_eq_of_cover w G (fun t _ => funext (hval t)) fun i => by
    obtain ⟨t, y, h⟩ := hcov i
    exact ⟨t, hf t, h ▸ View.emb_mem_set _ y⟩

/-- The points' blocks of rows make up all rows. -/
theorem rows_cover {n : Nat} (e : Fin cfg0.N → (⟨2, ![256, n]⟩ : Shape).Idx → (⟨2, ![8192, n]⟩ : Shape).Idx) (he : ∀ t y, e t y = ix2 (ro t (y 0)) (y 1)) (i : (⟨2, ![8192, n]⟩ : Shape).Idx) :
    ∃ t y, e t y = i := by
  have h0 : (i 0).val < 8192 := (i 0).isLt
  have hN : cfg0.N = 32 := N_0
  refine ⟨⟨(i 0).val / 256, by omega⟩, ix2 ⟨(i 0).val % 256, by omega⟩ (i 1), (he _ _).trans (Shape.idx_ext₂ ?_ rfl)⟩
  show 256 * ((i 0).val / 256) + (i 0).val % 256 = (i 0).val
  omega

/-- So do the blocks of rows of the weights. -/
theorem rows64_cover {n : Nat} (e : Fin cfg0.N → (⟨2, ![64, n]⟩ : Shape).Idx → (⟨2, ![2048, n]⟩ : Shape).Idx) (he : ∀ t y, e t y = ix2 (rw64 t (y 0)) (y 1)) (i : (⟨2, ![2048, n]⟩ : Shape).Idx) :
    ∃ t y, e t y = i := by
  have h0 : (i 0).val < 2048 := (i 0).isLt
  have hN : cfg0.N = 32 := N_0
  refine ⟨⟨(i 0).val / 64, by omega⟩, ix2 ⟨(i 0).val % 64, by omega⟩ (i 1), (he _ _).trans (Shape.idx_ext₂ ?_ rfl)⟩
  show 64 * ((i 0).val / 64) + (i 0).val % 64 = (i 0).val
  omega

/-- And the blocks of columns of the late modulation. -/
theorem cols_cover {n : Nat} (e : Fin cfg0.N → (⟨2, ![n, 256]⟩ : Shape).Idx → (⟨2, ![n, 8192]⟩ : Shape).Idx) (he : ∀ t y, e t y = ix2 (y 0) (cl t (y 1))) (i : (⟨2, ![n, 8192]⟩ : Shape).Idx) :
    ∃ t y, e t y = i := by
  have h1 : (i 1).val < 8192 := (i 1).isLt
  have hN : cfg0.N = 32 := N_0
  refine ⟨⟨(i 1).val / 256, by omega⟩, ix2 (i 0) ⟨(i 1).val % 256, by omega⟩, (he _ _).trans (Shape.idx_ext₂ rfl ?_)⟩
  show 256 * ((i 1).val / 256) + (i 1).val % 256 = (i 1).val
  omega

/-- The gate. -/
def g14 (c : Dev nD) (R : Fin 8192) (k : Fin 1024) : EReal := ksilu (gP m c R ⟨k.val, by omega⟩)
/-- A point's block of it. -/
theorem at14 (c : Dev nD) (t : Fin cfg0.N) (r : Fin 256) (k : Fin 1024) : (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) : Vec Ideal S256x1024 .f32) (ix2 r k) = g14 m c (ro t r) k := by
  rw [o14]; rw [hrow_eq, b8]; rfl
/-- The array after the run. -/
theorem final14 (c : Dev nD) : (dats m 0 c).arrAt 14 cfg0.N = (fun i => g14 m c (i 0) (i 1) : Vec Ideal S8192x1024 .f32) :=
  have hE (t : Fin cfg0.N) (y : S256x1024.Idx) : (((cfg0.win 14).blk t).view.emb y : S8192x1024.Idx) = ix2 (ro t (y 0)) (y 1) := Shape.idx_ext₂ (place (idxOut t).1.1) (place0 (idxOut t).1.2)
  final_of m c 14 _ flush0_14 (fun t y => ((congrFun (after0_14 m c t) y).trans (congrArg _ (eq_ix2 y))).trans
    ((at14 m c t (y 0) (y 1)).trans (congrArg (fun i => g14 m c (i 0) (i 1) : Vec Ideal S8192x1024 .f32) (hE t y)).symm)) (rows_cover _ hE)

/-- The convolution's columns. -/
def g15 (c : Dev nD) (R : Fin 8192) (k : Fin 1536) : EReal := gP m c R ⟨1024 + k.val, by omega⟩
/-- A point's block of it. -/
theorem at15 (c : Dev nD) (t : Fin cfg0.N) (r : Fin 256) (k : Fin 1536) : (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) : Vec Ideal S256x1536 .f32) (ix2 r k) = g15 m c (ro t r) k := by
  rw [o15]; rw [hrow_eq, b8]; rfl
/-- The array after the run. -/
theorem final15 (c : Dev nD) : (dats m 0 c).arrAt 15 cfg0.N = (fun i => g15 m c (i 0) (i 1) : Vec Ideal S8192x1536 .f32) :=
  have hE (t : Fin cfg0.N) (y : S256x1536.Idx) : (((cfg0.win 15).blk t).view.emb y : S8192x1536.Idx) = ix2 (ro t (y 0)) (y 1) := Shape.idx_ext₂ (place (idxOut t).2.1.1) (place0 (idxOut t).2.1.2)
  final_of m c 15 _ flush0_15 (fun t y => ((congrFun (after0_15 m c t) y).trans (congrArg _ (eq_ix2 y))).trans
    ((at15 m c t (y 0) (y 1)).trans (congrArg (fun i => g15 m c (i 0) (i 1) : Vec Ideal S8192x1536 .f32) (hE t y)).symm)) (rows_cover _ hE)

/-- The step sizes. -/
def g16 (c : Dev nD) (R : Fin 8192) (k : Fin 128) : EReal := soft (gP m c R ⟨2560 + k.val, by omega⟩ + A4 m c (ix2 0 k))
/-- A point's block of it. -/
theorem at16 (c : Dev nD) (t : Fin cfg0.N) (r : Fin 256) (k : Fin 128) : (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) : Vec Ideal S256x128 .f32) (ix2 r k) = g16 m c (ro t r) k := by
  rw [o16]; rw [hrow_eq, b8, b5]; rfl
/-- The array after the run. -/
theorem final16 (c : Dev nD) : (dats m 0 c).arrAt 16 cfg0.N = (fun i => g16 m c (i 0) (i 1) : Vec Ideal S8192x128 .f32) :=
  have hE (t : Fin cfg0.N) (y : S256x128.Idx) : (((cfg0.win 16).blk t).view.emb y : S8192x128.Idx) = ix2 (ro t (y 0)) (y 1) := Shape.idx_ext₂ (place (idxOut t).2.2.1.1) (place0 (idxOut t).2.2.1.2)
  final_of m c 16 _ flush0_16 (fun t y => ((congrFun (after0_16 m c t) y).trans (congrArg _ (eq_ix2 y))).trans
    ((at16 m c t (y 0) (y 1)).trans (congrArg (fun i => g16 m c (i 0) (i 1) : Vec Ideal S8192x128 .f32) (hE t y)).symm)) (rows_cover _ hE)

/-- The first gated columns. -/
def g17 (c : Dev nD) (R : Fin 8192) (k : Fin 1024) : EReal := kgelu (gQ m c R ⟨k.val, by omega⟩)
/-- A point's block of it. -/
theorem at17 (c : Dev nD) (t : Fin cfg0.N) (r : Fin 256) (k : Fin 1024) : (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) : Vec Ideal S256x1024 .f32) (ix2 r k) = g17 m c (ro t r) k := by
  rw [o17]; rw [hrow_eq, b9]; rfl
/-- The array after the run. -/
theorem final17 (c : Dev nD) : (dats m 0 c).arrAt 17 cfg0.N = (fun i => g17 m c (i 0) (i 1) : Vec Ideal S8192x1024 .f32) :=
  have hE (t : Fin cfg0.N) (y : S256x1024.Idx) : (((cfg0.win 17).blk t).view.emb y : S8192x1024.Idx) = ix2 (ro t (y 0)) (y 1) := Shape.idx_ext₂ (place (idxOut t).2.2.2.1.1) (place0 (idxOut t).2.2.2.1.2)
  final_of m c 17 _ flush0_17 (fun t y => ((congrFun (after0_17 m c t) y).trans (congrArg _ (eq_ix2 y))).trans
    ((at17 m c t (y 0) (y 1)).trans (congrArg (fun i => g17 m c (i 0) (i 1) : Vec Ideal S8192x1024 .f32) (hE t y)).symm)) (rows_cover _ hE)

/-- The second gated columns. -/
def g18 (c : Dev nD) (R : Fin 8192) (k : Fin 1024) : EReal := ln w1024 (fun j : Fin 1024 => kgelu (gQ m c R ⟨1024 + j.val, by omega⟩)) (fun j => A5 m c (ix2 0 j)) (fun j => A6 m c (ix2 0 j)) k
/-- A point's block of it. -/
theorem at18 (c : Dev nD) (t : Fin cfg0.N) (r : Fin 256) (k : Fin 1024) : (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) : Vec Ideal S256x1024 .f32) (ix2 r k) = g18 m c (ro t r) k := by
  rw [o18]; rw [hrow_eq, b9, b6, b7]; rfl
/-- The array after the run. -/
theorem final18 (c : Dev nD) : (dats m 0 c).arrAt 18 cfg0.N = (fun i => g18 m c (i 0) (i 1) : Vec Ideal S8192x1024 .f32) :=
  have hE (t : Fin cfg0.N) (y : S256x1024.Idx) : (((cfg0.win 18).blk t).view.emb y : S8192x1024.Idx) = ix2 (ro t (y 0)) (y 1) := Shape.idx_ext₂ (place (idxOut t).2.2.2.2.1.1) (place0 (idxOut t).2.2.2.2.1.2)
  final_of m c 18 _ flush0_18 (fun t y => ((congrFun (after0_18 m c t) y).trans (congrArg _ (eq_ix2 y))).trans
    ((at18 m c t (y 0) (y 1)).trans (congrArg (fun i => g18 m c (i 0) (i 1) : Vec Ideal S8192x1024 .f32) (hE t y)).symm)) (rows_cover _ hE)

/-- The normalised rows. -/
def g19 (c : Dev nD) (R : Fin 8192) (k : Fin 2048) : EReal := ln w2048 (fun d => A0 m c (ix2 R d)) (fun d => A2 m c (ix2 0 d)) (fun d => A3 m c (ix2 0 d)) k
/-- A point's block of it. -/
theorem at19 (c : Dev nD) (t : Fin cfg0.N) (r : Fin 256) (k : Fin 2048) : (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) : Vec Ideal S256x2048 .f32) (ix2 r k) = g19 m c (ro t r) k := by
  rw [o19]; rw [b3, b4, show (fun d => (iblk m c 0 t : Vec Ideal S256x2048 .f32) (ix2 r d)) = fun d => A0 m c (ix2 (ro t r) d) from funext (b0 m c t r)]; rfl
/-- The array after the run. -/
theorem final19 (c : Dev nD) : (dats m 0 c).arrAt 19 cfg0.N = (fun i => g19 m c (i 0) (i 1) : Vec Ideal S8192x2048 .f32) :=
  have hE (t : Fin cfg0.N) (y : S256x2048.Idx) : (((cfg0.win 19).blk t).view.emb y : S8192x2048.Idx) = ix2 (ro t (y 0)) (y 1) := Shape.idx_ext₂ (place (idxOut t).2.2.2.2.2.1.1) (place0 (idxOut t).2.2.2.2.2.1.2)
  final_of m c 19 _ flush0_19 (fun t y => ((congrFun (after0_19 m c t) y).trans (congrArg _ (eq_ix2 y))).trans
    ((at19 m c t (y 0) (y 1)).trans (congrArg (fun i => g19 m c (i 0) (i 1) : Vec Ideal S8192x2048 .f32) (hE t y)).symm)) (rows_cover _ hE)

/-- The cast weights. -/
def g20 (c : Dev nD) (R : Fin 2048) (k : Fin 2048) : EReal := A9 m c (ix2 R k)
/-- A point's block of it. -/
theorem at20 (c : Dev nD) (t : Fin cfg0.N) (r : Fin 64) (k : Fin 2048) : (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) : Vec Ideal S64x2048 .bf16) (ix2 r k) = g20 m c (rw64 t r) k := by
  rw [o20, b10]; rfl
/-- The array after the run. -/
theorem final20 (c : Dev nD) : (dats m 0 c).arrAt 20 cfg0.N = (fun i => g20 m c (i 0) (i 1) : Vec Ideal S2048x2048 .bf16) :=
  have hE (t : Fin cfg0.N) (y : S64x2048.Idx) : (((cfg0.win 20).blk t).view.emb y : S2048x2048.Idx) = ix2 (rw64 t (y 0)) (y 1) := Shape.idx_ext₂ (place (idxOut t).2.2.2.2.2.2.1.1) (place0 (idxOut t).2.2.2.2.2.2.1.2)
  final_of m c 20 _ flush0_20 (fun t y => ((congrFun (after0_20 m c t) y).trans (congrArg _ (eq_ix2 y))).trans
    ((at20 m c t (y 0) (y 1)).trans (congrArg (fun i => g20 m c (i 0) (i 1) : Vec Ideal S2048x2048 .bf16) (hE t y)).symm)) (rows64_cover _ hE)

/-- The late modulation. -/
def g21 (c : Dev nD) (R : Fin 136) (k : Fin 8192) : EReal := prd (fun d => A10 m c (ix2 R d)) (fun d => A11 m c (ix2 d ⟨4096 + k.val, by omega⟩)) + A12 m c (ix2 0 ⟨4096 + k.val, by omega⟩)
/-- A point's block of it. -/
theorem at21 (c : Dev nD) (t : Fin cfg0.N) (r : Fin 136) (k : Fin 256) : (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) : Vec Ideal S136x256 .f32) (ix2 r k) = g21 m c r (cl t k) := by
  rw [o21, b11, b13, show (fun d => (iblk m c 12 t : Vec Ideal S2048x256 .f32) (ix2 d k)) = fun d => A11 m c (ix2 d ⟨4096 + (cl t k).val, by have := (cl t k).isLt; omega⟩) from funext fun d => b12 m c t d k]; rfl
/-- The array after the run. -/
theorem final21 (c : Dev nD) : (dats m 0 c).arrAt 21 cfg0.N = (fun i => g21 m c (i 0) (i 1) : Vec Ideal S136x8192 .f32) :=
  have hE (t : Fin cfg0.N) (y : S136x256.Idx) : (((cfg0.win 21).blk t).view.emb y : S136x8192.Idx) = ix2 (y 0) (cl t (y 1)) := Shape.idx_ext₂ (place0 (idxOut t).2.2.2.2.2.2.2.1) (place (idxOut t).2.2.2.2.2.2.2.2)
  final_of m c 21 _ flush0_21 (fun t y => ((congrFun (after0_21 m c t) y).trans (congrArg _ (eq_ix2 y))).trans
    ((at21 m c t (y 0) (y 1)).trans (congrArg (fun i => g21 m c (i 0) (i 1) : Vec Ideal S136x8192 .f32) (hE t y)).symm)) (cols_cover _ hE)

end Cert.InprojPromptIdeal.Val
end
-- ==== Proof.IpMatch.lean ====
module

public import proofs.«01_k».proof.Proof.IpSweep

@[expose] public section
set_option maxRecDepth 16384
noncomputable section
namespace Cert.InprojPromptIdeal.Val
open Cert.InprojPromptIdeal Cert.InprojPromptIdeal.Gen Idealize.ShloMosaic Idealize.ShloMosaic.TcCoe Idealize.ShloMosaic.Tactic Ip
open Cert.RefInprojIdeal.Closed (rg z_apply xbc_apply dt_apply u_apply v_apply xnf_apply wo_apply ml_apply cv_apply)
open Mix (IsR)

variable (m : (ℓ : Loc nD τ sig) → Buf (Elt Ideal) ℓ)

/-- A row by its sequence and its place there. -/
theorem rg_sq (R : Fin 8192) : rg (sq R) ⟨R.val % 2048, Nat.mod_lt _ (by decide)⟩ = R :=
  Fin.ext (by show 2048 * (R.val / 2048) + R.val % 2048 = R.val; omega)

/-- A sequence by one of its rows. -/
theorem sq_rg (b : Fin 4) (s : Fin 2048) : sq (rg b s) = b :=
  Fin.ext (by show (2048 * b.val + s.val) / 2048 = b.val; omega)

/-- Two arrays of rows are equal when they agree at every row of every sequence. -/
theorem rows_ext {C : ℕ} {f g : (⟨2, ![8192, C]⟩ : Shape).Idx → EReal} (h : ∀ (b : Fin 4) (s : Fin 2048) (k : Fin C), f (ix2 (rg b s) k) = g (ix2 (rg b s) k)) : f = g :=
  funext fun i => by
    have e : i = ix2 (rg (sq (i 0)) ⟨(i 0).val % 2048, Nat.mod_lt _ (by decide)⟩) (i 1) :=
      (eq_ix2 i).trans (congrArg (fun R => (ix2 R (i 1) : (⟨2, ![8192, C]⟩ : Shape).Idx)) (rg_sq (i 0)).symm)
    rw [e]
    exact h _ _ _

/-- The arguments that the precondition makes real. -/
structure Reals (c : Dev nD) : Prop where
  mod : ∀ i, IsR (A1 m c i)
  gain : ∀ i, IsR (A2 m c i)
  offs : ∀ i, IsR (A3 m c i)
  wa : ∀ i, IsR (A7 m c i)
  wb : ∀ i, IsR (A8 m c i)

/-- The first projection is real. -/
theorem isR_gP (c : Dev nD) (h : Reals m c) (R : Fin 8192) (k : Fin 2688) : IsR (gP m c R k) :=
  isR_prd _ _ (isR_hid _ _ _ _ _ (fun _ => h.gain _) (fun _ => h.offs _) (fun _ => h.mod _) (fun _ => h.mod _)) fun _ => h.wa _

/-- The second projection is real. -/
theorem isR_gQ (c : Dev nD) (h : Reals m c) (R : Fin 8192) (k : Fin 2048) : IsR (gQ m c R k) :=
  isR_prd _ _ (isR_hid _ _ _ _ _ (fun _ => h.gain _) (fun _ => h.offs _) (fun _ => h.mod _) (fun _ => h.mod _)) fun _ => h.wb _

/-- The gate. -/
theorem match_z (c : Dev nD) (h : Reals m c) : (dats m 0 c).arrAt 14 cfg0.N
    = Cert.RefInprojIdeal.Read.val_main_v51 (F := Ideal) (A0 m c) (A1 m c) (A2 m c) (A3 m c) (A7 m c) := by
  rw [final14]
  refine rows_ext (C := 1024) fun b s k => ?_
  refine Eq.trans ?_ (z_apply (A0 m c) (A1 m c) (A2 m c) (A3 m c) (A7 m c) b s k).symm
  show ksilu (gP m c (rg b s) ⟨k.val, by omega⟩) = _
  rw [silu_eq' (isR_gP m c h _ _)]
  unfold gP
  rw [sq_rg]

/-- The convolution's columns. -/
theorem match_xbc (c : Dev nD) : (dats m 0 c).arrAt 15 cfg0.N
    = Cert.RefInprojIdeal.Read.val_main_v52 (F := Ideal) (A0 m c) (A1 m c) (A2 m c) (A3 m c) (A7 m c) := by
  rw [final15]
  refine rows_ext (C := 1536) fun b s k => ?_
  refine Eq.trans ?_ (xbc_apply (A0 m c) (A1 m c) (A2 m c) (A3 m c) (A7 m c) b s k).symm
  show gP m c (rg b s) ⟨1024 + k.val, by omega⟩ = _
  unfold gP
  rw [sq_rg]

/-- The step sizes. -/
theorem match_dt (c : Dev nD) : (dats m 0 c).arrAt 16 cfg0.N
    = Cert.RefInprojIdeal.Read.val_main_v58 (F := Ideal) (A0 m c) (A1 m c) (A2 m c) (A3 m c) (A4 m c) (A7 m c) := by
  rw [final16]
  refine rows_ext (C := 128) fun b s k => ?_
  refine Eq.trans ?_ (dt_apply (A0 m c) (A1 m c) (A2 m c) (A3 m c) (A4 m c) (A7 m c) b s k).symm
  show soft (gP m c (rg b s) _ + _) = _
  unfold gP
  rw [sq_rg]
  rfl

/-- The first gated columns. -/
theorem match_u (c : Dev nD) (h : Reals m c) : (dats m 0 c).arrAt 17 cfg0.N
    = Cert.RefInprojIdeal.Read.val_main_v72 (F := Ideal) (A0 m c) (A1 m c) (A2 m c) (A3 m c) (A8 m c) := by
  rw [final17]
  refine rows_ext (C := 1024) fun b s k => ?_
  refine Eq.trans ?_ (u_apply (A0 m c) (A1 m c) (A2 m c) (A3 m c) (A8 m c) b s k).symm
  show kgelu (gQ m c (rg b s) ⟨k.val, by omega⟩) = _
  rw [gelu_eq (isR_gQ m c h _ _)]
  unfold gQ
  rw [sq_rg]

/-- The second gated columns. -/
theorem match_v (c : Dev nD) (h : Reals m c) : (dats m 0 c).arrAt 18 cfg0.N
    = Cert.RefInprojIdeal.Read.val_main_v112 (F := Ideal) (A0 m c) (A1 m c) (A2 m c) (A3 m c) (A5 m c) (A6 m c) (A8 m c) := by
  rw [final18]
  refine rows_ext (C := 1024) fun b s k => ?_
  refine Eq.trans ?_ (v_apply (A0 m c) (A1 m c) (A2 m c) (A3 m c) (A5 m c) (A6 m c) (A8 m c) b s k).symm
  refine congrArg (fun y => ln w1024 y (fun j => A5 m c (ix2 0 j)) (fun j => A6 m c (ix2 0 j)) k) (funext fun j => ?_)
  show kgelu (gQ m c (rg b s) ⟨1024 + j.val, by omega⟩) = _
  rw [gelu_eq (isR_gQ m c h _ _)]
  unfold gQ
  rw [sq_rg]

/-- The normalised rows. -/
theorem match_xn (c : Dev nD) : (dats m 0 c).arrAt 19 cfg0.N
    = Cert.RefInprojIdeal.Read.val_main_v113 (F := Ideal) (A0 m c) (A2 m c) (A3 m c) := by
  rw [final19]
  refine rows_ext (C := 2048) fun b s k => ?_
  exact (xnf_apply (A0 m c) (A2 m c) (A3 m c) b s k).symm

/-- The cast weights. -/
theorem match_wo (c : Dev nD) : (dats m 0 c).arrAt 20 cfg0.N = Cert.RefInprojIdeal.Read.val_main_v114 (F := Ideal) (A9 m c) := by
  rw [final20]
  refine funext fun i => ?_
  refine Eq.trans ?_ (wo_apply (A9 m c) i).symm
  exact congrArg (A9 m c) (eq_ix2 i).symm

/-- The late modulation. -/
theorem match_ml (c : Dev nD) : (dats m 0 c).arrAt 21 cfg0.N
    = Cert.RefInprojIdeal.Read.val_main_v49 (F := Ideal) (A10 m c) (A11 m c) (A12 m c) := by
  rw [final21]
  refine funext fun i => ?_
  refine Eq.trans ?_ (congrArg (Cert.RefInprojIdeal.Read.val_main_v49 (F := Ideal) (A10 m c) (A11 m c) (A12 m c)) (eq_ix2 i)).symm
  exact (ml_apply (A10 m c) (A11 m c) (A12 m c) (i 0) (i 1)).symm

/-- The last rows of a sequence, cut out after the call. -/
theorem match_cv (c : Dev nD) : Pipeline.afterTail₀ cfgs (dats m) 0 (V0 m) [hostOps1] c main_v2
    = Cert.RefInprojIdeal.Read.val_main_v115 (F := Ideal) (A0 m c) (A1 m c) (A2 m c) (A3 m c) (A7 m c) := by
  have hw : Pipeline.withArrays (cfgs 0).spec c (V0 m c) (fun w => (dats m 0 c).arrAt w (cfgs 0).N) (Proc.devRef .tc main_v0_1)
      = (fun i => g15 m c (i 0) (i 1) : Vec Ideal S8192x1536 .f32) := by
    refine Eq.trans ?_ (final15 m c)
    exact Pipeline.withArrays_arr_shared (cfgs 0).spec c (V0 m c) _ ((dats m 0 c).arrAt_sharedIn sharedIn0 (V0 m c) (fun w => A_eq m c w) cfg0.N) 15
  unfold Pipeline.afterTail₀
  generalize Pipeline.withArrays (cfgs 0).spec c (V0 m c) (fun w => (dats m 0 c).arrAt w (cfgs 0).N) = W at hw ⊢
  have e : (StableHlo.after ([hostOps1] : List (List (HloOp τ sig (Elt Ideal)))).flatten W (Proc.devRef .tc main_v2) : Vec Ideal S4x3x1536 .f32)
      = extractStridedSlice S4x3x1536 ![0, 2045, 0] (shapeCast S4x2048x1536 (W (Proc.devRef .tc main_v0_1) : Vec Ideal S8192x1536 .f32) shapeCasts_S8192x1536_S4x2048x1536)
        slices_S4x2048x1536_S4x3x1536_0_2045_0 := by
    simp only [hostOps1, List.flatten_cons, List.flatten_nil, List.append_nil, List.cons_append, List.nil_append]
    after_results_simp
    after_results_loop
    rfl
  refine e.trans ?_
  rw [hw]
  have ei : ∀ (b : Fin 4) (j : Fin 3) (k : Fin 1536), extractStridedSlice S4x3x1536 ![0, 2045, 0]
      (shapeCast S4x2048x1536 (fun i => g15 m c (i 0) (i 1) : Vec Ideal S8192x1536 .f32) shapeCasts_S8192x1536_S4x2048x1536) slices_S4x2048x1536_S4x3x1536_0_2045_0 (ix3 b j k)
      = Cert.RefInprojIdeal.Read.val_main_v115 (F := Ideal) (A0 m c) (A1 m c) (A2 m c) (A3 m c) (A7 m c) (ix3 b j k) := fun b j k => by
    refine Eq.trans ?_ (cv_apply (A0 m c) (A1 m c) (A2 m c) (A3 m c) (A7 m c) b j k).symm
    pointwise
    have eR : (⟨b.val * 2048 + (2045 + j.val), by omega⟩ : Fin 8192) = rg b ⟨2045 + j.val, by omega⟩ :=
      Fin.ext (by show b.val * 2048 + (2045 + j.val) = 2048 * b.val + (2045 + j.val); omega)
    rw [eR]
    show gP m c (rg b ⟨2045 + j.val, by omega⟩) ⟨1024 + k.val, by omega⟩ = _
    unfold gP
    rw [sq_rg]
  exact funext fun i => (congrArg _ (eq_ix3 i)).trans ((ei (i 0) (i 1) (i 2)).trans (congrArg _ (eq_ix3 i)).symm)

end Cert.InprojPromptIdeal.Val
end
-- ==== Proof.IpRun.lean ====
module

public import proofs.«01_k».proof.Proof.IpMatch

@[expose] public section
set_option maxRecDepth 16384
noncomputable section
namespace Cert.InprojPromptIdeal.Val
open Cert.InprojPromptIdeal Cert.InprojPromptIdeal.Gen Idealize.ShloMosaic Idealize.ShloMosaic.TcCoe Idealize.SL.Sem

variable (m : (ℓ : Loc nD τ sig) → Buf (Elt Ideal) ℓ) (ρ : Dev nD → PrngReg)

/-- The run leaves the output windows' arrays, the rows cut out after the call, and the arguments as they were. -/
theorem run : θ_run defs (onTc (τ := τ) (main (F := Ideal))) ⟨m, fun _ => 0, ρ⟩ (fun r => ∀ c : Dev nD,
      r.2.mem ((c.tc : Thread nD τ).loc main_v0_0) = (dats m 0 c).arrAt 14 cfg0.N
      ∧ r.2.mem ((c.tc : Thread nD τ).loc main_v0_1) = (dats m 0 c).arrAt 15 cfg0.N
      ∧ r.2.mem ((c.tc : Thread nD τ).loc main_v0_2) = (dats m 0 c).arrAt 16 cfg0.N
      ∧ r.2.mem ((c.tc : Thread nD τ).loc main_v0_3) = (dats m 0 c).arrAt 17 cfg0.N
      ∧ r.2.mem ((c.tc : Thread nD τ).loc main_v0_4) = (dats m 0 c).arrAt 18 cfg0.N
      ∧ r.2.mem ((c.tc : Thread nD τ).loc main_v0_5) = (dats m 0 c).arrAt 19 cfg0.N
      ∧ r.2.mem ((c.tc : Thread nD τ).loc main_v0_6) = (dats m 0 c).arrAt 20 cfg0.N
      ∧ r.2.mem ((c.tc : Thread nD τ).loc main_v0_7) = (dats m 0 c).arrAt 21 cfg0.N
      ∧ r.2.mem ((c.tc : Thread nD τ).loc main_v2) = Pipeline.afterTail₀ cfgs (dats m) 0 (V0 m) [hostOps1] c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => by
    have kept : ∀ w, (cfg0.win w).isOut = false → r.2.mem ((c.tc : Thread nD τ).loc (Pipeline.arrRef spec0 w)) = V m c (Pipeline.arrRef spec0 w) :=
      fun w hw => ((h c).1 w).trans (((dats m 0 c).arrAt_in w hw _).trans (A_eq m c w))
    exact ⟨(h c).1 14, (h c).1 15, (h c).1 16, (h c).1 17, (h c).1 18, (h c).1 19, (h c).1 20, (h c).1 21,
      (h c).2 main_v2 (Pipeline.mem_restRefs_of main_v2 (by decide) (by decide)),
      kept 0 rfl, kept 2 rfl, kept 3 rfl, kept 4 rfl, kept 5 rfl, kept 6 rfl, kept 7 rfl, kept 8 rfl, kept 9 rfl, kept 10 rfl, kept 11 rfl, kept 12 rfl, kept 13 rfl⟩)
    (run_main m ρ)

end Cert.InprojPromptIdeal.Val
end
-- ==== Proof.lean ====
module

public import proofs.«01_k».proof.Proof.Gen.FfnPrompt.Frame
public import proofs.«01_k».proof.Proof.Gen.FfnPromptIdeal.Frame
public import proofs.«01_k».proof.Proof.Gen.FfnPromptIdeal.Value
public import proofs.«01_k».proof.Proof.Gen.RefFfnPromptIdeal.Run
public import proofs.«01_k».proof.Proof.Gen.RefFfnPromptIdeal.Read
public import proofs.«01_k».proof.Proof.Gen.FfnPrompt
public import proofs.«01_k».proof.Proof.Gen.FfnPromptIdeal
public import proofs.«01_k».proof.Proof.Gen.RefFfnPromptIdeal
public import proofs.«01_k».proof.Proof.FpMatch
public import proofs.«01_k».proof.Defs
public import proofs.«01_k».proof.Proof.Gen.MixerSample.Frame
public import proofs.«01_k».proof.Proof.Gen.MixerSampleIdeal.Frame
public import proofs.«01_k».proof.Proof.Gen.MixerSampleIdeal.Value
public import proofs.«01_k».proof.Proof.Gen.RefSampleIdeal
public import proofs.«01_k».proof.Proof.Gen.RefSampleIdeal.Run
public import proofs.«01_k».proof.Proof.Gen.RefSampleIdeal.Read
public import proofs.«01_k».proof.Proof.Gen.Pre_finite_sm
public import proofs.«01_k».proof.Proof.Match
public import proofs.«01_k».proof.Proof.Gen.InprojPrompt.Frame
public import proofs.«01_k».proof.Proof.Gen.InprojPromptIdeal.Frame
public import proofs.«01_k».proof.Proof.Gen.RefInprojIdeal
public import proofs.«01_k».proof.Proof.Gen.RefInprojIdeal.Run
public import proofs.«01_k».proof.Proof.Gen.RefInprojIdeal.Read
public import proofs.«01_k».proof.Proof.Gen.InprojPrompt
public import proofs.«01_k».proof.Proof.Gen.InprojPromptIdeal
public import proofs.«01_k».proof.Proof.Gen.Pre_finite_ip
public import proofs.«01_k».proof.Proof.IpRun

@[expose] public section

noncomputable section

namespace Cert.Proof

open Idealize.ShloMosaic Idealize.SL.Sem Mix

local instance : Cert.MixerSample.Facts := Cert.MixerSample.Gen.facts
local instance : Cert.MixerSampleIdeal.Facts := Cert.MixerSampleIdeal.Gen.facts
local instance : Cert.RefSampleIdeal.Facts := Cert.RefSampleIdeal.Gen.facts
local instance : Cert.InprojPrompt.Facts := Cert.InprojPrompt.Gen.facts
local instance : Cert.InprojPromptIdeal.Facts := Cert.InprojPromptIdeal.Gen.facts
local instance : Cert.RefInprojIdeal.Facts := Cert.RefInprojIdeal.Gen.facts
local instance : Cert.Pre_finite_sm.Facts := Cert.Pre_finite_sm.Gen.facts
local instance : Cert.Pre_finite_ip.Facts := Cert.Pre_finite_ip.Gen.facts

/-- The kernel's arguments are unchanged by its run. -/
theorem frame_p : Cert.quiescent_MixerSample := fun m ρ _ => Cert.MixerSample.Gen.frame m ρ

/-- So are the idealised kernel's. -/
theorem frame_pi : Cert.quiescent_MixerSampleIdeal := fun m ρ _ => Cert.MixerSampleIdeal.Gen.frame m ρ

/-- And the idealised kernel's under the precondition. -/
theorem frame_pi_pre : Cert.quiescent_MixerSampleIdeal_pre_finite_sm := fun m ρ _ => Cert.MixerSampleIdeal.Gen.frame m ρ

/-- The reference's arguments are unchanged by its run. -/
theorem frame_ri : Cert.quiescent_RefSampleIdeal := fun m ρ _ =>
  (θ_run Cert.RefSampleIdeal.defs _ _).mono
    (fun r h => ⟨fun c => (h c).2.2, Idealize.ShloMosaic.sem_eq_zero_of_no_sems (by decide) r.2⟩)
    (Cert.RefSampleIdeal.Value.run (F := Ideal) m ρ)

/-- And under the precondition. -/
theorem frame_ri_pre : Cert.quiescent_RefSampleIdeal_pre_finite_sm := fun m ρ _ => frame_ri m ρ trivial

/-- The named constant is the reciprocal of the logarithm of two. -/
theorem preserves : Cert.preserves_MixerSample_MixerSampleIdeal :=
  IdealRules.named_const.statement Cert.MixerSampleIdeal.κ "log2e" .f32 0x3FB8AA3B#32 (((Real.log 2)⁻¹ : ℝ) : EReal) rfl

/-- A number of finite magnitude is real. -/
theorem isR_of_bit {x : EReal} (h : FloatOps.cmpf (F := Ideal) (φ := .f32) CmpFPredicate.olt (max x (-x)) (Ideal.ofBits .f32 0x7F800000#32) = 1#1) : IsR x := by
  have ht : Ideal.ofBits .f32 0x7F800000#32 = ⊤ := by simp [Ideal.ofBits, Ideal.ieee]
  rw [ht] at h
  have hlt : max x (-x) < ⊤ := by
    by_contra hn
    have h0 : FloatOps.cmpf (F := Ideal) (φ := .f32) CmpFPredicate.olt (max x (-x)) ⊤ = 0#1 := by
      show Ideal.cmp CmpFPredicate.olt (max x (-x)) ⊤ = 0#1
      simp [Ideal.cmp, hn]
    rw [h0] at h
    exact absurd h (by decide)
  obtain ⟨h1, h2⟩ := max_lt_iff.mp hlt
  refine isR_of_ne h1.ne fun hb => ?_
  rw [hb, EReal.neg_bot] at h2
  exact lt_irrefl _ h2

/-- The precondition makes the arguments it names real. -/
theorem reals (m : (ℓ : Loc Cert.MixerSampleIdeal.nD Cert.MixerSampleIdeal.τ Cert.MixerSampleIdeal.sig) → Buf (Elt Ideal) ℓ)
    (h : Cert.Pre_MixerSampleIdeal_finite_sm m) (c : Dev Cert.MixerSampleIdeal.nD) : Cert.MixerSampleIdeal.Val.Reals m c where
  r1 i := isR_of_bit (congrFun (h c).1 i)
  r2 i := isR_of_bit (congrFun (h c).2.1 i)
  r6 i := isR_of_bit (congrFun (h c).2.2.1 i)
  r7 i := isR_of_bit (congrFun (h c).2.2.2.1 i)
  r8 i := isR_of_bit (congrFun (h c).2.2.2.2.1 i)
  r9 i := isR_of_bit (congrFun (h c).2.2.2.2.2 i)

/-- The idealised kernel and the reference end with equal results. -/
theorem algebraic : Cert.algebraic_MixerSampleIdeal_RefSampleIdeal_pre_finite_sm := by
  intro m ρ m' ρ' hpre hagree
  refine ⟨_, _, Cert.MixerSampleIdeal.Value.run (F := Ideal) m ρ, ?_⟩
  refine (θ_run Cert.RefSampleIdeal.defs _ _).mono (fun _ h c => ⟨(h c).1.trans ?_, (h c).2.1.trans ?_, (h c).2.2⟩)
    (Cert.RefSampleIdeal.Value.run (F := Ideal) m' ρ')
  · refine Eq.trans ?_ (Cert.MixerSampleIdeal.Val.ymix_eq m c (reals m hpre c)).symm
    refine (Cert.RefSampleIdeal.Read.val_main_v136_eq (F := Ideal) _).trans ?_
    obtain ⟨a0, a1, a2, a3, a4, a5, a6, a7, a8, a9, a10, a11, a12, a13⟩ := hagree c
    unfold Cert.MixerSampleIdeal.Val.A0 Cert.MixerSampleIdeal.Val.A1 Cert.MixerSampleIdeal.Val.A2 Cert.MixerSampleIdeal.Val.A3 Cert.MixerSampleIdeal.Val.A4 Cert.MixerSampleIdeal.Val.A5 Cert.MixerSampleIdeal.Val.A6 Cert.MixerSampleIdeal.Val.A7 Cert.MixerSampleIdeal.Val.A8 Cert.MixerSampleIdeal.Val.A9 Cert.MixerSampleIdeal.Val.A10 Cert.MixerSampleIdeal.Val.A11 Cert.MixerSampleIdeal.Val.A12 Cert.MixerSampleIdeal.Val.A13
    rw [← a0, ← a1, ← a2, ← a3, ← a4, ← a5, ← a6, ← a7, ← a8, ← a9, ← a10, ← a11, ← a12, ← a13]
  · refine Eq.trans ?_ (Cert.MixerSampleIdeal.Val.state_eq m c (reals m hpre c)).symm
    refine (Cert.RefSampleIdeal.Read.val_main_v137_eq (F := Ideal) _).trans ?_
    obtain ⟨_, a1, a2, _, _, a5, a6, a7, a8, a9, _⟩ := hagree c
    unfold Cert.MixerSampleIdeal.Val.A1 Cert.MixerSampleIdeal.Val.A2 Cert.MixerSampleIdeal.Val.A5 Cert.MixerSampleIdeal.Val.A6 Cert.MixerSampleIdeal.Val.A7 Cert.MixerSampleIdeal.Val.A8 Cert.MixerSampleIdeal.Val.A9
    rw [← a1, ← a2, ← a5, ← a6, ← a7, ← a8, ← a9]

/-- The feed-forward kernel's run ends with its arguments unchanged. -/
theorem ffn_frame_p : Cert.quiescent_FfnPrompt := fun m ρ _ => Cert.FfnPrompt.Gen.frame m ρ

/-- So does the idealised one's. -/
theorem ffn_frame_pi : Cert.quiescent_FfnPromptIdeal := fun m ρ _ => Cert.FfnPromptIdeal.Gen.frame m ρ

/-- And its reference's. -/
theorem ffn_frame_ri : Cert.quiescent_RefFfnPromptIdeal := fun m ρ _ =>
  (θ_run Cert.RefFfnPromptIdeal.defs _ _).mono
    (fun r h => ⟨fun c => (h c).2, Idealize.ShloMosaic.sem_eq_zero_of_no_sems (by decide) r.2⟩)
    (Cert.RefFfnPromptIdeal.Value.run (F := Ideal) m ρ)

/-- Nothing of the feed-forward kernel was rewritten. -/
theorem ffn_preserves : Cert.preserves_FfnPrompt_FfnPromptIdeal := by
  unfold Cert.preserves_FfnPrompt_FfnPromptIdeal
  trivial

/-- The feed-forward kernel and its reference end with equal results. -/
theorem ffn_algebraic : Cert.algebraic_FfnPromptIdeal_RefFfnPromptIdeal := by
  intro m ρ m' ρ' hpre hagree
  refine ⟨_, Cert.FfnPromptIdeal.Value.run_blocks m ρ, ?_⟩
  refine (θ_run Cert.RefFfnPromptIdeal.defs _ _).mono (fun _ h c => ⟨(h c).1.trans ?_, (h c).2⟩)
    (Cert.RefFfnPromptIdeal.Value.run (F := Ideal) m' ρ')
  refine Eq.trans ?_ (Cert.FfnPromptIdeal.Val.match_ref m c).symm
  refine (Cert.RefFfnPromptIdeal.Read.val_main_v51_eq (F := Ideal) _ _).trans ?_
  obtain ⟨a0, a1, a2, a3, a4, a5⟩ := hagree c
  unfold Cert.FfnPromptIdeal.Val.A0 Cert.FfnPromptIdeal.Val.A1 Cert.FfnPromptIdeal.Val.A2 Cert.FfnPromptIdeal.Val.A3 Cert.FfnPromptIdeal.Val.A4 Cert.FfnPromptIdeal.Val.A5
  rw [← a0, ← a1, ← a2, ← a3, ← a4, ← a5]

/-- The input projection's run ends with its arguments unchanged. -/
theorem ip_frame_p : Cert.quiescent_InprojPrompt := fun m ρ _ => Cert.InprojPrompt.Gen.frame m ρ

/-- So does the idealised one's. -/
theorem ip_frame_pi : Cert.quiescent_InprojPromptIdeal := fun m ρ _ => Cert.InprojPromptIdeal.Gen.frame m ρ

/-- And under the precondition. -/
theorem ip_frame_pi_pre : Cert.quiescent_InprojPromptIdeal_pre_finite_ip := fun m ρ _ => Cert.InprojPromptIdeal.Gen.frame m ρ

/-- And its reference's. -/
theorem ip_frame_ri : Cert.quiescent_RefInprojIdeal := fun m ρ _ =>
  (θ_run Cert.RefInprojIdeal.defs _ _).mono
    (fun r h => ⟨fun c => (h c).2.2.2.2.2.2.2.2.2, Idealize.ShloMosaic.sem_eq_zero_of_no_sems (by decide) r.2⟩)
    (Cert.RefInprojIdeal.Value.run (F := Ideal) m ρ)

/-- And the reference's under the precondition. -/
theorem ip_frame_ri_pre : Cert.quiescent_RefInprojIdeal_pre_finite_ip := fun m ρ _ => ip_frame_ri m ρ trivial

/-- The named constant is the product of the two factors of the error-function unit. -/
theorem ip_preserves : Cert.preserves_InprojPrompt_InprojPromptIdeal :=
  IdealRules.named_const.statement Cert.InprojPromptIdeal.κ "gelu_ck" .f32 0x3D122279#32 ((80338380498831 / 2251799813685248 : ℝ) : EReal) rfl

/-- The precondition makes the modulation, the gain and offset, and the two weights real. -/
theorem ip_reals (m : (ℓ : Loc Cert.InprojPromptIdeal.nD Cert.InprojPromptIdeal.τ Cert.InprojPromptIdeal.sig) → Buf (Elt Ideal) ℓ)
    (h : Cert.Pre_InprojPromptIdeal_finite_ip m) (c : Dev Cert.InprojPromptIdeal.nD) : Cert.InprojPromptIdeal.Val.Reals m c where
  mod i := isR_of_bit (congrFun (h c).1 i)
  gain i := isR_of_bit (congrFun (h c).2.1 i)
  offs i := isR_of_bit (congrFun (h c).2.2.1 i)
  wa i := isR_of_bit (congrFun (h c).2.2.2.1 i)
  wb i := isR_of_bit (congrFun (h c).2.2.2.2 i)

/-- The input projection and its reference end with equal results. -/
theorem ip_algebraic : Cert.algebraic_InprojPromptIdeal_RefInprojIdeal_pre_finite_ip := by
  intro m ρ m' ρ' hpre hagree
  refine ⟨_, _, _, _, _, _, _, _, _, Cert.InprojPromptIdeal.Val.run m ρ, ?_⟩
  refine (θ_run Cert.RefInprojIdeal.defs _ _).mono (fun _ h c => ?_) (Cert.RefInprojIdeal.Value.run (F := Ideal) m' ρ')
  have hR := ip_reals m hpre c
  obtain ⟨a0, a1, a2, a3, a4, a5, a6, a7, a8, a9, a10, a11, a12⟩ := hagree c
  obtain ⟨h0, h1, h2, h3, h4, h5, h6, h7, h8, kept⟩ := h c
  rw [Cert.InprojPromptIdeal.Val.match_z m c hR, Cert.InprojPromptIdeal.Val.match_xbc m c, Cert.InprojPromptIdeal.Val.match_dt m c, Cert.InprojPromptIdeal.Val.match_u m c hR,
    Cert.InprojPromptIdeal.Val.match_v m c hR, Cert.InprojPromptIdeal.Val.match_xn m c, Cert.InprojPromptIdeal.Val.match_wo m c, Cert.InprojPromptIdeal.Val.match_ml m c,
    Cert.InprojPromptIdeal.Val.match_cv m c]
  unfold Cert.InprojPromptIdeal.Val.A0 Cert.InprojPromptIdeal.Val.A1 Cert.InprojPromptIdeal.Val.A2 Cert.InprojPromptIdeal.Val.A3 Cert.InprojPromptIdeal.Val.A4 Cert.InprojPromptIdeal.Val.A5 Cert.InprojPromptIdeal.Val.A6 Cert.InprojPromptIdeal.Val.A7 Cert.InprojPromptIdeal.Val.A8 Cert.InprojPromptIdeal.Val.A9 Cert.InprojPromptIdeal.Val.A10 Cert.InprojPromptIdeal.Val.A11 Cert.InprojPromptIdeal.Val.A12
  rw [← a0, ← a1, ← a2, ← a3, ← a4, ← a5, ← a6, ← a7, ← a8, ← a9, ← a10, ← a11, ← a12]
  exact ⟨h0.trans (Cert.RefInprojIdeal.Read.val_main_v51_eq (F := Ideal) _ _), h1, h2.trans (Cert.RefInprojIdeal.Read.val_main_v58_eq (F := Ideal) _ _),
    h3.trans (Cert.RefInprojIdeal.Read.val_main_v72_eq (F := Ideal) _ _), h4.trans (Cert.RefInprojIdeal.Read.val_main_v112_eq (F := Ideal) _ _), h5, h6, h7, h8, kept⟩

/-- Every claim of the certificate. -/
theorem claim : Cert.Claim :=
  ⟨Cert.FfnPrompt.Gen.facts, Cert.FfnPromptIdeal.Gen.facts, Cert.RefFfnPromptIdeal.Gen.facts,
    Cert.MixerSample.Gen.facts, Cert.MixerSampleIdeal.Gen.facts, Cert.RefSampleIdeal.Gen.facts,
    Cert.InprojPrompt.Gen.facts, Cert.InprojPromptIdeal.Gen.facts, Cert.RefInprojIdeal.Gen.facts,
    Cert.Pre_finite_sm.Gen.facts, Cert.Pre_finite_ip.Gen.facts,
    ffn_frame_p, ffn_frame_pi, ffn_frame_ri, frame_p, frame_pi, frame_pi_pre, frame_ri, frame_ri_pre,
    ip_frame_p, ip_frame_pi, ip_frame_pi_pre, ip_frame_ri, ip_frame_ri_pre,
    ffn_preserves, ffn_algebraic, preserves, algebraic, ip_preserves, ip_algebraic⟩

end Cert.Proof

end
